-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_recurrence_finite [hPre_recurrence_finite : Cert.Pre_recurrence_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_recurrence_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15)) (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_recurrence_finite [hPre_recurrence_finite : Cert.Pre_recurrence_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_recurrence_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14)) (m ((c.tc : Thread Cert.Reference6Ideal.nD Cert.Reference6Ideal.τ).loc Cert.Reference6Ideal.main_arg15)) (m ((c.tc : Thread Cert.Reference6Ideal.nD Cert.Reference6Ideal.τ).loc Cert.Reference6Ideal.main_arg16)) (m ((c.tc : Thread Cert.Reference6Ideal.nD Cert.Reference6Ideal.τ).loc Cert.Reference6Ideal.main_arg17))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 [hPre_context_experts_in_range : Cert.Pre_context_experts_in_range.Facts] (m : (ℓ : Loc Cert.Kernel11.nD Cert.Kernel11.τ Cert.Kernel11.sig) → Buf (Elt Bits) ℓ) : Prop :=
  ∀ c : Dev Cert.Kernel11.nD,
    (Cert.Pre_context_experts_in_range.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5)) (m ((c.tc : Thread Cert.Kernel11.nD Cert.Kernel11.τ).loc Cert.Kernel11.main_arg6))) = (fun _ => 1#1)

def Pre_Kernel11Ideal [hPre_context_experts_in_range : Cert.Pre_context_experts_in_range.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_context_experts_in_range.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_context_experts_in_range [hPre_context_experts_in_range : Cert.Pre_context_experts_in_range.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_context_experts_in_range.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_context_recurrence_finite [hPre_context_recurrence_finite : Cert.Pre_context_recurrence_finite.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_context_recurrence_finite.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8)) (m ((c.tc : Thread Cert.Kernel14Ideal.nD Cert.Kernel14Ideal.τ).loc Cert.Kernel14Ideal.main_arg9)) (m ((c.tc : Thread Cert.Kernel14Ideal.nD Cert.Kernel14Ideal.τ).loc Cert.Kernel14Ideal.main_arg10)) (m ((c.tc : Thread Cert.Kernel14Ideal.nD Cert.Kernel14Ideal.τ).loc Cert.Kernel14Ideal.main_arg11)) (m ((c.tc : Thread Cert.Kernel14Ideal.nD Cert.Kernel14Ideal.τ).loc Cert.Kernel14Ideal.main_arg12)) (m ((c.tc : Thread Cert.Kernel14Ideal.nD Cert.Kernel14Ideal.τ).loc Cert.Kernel14Ideal.main_arg13)) (m ((c.tc : Thread Cert.Kernel14Ideal.nD Cert.Kernel14Ideal.τ).loc Cert.Kernel14Ideal.main_arg14)) (m ((c.tc : Thread Cert.Kernel14Ideal.nD Cert.Kernel14Ideal.τ).loc Cert.Kernel14Ideal.main_arg15)) (m ((c.tc : Thread Cert.Kernel14Ideal.nD Cert.Kernel14Ideal.τ).loc Cert.Kernel14Ideal.main_arg16)) (m ((c.tc : Thread Cert.Kernel14Ideal.nD Cert.Kernel14Ideal.τ).loc Cert.Kernel14Ideal.main_arg17))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_context_recurrence_finite [hPre_context_recurrence_finite : Cert.Pre_context_recurrence_finite.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_context_recurrence_finite.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8)) (m ((c.tc : Thread Cert.Reference14Ideal.nD Cert.Reference14Ideal.τ).loc Cert.Reference14Ideal.main_arg9)) (m ((c.tc : Thread Cert.Reference14Ideal.nD Cert.Reference14Ideal.τ).loc Cert.Reference14Ideal.main_arg10)) (m ((c.tc : Thread Cert.Reference14Ideal.nD Cert.Reference14Ideal.τ).loc Cert.Reference14Ideal.main_arg11)) (m ((c.tc : Thread Cert.Reference14Ideal.nD Cert.Reference14Ideal.τ).loc Cert.Reference14Ideal.main_arg12)) (m ((c.tc : Thread Cert.Reference14Ideal.nD Cert.Reference14Ideal.τ).loc Cert.Reference14Ideal.main_arg13)) (m ((c.tc : Thread Cert.Reference14Ideal.nD Cert.Reference14Ideal.τ).loc Cert.Reference14Ideal.main_arg14)) (m ((c.tc : Thread Cert.Reference14Ideal.nD Cert.Reference14Ideal.τ).loc Cert.Reference14Ideal.main_arg15)) (m ((c.tc : Thread Cert.Reference14Ideal.nD Cert.Reference14Ideal.τ).loc Cert.Reference14Ideal.main_arg16)) (m ((c.tc : Thread Cert.Reference14Ideal.nD Cert.Reference14Ideal.τ).loc Cert.Reference14Ideal.main_arg17))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17))
      ∧ r.2.sem = fun _ => 0)

def quiescent_Kernel6Ideal_pre_recurrence_finite [hKernel6Ideal : Cert.Kernel6Ideal.Facts] [hPre_recurrence_finite : Cert.Pre_recurrence_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_recurrence_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17))
      ∧ r.2.sem = fun _ => 0)

def quiescent_Reference6Ideal_pre_recurrence_finite [hReference6Ideal : Cert.Reference6Ideal.Facts] [hPre_recurrence_finite : Cert.Pre_recurrence_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_recurrence_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] [hPre_context_experts_in_range : Cert.Pre_context_experts_in_range.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] [hPre_context_experts_in_range : Cert.Pre_context_experts_in_range.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Reference11Ideal_pre_context_experts_in_range [hReference11Ideal : Cert.Reference11Ideal.Facts] [hPre_context_experts_in_range : Cert.Pre_context_experts_in_range.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_context_experts_in_range m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11)
      ∧ r.2.mem ((c.tc : Thread Cert.Kernel14.nD Cert.Kernel14.τ).loc Cert.Kernel14.main_arg12) = m ((c.tc : Thread Cert.Kernel14.nD Cert.Kernel14.τ).loc Cert.Kernel14.main_arg12)
      ∧ r.2.mem ((c.tc : Thread Cert.Kernel14.nD Cert.Kernel14.τ).loc Cert.Kernel14.main_arg13) = m ((c.tc : Thread Cert.Kernel14.nD Cert.Kernel14.τ).loc Cert.Kernel14.main_arg13)
      ∧ r.2.mem ((c.tc : Thread Cert.Kernel14.nD Cert.Kernel14.τ).loc Cert.Kernel14.main_arg14) = m ((c.tc : Thread Cert.Kernel14.nD Cert.Kernel14.τ).loc Cert.Kernel14.main_arg14)
      ∧ r.2.mem ((c.tc : Thread Cert.Kernel14.nD Cert.Kernel14.τ).loc Cert.Kernel14.main_arg15) = m ((c.tc : Thread Cert.Kernel14.nD Cert.Kernel14.τ).loc Cert.Kernel14.main_arg15)
      ∧ r.2.mem ((c.tc : Thread Cert.Kernel14.nD Cert.Kernel14.τ).loc Cert.Kernel14.main_arg16) = m ((c.tc : Thread Cert.Kernel14.nD Cert.Kernel14.τ).loc Cert.Kernel14.main_arg16)
      ∧ r.2.mem ((c.tc : Thread Cert.Kernel14.nD Cert.Kernel14.τ).loc Cert.Kernel14.main_arg17) = m ((c.tc : Thread Cert.Kernel14.nD Cert.Kernel14.τ).loc Cert.Kernel14.main_arg17))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
      ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
      ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
      ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
      ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
      ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17))
      ∧ r.2.sem = fun _ => 0)

def quiescent_Kernel14Ideal_pre_context_recurrence_finite [hKernel14Ideal : Cert.Kernel14Ideal.Facts] [hPre_context_recurrence_finite : Cert.Pre_context_recurrence_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_context_recurrence_finite m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
      ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
      ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
      ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
      ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
      ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12)
      ∧ r.2.mem ((c.tc : Thread Cert.Reference14Ideal.nD Cert.Reference14Ideal.τ).loc Cert.Reference14Ideal.main_arg13) = m ((c.tc : Thread Cert.Reference14Ideal.nD Cert.Reference14Ideal.τ).loc Cert.Reference14Ideal.main_arg13)
      ∧ r.2.mem ((c.tc : Thread Cert.Reference14Ideal.nD Cert.Reference14Ideal.τ).loc Cert.Reference14Ideal.main_arg14) = m ((c.tc : Thread Cert.Reference14Ideal.nD Cert.Reference14Ideal.τ).loc Cert.Reference14Ideal.main_arg14)
      ∧ r.2.mem ((c.tc : Thread Cert.Reference14Ideal.nD Cert.Reference14Ideal.τ).loc Cert.Reference14Ideal.main_arg15) = m ((c.tc : Thread Cert.Reference14Ideal.nD Cert.Reference14Ideal.τ).loc Cert.Reference14Ideal.main_arg15)
      ∧ r.2.mem ((c.tc : Thread Cert.Reference14Ideal.nD Cert.Reference14Ideal.τ).loc Cert.Reference14Ideal.main_arg16) = m ((c.tc : Thread Cert.Reference14Ideal.nD Cert.Reference14Ideal.τ).loc Cert.Reference14Ideal.main_arg16)
      ∧ r.2.mem ((c.tc : Thread Cert.Reference14Ideal.nD Cert.Reference14Ideal.τ).loc Cert.Reference14Ideal.main_arg17) = m ((c.tc : Thread Cert.Reference14Ideal.nD Cert.Reference14Ideal.τ).loc Cert.Reference14Ideal.main_arg17))
      ∧ r.2.sem = fun _ => 0)

def quiescent_Reference14Ideal_pre_context_recurrence_finite [hReference14Ideal : Cert.Reference14Ideal.Facts] [hPre_context_recurrence_finite : Cert.Pre_context_recurrence_finite.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_context_recurrence_finite m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12)
      ∧ r.2.mem ((c.tc : Thread Cert.Reference14Ideal.nD Cert.Reference14Ideal.τ).loc Cert.Reference14Ideal.main_arg13) = m ((c.tc : Thread Cert.Reference14Ideal.nD Cert.Reference14Ideal.τ).loc Cert.Reference14Ideal.main_arg13)
      ∧ r.2.mem ((c.tc : Thread Cert.Reference14Ideal.nD Cert.Reference14Ideal.τ).loc Cert.Reference14Ideal.main_arg14) = m ((c.tc : Thread Cert.Reference14Ideal.nD Cert.Reference14Ideal.τ).loc Cert.Reference14Ideal.main_arg14)
      ∧ r.2.mem ((c.tc : Thread Cert.Reference14Ideal.nD Cert.Reference14Ideal.τ).loc Cert.Reference14Ideal.main_arg15) = m ((c.tc : Thread Cert.Reference14Ideal.nD Cert.Reference14Ideal.τ).loc Cert.Reference14Ideal.main_arg15)
      ∧ r.2.mem ((c.tc : Thread Cert.Reference14Ideal.nD Cert.Reference14Ideal.τ).loc Cert.Reference14Ideal.main_arg16) = m ((c.tc : Thread Cert.Reference14Ideal.nD Cert.Reference14Ideal.τ).loc Cert.Reference14Ideal.main_arg16)
      ∧ r.2.mem ((c.tc : Thread Cert.Reference14Ideal.nD Cert.Reference14Ideal.τ).loc Cert.Reference14Ideal.main_arg17) = m ((c.tc : Thread Cert.Reference14Ideal.nD Cert.Reference14Ideal.τ).loc Cert.Reference14Ideal.main_arg17))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_recurrence_finite [hKernel6Ideal : Cert.Kernel6Ideal.Facts] [hReference6Ideal : Cert.Reference6Ideal.Facts] [hPre_recurrence_finite : Cert.Pre_recurrence_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_recurrence_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v92) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] [hPre_context_experts_in_range : Cert.Pre_context_experts_in_range.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v60) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v35) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal_pre_context_recurrence_finite [hKernel14Ideal : Cert.Kernel14Ideal.Facts] [hReference14Ideal : Cert.Reference14Ideal.Facts] [hPre_context_recurrence_finite : Cert.Pre_context_recurrence_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_context_recurrence_finite m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)
      ∧ m' ((c.tc : Thread Cert.Reference14Ideal.nD Cert.Reference14Ideal.τ).loc Cert.Reference14Ideal.main_arg12) = m ((c.tc : Thread Cert.Kernel14Ideal.nD Cert.Kernel14Ideal.τ).loc Cert.Kernel14Ideal.main_arg12)
      ∧ m' ((c.tc : Thread Cert.Reference14Ideal.nD Cert.Reference14Ideal.τ).loc Cert.Reference14Ideal.main_arg13) = m ((c.tc : Thread Cert.Kernel14Ideal.nD Cert.Kernel14Ideal.τ).loc Cert.Kernel14Ideal.main_arg13)
      ∧ m' ((c.tc : Thread Cert.Reference14Ideal.nD Cert.Reference14Ideal.τ).loc Cert.Reference14Ideal.main_arg14) = m ((c.tc : Thread Cert.Kernel14Ideal.nD Cert.Kernel14Ideal.τ).loc Cert.Kernel14Ideal.main_arg14)
      ∧ m' ((c.tc : Thread Cert.Reference14Ideal.nD Cert.Reference14Ideal.τ).loc Cert.Reference14Ideal.main_arg15) = m ((c.tc : Thread Cert.Kernel14Ideal.nD Cert.Kernel14Ideal.τ).loc Cert.Kernel14Ideal.main_arg15)
      ∧ m' ((c.tc : Thread Cert.Reference14Ideal.nD Cert.Reference14Ideal.τ).loc Cert.Reference14Ideal.main_arg16) = m ((c.tc : Thread Cert.Kernel14Ideal.nD Cert.Kernel14Ideal.τ).loc Cert.Kernel14Ideal.main_arg16)
      ∧ m' ((c.tc : Thread Cert.Reference14Ideal.nD Cert.Reference14Ideal.τ).loc Cert.Reference14Ideal.main_arg17) = m ((c.tc : Thread Cert.Kernel14Ideal.nD Cert.Kernel14Ideal.τ).loc Cert.Kernel14Ideal.main_arg17)) →
    ∃ (v0 : (c : Dev Cert.Kernel14Ideal.nD) → Buf (Elt Ideal) ((c.tc : Thread Cert.Kernel14Ideal.nD Cert.Kernel14Ideal.τ).loc Cert.Kernel14Ideal.main_v15)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v15) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
          ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
          ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
          ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
          ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
          ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
          ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v92) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11)
          ∧ r.2.mem ((c.tc : Thread Cert.Reference14Ideal.nD Cert.Reference14Ideal.τ).loc Cert.Reference14Ideal.main_arg12) = m' ((c.tc : Thread Cert.Reference14Ideal.nD Cert.Reference14Ideal.τ).loc Cert.Reference14Ideal.main_arg12)
          ∧ r.2.mem ((c.tc : Thread Cert.Reference14Ideal.nD Cert.Reference14Ideal.τ).loc Cert.Reference14Ideal.main_arg13) = m' ((c.tc : Thread Cert.Reference14Ideal.nD Cert.Reference14Ideal.τ).loc Cert.Reference14Ideal.main_arg13)
          ∧ r.2.mem ((c.tc : Thread Cert.Reference14Ideal.nD Cert.Reference14Ideal.τ).loc Cert.Reference14Ideal.main_arg14) = m' ((c.tc : Thread Cert.Reference14Ideal.nD Cert.Reference14Ideal.τ).loc Cert.Reference14Ideal.main_arg14)
          ∧ r.2.mem ((c.tc : Thread Cert.Reference14Ideal.nD Cert.Reference14Ideal.τ).loc Cert.Reference14Ideal.main_arg15) = m' ((c.tc : Thread Cert.Reference14Ideal.nD Cert.Reference14Ideal.τ).loc Cert.Reference14Ideal.main_arg15)
          ∧ r.2.mem ((c.tc : Thread Cert.Reference14Ideal.nD Cert.Reference14Ideal.τ).loc Cert.Reference14Ideal.main_arg16) = m' ((c.tc : Thread Cert.Reference14Ideal.nD Cert.Reference14Ideal.τ).loc Cert.Reference14Ideal.main_arg16)
          ∧ r.2.mem ((c.tc : Thread Cert.Reference14Ideal.nD Cert.Reference14Ideal.τ).loc Cert.Reference14Ideal.main_arg17) = m' ((c.tc : Thread Cert.Reference14Ideal.nD Cert.Reference14Ideal.τ).loc Cert.Reference14Ideal.main_arg17))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v35) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_experts_in_range : Cert.Pre_experts_in_range.Facts) (hPre_recurrence_finite : Cert.Pre_recurrence_finite.Facts) (hPre_context_experts_in_range : Cert.Pre_context_experts_in_range.Facts) (hPre_context_recurrence_finite : Cert.Pre_context_recurrence_finite.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_recurrence_finite (hKernel6Ideal := hKernel6Ideal) (hPre_recurrence_finite := hPre_recurrence_finite)
    ∧ quiescent_Reference6Ideal (hReference6Ideal := hReference6Ideal)
    ∧ quiescent_Reference6Ideal_pre_recurrence_finite (hReference6Ideal := hReference6Ideal) (hPre_recurrence_finite := hPre_recurrence_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11) (hPre_context_experts_in_range := hPre_context_experts_in_range)
    ∧ quiescent_Kernel11Ideal (hKernel11Ideal := hKernel11Ideal) (hPre_context_experts_in_range := hPre_context_experts_in_range)
    ∧ quiescent_Reference11Ideal (hReference11Ideal := hReference11Ideal)
    ∧ quiescent_Reference11Ideal_pre_context_experts_in_range (hReference11Ideal := hReference11Ideal) (hPre_context_experts_in_range := hPre_context_experts_in_range)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_context_recurrence_finite (hKernel14Ideal := hKernel14Ideal) (hPre_context_recurrence_finite := hPre_context_recurrence_finite)
    ∧ quiescent_Reference14Ideal (hReference14Ideal := hReference14Ideal)
    ∧ quiescent_Reference14Ideal_pre_context_recurrence_finite (hReference14Ideal := hReference14Ideal) (hPre_context_recurrence_finite := hPre_context_recurrence_finite)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_recurrence_finite (hKernel6Ideal := hKernel6Ideal) (hReference6Ideal := hReference6Ideal) (hPre_recurrence_finite := hPre_recurrence_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal) (hPre_context_experts_in_range := hPre_context_experts_in_range)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_context_recurrence_finite (hKernel14Ideal := hKernel14Ideal) (hReference14Ideal := hReference14Ideal) (hPre_context_recurrence_finite := hPre_context_recurrence_finite)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_context_experts_in_range.lean ====
abbrev S24576x1024 : Shape := ⟨2, ![24576, 1024]⟩
abbrev S48 : Shape := ⟨1, ![48]⟩
abbrev S1 : Shape := ⟨1, ![1]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S_ : Shape := ⟨0, ![]⟩

class Facts : Prop where
  bcast_S_S48 : S_.BroadcastsInDim S48 (![] : Fin 0 → Fin S48.rank)
  reducesTo_S48_S_d0 : S48.ReducesTo [0] S_
  h_S_ : 0 < S_.numel

variable [Facts]

def fn {F : FTy → Type} [FloatOps F] (main_arg0 : FVec F S24576x1024 .bf16) (main_arg1 : IVec S48 32) (main_arg2 : IVec S1 32) (main_arg3 : FVec F S64x1024x2048 .f32) (main_arg4 : FVec F S64x1x2048 .f32) (main_arg5 : FVec F S64x1024x1024 .f32) (main_arg6 : FVec F S64x1x1024 .f32) : IVec S_ 1 :=
  let main_c : IVec S_ 32 := constantI S_ 32 0#32
  let main_v0 : IVec S48 32 := broadcastInDim S48 ![] bcast_S_S48 main_c
  let main_v1 : IVec S48 1 := cmpi .sge main_arg1 main_v0
  let main_c_0 : IVec S_ 32 := constantI S_ 32 64#32
  let main_v2 : IVec S48 32 := broadcastInDim S48 ![] bcast_S_S48 main_c_0
  let main_v3 : IVec S48 1 := cmpi .slt main_arg1 main_v2
  let main_v4 : IVec S48 1 := andi main_v1 main_v3
  let main_c_1 : IVec S_ 1 := constantI S_ 1 1#1
  let main_v5 : IVec S_ 1 := (fun x v => Host.reduce IntOp.andi x v reducesTo_S48_S_d0 h_S_) main_v4 main_c_1
  main_v5
-- ==== Pre_context_recurrence_finite.lean ====
abbrev S8x256x512 : Shape := ⟨3, ![8, 256, 512]⟩
abbrev S272x1024x128 : Shape := ⟨3, ![272, 1024, 128]⟩
abbrev S8x4352x512 : Shape := ⟨3, ![8, 4352, 512]⟩
abbrev S8x256x3072 : Shape := ⟨3, ![8, 256, 3072]⟩
abbrev S8x256x1024 : Shape := ⟨3, ![8, 256, 1024]⟩
abbrev S8x1x1024 : Shape := ⟨3, ![8, 1, 1024]⟩
abbrev S512 : Shape := ⟨1, ![512]⟩
abbrev S512x1024 : Shape := ⟨2, ![512, 1024]⟩
abbrev S1024 : Shape := ⟨1, ![1024]⟩
abbrev S3x512x1024 : Shape := ⟨3, ![3, 512, 1024]⟩
abbrev S1024x1024 : Shape := ⟨2, ![1024, 1024]⟩
abbrev S_ : Shape := ⟨0, ![]⟩

class Facts : Prop where
  bcast_S_S272x1024x128 : S_.BroadcastsInDim S272x1024x128 (![] : Fin 0 → Fin S272x1024x128.rank)
  reducesTo_S272x1024x128_S_d0_1_2 : S272x1024x128.ReducesTo [0, 1, 2] S_
  h_S_ : 0 < S_.numel
  bcast_S_S8x4352x512 : S_.BroadcastsInDim S8x4352x512 (![] : Fin 0 → Fin S8x4352x512.rank)
  reducesTo_S8x4352x512_S_d0_1_2 : S8x4352x512.ReducesTo [0, 1, 2] S_

variable [Facts]

def fn {F : FTy → Type} [FloatOps F] (main_arg0 : FVec F S8x256x512 .f32) (main_arg1 : FVec F S272x1024x128 .f32) (main_arg2 : FVec F S272x1024x128 .f32) (main_arg3 : FVec F S8x4352x512 .f32) (main_arg4 : FVec F S8x4352x512 .f32) (main_arg5 : FVec F S8x4352x512 .f32) (main_arg6 : FVec F S8x4352x512 .f32) (main_arg7 : FVec F S8x256x512 .f32) (main_arg8 : FVec F S8x256x3072 .f32) (main_arg9 : FVec F S8x256x1024 .f32) (main_arg10 : FVec F S8x1x1024 .f32) (main_arg11 : FVec F S512 .f32) (main_arg12 : FVec F S512 .f32) (main_arg13 : FVec F S512 .f32) (main_arg14 : FVec F S512x1024 .f32) (main_arg15 : FVec F S1024 .f32) (main_arg16 : FVec F S3x512x1024 .f32) (main_arg17 : FVec F S1024x1024 .f32) : IVec S_ 1 :=
  let main_v0 : FVec F S272x1024x128 .f32 := Host.absf main_arg1
  let main_cst : FVec F S_ .f32 := constant S_ .f32 0x7F800000#32
  let main_v1 : FVec F S272x1024x128 .f32 := broadcastInDim S272x1024x128 ![] bcast_S_S272x1024x128 main_cst
  let main_v2 : IVec S272x1024x128 1 := cmpf .olt main_v0 main_v1
  let main_c : IVec S_ 1 := constantI S_ 1 1#1
  let main_v3 : IVec S_ 1 := (fun x v => Host.reduce IntOp.andi x v reducesTo_S272x1024x128_S_d0_1_2 h_S_) main_v2 main_c
  let main_v4 : FVec F S272x1024x128 .f32 := Host.absf main_arg2
  let main_cst_0 : FVec F S_ .f32 := constant S_ .f32 0x7F800000#32
  let main_v5 : FVec F S272x1024x128 .f32 := broadcastInDim S272x1024x128 ![] bcast_S_S272x1024x128 main_cst_0
  let main_v6 : IVec S272x1024x128 1 := cmpf .olt main_v4 main_v5
  let main_c_1 : IVec S_ 1 := constantI S_ 1 1#1
  let main_v7 : IVec S_ 1 := (fun x v => Host.reduce IntOp.andi x v reducesTo_S272x1024x128_S_d0_1_2 h_S_) main_v6 main_c_1
  let main_v8 : IVec S_ 1 := andi main_v3 main_v7
  let main_v9 : FVec F S8x4352x512 .f32 := Host.absf main_arg3
  let main_cst_2 : FVec F S_ .f32 := constant S_ .f32 0x7F800000#32
  let main_v10 : FVec F S8x4352x512 .f32 := broadcastInDim S8x4352x512 ![] bcast_S_S8x4352x512 main_cst_2
  let main_v11 : IVec S8x4352x512 1 := cmpf .olt main_v9 main_v10
  let main_c_3 : IVec S_ 1 := constantI S_ 1 1#1
  let main_v12 : IVec S_ 1 := (fun x v => Host.reduce IntOp.andi x v reducesTo_S8x4352x512_S_d0_1_2 h_S_) main_v11 main_c_3
  let main_v13 : IVec S_ 1 := andi main_v8 main_v12
  main_v13
-- ==== Pre_experts_in_range.lean ====
abbrev S147456x1024 : Shape := ⟨2, ![147456, 1024]⟩
abbrev S288 : Shape := ⟨1, ![288]⟩
abbrev S1 : Shape := ⟨1, ![1]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : FVec F S147456x1024 .bf16) (main_arg1 : IVec S288 32) (main_arg2 : IVec S1 32) (main_arg3 : FVec F S64x1024x2048 .f32) (main_arg4 : FVec F S64x1x2048 .f32) (main_arg5 : FVec F S64x1024x1024 .f32) (main_arg6 : FVec F S64x1x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 64#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Pre_recurrence_finite.lean ====
abbrev S8x4096x512 : Shape := ⟨3, ![8, 4096, 512]⟩
abbrev S272x1024x128 : Shape := ⟨3, ![272, 1024, 128]⟩
abbrev S8x4352x512 : Shape := ⟨3, ![8, 4352, 512]⟩
abbrev S8x4096x3072 : Shape := ⟨3, ![8, 4096, 3072]⟩
abbrev S8x4096x1024 : Shape := ⟨3, ![8, 4096, 1024]⟩
abbrev S8x1x1024 : Shape := ⟨3, ![8, 1, 1024]⟩
abbrev S512 : Shape := ⟨1, ![512]⟩
abbrev S512x1024 : Shape := ⟨2, ![512, 1024]⟩
abbrev S1024 : Shape := ⟨1, ![1024]⟩
abbrev S3x512x1024 : Shape := ⟨3, ![3, 512, 1024]⟩
abbrev S1024x1024 : Shape := ⟨2, ![1024, 1024]⟩
abbrev S_ : Shape := ⟨0, ![]⟩

class Facts : Prop where
  bcast_S_S272x1024x128 : S_.BroadcastsInDim S272x1024x128 (![] : Fin 0 → Fin S272x1024x128.rank)
  reducesTo_S272x1024x128_S_d0_1_2 : S272x1024x128.ReducesTo [0, 1, 2] S_
  h_S_ : 0 < S_.numel
  bcast_S_S8x4352x512 : S_.BroadcastsInDim S8x4352x512 (![] : Fin 0 → Fin S8x4352x512.rank)
  reducesTo_S8x4352x512_S_d0_1_2 : S8x4352x512.ReducesTo [0, 1, 2] S_

variable [Facts]

def fn {F : FTy → Type} [FloatOps F] (main_arg0 : FVec F S8x4096x512 .f32) (main_arg1 : FVec F S272x1024x128 .f32) (main_arg2 : FVec F S272x1024x128 .f32) (main_arg3 : FVec F S8x4352x512 .f32) (main_arg4 : FVec F S8x4352x512 .f32) (main_arg5 : FVec F S8x4352x512 .f32) (main_arg6 : FVec F S8x4352x512 .f32) (main_arg7 : FVec F S8x4096x512 .f32) (main_arg8 : FVec F S8x4096x3072 .f32) (main_arg9 : FVec F S8x4096x1024 .f32) (main_arg10 : FVec F S8x1x1024 .f32) (main_arg11 : FVec F S512 .f32) (main_arg12 : FVec F S512 .f32) (main_arg13 : FVec F S512 .f32) (main_arg14 : FVec F S512x1024 .f32) (main_arg15 : FVec F S1024 .f32) (main_arg16 : FVec F S3x512x1024 .f32) (main_arg17 : FVec F S1024x1024 .f32) : IVec S_ 1 :=
  let main_v0 : FVec F S272x1024x128 .f32 := Host.absf main_arg1
  let main_cst : FVec F S_ .f32 := constant S_ .f32 0x7F800000#32
  let main_v1 : FVec F S272x1024x128 .f32 := broadcastInDim S272x1024x128 ![] bcast_S_S272x1024x128 main_cst
  let main_v2 : IVec S272x1024x128 1 := cmpf .olt main_v0 main_v1
  let main_c : IVec S_ 1 := constantI S_ 1 1#1
  let main_v3 : IVec S_ 1 := (fun x v => Host.reduce IntOp.andi x v reducesTo_S272x1024x128_S_d0_1_2 h_S_) main_v2 main_c
  let main_v4 : FVec F S272x1024x128 .f32 := Host.absf main_arg2
  let main_cst_0 : FVec F S_ .f32 := constant S_ .f32 0x7F800000#32
  let main_v5 : FVec F S272x1024x128 .f32 := broadcastInDim S272x1024x128 ![] bcast_S_S272x1024x128 main_cst_0
  let main_v6 : IVec S272x1024x128 1 := cmpf .olt main_v4 main_v5
  let main_c_1 : IVec S_ 1 := constantI S_ 1 1#1
  let main_v7 : IVec S_ 1 := (fun x v => Host.reduce IntOp.andi x v reducesTo_S272x1024x128_S_d0_1_2 h_S_) main_v6 main_c_1
  let main_v8 : IVec S_ 1 := andi main_v3 main_v7
  let main_v9 : FVec F S8x4352x512 .f32 := Host.absf main_arg3
  let main_cst_2 : FVec F S_ .f32 := constant S_ .f32 0x7F800000#32
  let main_v10 : FVec F S8x4352x512 .f32 := broadcastInDim S8x4352x512 ![] bcast_S_S8x4352x512 main_cst_2
  let main_v11 : IVec S8x4352x512 1 := cmpf .olt main_v9 main_v10
  let main_c_3 : IVec S_ 1 := constantI S_ 1 1#1
  let main_v12 : IVec S_ 1 := (fun x v => Host.reduce IntOp.andi x v reducesTo_S8x4352x512_S_d0_1_2 h_S_) main_v11 main_c_3
  let main_v13 : IVec S_ 1 := andi main_v8 main_v12
  main_v13
-- ==== Kernel.lean ====
abbrev S147456x1024 : Shape := ⟨2, ![147456, 1024]⟩
abbrev S288 : Shape := ⟨1, ![288]⟩
abbrev S1 : Shape := ⟨1, ![1]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S147456x1024, .bf16⟩
  | .hbm, ⟨1, _⟩ => ⟨S64x1024x2048, .f32⟩
  | .hbm, ⟨2, _⟩ => ⟨S64x1x2048, .f32⟩
  | .hbm, ⟨3, _⟩ => ⟨S64x1024x1024, .f32⟩
  | .hbm, ⟨4, _⟩ => ⟨S64x1x1024, .f32⟩
  | .hbm, ⟨5, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S147456x1024 : Shape := ⟨2, ![147456, 1024]⟩
abbrev S288 : Shape := ⟨1, ![288]⟩
abbrev S1 : Shape := ⟨1, ![1]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S147456x1024, .bf16⟩
  | .hbm, ⟨1, _⟩ => ⟨S64x1024x2048, .f32⟩
  | .hbm, ⟨2, _⟩ => ⟨S64x1x2048, .f32⟩
  | .hbm, ⟨3, _⟩ => ⟨S64x1024x1024, .f32⟩
  | .hbm, ⟨4, _⟩ => ⟨S64x1x1024, .f32⟩
  | .hbm, ⟨5, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S147456x1024 : Shape := ⟨2, ![147456, 1024]⟩
abbrev S288 : Shape := ⟨1, ![288]⟩
abbrev S1 : Shape := ⟨1, ![1]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x1024x1024 : Shape := ⟨3, ![288, 1024, 1024]⟩
abbrev S288x1x1024 : Shape := ⟨3, ![288, 1, 1024]⟩
abbrev S288x1x1 : Shape := ⟨3, ![288, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S147456x1024, .bf16⟩
  | .hbm, ⟨1, _⟩ => ⟨S288, .i32⟩
  | .hbm, ⟨2, _⟩ => ⟨S1, .i32⟩
  | .hbm, ⟨3, _⟩ => ⟨S64x1024x2048, .f32⟩
  | .hbm, ⟨4, _⟩ => ⟨S64x1x2048, .f32⟩
  | .hbm, ⟨5, _⟩ => ⟨S64x1024x1024, .f32⟩
  | .hbm, ⟨6, _⟩ => ⟨S64x1x1024, .f32⟩
  | .hbm, ⟨7, _⟩ => ⟨S147456x1024, .f32⟩
  | .hbm, ⟨8, _⟩ => ⟨S288x512x1024, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x1024x2048, .f32⟩
  | .hbm, ⟨18, _⟩ => ⟨S288x512x2048, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x1x2048, .f32⟩
  | .hbm, ⟨28, _⟩ => ⟨S288x512x2048, .f32⟩
  | .hbm, ⟨29, _⟩ => ⟨S288x512x2048, .f32⟩
  | .hbm, ⟨30, _⟩ => ⟨S288x512x1024, .f32⟩
  | .hbm, ⟨31, _⟩ => ⟨S288x512x1024, .f32⟩
  | .hbm, ⟨32, _⟩ => ⟨S_, .f32⟩
  | .hbm, ⟨33, _⟩ => ⟨S288x512x1024, .f32⟩
  | .hbm, ⟨34, _⟩ => ⟨S288x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S288x512x1024, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S288x512x1024, .f32⟩
  | .hbm, ⟨47, _⟩ => ⟨S_, .f32⟩
  | .hbm, ⟨48, _⟩ => ⟨S288x512x1024, .f32⟩
  | .hbm, ⟨49, _⟩ => ⟨S288x512x1024, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S_, .f32⟩
  | .hbm, ⟨56, _⟩ => ⟨S288x512x1024, .f32⟩
  | .hbm, ⟨57, _⟩ => ⟨S288x512x1024, .f32⟩
  | .hbm, ⟨58, _⟩ => ⟨S288x512x1024, .f32⟩
  | .hbm, ⟨59, _⟩ => ⟨S_, .i32⟩
  | .hbm, ⟨60, _⟩ => ⟨S288, .i32⟩
  | .hbm, ⟨61, _⟩ => ⟨S288, .i1⟩
  | .hbm, ⟨62, _⟩ => ⟨S_, .i32⟩
  | .hbm, ⟨63, _⟩ => ⟨S288, .i32⟩
  | .hbm, ⟨64, _⟩ => ⟨S288, .i32⟩
  | .hbm, ⟨65, _⟩ => ⟨S288, .i32⟩
  | .hbm, ⟨66, _⟩ => ⟨S288x1, .i32⟩
  | .hbm, ⟨67, _⟩ => ⟨S288x1024x1024, .f32⟩
  | .hbm, ⟨68, _⟩ => ⟨S288x512x1024, .f32⟩
  | .hbm, ⟨69, _⟩ => ⟨S_, .i32⟩
  | .hbm, ⟨70, _⟩ => ⟨S288, .i32⟩
  | .hbm, ⟨71, _⟩ => ⟨S288, .i1⟩
  | .hbm, ⟨72, _⟩ => ⟨S_, .i32⟩
  | .hbm, ⟨73, _⟩ => ⟨S288, .i32⟩
  | .hbm, ⟨74, _⟩ => ⟨S288, .i32⟩
  | .hbm, ⟨75, _⟩ => ⟨S288, .i32⟩
  | .hbm, ⟨76, _⟩ => ⟨S288x1, .i32⟩
  | .hbm, ⟨77, _⟩ => ⟨S288x1x1024, .f32⟩
  | .hbm, ⟨78, _⟩ => ⟨S288x512x1024, .f32⟩
  | .hbm, ⟨79, _⟩ => ⟨S288x512x1024, .f32⟩
  | .hbm, ⟨80, _⟩ => ⟨S288, .i32⟩
  | .hbm, ⟨81, _⟩ => ⟨S_, .i32⟩
  | .hbm, ⟨82, _⟩ => ⟨S288, .i32⟩
  | .hbm, ⟨83, _⟩ => ⟨S288, .i1⟩
  | .hbm, ⟨84, _⟩ => ⟨S288x1x1, .i1⟩
  | .hbm, ⟨85, _⟩ => ⟨S_, .f32⟩
  | .hbm, ⟨86, _⟩ => ⟨S_, .f32⟩
  | .hbm, ⟨87, _⟩ => ⟨S288x512x1024, .i1⟩
  | .hbm, ⟨88, _⟩ => ⟨S288x512x1024, .f32⟩
  | .hbm, ⟨89, _⟩ => ⟨S288x512x1024, .f32⟩
  | .hbm, ⟨90, _⟩ => ⟨S147456x1024, .f32⟩
  | .hbm, ⟨91, _⟩ => ⟨S147456x1024, .bf16⟩
  | _, _ => ⟨S147456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x1x1024 : Shape := ⟨3, ![8, 1, 1024]⟩
abbrev S1024 : Shape := ⟨1, ![1024]⟩
abbrev S1024x3072 : Shape := ⟨2, ![1024, 3072]⟩
abbrev S1x1024 : Shape := ⟨2, ![1, 1024]⟩
abbrev S8x4096x3072 : Shape := ⟨3, ![8, 4096, 3072]⟩
abbrev S1x1024x1024 : Shape := ⟨3, ![1, 1024, 1024]⟩
abbrev S1x1x1024 : Shape := ⟨3, ![1, 1, 1024]⟩
abbrev S1024x1536 : Shape := ⟨2, ![1024, 1536]⟩
abbrev S1x1024x1536 : Shape := ⟨3, ![1, 1024, 1536]⟩
abbrev S1024x1024 : Shape := ⟨2, ![1024, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3072, .bf16⟩
  | .hbm, ⟨5, _⟩ => ⟨S1x1024, .f32⟩
  | .hbm, ⟨6, _⟩ => ⟨S8x4096x3072, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1536, .bf16⟩
  | .local _ .vmem, ⟨9, _⟩ => ⟨S1x1024x1536, .f32⟩
  | .local _ .vmem, ⟨10, _⟩ => ⟨S1x1024x1536, .f32⟩
  | .local _ .vmem, ⟨11, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel2Ideal.lean ====
abbrev S8x4096x1024 : Shape := ⟨3, ![8, 4096, 1024]⟩
abbrev S8x1x1024 : Shape := ⟨3, ![8, 1, 1024]⟩
abbrev S1024 : Shape := ⟨1, ![1024]⟩
abbrev S1024x3072 : Shape := ⟨2, ![1024, 3072]⟩
abbrev S1x1024 : Shape := ⟨2, ![1, 1024]⟩
abbrev S8x4096x3072 : Shape := ⟨3, ![8, 4096, 3072]⟩
abbrev S1x1024x1024 : Shape := ⟨3, ![1, 1024, 1024]⟩
abbrev S1x1x1024 : Shape := ⟨3, ![1, 1, 1024]⟩
abbrev S1024x1536 : Shape := ⟨2, ![1024, 1536]⟩
abbrev S1x1024x1536 : Shape := ⟨3, ![1, 1024, 1536]⟩
abbrev S1024x1024 : Shape := ⟨2, ![1024, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3072, .bf16⟩
  | .hbm, ⟨5, _⟩ => ⟨S1x1024, .f32⟩
  | .hbm, ⟨6, _⟩ => ⟨S8x4096x3072, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1536, .bf16⟩
  | .local _ .vmem, ⟨9, _⟩ => ⟨S1x1024x1536, .f32⟩
  | .local _ .vmem, ⟨10, _⟩ => ⟨S1x1024x1536, .f32⟩
  | .local _ .vmem, ⟨11, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S8x4096x1024 : Shape := ⟨3, ![8, 4096, 1024]⟩
abbrev S8x1x1024 : Shape := ⟨3, ![8, 1, 1024]⟩
abbrev S1024 : Shape := ⟨1, ![1024]⟩
abbrev S1024x3072 : Shape := ⟨2, ![1024, 3072]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3072, .bf16⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1024x3072, .f32⟩
  | .hbm, ⟨29, _⟩ => ⟨S8x4096x3072, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x1024 : Shape := ⟨3, ![8, 1, 1024]⟩
abbrev S1024 : Shape := ⟨1, ![1024]⟩
abbrev S1024x1792 : Shape := ⟨2, ![1024, 1792]⟩
abbrev S1x1024 : Shape := ⟨2, ![1, 1024]⟩
abbrev S8x4096x1792 : Shape := ⟨3, ![8, 4096, 1792]⟩
abbrev S1x1024x1024 : Shape := ⟨3, ![1, 1024, 1024]⟩
abbrev S1x1x1024 : Shape := ⟨3, ![1, 1, 1024]⟩
abbrev S1x1024x1792 : Shape := ⟨3, ![1, 1024, 1792]⟩
abbrev S1024x1024 : Shape := ⟨2, ![1024, 1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1792, .bf16⟩
  | .hbm, ⟨5, _⟩ => ⟨S1x1024, .f32⟩
  | .hbm, ⟨6, _⟩ => ⟨S8x4096x1792, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1792, .bf16⟩
  | .local _ .vmem, ⟨8, _⟩ => ⟨S1x1024x1792, .f32⟩
  | .local _ .vmem, ⟨9, _⟩ => ⟨S1x1024x1792, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x1024x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel3Ideal.lean ====
abbrev S8x4096x1024 : Shape := ⟨3, ![8, 4096, 1024]⟩
abbrev S8x1x1024 : Shape := ⟨3, ![8, 1, 1024]⟩
abbrev S1024 : Shape := ⟨1, ![1024]⟩
abbrev S1024x1792 : Shape := ⟨2, ![1024, 1792]⟩
abbrev S1x1024 : Shape := ⟨2, ![1, 1024]⟩
abbrev S8x4096x1792 : Shape := ⟨3, ![8, 4096, 1792]⟩
abbrev S1x1024x1024 : Shape := ⟨3, ![1, 1024, 1024]⟩
abbrev S1x1x1024 : Shape := ⟨3, ![1, 1, 1024]⟩
abbrev S1x1024x1792 : Shape := ⟨3, ![1, 1024, 1792]⟩
abbrev S1024x1024 : Shape := ⟨2, ![1024, 1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1792, .bf16⟩
  | .hbm, ⟨5, _⟩ => ⟨S1x1024, .f32⟩
  | .hbm, ⟨6, _⟩ => ⟨S8x4096x1792, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1792, .bf16⟩
  | .local _ .vmem, ⟨8, _⟩ => ⟨S1x1024x1792, .f32⟩
  | .local _ .vmem, ⟨9, _⟩ => ⟨S1x1024x1792, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x1024x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference3Ideal.lean ====
abbrev S8x4096x1024 : Shape := ⟨3, ![8, 4096, 1024]⟩
abbrev S8x1x1024 : Shape := ⟨3, ![8, 1, 1024]⟩
abbrev S1024 : Shape := ⟨1, ![1024]⟩
abbrev S1024x1792 : Shape := ⟨2, ![1024, 1792]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1792 : Shape := ⟨3, ![8, 4096, 1792]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1792, .bf16⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1024x1792, .f32⟩
  | .hbm, ⟨29, _⟩ => ⟨S8x4096x1792, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x1x1024 : Shape := ⟨3, ![8, 1, 1024]⟩
abbrev S1024 : Shape := ⟨1, ![1024]⟩
abbrev S1024x1536 : Shape := ⟨2, ![1024, 1536]⟩
abbrev S1x1024 : Shape := ⟨2, ![1, 1024]⟩
abbrev S8x4096x1536 : Shape := ⟨3, ![8, 4096, 1536]⟩
abbrev S1x1024x1024 : Shape := ⟨3, ![1, 1024, 1024]⟩
abbrev S1x1x1024 : Shape := ⟨3, ![1, 1, 1024]⟩
abbrev S1x1024x1536 : Shape := ⟨3, ![1, 1024, 1536]⟩
abbrev S1024x1024 : Shape := ⟨2, ![1024, 1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1536, .bf16⟩
  | .hbm, ⟨5, _⟩ => ⟨S1x1024, .f32⟩
  | .hbm, ⟨6, _⟩ => ⟨S8x4096x1536, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1x1024x1536, .f32⟩
  | .local _ .vmem, ⟨9, _⟩ => ⟨S1x1024x1536, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel4Ideal.lean ====
abbrev S8x4096x1024 : Shape := ⟨3, ![8, 4096, 1024]⟩
abbrev S8x1x1024 : Shape := ⟨3, ![8, 1, 1024]⟩
abbrev S1024 : Shape := ⟨1, ![1024]⟩
abbrev S1024x1536 : Shape := ⟨2, ![1024, 1536]⟩
abbrev S1x1024 : Shape := ⟨2, ![1, 1024]⟩
abbrev S8x4096x1536 : Shape := ⟨3, ![8, 4096, 1536]⟩
abbrev S1x1024x1024 : Shape := ⟨3, ![1, 1024, 1024]⟩
abbrev S1x1x1024 : Shape := ⟨3, ![1, 1, 1024]⟩
abbrev S1x1024x1536 : Shape := ⟨3, ![1, 1024, 1536]⟩
abbrev S1024x1024 : Shape := ⟨2, ![1024, 1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1536, .bf16⟩
  | .hbm, ⟨5, _⟩ => ⟨S1x1024, .f32⟩
  | .hbm, ⟨6, _⟩ => ⟨S8x4096x1536, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1x1024x1536, .f32⟩
  | .local _ .vmem, ⟨9, _⟩ => ⟨S1x1024x1536, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference4Ideal.lean ====
abbrev S8x4096x1024 : Shape := ⟨3, ![8, 4096, 1024]⟩
abbrev S8x1x1024 : Shape := ⟨3, ![8, 1, 1024]⟩
abbrev S1024 : Shape := ⟨1, ![1024]⟩
abbrev S1024x1536 : Shape := ⟨2, ![1024, 1536]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1536 : Shape := ⟨3, ![8, 4096, 1536]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1536, .bf16⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1024x1536, .f32⟩
  | .hbm, ⟨29, _⟩ => ⟨S8x4096x1536, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x1x1024 : Shape := ⟨3, ![8, 1, 1024]⟩
abbrev S1024 : Shape := ⟨1, ![1024]⟩
abbrev S1024x512 : Shape := ⟨2, ![1024, 512]⟩
abbrev S1x1024 : Shape := ⟨2, ![1, 1024]⟩
abbrev S8x4096x512 : Shape := ⟨3, ![8, 4096, 512]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1024x1024 : Shape := ⟨2, ![1024, 1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x512, .bf16⟩
  | .hbm, ⟨5, _⟩ => ⟨S1x1024, .f32⟩
  | .hbm, ⟨6, _⟩ => ⟨S8x4096x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1x1024x512, .f32⟩
  | .local _ .vmem, ⟨9, _⟩ => ⟨S1x1024x512, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel5Ideal.lean ====
abbrev S8x4096x1024 : Shape := ⟨3, ![8, 4096, 1024]⟩
abbrev S8x1x1024 : Shape := ⟨3, ![8, 1, 1024]⟩
abbrev S1024 : Shape := ⟨1, ![1024]⟩
abbrev S1024x512 : Shape := ⟨2, ![1024, 512]⟩
abbrev S1x1024 : Shape := ⟨2, ![1, 1024]⟩
abbrev S8x4096x512 : Shape := ⟨3, ![8, 4096, 512]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1024x1024 : Shape := ⟨2, ![1024, 1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x512, .bf16⟩
  | .hbm, ⟨5, _⟩ => ⟨S1x1024, .f32⟩
  | .hbm, ⟨6, _⟩ => ⟨S8x4096x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1x1024x512, .f32⟩
  | .local _ .vmem, ⟨9, _⟩ => ⟨S1x1024x512, .f32⟩
  | .local _ .vmem, ⟨10, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S8x4096x1024 : Shape := ⟨3, ![8, 4096, 1024]⟩
abbrev S8x1x1024 : Shape := ⟨3, ![8, 1, 1024]⟩
abbrev S1024 : Shape := ⟨1, ![1024]⟩
abbrev S1024x512 : Shape := ⟨2, ![1024, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x512 : Shape := ⟨3, ![8, 4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x512, .bf16⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1024x512, .f32⟩
  | .hbm, ⟨29, _⟩ => ⟨S8x4096x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel6.lean ====
abbrev S8x4096x512 : Shape := ⟨3, ![8, 4096, 512]⟩
abbrev S272x1024x128 : Shape := ⟨3, ![272, 1024, 128]⟩
abbrev S8x4352x512 : Shape := ⟨3, ![8, 4352, 512]⟩
abbrev S8x4096x3072 : Shape := ⟨3, ![8, 4096, 3072]⟩
abbrev S8x4096x1024 : Shape := ⟨3, ![8, 4096, 1024]⟩
abbrev S8x1x1024 : Shape := ⟨3, ![8, 1, 1024]⟩
abbrev S512 : Shape := ⟨1, ![512]⟩
abbrev S512x1024 : Shape := ⟨2, ![512, 1024]⟩
abbrev S1024 : Shape := ⟨1, ![1024]⟩
abbrev S3x512x1024 : Shape := ⟨3, ![3, 512, 1024]⟩
abbrev S1024x1024 : Shape := ⟨2, ![1024, 1024]⟩
abbrev S512x512 : Shape := ⟨2, ![512, 512]⟩
abbrev S_ : Shape := ⟨0, ![]⟩
abbrev S1x512 : Shape := ⟨2, ![1, 512]⟩
abbrev S1x1024 : Shape := ⟨2, ![1, 1024]⟩
abbrev S1x256x512 : Shape := ⟨3, ![1, 256, 512]⟩
abbrev S16x128x128 : Shape := ⟨3, ![16, 128, 128]⟩
abbrev S1x256x3072 : Shape := ⟨3, ![1, 256, 3072]⟩
abbrev S1x256x1024 : Shape := ⟨3, ![1, 256, 1024]⟩
abbrev S1x1x1024 : Shape := ⟨3, ![1, 1, 1024]⟩
abbrev S256x128 : Shape := ⟨2, ![256, 128]⟩
abbrev S1x16x128 : Shape := ⟨3, ![1, 16, 128]⟩
abbrev S16x128 : Shape := ⟨2, ![16, 128]⟩
abbrev S256x512 : Shape := ⟨2, ![256, 512]⟩
abbrev S256x1024 : Shape := ⟨2, ![256, 1024]⟩
abbrev S256x3072 : Shape := ⟨2, ![256, 3072]⟩
abbrev S1x512x1024 : Shape := ⟨3, ![1, 512, 1024]⟩

abbrev nBuf : Space → Nat
  | .hbm => 36
  | .vmem => 32
  | .smem => 0
  | _ => 0

abbrev bufTy : (tb : Table) → Fin (tcTables nBuf tb) → BufTy
  | .hbm, ⟨0, _⟩ => ⟨S8x4096x512, .f32⟩
  | .hbm, ⟨1, _⟩ => ⟨S272x1024x128, .f32⟩
  | .hbm, ⟨2, _⟩ => ⟨S272x1024x128, .f32⟩
  | .hbm, ⟨3, _⟩ => ⟨S8x4352x512, .f32⟩
  | .hbm, ⟨4, _⟩ => ⟨S8x4352x512, .f32⟩
  | .hbm, ⟨5, _⟩ => ⟨S8x4352x512, .f32⟩
  | .hbm, ⟨6, _⟩ => ⟨S8x4352x512, .f32⟩
  | .hbm, ⟨7, _⟩ => ⟨S8x4096x512, .f32⟩
  | .hbm, ⟨8, _⟩ => ⟨S8x4096x3072, .f32⟩
  | .hbm, ⟨9, _⟩ => ⟨S8x4096x1024, .f32⟩
  | .hbm, ⟨10, _⟩ => ⟨S8x1x1024, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x1024, .f32⟩
  | .hbm, ⟨15, _⟩ => ⟨S1024, .f32⟩
  | .hbm, ⟨16, _⟩ => ⟨S3x512x1024, .f32⟩
  | .hbm, ⟨17, _⟩ => ⟨S1024x1024, .f32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S512x512, .bf16⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S512x1024, .bf16⟩
  | .hbm, ⟨32, _⟩ => ⟨S1x1024, .f32⟩
  | .hbm, ⟨33, _⟩ => ⟨S3x512x1024, .bf16⟩
  | .hbm, ⟨34, _⟩ => ⟨S1024x1024, .bf16⟩
  | .hbm, ⟨35, _⟩ => ⟨S8x4096x1024, .f32⟩
  | .local _ .vmem, ⟨0, _⟩ => ⟨S1x256x512, .f32⟩
  | .local _ .vmem, ⟨1, _⟩ => ⟨S1x256x512, .f32⟩
  | .local _ .vmem, ⟨2, _⟩ => ⟨S16x128x128, .f32⟩
  | .local _ .vmem, ⟨3, _⟩ => ⟨S16x128x128, .f32⟩
  | .local _ .vmem, ⟨4, _⟩ => ⟨S16x128x128, .f32⟩
  | .local _ .vmem, ⟨5, _⟩ => ⟨S16x128x128, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x3072, .f32⟩
  | .local _ .vmem, ⟨17, _⟩ => ⟨S1x256x3072, .f32⟩
  | .local _ .vmem, ⟨18, _⟩ => ⟨S1x256x1024, .f32⟩
  | .local _ .vmem, ⟨19, _⟩ => ⟨S1x256x1024, .f32⟩
  | .local _ .vmem, ⟨20, _⟩ => ⟨S1x1x1024, .f32⟩
  | .local _ .vmem, ⟨21, _⟩ => ⟨S1x1x1024, .f32⟩
  | .local _ .vmem, ⟨22, _⟩ => ⟨S512x512, .bf16⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S512x1024, .bf16⟩
  | .local _ .vmem, ⟨27, _⟩ => ⟨S1x1024, .f32⟩
  | .local _ .vmem, ⟨28, _⟩ => ⟨S3x512x1024, .bf16⟩
  | .local _ .vmem, ⟨29, _⟩ => ⟨S1024x1024, .bf16⟩
  | .local _ .vmem, ⟨30, _⟩ => ⟨S1x256x1024, .f32⟩
  | .local _ .vmem, ⟨31, _⟩ => ⟨S1x256x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference6Ideal.lean ====
abbrev S8x4096x512 : Shape := ⟨3, ![8, 4096, 512]⟩
abbrev S272x1024x128 : Shape := ⟨3, ![272, 1024, 128]⟩
abbrev S8x4352x512 : Shape := ⟨3, ![8, 4352, 512]⟩
abbrev S8x4096x3072 : Shape := ⟨3, ![8, 4096, 3072]⟩
abbrev S8x4096x1024 : Shape := ⟨3, ![8, 4096, 1024]⟩
abbrev S8x1x1024 : Shape := ⟨3, ![8, 1, 1024]⟩
abbrev S512 : Shape := ⟨1, ![512]⟩
abbrev S512x1024 : Shape := ⟨2, ![512, 1024]⟩
abbrev S1024 : Shape := ⟨1, ![1024]⟩
abbrev S3x512x1024 : Shape := ⟨3, ![3, 512, 1024]⟩
abbrev S1024x1024 : Shape := ⟨2, ![1024, 1024]⟩
abbrev S272x1024x64 : Shape := ⟨3, ![272, 1024, 64]⟩
abbrev S272x8x8x16x64 : Shape := ⟨5, ![272, 8, 8, 16, 64]⟩
abbrev S8x272x16x8x64 : Shape := ⟨5, ![8, 272, 16, 8, 64]⟩
abbrev S8x4352x8x64 : Shape := ⟨4, ![8, 4352, 8, 64]⟩
abbrev S8x4096x8x64 : Shape := ⟨4, ![8, 4096, 8, 64]⟩
abbrev S_ : Shape := ⟨0, ![]⟩
abbrev S8x4096x8 : Shape := ⟨3, ![8, 4096, 8]⟩
abbrev S8x4096x8x1 : Shape := ⟨4, ![8, 4096, 8, 1]⟩
abbrev S1x1x512 : Shape := ⟨3, ![1, 1, 512]⟩
abbrev S1x1x1024 : Shape := ⟨3, ![1, 1, 1024]⟩
abbrev S1x512x1024 : Shape := ⟨3, ![1, 512, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S272x1024x128, .f32⟩
  | .hbm, ⟨2, _⟩ => ⟨S272x1024x128, .f32⟩
  | .hbm, ⟨3, _⟩ => ⟨S8x4352x512, .f32⟩
  | .hbm, ⟨4, _⟩ => ⟨S8x4352x512, .f32⟩
  | .hbm, ⟨5, _⟩ => ⟨S8x4352x512, .f32⟩
  | .hbm, ⟨6, _⟩ => ⟨S8x4352x512, .f32⟩
  | .hbm, ⟨7, _⟩ => ⟨S8x4096x512, .f32⟩
  | .hbm, ⟨8, _⟩ => ⟨S8x4096x3072, .f32⟩
  | .hbm, ⟨9, _⟩ => ⟨S8x4096x1024, .f32⟩
  | .hbm, ⟨10, _⟩ => ⟨S8x1x1024, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x1024, .f32⟩
  | .hbm, ⟨15, _⟩ => ⟨S1024, .f32⟩
  | .hbm, ⟨16, _⟩ => ⟨S3x512x1024, .f32⟩
  | .hbm, ⟨17, _⟩ => ⟨S1024x1024, .f32⟩
  | .hbm, ⟨18, _⟩ => ⟨S272x1024x128, .f32⟩
  | .hbm, ⟨19, _⟩ => ⟨S272x1024x64, .f32⟩
  | .hbm, ⟨20, _⟩ => ⟨S272x8x8x16x64, .f32⟩
  | .hbm, ⟨21, _⟩ => ⟨S8x272x16x8x64, .f32⟩
  | .hbm, ⟨22, _⟩ => ⟨S8x4352x8x64, .f32⟩
  | .hbm, ⟨23, _⟩ => ⟨S8x4352x8x64, .f32⟩
  | .hbm, ⟨24, _⟩ => ⟨S8x4352x8x64, .f32⟩
  | .hbm, ⟨25, _⟩ => ⟨S8x4096x8x64, .f32⟩
  | .hbm, ⟨26, _⟩ => ⟨S_, .f32⟩
  | .hbm, ⟨27, _⟩ => ⟨S8x4096x8, .f32⟩
  | .hbm, ⟨28, _⟩ => ⟨S8x4096x8x1, .f32⟩
  | .hbm, ⟨29, _⟩ => ⟨S_, .f32⟩
  | .hbm, ⟨30, _⟩ => ⟨S8x4096x8x1, .f32⟩
  | .hbm, ⟨31, _⟩ => ⟨S8x4096x8x1, .f32⟩
  | .hbm, ⟨32, _⟩ => ⟨S8x4096x8x64, .f32⟩
  | .hbm, ⟨33, _⟩ => ⟨S8x4096x8x64, .f32⟩
  | .hbm, ⟨34, _⟩ => ⟨S8x4096x8x64, .f32⟩
  | .hbm, ⟨35, _⟩ => ⟨S_, .f32⟩
  | .hbm, ⟨36, _⟩ => ⟨S8x4096x8, .f32⟩
  | .hbm, ⟨37, _⟩ => ⟨S8x4096x8x1, .f32⟩
  | .hbm, ⟨38, _⟩ => ⟨S_, .f32⟩
  | .hbm, ⟨39, _⟩ => ⟨S8x4096x8x1, .f32⟩
  | .hbm, ⟨40, _⟩ => ⟨S8x4096x8x1, .f32⟩
  | .hbm, ⟨41, _⟩ => ⟨S_, .f32⟩
  | .hbm, ⟨42, _⟩ => ⟨S8x4096x8x1, .f32⟩
  | .hbm, ⟨43, _⟩ => ⟨S8x4096x8x1, .f32⟩
  | .hbm, ⟨44, _⟩ => ⟨S8x4096x8x1, .f32⟩
  | .hbm, ⟨45, _⟩ => ⟨S8x4096x8x64, .f32⟩
  | .hbm, ⟨46, _⟩ => ⟨S8x4096x8x64, .f32⟩
  | .hbm, ⟨47, _⟩ => ⟨S8x4096x512, .f32⟩
  | .hbm, ⟨48, _⟩ => ⟨S1x1x512, .f32⟩
  | .hbm, ⟨49, _⟩ => ⟨S8x4096x512, .f32⟩
  | .hbm, ⟨50, _⟩ => ⟨S8x4096x512, .f32⟩
  | .hbm, ⟨51, _⟩ => ⟨S1x1x512, .f32⟩
  | .hbm, ⟨52, _⟩ => ⟨S8x4096x512, .f32⟩
  | .hbm, ⟨53, _⟩ => ⟨S8x4096x512, .f32⟩
  | .hbm, ⟨54, _⟩ => ⟨S8x4096x512, .f32⟩
  | .hbm, ⟨55, _⟩ => ⟨S8x4096x512, .f32⟩
  | .hbm, ⟨56, _⟩ => ⟨S8x4096x512, .f32⟩
  | .hbm, ⟨57, _⟩ => ⟨S8x4096x512, .f32⟩
  | .hbm, ⟨58, _⟩ => ⟨S8x4096x512, .f32⟩
  | .hbm, ⟨59, _⟩ => ⟨S1x1x512, .f32⟩
  | .hbm, ⟨60, _⟩ => ⟨S8x4096x512, .f32⟩
  | .hbm, ⟨61, _⟩ => ⟨S8x4096x512, .f32⟩
  | .hbm, ⟨62, _⟩ => ⟨S8x4096x512, .f32⟩
  | .hbm, ⟨63, _⟩ => ⟨S8x4096x512, .f32⟩
  | .hbm, ⟨64, _⟩ => ⟨S8x4096x512, .f32⟩
  | .hbm, ⟨65, _⟩ => ⟨S_, .f32⟩
  | .hbm, ⟨66, _⟩ => ⟨S8x4096x512, .f32⟩
  | .hbm, ⟨67, _⟩ => ⟨S8x4096x512, .f32⟩
  | .hbm, ⟨68, _⟩ => ⟨S8x4096x512, .f32⟩
  | .hbm, ⟨69, _⟩ => ⟨S_, .f32⟩
  | .hbm, ⟨70, _⟩ => ⟨S8x4096x512, .f32⟩
  | .hbm, ⟨71, _⟩ => ⟨S8x4096x512, .f32⟩
  | .hbm, ⟨72, _⟩ => ⟨S8x4096x512, .f32⟩
  | .hbm, ⟨73, _⟩ => ⟨S_, .f32⟩
  | .hbm, ⟨74, _⟩ => ⟨S8x4096x512, .f32⟩
  | .hbm, ⟨75, _⟩ => ⟨S8x4096x512, .f32⟩
  | .hbm, ⟨76, _⟩ => ⟨S_, .f32⟩
  | .hbm, ⟨77, _⟩ => ⟨S8x4096x512, .f32⟩
  | .hbm, ⟨78, _⟩ => ⟨S8x4096x512, .f32⟩
  | .hbm, ⟨79, _⟩ => ⟨S8x4096x512, .f32⟩
  | .hbm, ⟨80, _⟩ => ⟨S8x4096x1024, .f32⟩
  | .hbm, ⟨81, _⟩ => ⟨S1x1x1024, .f32⟩
  | .hbm, ⟨82, _⟩ => ⟨S8x4096x1024, .f32⟩
  | .hbm, ⟨83, _⟩ => ⟨S8x4096x1024, .f32⟩
  | .hbm, ⟨84, _⟩ => ⟨S8x4096x512, .f32⟩
  | .hbm, ⟨85, _⟩ => ⟨S8x4096x512, .f32⟩
  | .hbm, ⟨86, _⟩ => ⟨S8x4096x512, .f32⟩
  | .hbm, ⟨87, _⟩ => ⟨S8x4096x512, .f32⟩
  | .hbm, ⟨88, _⟩ => ⟨S_, .f32⟩
  | .hbm, ⟨89, _⟩ => ⟨S8x4096x512, .f32⟩
  | .hbm, ⟨90, _⟩ => ⟨S8x4096x512, .f32⟩
  | .hbm, ⟨91, _⟩ => ⟨S_, .f32⟩
  | .hbm, ⟨92, _⟩ => ⟨S8x4096x512, .f32⟩
  | .hbm, ⟨93, _⟩ => ⟨S8x4096x512, .f32⟩
  | .hbm, ⟨94, _⟩ => ⟨S8x4096x512, .f32⟩
  | .hbm, ⟨95, _⟩ => ⟨S8x4096x3072, .f32⟩
  | .hbm, ⟨96, _⟩ => ⟨S8x4096x3072, .f32⟩
  | .hbm, ⟨97, _⟩ => ⟨S_, .f32⟩
  | .hbm, ⟨98, _⟩ => ⟨S8x4096x3072, .f32⟩
  | .hbm, ⟨99, _⟩ => ⟨S8x4096x3072, .f32⟩
  | .hbm, ⟨100, _⟩ => ⟨S_, .f32⟩
  | .hbm, ⟨101, _⟩ => ⟨S8x4096x3072, .f32⟩
  | .hbm, ⟨102, _⟩ => ⟨S8x4096x3072, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S1x512x1024, .f32⟩
  | .hbm, ⟨107, _⟩ => ⟨S512x1024, .f32⟩
  | .hbm, ⟨108, _⟩ => ⟨S8x4096x1024, .f32⟩
  | .hbm, ⟨109, _⟩ => ⟨S8x4096x1024, .f32⟩
  | .hbm, ⟨110, _⟩ => ⟨S1x512x1024, .f32⟩
  | .hbm, ⟨111, _⟩ => ⟨S512x1024, .f32⟩
  | .hbm, ⟨112, _⟩ => ⟨S8x4096x1024, .f32⟩
  | .hbm, ⟨113, _⟩ => ⟨S8x4096x1024, .f32⟩
  | .hbm, ⟨114, _⟩ => ⟨S8x4096x1024, .f32⟩
  | .hbm, ⟨115, _⟩ => ⟨S1x512x1024, .f32⟩
  | .hbm, ⟨116, _⟩ => ⟨S512x1024, .f32⟩
  | .hbm, ⟨117, _⟩ => ⟨S8x4096x1024, .f32⟩
  | .hbm, ⟨118, _⟩ => ⟨S8x4096x1024, .f32⟩
  | .hbm, ⟨119, _⟩ => ⟨S8x4096x1024, .f32⟩
  | .hbm, ⟨120, _⟩ => ⟨S8x4096x1024, .f32⟩
  | .hbm, ⟨121, _⟩ => ⟨S8x4096x1024, .f32⟩
  | .hbm, ⟨122, _⟩ => ⟨S8x4096x1024, .f32⟩
  | .hbm, ⟨123, _⟩ => ⟨S8x4096x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_8 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_10 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== Kernel7.lean ====
abbrev S8x256x1024 : Shape := ⟨3, ![8, 256, 1024]⟩
abbrev S8x1x1024 : Shape := ⟨3, ![8, 1, 1024]⟩
abbrev S1024 : Shape := ⟨1, ![1024]⟩
abbrev S1024x3072 : Shape := ⟨2, ![1024, 3072]⟩
abbrev S1x1024 : Shape := ⟨2, ![1, 1024]⟩
abbrev S8x256x3072 : Shape := ⟨3, ![8, 256, 3072]⟩
abbrev S1x256x1024 : Shape := ⟨3, ![1, 256, 1024]⟩
abbrev S1x1x1024 : Shape := ⟨3, ![1, 1, 1024]⟩
abbrev S1024x1536 : Shape := ⟨2, ![1024, 1536]⟩
abbrev S1x256x1536 : Shape := ⟨3, ![1, 256, 1536]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩

abbrev nBuf : Space → Nat
  | .hbm => 7
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3072, .bf16⟩
  | .hbm, ⟨5, _⟩ => ⟨S1x1024, .f32⟩
  | .hbm, ⟨6, _⟩ => ⟨S8x256x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1536, .bf16⟩
  | .local _ .vmem, ⟨9, _⟩ => ⟨S1x256x1536, .f32⟩
  | .local _ .vmem, ⟨10, _⟩ => ⟨S1x256x1536, .f32⟩
  | .local _ .vmem, ⟨11, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel7Ideal.lean ====
abbrev S8x256x1024 : Shape := ⟨3, ![8, 256, 1024]⟩
abbrev S8x1x1024 : Shape := ⟨3, ![8, 1, 1024]⟩
abbrev S1024 : Shape := ⟨1, ![1024]⟩
abbrev S1024x3072 : Shape := ⟨2, ![1024, 3072]⟩
abbrev S1x1024 : Shape := ⟨2, ![1, 1024]⟩
abbrev S8x256x3072 : Shape := ⟨3, ![8, 256, 3072]⟩
abbrev S1x256x1024 : Shape := ⟨3, ![1, 256, 1024]⟩
abbrev S1x1x1024 : Shape := ⟨3, ![1, 1, 1024]⟩
abbrev S1024x1536 : Shape := ⟨2, ![1024, 1536]⟩
abbrev S1x256x1536 : Shape := ⟨3, ![1, 256, 1536]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩

abbrev nBuf : Space → Nat
  | .hbm => 7
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3072, .bf16⟩
  | .hbm, ⟨5, _⟩ => ⟨S1x1024, .f32⟩
  | .hbm, ⟨6, _⟩ => ⟨S8x256x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1536, .bf16⟩
  | .local _ .vmem, ⟨9, _⟩ => ⟨S1x256x1536, .f32⟩
  | .local _ .vmem, ⟨10, _⟩ => ⟨S1x256x1536, .f32⟩
  | .local _ .vmem, ⟨11, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference7Ideal.lean ====
abbrev S8x256x1024 : Shape := ⟨3, ![8, 256, 1024]⟩
abbrev S8x1x1024 : Shape := ⟨3, ![8, 1, 1024]⟩
abbrev S1024 : Shape := ⟨1, ![1024]⟩
abbrev S1024x3072 : Shape := ⟨2, ![1024, 3072]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x3072 : Shape := ⟨3, ![8, 256, 3072]⟩

abbrev nBuf : Space → Nat
  | .hbm => 30
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x3072, .bf16⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S1024x3072, .f32⟩
  | .hbm, ⟨29, _⟩ => ⟨S8x256x3072, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel8.lean ====
abbrev S8x256x1024 : Shape := ⟨3, ![8, 256, 1024]⟩
abbrev S8x1x1024 : Shape := ⟨3, ![8, 1, 1024]⟩
abbrev S1024 : Shape := ⟨1, ![1024]⟩
abbrev S1024x1792 : Shape := ⟨2, ![1024, 1792]⟩
abbrev S1x1024 : Shape := ⟨2, ![1, 1024]⟩
abbrev S8x256x1792 : Shape := ⟨3, ![8, 256, 1792]⟩
abbrev S1x256x1024 : Shape := ⟨3, ![1, 256, 1024]⟩
abbrev S1x1x1024 : Shape := ⟨3, ![1, 1, 1024]⟩
abbrev S1x256x1792 : Shape := ⟨3, ![1, 256, 1792]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩

abbrev nBuf : Space → Nat
  | .hbm => 7
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1792, .bf16⟩
  | .hbm, ⟨5, _⟩ => ⟨S1x1024, .f32⟩
  | .hbm, ⟨6, _⟩ => ⟨S8x256x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1792, .bf16⟩
  | .local _ .vmem, ⟨8, _⟩ => ⟨S1x256x1792, .f32⟩
  | .local _ .vmem, ⟨9, _⟩ => ⟨S1x256x1792, .f32⟩
  | .local _ .vmem, ⟨10, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel8Ideal.lean ====
abbrev S8x256x1024 : Shape := ⟨3, ![8, 256, 1024]⟩
abbrev S8x1x1024 : Shape := ⟨3, ![8, 1, 1024]⟩
abbrev S1024 : Shape := ⟨1, ![1024]⟩
abbrev S1024x1792 : Shape := ⟨2, ![1024, 1792]⟩
abbrev S1x1024 : Shape := ⟨2, ![1, 1024]⟩
abbrev S8x256x1792 : Shape := ⟨3, ![8, 256, 1792]⟩
abbrev S1x256x1024 : Shape := ⟨3, ![1, 256, 1024]⟩
abbrev S1x1x1024 : Shape := ⟨3, ![1, 1, 1024]⟩
abbrev S1x256x1792 : Shape := ⟨3, ![1, 256, 1792]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩

abbrev nBuf : Space → Nat
  | .hbm => 7
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1792, .bf16⟩
  | .hbm, ⟨5, _⟩ => ⟨S1x1024, .f32⟩
  | .hbm, ⟨6, _⟩ => ⟨S8x256x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1792, .bf16⟩
  | .local _ .vmem, ⟨8, _⟩ => ⟨S1x256x1792, .f32⟩
  | .local _ .vmem, ⟨9, _⟩ => ⟨S1x256x1792, .f32⟩
  | .local _ .vmem, ⟨10, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference8Ideal.lean ====
abbrev S8x256x1024 : Shape := ⟨3, ![8, 256, 1024]⟩
abbrev S8x1x1024 : Shape := ⟨3, ![8, 1, 1024]⟩
abbrev S1024 : Shape := ⟨1, ![1024]⟩
abbrev S1024x1792 : Shape := ⟨2, ![1024, 1792]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x1792 : Shape := ⟨3, ![8, 256, 1792]⟩

abbrev nBuf : Space → Nat
  | .hbm => 30
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1792, .bf16⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S1024x1792, .f32⟩
  | .hbm, ⟨29, _⟩ => ⟨S8x256x1792, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel9.lean ====
abbrev S8x256x1024 : Shape := ⟨3, ![8, 256, 1024]⟩
abbrev S8x1x1024 : Shape := ⟨3, ![8, 1, 1024]⟩
abbrev S1024 : Shape := ⟨1, ![1024]⟩
abbrev S1024x1536 : Shape := ⟨2, ![1024, 1536]⟩
abbrev S1x1024 : Shape := ⟨2, ![1, 1024]⟩
abbrev S8x256x1536 : Shape := ⟨3, ![8, 256, 1536]⟩
abbrev S1x256x1024 : Shape := ⟨3, ![1, 256, 1024]⟩
abbrev S1x1x1024 : Shape := ⟨3, ![1, 1, 1024]⟩
abbrev S1x256x1536 : Shape := ⟨3, ![1, 256, 1536]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩

abbrev nBuf : Space → Nat
  | .hbm => 7
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1536, .bf16⟩
  | .hbm, ⟨5, _⟩ => ⟨S1x1024, .f32⟩
  | .hbm, ⟨6, _⟩ => ⟨S8x256x1536, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1x256x1536, .f32⟩
  | .local _ .vmem, ⟨9, _⟩ => ⟨S1x256x1536, .f32⟩
  | .local _ .vmem, ⟨10, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel9Ideal.lean ====
abbrev S8x256x1024 : Shape := ⟨3, ![8, 256, 1024]⟩
abbrev S8x1x1024 : Shape := ⟨3, ![8, 1, 1024]⟩
abbrev S1024 : Shape := ⟨1, ![1024]⟩
abbrev S1024x1536 : Shape := ⟨2, ![1024, 1536]⟩
abbrev S1x1024 : Shape := ⟨2, ![1, 1024]⟩
abbrev S8x256x1536 : Shape := ⟨3, ![8, 256, 1536]⟩
abbrev S1x256x1024 : Shape := ⟨3, ![1, 256, 1024]⟩
abbrev S1x1x1024 : Shape := ⟨3, ![1, 1, 1024]⟩
abbrev S1x256x1536 : Shape := ⟨3, ![1, 256, 1536]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩

abbrev nBuf : Space → Nat
  | .hbm => 7
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1536, .bf16⟩
  | .hbm, ⟨5, _⟩ => ⟨S1x1024, .f32⟩
  | .hbm, ⟨6, _⟩ => ⟨S8x256x1536, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1x256x1536, .f32⟩
  | .local _ .vmem, ⟨9, _⟩ => ⟨S1x256x1536, .f32⟩
  | .local _ .vmem, ⟨10, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference9Ideal.lean ====
abbrev S8x256x1024 : Shape := ⟨3, ![8, 256, 1024]⟩
abbrev S8x1x1024 : Shape := ⟨3, ![8, 1, 1024]⟩
abbrev S1024 : Shape := ⟨1, ![1024]⟩
abbrev S1024x1536 : Shape := ⟨2, ![1024, 1536]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x1536 : Shape := ⟨3, ![8, 256, 1536]⟩

abbrev nBuf : Space → Nat
  | .hbm => 30
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x1536, .bf16⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S1024x1536, .f32⟩
  | .hbm, ⟨29, _⟩ => ⟨S8x256x1536, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel10.lean ====
abbrev S8x256x1024 : Shape := ⟨3, ![8, 256, 1024]⟩
abbrev S8x1x1024 : Shape := ⟨3, ![8, 1, 1024]⟩
abbrev S1024 : Shape := ⟨1, ![1024]⟩
abbrev S1024x512 : Shape := ⟨2, ![1024, 512]⟩
abbrev S1x1024 : Shape := ⟨2, ![1, 1024]⟩
abbrev S8x256x512 : Shape := ⟨3, ![8, 256, 512]⟩
abbrev S1x256x1024 : Shape := ⟨3, ![1, 256, 1024]⟩
abbrev S1x1x1024 : Shape := ⟨3, ![1, 1, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 7
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x512, .bf16⟩
  | .hbm, ⟨5, _⟩ => ⟨S1x1024, .f32⟩
  | .hbm, ⟨6, _⟩ => ⟨S8x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1x256x512, .f32⟩
  | .local _ .vmem, ⟨9, _⟩ => ⟨S1x256x512, .f32⟩
  | .local _ .vmem, ⟨10, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference10Ideal.lean ====
abbrev S8x256x1024 : Shape := ⟨3, ![8, 256, 1024]⟩
abbrev S8x1x1024 : Shape := ⟨3, ![8, 1, 1024]⟩
abbrev S1024 : Shape := ⟨1, ![1024]⟩
abbrev S1024x512 : Shape := ⟨2, ![1024, 512]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x512, .bf16⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S1024x512, .f32⟩
  | .hbm, ⟨29, _⟩ => ⟨S8x256x512, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel11.lean ====
abbrev S24576x1024 : Shape := ⟨2, ![24576, 1024]⟩
abbrev S48 : Shape := ⟨1, ![48]⟩
abbrev S1 : Shape := ⟨1, ![1]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S24576x1024, .bf16⟩
  | .hbm, ⟨1, _⟩ => ⟨S64x1024x2048, .f32⟩
  | .hbm, ⟨2, _⟩ => ⟨S64x1x2048, .f32⟩
  | .hbm, ⟨3, _⟩ => ⟨S64x1024x1024, .f32⟩
  | .hbm, ⟨4, _⟩ => ⟨S64x1x1024, .f32⟩
  | .hbm, ⟨5, _⟩ => ⟨S24576x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S48, .i32⟩
  | .local _ .smem, ⟨1, _⟩ => ⟨S1, .i32⟩
  | _, _ => ⟨S24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S24576x1024 : Shape := ⟨2, ![24576, 1024]⟩
abbrev S48 : Shape := ⟨1, ![48]⟩
abbrev S1 : Shape := ⟨1, ![1]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S48x512x1024 : Shape := ⟨3, ![48, 512, 1024]⟩
abbrev S_ : Shape := ⟨0, ![]⟩
abbrev S48x1 : Shape := ⟨2, ![48, 1]⟩
abbrev S48x1024x2048 : Shape := ⟨3, ![48, 1024, 2048]⟩
abbrev S48x512x2048 : Shape := ⟨3, ![48, 512, 2048]⟩
abbrev S48x1x2048 : Shape := ⟨3, ![48, 1, 2048]⟩
abbrev S48x1024x1024 : Shape := ⟨3, ![48, 1024, 1024]⟩
abbrev S48x1x1024 : Shape := ⟨3, ![48, 1, 1024]⟩
abbrev S48x1x1 : Shape := ⟨3, ![48, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S48, .i32⟩
  | .hbm, ⟨2, _⟩ => ⟨S1, .i32⟩
  | .hbm, ⟨3, _⟩ => ⟨S64x1024x2048, .f32⟩
  | .hbm, ⟨4, _⟩ => ⟨S64x1x2048, .f32⟩
  | .hbm, ⟨5, _⟩ => ⟨S64x1024x1024, .f32⟩
  | .hbm, ⟨6, _⟩ => ⟨S64x1x1024, .f32⟩
  | .hbm, ⟨7, _⟩ => ⟨S24576x1024, .f32⟩
  | .hbm, ⟨8, _⟩ => ⟨S48x512x1024, .f32⟩
  | .hbm, ⟨9, _⟩ => ⟨S_, .i32⟩
  | .hbm, ⟨10, _⟩ => ⟨S48, .i32⟩
  | .hbm, ⟨11, _⟩ => ⟨S48, .i1⟩
  | .hbm, ⟨12, _⟩ => ⟨S_, .i32⟩
  | .hbm, ⟨13, _⟩ => ⟨S48, .i32⟩
  | .hbm, ⟨14, _⟩ => ⟨S48, .i32⟩
  | .hbm, ⟨15, _⟩ => ⟨S48, .i32⟩
  | .hbm, ⟨16, _⟩ => ⟨S48x1, .i32⟩
  | .hbm, ⟨17, _⟩ => ⟨S48x1024x2048, .f32⟩
  | .hbm, ⟨18, _⟩ => ⟨S48x512x2048, .f32⟩
  | .hbm, ⟨19, _⟩ => ⟨S_, .i32⟩
  | .hbm, ⟨20, _⟩ => ⟨S48, .i32⟩
  | .hbm, ⟨21, _⟩ => ⟨S48, .i1⟩
  | .hbm, ⟨22, _⟩ => ⟨S_, .i32⟩
  | .hbm, ⟨23, _⟩ => ⟨S48, .i32⟩
  | .hbm, ⟨24, _⟩ => ⟨S48, .i32⟩
  | .hbm, ⟨25, _⟩ => ⟨S48, .i32⟩
  | .hbm, ⟨26, _⟩ => ⟨S48x1, .i32⟩
  | .hbm, ⟨27, _⟩ => ⟨S48x1x2048, .f32⟩
  | .hbm, ⟨28, _⟩ => ⟨S48x512x2048, .f32⟩
  | .hbm, ⟨29, _⟩ => ⟨S48x512x2048, .f32⟩
  | .hbm, ⟨30, _⟩ => ⟨S48x512x1024, .f32⟩
  | .hbm, ⟨31, _⟩ => ⟨S48x512x1024, .f32⟩
  | .hbm, ⟨32, _⟩ => ⟨S_, .f32⟩
  | .hbm, ⟨33, _⟩ => ⟨S48x512x1024, .f32⟩
  | .hbm, ⟨34, _⟩ => ⟨S48x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S48x512x1024, .f32⟩
  | .hbm, ⟨39, _⟩ => ⟨S48x512x1024, .f32⟩
  | .hbm, ⟨40, _⟩ => ⟨S_, .f32⟩
  | .hbm, ⟨41, _⟩ => ⟨S48x512x1024, .f32⟩
  | .hbm, ⟨42, _⟩ => ⟨S48x512x1024, .f32⟩
  | .hbm, ⟨43, _⟩ => ⟨S_, .f32⟩
  | .hbm, ⟨44, _⟩ => ⟨S48x512x1024, .f32⟩
  | .hbm, ⟨45, _⟩ => ⟨S48x512x1024, .f32⟩
  | .hbm, ⟨46, _⟩ => ⟨S48x512x1024, .f32⟩
  | .hbm, ⟨47, _⟩ => ⟨S_, .f32⟩
  | .hbm, ⟨48, _⟩ => ⟨S48x512x1024, .f32⟩
  | .hbm, ⟨49, _⟩ => ⟨S48x512x1024, .f32⟩
  | .hbm, ⟨50, _⟩ => ⟨S48x512x1024, .f32⟩
  | .hbm, ⟨51, _⟩ => ⟨S48x512x1024, .f32⟩
  | .hbm, ⟨52, _⟩ => ⟨S_, .f32⟩
  | .hbm, ⟨53, _⟩ => ⟨S48x512x1024, .f32⟩
  | .hbm, ⟨54, _⟩ => ⟨S48x512x1024, .f32⟩
  | .hbm, ⟨55, _⟩ => ⟨S_, .f32⟩
  | .hbm, ⟨56, _⟩ => ⟨S48x512x1024, .f32⟩
  | .hbm, ⟨57, _⟩ => ⟨S48x512x1024, .f32⟩
  | .hbm, ⟨58, _⟩ => ⟨S48x512x1024, .f32⟩
  | .hbm, ⟨59, _⟩ => ⟨S_, .i32⟩
  | .hbm, ⟨60, _⟩ => ⟨S48, .i32⟩
  | .hbm, ⟨61, _⟩ => ⟨S48, .i1⟩
  | .hbm, ⟨62, _⟩ => ⟨S_, .i32⟩
  | .hbm, ⟨63, _⟩ => ⟨S48, .i32⟩
  | .hbm, ⟨64, _⟩ => ⟨S48, .i32⟩
  | .hbm, ⟨65, _⟩ => ⟨S48, .i32⟩
  | .hbm, ⟨66, _⟩ => ⟨S48x1, .i32⟩
  | .hbm, ⟨67, _⟩ => ⟨S48x1024x1024, .f32⟩
  | .hbm, ⟨68, _⟩ => ⟨S48x512x1024, .f32⟩
  | .hbm, ⟨69, _⟩ => ⟨S_, .i32⟩
  | .hbm, ⟨70, _⟩ => ⟨S48, .i32⟩
  | .hbm, ⟨71, _⟩ => ⟨S48, .i1⟩
  | .hbm, ⟨72, _⟩ => ⟨S_, .i32⟩
  | .hbm, ⟨73, _⟩ => ⟨S48, .i32⟩
  | .hbm, ⟨74, _⟩ => ⟨S48, .i32⟩
  | .hbm, ⟨75, _⟩ => ⟨S48, .i32⟩
  | .hbm, ⟨76, _⟩ => ⟨S48x1, .i32⟩
  | .hbm, ⟨77, _⟩ => ⟨S48x1x1024, .f32⟩
  | .hbm, ⟨78, _⟩ => ⟨S48x512x1024, .f32⟩
  | .hbm, ⟨79, _⟩ => ⟨S48x512x1024, .f32⟩
  | .hbm, ⟨80, _⟩ => ⟨S48, .i32⟩
  | .hbm, ⟨81, _⟩ => ⟨S_, .i32⟩
  | .hbm, ⟨82, _⟩ => ⟨S48, .i32⟩
  | .hbm, ⟨83, _⟩ => ⟨S48, .i1⟩
  | .hbm, ⟨84, _⟩ => ⟨S48x1x1, .i1⟩
  | .hbm, ⟨85, _⟩ => ⟨S_, .f32⟩
  | .hbm, ⟨86, _⟩ => ⟨S_, .f32⟩
  | .hbm, ⟨87, _⟩ => ⟨S48x512x1024, .i1⟩
  | .hbm, ⟨88, _⟩ => ⟨S48x512x1024, .f32⟩
  | .hbm, ⟨89, _⟩ => ⟨S48x512x1024, .f32⟩
  | .hbm, ⟨90, _⟩ => ⟨S24576x1024, .f32⟩
  | .hbm, ⟨91, _⟩ => ⟨S24576x1024, .bf16⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel12.lean ====
abbrev S8x4096x1024 : Shape := ⟨3, ![8, 4096, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1x1024, .f32⟩
  | .hbm, ⟨3, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x1024, .f32⟩
  | .local _ .vmem, ⟨4, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x4096x1024, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S8x4096x1, .f32⟩
  | .hbm, ⟨13, _⟩ => ⟨S8x4096x1024, .f32⟩
  | .hbm, ⟨14, _⟩ => ⟨S8x4096x1024, .f32⟩
  | .hbm, ⟨15, _⟩ => ⟨S1x1x1024, .f32⟩
  | .hbm, ⟨16, _⟩ => ⟨S8x4096x1024, .f32⟩
  | .hbm, ⟨17, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel13.lean ====
abbrev S32768x1024 : Shape := ⟨2, ![32768, 1024]⟩
abbrev S8x4096x128 : Shape := ⟨3, ![8, 4096, 128]⟩
abbrev S8x4096x1024 : Shape := ⟨3, ![8, 4096, 1024]⟩
abbrev S8x1x1024 : Shape := ⟨3, ![8, 1, 1024]⟩
abbrev S256x1024 : Shape := ⟨2, ![256, 1024]⟩
abbrev S1x256x128 : Shape := ⟨3, ![1, 256, 128]⟩
abbrev S1x256x1024 : Shape := ⟨3, ![1, 256, 1024]⟩
abbrev S1x1x1024 : Shape := ⟨3, ![1, 1, 1024]⟩
abbrev S256x128 : Shape := ⟨2, ![256, 128]⟩
abbrev S256x1 : Shape := ⟨2, ![256, 1]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S8x4096x128, .f32⟩
  | .hbm, ⟨5, _⟩ => ⟨S8x4096x1024, .f32⟩
  | .hbm, ⟨6, _⟩ => ⟨S8x1x1024, .f32⟩
  | .hbm, ⟨7, _⟩ => ⟨S8x4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x256x1024, .f32⟩
  | .local _ .vmem, ⟨11, _⟩ => ⟨S1x256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x256x1024, .f32⟩
  | .local _ .vmem, ⟨15, _⟩ => ⟨S1x256x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel13Ideal.lean ====
abbrev S32768x1024 : Shape := ⟨2, ![32768, 1024]⟩
abbrev S8x4096x128 : Shape := ⟨3, ![8, 4096, 128]⟩
abbrev S8x4096x1024 : Shape := ⟨3, ![8, 4096, 1024]⟩
abbrev S8x1x1024 : Shape := ⟨3, ![8, 1, 1024]⟩
abbrev S256x1024 : Shape := ⟨2, ![256, 1024]⟩
abbrev S1x256x128 : Shape := ⟨3, ![1, 256, 128]⟩
abbrev S1x256x1024 : Shape := ⟨3, ![1, 256, 1024]⟩
abbrev S1x1x1024 : Shape := ⟨3, ![1, 1, 1024]⟩
abbrev S256x128 : Shape := ⟨2, ![256, 128]⟩
abbrev S256x1 : Shape := ⟨2, ![256, 1]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S8x4096x128, .f32⟩
  | .hbm, ⟨5, _⟩ => ⟨S8x4096x1024, .f32⟩
  | .hbm, ⟨6, _⟩ => ⟨S8x1x1024, .f32⟩
  | .hbm, ⟨7, _⟩ => ⟨S8x4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x256x1024, .f32⟩
  | .local _ .vmem, ⟨11, _⟩ => ⟨S1x256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x256x1024, .f32⟩
  | .local _ .vmem, ⟨15, _⟩ => ⟨S1x256x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S32768x1024 : Shape := ⟨2, ![32768, 1024]⟩
abbrev S8x4096x128 : Shape := ⟨3, ![8, 4096, 128]⟩
abbrev S8x4096x1024 : Shape := ⟨3, ![8, 4096, 1024]⟩
abbrev S8x1x1024 : Shape := ⟨3, ![8, 1, 1024]⟩
abbrev S8x4096x1 : Shape := ⟨3, ![8, 4096, 1]⟩
abbrev S8x4096 : Shape := ⟨2, ![8, 4096]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S8x4096x128, .f32⟩
  | .hbm, ⟨5, _⟩ => ⟨S8x4096x1024, .f32⟩
  | .hbm, ⟨6, _⟩ => ⟨S8x1x1024, .f32⟩
  | .hbm, ⟨7, _⟩ => ⟨S32768x1024, .f32⟩
  | .hbm, ⟨8, _⟩ => ⟨S8x4096x1024, .f32⟩
  | .hbm, ⟨9, _⟩ => ⟨S32768x1024, .f32⟩
  | .hbm, ⟨10, _⟩ => ⟨S8x4096x1024, .f32⟩
  | .hbm, ⟨11, _⟩ => ⟨S32768x1024, .f32⟩
  | .hbm, ⟨12, _⟩ => ⟨S8x4096x1024, .f32⟩
  | .hbm, ⟨13, _⟩ => ⟨S32768x1024, .f32⟩
  | .hbm, ⟨14, _⟩ => ⟨S8x4096x1024, .f32⟩
  | .hbm, ⟨15, _⟩ => ⟨S8x4096x1, .f32⟩
  | .hbm, ⟨16, _⟩ => ⟨S8x4096, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096x1024, .f32⟩
  | .hbm, ⟨22, _⟩ => ⟨S8x4096x1024, .f32⟩
  | .hbm, ⟨23, _⟩ => ⟨S8x4096x1, .f32⟩
  | .hbm, ⟨24, _⟩ => ⟨S8x4096, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1, .f32⟩
  | .hbm, ⟨30, _⟩ => ⟨S8x4096, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1, .f32⟩
  | .hbm, ⟨36, _⟩ => ⟨S8x4096, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel14.lean ====
abbrev S8x256x512 : Shape := ⟨3, ![8, 256, 512]⟩
abbrev S272x1024x128 : Shape := ⟨3, ![272, 1024, 128]⟩
abbrev S8x4352x512 : Shape := ⟨3, ![8, 4352, 512]⟩
abbrev S8x256x3072 : Shape := ⟨3, ![8, 256, 3072]⟩
abbrev S8x256x1024 : Shape := ⟨3, ![8, 256, 1024]⟩
abbrev S8x1x1024 : Shape := ⟨3, ![8, 1, 1024]⟩
abbrev S512 : Shape := ⟨1, ![512]⟩
abbrev S512x1024 : Shape := ⟨2, ![512, 1024]⟩
abbrev S1024 : Shape := ⟨1, ![1024]⟩
abbrev S3x512x1024 : Shape := ⟨3, ![3, 512, 1024]⟩
abbrev S1024x1024 : Shape := ⟨2, ![1024, 1024]⟩
abbrev S512x512 : Shape := ⟨2, ![512, 512]⟩
abbrev S_ : Shape := ⟨0, ![]⟩
abbrev S1x512 : Shape := ⟨2, ![1, 512]⟩
abbrev S1x1024 : Shape := ⟨2, ![1, 1024]⟩
abbrev S1x256x512 : Shape := ⟨3, ![1, 256, 512]⟩
abbrev S16x128x128 : Shape := ⟨3, ![16, 128, 128]⟩
abbrev S1x256x3072 : Shape := ⟨3, ![1, 256, 3072]⟩
abbrev S1x256x1024 : Shape := ⟨3, ![1, 256, 1024]⟩
abbrev S1x1x1024 : Shape := ⟨3, ![1, 1, 1024]⟩
abbrev S256x128 : Shape := ⟨2, ![256, 128]⟩
abbrev S1x16x128 : Shape := ⟨3, ![1, 16, 128]⟩
abbrev S16x128 : Shape := ⟨2, ![16, 128]⟩
abbrev S256x512 : Shape := ⟨2, ![256, 512]⟩
abbrev S256x1024 : Shape := ⟨2, ![256, 1024]⟩
abbrev S256x3072 : Shape := ⟨2, ![256, 3072]⟩
abbrev S1x512x1024 : Shape := ⟨3, ![1, 512, 1024]⟩

abbrev nBuf : Space → Nat
  | .hbm => 36
  | .vmem => 32
  | .smem => 0
  | _ => 0

abbrev bufTy : (tb : Table) → Fin (tcTables nBuf tb) → BufTy
  | .hbm, ⟨0, _⟩ => ⟨S8x256x512, .f32⟩
  | .hbm, ⟨1, _⟩ => ⟨S272x1024x128, .f32⟩
  | .hbm, ⟨2, _⟩ => ⟨S272x1024x128, .f32⟩
  | .hbm, ⟨3, _⟩ => ⟨S8x4352x512, .f32⟩
  | .hbm, ⟨4, _⟩ => ⟨S8x4352x512, .f32⟩
  | .hbm, ⟨5, _⟩ => ⟨S8x4352x512, .f32⟩
  | .hbm, ⟨6, _⟩ => ⟨S8x4352x512, .f32⟩
  | .hbm, ⟨7, _⟩ => ⟨S8x256x512, .f32⟩
  | .hbm, ⟨8, _⟩ => ⟨S8x256x3072, .f32⟩
  | .hbm, ⟨9, _⟩ => ⟨S8x256x1024, .f32⟩
  | .hbm, ⟨10, _⟩ => ⟨S8x1x1024, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x1024, .f32⟩
  | .hbm, ⟨15, _⟩ => ⟨S1024, .f32⟩
  | .hbm, ⟨16, _⟩ => ⟨S3x512x1024, .f32⟩
  | .hbm, ⟨17, _⟩ => ⟨S1024x1024, .f32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S512x512, .bf16⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S512x1024, .bf16⟩
  | .hbm, ⟨32, _⟩ => ⟨S1x1024, .f32⟩
  | .hbm, ⟨33, _⟩ => ⟨S3x512x1024, .bf16⟩
  | .hbm, ⟨34, _⟩ => ⟨S1024x1024, .bf16⟩
  | .hbm, ⟨35, _⟩ => ⟨S8x256x1024, .f32⟩
  | .local _ .vmem, ⟨0, _⟩ => ⟨S1x256x512, .f32⟩
  | .local _ .vmem, ⟨1, _⟩ => ⟨S1x256x512, .f32⟩
  | .local _ .vmem, ⟨2, _⟩ => ⟨S16x128x128, .f32⟩
  | .local _ .vmem, ⟨3, _⟩ => ⟨S16x128x128, .f32⟩
  | .local _ .vmem, ⟨4, _⟩ => ⟨S16x128x128, .f32⟩
  | .local _ .vmem, ⟨5, _⟩ => ⟨S16x128x128, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x3072, .f32⟩
  | .local _ .vmem, ⟨17, _⟩ => ⟨S1x256x3072, .f32⟩
  | .local _ .vmem, ⟨18, _⟩ => ⟨S1x256x1024, .f32⟩
  | .local _ .vmem, ⟨19, _⟩ => ⟨S1x256x1024, .f32⟩
  | .local _ .vmem, ⟨20, _⟩ => ⟨S1x1x1024, .f32⟩
  | .local _ .vmem, ⟨21, _⟩ => ⟨S1x1x1024, .f32⟩
  | .local _ .vmem, ⟨22, _⟩ => ⟨S512x512, .bf16⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S512x1024, .bf16⟩
  | .local _ .vmem, ⟨27, _⟩ => ⟨S1x1024, .f32⟩
  | .local _ .vmem, ⟨28, _⟩ => ⟨S3x512x1024, .bf16⟩
  | .local _ .vmem, ⟨29, _⟩ => ⟨S1024x1024, .bf16⟩
  | .local _ .vmem, ⟨30, _⟩ => ⟨S1x256x1024, .f32⟩
  | .local _ .vmem, ⟨31, _⟩ => ⟨S1x256x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference14Ideal.lean ====
abbrev S8x256x512 : Shape := ⟨3, ![8, 256, 512]⟩
abbrev S272x1024x128 : Shape := ⟨3, ![272, 1024, 128]⟩
abbrev S8x4352x512 : Shape := ⟨3, ![8, 4352, 512]⟩
abbrev S8x256x3072 : Shape := ⟨3, ![8, 256, 3072]⟩
abbrev S8x256x1024 : Shape := ⟨3, ![8, 256, 1024]⟩
abbrev S8x1x1024 : Shape := ⟨3, ![8, 1, 1024]⟩
abbrev S512 : Shape := ⟨1, ![512]⟩
abbrev S512x1024 : Shape := ⟨2, ![512, 1024]⟩
abbrev S1024 : Shape := ⟨1, ![1024]⟩
abbrev S3x512x1024 : Shape := ⟨3, ![3, 512, 1024]⟩
abbrev S1024x1024 : Shape := ⟨2, ![1024, 1024]⟩
abbrev S272x1024x64 : Shape := ⟨3, ![272, 1024, 64]⟩
abbrev S272x8x8x16x64 : Shape := ⟨5, ![272, 8, 8, 16, 64]⟩
abbrev S8x272x16x8x64 : Shape := ⟨5, ![8, 272, 16, 8, 64]⟩
abbrev S8x4352x8x64 : Shape := ⟨4, ![8, 4352, 8, 64]⟩
abbrev S8x256x8x64 : Shape := ⟨4, ![8, 256, 8, 64]⟩
abbrev S_ : Shape := ⟨0, ![]⟩
abbrev S8x256x8 : Shape := ⟨3, ![8, 256, 8]⟩
abbrev S8x256x8x1 : Shape := ⟨4, ![8, 256, 8, 1]⟩
abbrev S1x1x512 : Shape := ⟨3, ![1, 1, 512]⟩
abbrev S1x1x1024 : Shape := ⟨3, ![1, 1, 1024]⟩
abbrev S1x512x1024 : Shape := ⟨3, ![1, 512, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S272x1024x128, .f32⟩
  | .hbm, ⟨2, _⟩ => ⟨S272x1024x128, .f32⟩
  | .hbm, ⟨3, _⟩ => ⟨S8x4352x512, .f32⟩
  | .hbm, ⟨4, _⟩ => ⟨S8x4352x512, .f32⟩
  | .hbm, ⟨5, _⟩ => ⟨S8x4352x512, .f32⟩
  | .hbm, ⟨6, _⟩ => ⟨S8x4352x512, .f32⟩
  | .hbm, ⟨7, _⟩ => ⟨S8x256x512, .f32⟩
  | .hbm, ⟨8, _⟩ => ⟨S8x256x3072, .f32⟩
  | .hbm, ⟨9, _⟩ => ⟨S8x256x1024, .f32⟩
  | .hbm, ⟨10, _⟩ => ⟨S8x1x1024, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x1024, .f32⟩
  | .hbm, ⟨15, _⟩ => ⟨S1024, .f32⟩
  | .hbm, ⟨16, _⟩ => ⟨S3x512x1024, .f32⟩
  | .hbm, ⟨17, _⟩ => ⟨S1024x1024, .f32⟩
  | .hbm, ⟨18, _⟩ => ⟨S272x1024x128, .f32⟩
  | .hbm, ⟨19, _⟩ => ⟨S272x1024x64, .f32⟩
  | .hbm, ⟨20, _⟩ => ⟨S272x8x8x16x64, .f32⟩
  | .hbm, ⟨21, _⟩ => ⟨S8x272x16x8x64, .f32⟩
  | .hbm, ⟨22, _⟩ => ⟨S8x4352x8x64, .f32⟩
  | .hbm, ⟨23, _⟩ => ⟨S8x4352x8x64, .f32⟩
  | .hbm, ⟨24, _⟩ => ⟨S8x4352x8x64, .f32⟩
  | .hbm, ⟨25, _⟩ => ⟨S8x256x8x64, .f32⟩
  | .hbm, ⟨26, _⟩ => ⟨S_, .f32⟩
  | .hbm, ⟨27, _⟩ => ⟨S8x256x8, .f32⟩
  | .hbm, ⟨28, _⟩ => ⟨S8x256x8x1, .f32⟩
  | .hbm, ⟨29, _⟩ => ⟨S_, .f32⟩
  | .hbm, ⟨30, _⟩ => ⟨S8x256x8x1, .f32⟩
  | .hbm, ⟨31, _⟩ => ⟨S8x256x8x1, .f32⟩
  | .hbm, ⟨32, _⟩ => ⟨S8x256x8x64, .f32⟩
  | .hbm, ⟨33, _⟩ => ⟨S8x256x8x64, .f32⟩
  | .hbm, ⟨34, _⟩ => ⟨S8x256x8x64, .f32⟩
  | .hbm, ⟨35, _⟩ => ⟨S_, .f32⟩
  | .hbm, ⟨36, _⟩ => ⟨S8x256x8, .f32⟩
  | .hbm, ⟨37, _⟩ => ⟨S8x256x8x1, .f32⟩
  | .hbm, ⟨38, _⟩ => ⟨S_, .f32⟩
  | .hbm, ⟨39, _⟩ => ⟨S8x256x8x1, .f32⟩
  | .hbm, ⟨40, _⟩ => ⟨S8x256x8x1, .f32⟩
  | .hbm, ⟨41, _⟩ => ⟨S_, .f32⟩
  | .hbm, ⟨42, _⟩ => ⟨S8x256x8x1, .f32⟩
  | .hbm, ⟨43, _⟩ => ⟨S8x256x8x1, .f32⟩
  | .hbm, ⟨44, _⟩ => ⟨S8x256x8x1, .f32⟩
  | .hbm, ⟨45, _⟩ => ⟨S8x256x8x64, .f32⟩
  | .hbm, ⟨46, _⟩ => ⟨S8x256x8x64, .f32⟩
  | .hbm, ⟨47, _⟩ => ⟨S8x256x512, .f32⟩
  | .hbm, ⟨48, _⟩ => ⟨S1x1x512, .f32⟩
  | .hbm, ⟨49, _⟩ => ⟨S8x256x512, .f32⟩
  | .hbm, ⟨50, _⟩ => ⟨S8x256x512, .f32⟩
  | .hbm, ⟨51, _⟩ => ⟨S1x1x512, .f32⟩
  | .hbm, ⟨52, _⟩ => ⟨S8x256x512, .f32⟩
  | .hbm, ⟨53, _⟩ => ⟨S8x256x512, .f32⟩
  | .hbm, ⟨54, _⟩ => ⟨S8x256x512, .f32⟩
  | .hbm, ⟨55, _⟩ => ⟨S8x256x512, .f32⟩
  | .hbm, ⟨56, _⟩ => ⟨S8x256x512, .f32⟩
  | .hbm, ⟨57, _⟩ => ⟨S8x256x512, .f32⟩
  | .hbm, ⟨58, _⟩ => ⟨S8x256x512, .f32⟩
  | .hbm, ⟨59, _⟩ => ⟨S1x1x512, .f32⟩
  | .hbm, ⟨60, _⟩ => ⟨S8x256x512, .f32⟩
  | .hbm, ⟨61, _⟩ => ⟨S8x256x512, .f32⟩
  | .hbm, ⟨62, _⟩ => ⟨S8x256x512, .f32⟩
  | .hbm, ⟨63, _⟩ => ⟨S8x256x512, .f32⟩
  | .hbm, ⟨64, _⟩ => ⟨S8x256x512, .f32⟩
  | .hbm, ⟨65, _⟩ => ⟨S_, .f32⟩
  | .hbm, ⟨66, _⟩ => ⟨S8x256x512, .f32⟩
  | .hbm, ⟨67, _⟩ => ⟨S8x256x512, .f32⟩
  | .hbm, ⟨68, _⟩ => ⟨S8x256x512, .f32⟩
  | .hbm, ⟨69, _⟩ => ⟨S_, .f32⟩
  | .hbm, ⟨70, _⟩ => ⟨S8x256x512, .f32⟩
  | .hbm, ⟨71, _⟩ => ⟨S8x256x512, .f32⟩
  | .hbm, ⟨72, _⟩ => ⟨S8x256x512, .f32⟩
  | .hbm, ⟨73, _⟩ => ⟨S_, .f32⟩
  | .hbm, ⟨74, _⟩ => ⟨S8x256x512, .f32⟩
  | .hbm, ⟨75, _⟩ => ⟨S8x256x512, .f32⟩
  | .hbm, ⟨76, _⟩ => ⟨S_, .f32⟩
  | .hbm, ⟨77, _⟩ => ⟨S8x256x512, .f32⟩
  | .hbm, ⟨78, _⟩ => ⟨S8x256x512, .f32⟩
  | .hbm, ⟨79, _⟩ => ⟨S8x256x512, .f32⟩
  | .hbm, ⟨80, _⟩ => ⟨S8x256x1024, .f32⟩
  | .hbm, ⟨81, _⟩ => ⟨S1x1x1024, .f32⟩
  | .hbm, ⟨82, _⟩ => ⟨S8x256x1024, .f32⟩
  | .hbm, ⟨83, _⟩ => ⟨S8x256x1024, .f32⟩
  | .hbm, ⟨84, _⟩ => ⟨S8x256x512, .f32⟩
  | .hbm, ⟨85, _⟩ => ⟨S8x256x512, .f32⟩
  | .hbm, ⟨86, _⟩ => ⟨S8x256x512, .f32⟩
  | .hbm, ⟨87, _⟩ => ⟨S8x256x512, .f32⟩
  | .hbm, ⟨88, _⟩ => ⟨S_, .f32⟩
  | .hbm, ⟨89, _⟩ => ⟨S8x256x512, .f32⟩
  | .hbm, ⟨90, _⟩ => ⟨S8x256x512, .f32⟩
  | .hbm, ⟨91, _⟩ => ⟨S_, .f32⟩
  | .hbm, ⟨92, _⟩ => ⟨S8x256x512, .f32⟩
  | .hbm, ⟨93, _⟩ => ⟨S8x256x512, .f32⟩
  | .hbm, ⟨94, _⟩ => ⟨S8x256x512, .f32⟩
  | .hbm, ⟨95, _⟩ => ⟨S8x256x3072, .f32⟩
  | .hbm, ⟨96, _⟩ => ⟨S8x256x3072, .f32⟩
  | .hbm, ⟨97, _⟩ => ⟨S_, .f32⟩
  | .hbm, ⟨98, _⟩ => ⟨S8x256x3072, .f32⟩
  | .hbm, ⟨99, _⟩ => ⟨S8x256x3072, .f32⟩
  | .hbm, ⟨100, _⟩ => ⟨S_, .f32⟩
  | .hbm, ⟨101, _⟩ => ⟨S8x256x3072, .f32⟩
  | .hbm, ⟨102, _⟩ => ⟨S8x256x3072, .f32⟩
  | .hbm, ⟨103, _⟩ => ⟨S8x256x1024, .f32⟩
  | .hbm, ⟨104, _⟩ => ⟨S8x256x1024, .f32⟩
  | .hbm, ⟨105, _⟩ => ⟨S8x256x1024, .f32⟩
  | .hbm, ⟨106, _⟩ => ⟨S1x512x1024, .f32⟩
  | .hbm, ⟨107, _⟩ => ⟨S512x1024, .f32⟩
  | .hbm, ⟨108, _⟩ => ⟨S8x256x1024, .f32⟩
  | .hbm, ⟨109, _⟩ => ⟨S8x256x1024, .f32⟩
  | .hbm, ⟨110, _⟩ => ⟨S1x512x1024, .f32⟩
  | .hbm, ⟨111, _⟩ => ⟨S512x1024, .f32⟩
  | .hbm, ⟨112, _⟩ => ⟨S8x256x1024, .f32⟩
  | .hbm, ⟨113, _⟩ => ⟨S8x256x1024, .f32⟩
  | .hbm, ⟨114, _⟩ => ⟨S8x256x1024, .f32⟩
  | .hbm, ⟨115, _⟩ => ⟨S1x512x1024, .f32⟩
  | .hbm, ⟨116, _⟩ => ⟨S512x1024, .f32⟩
  | .hbm, ⟨117, _⟩ => ⟨S8x256x1024, .f32⟩
  | .hbm, ⟨118, _⟩ => ⟨S8x256x1024, .f32⟩
  | .hbm, ⟨119, _⟩ => ⟨S8x256x1024, .f32⟩
  | .hbm, ⟨120, _⟩ => ⟨S8x256x1024, .f32⟩
  | .hbm, ⟨121, _⟩ => ⟨S8x256x1024, .f32⟩
  | .hbm, ⟨122, _⟩ => ⟨S8x256x1024, .f32⟩
  | .hbm, ⟨123, _⟩ => ⟨S8x256x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_8 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_10 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== Kernel15.lean ====
abbrev S2048x1024 : Shape := ⟨2, ![2048, 1024]⟩
abbrev S8x256x128 : Shape := ⟨3, ![8, 256, 128]⟩
abbrev S8x256x1024 : Shape := ⟨3, ![8, 256, 1024]⟩
abbrev S8x1x1024 : Shape := ⟨3, ![8, 1, 1024]⟩
abbrev S256x1024 : Shape := ⟨2, ![256, 1024]⟩
abbrev S1x256x128 : Shape := ⟨3, ![1, 256, 128]⟩
abbrev S1x256x1024 : Shape := ⟨3, ![1, 256, 1024]⟩
abbrev S1x1x1024 : Shape := ⟨3, ![1, 1, 1024]⟩
abbrev S256x128 : Shape := ⟨2, ![256, 128]⟩
abbrev S256x1 : Shape := ⟨2, ![256, 1]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S8x256x128, .f32⟩
  | .hbm, ⟨5, _⟩ => ⟨S8x256x1024, .f32⟩
  | .hbm, ⟨6, _⟩ => ⟨S8x1x1024, .f32⟩
  | .hbm, ⟨7, _⟩ => ⟨S8x256x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x256x1024, .f32⟩
  | .local _ .vmem, ⟨11, _⟩ => ⟨S1x256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x256x1024, .f32⟩
  | .local _ .vmem, ⟨15, _⟩ => ⟨S1x256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S2048x1024 : Shape := ⟨2, ![2048, 1024]⟩
abbrev S8x256x128 : Shape := ⟨3, ![8, 256, 128]⟩
abbrev S8x256x1024 : Shape := ⟨3, ![8, 256, 1024]⟩
abbrev S8x1x1024 : Shape := ⟨3, ![8, 1, 1024]⟩
abbrev S8x256x1 : Shape := ⟨3, ![8, 256, 1]⟩
abbrev S8x256 : Shape := ⟨2, ![8, 256]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S8x256x128, .f32⟩
  | .hbm, ⟨5, _⟩ => ⟨S8x256x1024, .f32⟩
  | .hbm, ⟨6, _⟩ => ⟨S8x1x1024, .f32⟩
  | .hbm, ⟨7, _⟩ => ⟨S2048x1024, .f32⟩
  | .hbm, ⟨8, _⟩ => ⟨S8x256x1024, .f32⟩
  | .hbm, ⟨9, _⟩ => ⟨S2048x1024, .f32⟩
  | .hbm, ⟨10, _⟩ => ⟨S8x256x1024, .f32⟩
  | .hbm, ⟨11, _⟩ => ⟨S2048x1024, .f32⟩
  | .hbm, ⟨12, _⟩ => ⟨S8x256x1024, .f32⟩
  | .hbm, ⟨13, _⟩ => ⟨S2048x1024, .f32⟩
  | .hbm, ⟨14, _⟩ => ⟨S8x256x1024, .f32⟩
  | .hbm, ⟨15, _⟩ => ⟨S8x256x1, .f32⟩
  | .hbm, ⟨16, _⟩ => ⟨S8x256, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S_, .f32⟩
  | .hbm, ⟨21, _⟩ => ⟨S8x256x1024, .f32⟩
  | .hbm, ⟨22, _⟩ => ⟨S8x256x1024, .f32⟩
  | .hbm, ⟨23, _⟩ => ⟨S8x256x1, .f32⟩
  | .hbm, ⟨24, _⟩ => ⟨S8x256, .f32⟩
  | .hbm, ⟨25, _⟩ => ⟨S8x256x1, .f32⟩
  | .hbm, ⟨26, _⟩ => ⟨S8x256x1024, .f32⟩
  | .hbm, ⟨27, _⟩ => ⟨S8x256x1024, .f32⟩
  | .hbm, ⟨28, _⟩ => ⟨S8x256x1024, .f32⟩
  | .hbm, ⟨29, _⟩ => ⟨S8x256x1, .f32⟩
  | .hbm, ⟨30, _⟩ => ⟨S8x256, .f32⟩
  | .hbm, ⟨31, _⟩ => ⟨S8x256x1, .f32⟩
  | .hbm, ⟨32, _⟩ => ⟨S8x256x1024, .f32⟩
  | .hbm, ⟨33, _⟩ => ⟨S8x256x1024, .f32⟩
  | .hbm, ⟨34, _⟩ => ⟨S8x256x1024, .f32⟩
  | .hbm, ⟨35, _⟩ => ⟨S8x256x1, .f32⟩
  | .hbm, ⟨36, _⟩ => ⟨S8x256, .f32⟩
  | .hbm, ⟨37, _⟩ => ⟨S8x256x1, .f32⟩
  | .hbm, ⟨38, _⟩ => ⟨S8x256x1024, .f32⟩
  | .hbm, ⟨39, _⟩ => ⟨S8x256x1024, .f32⟩
  | .hbm, ⟨40, _⟩ => ⟨S8x256x1024, .f32⟩
  | .hbm, ⟨41, _⟩ => ⟨S8x256x1024, .f32⟩
  | .hbm, ⟨42, _⟩ => ⟨S8x256x1024, .f32⟩
  | .hbm, ⟨43, _⟩ => ⟨S8x256x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel16.lean ====
abbrev S8x4096x1024 : Shape := ⟨3, ![8, 4096, 1024]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S8x4096x1024 : Shape := ⟨3, ![8, 4096, 1024]⟩
abbrev S4096x1024 : Shape := ⟨2, ![4096, 1024]⟩
abbrev S1x4096x1024 : Shape := ⟨3, ![1, 4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S1x4096x1024, .f32⟩
  | .hbm, ⟨3, _⟩ => ⟨S8x4096x1024, .f32⟩
  | .hbm, ⟨4, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Norm.lean ====
/- The normalised, modulated projection: what each grid point writes is the plain formula's block. -/
module

public import proofs.«01_k».proof.Proof.Gen.Kernel2Ideal.Frame
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.NormProj

open Cert.Kernel2Ideal Cert.Kernel2Ideal.Gen Cert.Kernel2Ideal.Value
open Idealize.ShloMosaic Idealize.ShloMosaic.TcCoe Idealize.SL.Sem
open Idealize.ShloMosaic.Pipeline (Dat)

/-- The reference's result as one function of the five arguments. -/
def proj (X : FVec Ideal S8x4096x1024 .f32) (SH SC : FVec Ideal S8x1x1024 .f32) (G : FVec Ideal S1024 .f32) (W : FVec Ideal S1024x3072 .bf16) : FVec Ideal S8x4096x3072 .f32 :=
  Host.dotGeneral Cert.Reference2Ideal.dot_S8x4096x1024_S1024x3072_S8x4096x3072_2_0_01_1_n_n none (addf (mulf (mulf (mulf X (broadcastInDim Cert.Reference2Ideal.S8x4096x1024 ![0, 1, 2] Cert.Reference2Ideal.Gen.bcast_S8x4096x1_S8x4096x1024_0_1_2 (Host.rsqrt (addf (Host.divf (broadcastInDim Cert.Reference2Ideal.S8x4096x1 ![0, 1] Cert.Reference2Ideal.Gen.bcast_S8x4096_S8x4096x1_0_1 (Host.reduceAdd (mulf X X) (constant Cert.Reference2Ideal.S_ .f32 0x00000000#32) Cert.Reference2Ideal.Gen.reducesTo_S8x4096x1024_S8x4096_d2 Cert.Reference2Ideal.Gen.h_S_)) (broadcastInDim Cert.Reference2Ideal.S8x4096x1 ![] Cert.Reference2Ideal.Gen.bcast_S_S8x4096x1 (constant Cert.Reference2Ideal.S_ .f32 0x44800000#32))) (broadcastInDim Cert.Reference2Ideal.S8x4096x1 ![] Cert.Reference2Ideal.Gen.bcast_S_S8x4096x1 (constant Cert.Reference2Ideal.S_ .f32 0x358637BD#32)))))) (broadcastInDim Cert.Reference2Ideal.S8x4096x1024 ![0, 1, 2] Cert.Reference2Ideal.Gen.bcast_S1x1x1024_S8x4096x1024_0_1_2 (broadcastInDim Cert.Reference2Ideal.S1x1x1024 ![2] Cert.Reference2Ideal.Gen.bcast_S1024_S1x1x1024_2 G))) (broadcastInDim Cert.Reference2Ideal.S8x4096x1024 ![0, 1, 2] Cert.Reference2Ideal.Gen.bcast_S8x1x1024_S8x4096x1024_0_1_2 (addf (broadcastInDim Cert.Reference2Ideal.S8x1x1024 ![] Cert.Reference2Ideal.Gen.bcast_S_S8x1x1024 (constant Cert.Reference2Ideal.S_ .f32 0x3F800000#32)) SC))) (broadcastInDim Cert.Reference2Ideal.S8x4096x1024 ![0, 1, 2] Cert.Reference2Ideal.Gen.bcast_S8x1x1024_S8x4096x1024_0_1_2 SH)) (extf .f32 W bitsLt_bf16_f32)

variable (m : (ℓ : Loc nD τ sig) → Buf (Elt Ideal) ℓ)

/-- Where each window's block sits at point `t` of the 8 by 4 by 2 grid. -/
theorem places : ∀ t : Fin cfg0.N, win0_0.index t = ![t.val / 8, t.val % 8 / 2, 0] ∧ win0_1.index t = ![t.val / 8, 0, 0]
    ∧ win0_2.index t = ![t.val / 8, 0, 0] ∧ win0_3.index t = ![0, 0] ∧ win0_4.index t = ![0, t.val % 2]
    ∧ win0_5.index t = ![t.val / 8, t.val % 8 / 2, t.val % 2] :=
  (by decide +kernel : ∀ t : Fin grid0.N, _)

set_option maxHeartbeats 2000000 in
/-- What the body stores at point `t` from the rows normalised at a point `u` of the same rows. -/
theorem stored_eq (c : Dev nD) (t u : Fin cfg0.N) (hu : u.val / 2 = t.val / 2) (y : S1x1024x1536.Idx) :
    k0_pay2 (F := Ideal) (k0_pay1 (F := Ideal) (iblk m c 0 u) (iblk m c 3 u) (iblk m c 1 u) (iblk m c 2 u)) (iblk m c 4 t) y
      = proj (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  have h8 : u.val / 8 = t.val / 8 := by omega
  have h2 : u.val % 8 / 2 = t.val % 8 / 2 := by omega
  pointwise [k0_pay2, k0_pay1, proj]
  blk_point [iblk, V, places t, places u, h8, h2]

/-- The result array after the run. -/
theorem result (c : Dev nD) : (dats m 0 c).arrAt 5 (cfgs 0).N
    = proj (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  by_cases h0 : t.val % 2 = 0
  · rw [outsAt0_A m c t h0]; frame_out
    exact stored_eq m c t t rfl y
  · rw [outsAt0_B m c t h0];
    have hp : (t.val - 1) % 2 = 0 := by omega
    have e := outsAt0_A m c ⟨t.val - 1, Nat.lt_of_le_of_lt (Nat.sub_le _ _) t.isLt⟩ hp
    dsimp only at e
    rw [e]; frame_out
    erw [Memref.IsWhole.read_unread]
    exact stored_eq m c t ⟨t.val - 1, Nat.lt_of_le_of_lt (Nat.sub_le _ _) t.isLt⟩ (by show (t.val - 1) / 2 = t.val / 2; omega) y

end Cert.NormProj
-- ==== Proof.Norm2.lean ====
/- The projection's claims: its frames, and that its idealised kernel and the plain formula end with the same result. -/
module

public import proofs.«01_k».proof.Defs
public import proofs.«01_k».proof.Proof.Norm
public import proofs.«01_k».proof.Proof.Gen.Kernel2.Frame
public import Idealize.ShloMosaic.Lib.Quiescent

@[expose] public section

set_option maxRecDepth 16384

noncomputable section

namespace Cert.NormProj

open Idealize.ShloMosaic Idealize.ShloMosaic.TcCoe Idealize.SL.Sem

/-- The reference's frame: it has no counters, so they end at zero. -/
theorem frame_reference : Cert.quiescent_Reference2Ideal := fun m g _ =>
  (θ_run _ _ _).mono (fun r h => ⟨fun c => (h c).2, sem_eq_zero_of_no_sems (by decide) r.2⟩) (Cert.Reference2Ideal.Value.run (F := Ideal) m g)

/-- Both runs end with the plain formula over the kernel's own arguments. -/
theorem same_result : Cert.algebraic_Kernel2Ideal_Reference2Ideal := by
  intro m g m' g' _ hagree
  refine ⟨fun c => proj (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · exact (θ_run _ _ _).mono (fun r h c => ⟨(h c).1.trans (result m c), (h c).2⟩) (Cert.Kernel2Ideal.Value.run_blocks (F := Ideal) m g)
  · refine (θ_run _ _ _).mono (fun r h c => ⟨(h c).1.trans ?_, (h c).2⟩) (Cert.Reference2Ideal.Value.run (F := Ideal) m' g')
    obtain ⟨e0, e1, e2, e3, e4⟩ := hagree c
    rw [e0, e1, e2, e3, e4]
    rfl

end Cert.NormProj
-- ==== Proof.NormWide.lean ====
/- The normalised, modulated projection to width 1792: what each grid point writes is the plain formula's block. -/
module

public import proofs.«01_k».proof.Defs
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Quiescent

@[expose] public section

set_option maxRecDepth 16384

noncomputable section

namespace Cert.NormProj3

open Cert.Kernel3Ideal Cert.Kernel3Ideal.Gen Cert.Kernel3Ideal.Value
open Idealize.ShloMosaic Idealize.ShloMosaic.TcCoe Idealize.SL.Sem
open Idealize.ShloMosaic.Pipeline (Dat)

/-- The reference's result as one function of the five arguments. -/
def proj (X : FVec Ideal S8x4096x1024 .f32) (SH SC : FVec Ideal S8x1x1024 .f32) (G : FVec Ideal S1024 .f32) (W : FVec Ideal S1024x1792 .bf16) : FVec Ideal S8x4096x1792 .f32 :=
  Host.dotGeneral Cert.Reference3Ideal.dot_S8x4096x1024_S1024x1792_S8x4096x1792_2_0_01_1_n_n none (addf (mulf (mulf (mulf X (broadcastInDim Cert.Reference3Ideal.S8x4096x1024 ![0, 1, 2] Cert.Reference3Ideal.Gen.bcast_S8x4096x1_S8x4096x1024_0_1_2 (Host.rsqrt (addf (Host.divf (broadcastInDim Cert.Reference3Ideal.S8x4096x1 ![0, 1] Cert.Reference3Ideal.Gen.bcast_S8x4096_S8x4096x1_0_1 (Host.reduceAdd (mulf X X) (constant Cert.Reference3Ideal.S_ .f32 0x00000000#32) Cert.Reference3Ideal.Gen.reducesTo_S8x4096x1024_S8x4096_d2 Cert.Reference3Ideal.Gen.h_S_)) (broadcastInDim Cert.Reference3Ideal.S8x4096x1 ![] Cert.Reference3Ideal.Gen.bcast_S_S8x4096x1 (constant Cert.Reference3Ideal.S_ .f32 0x44800000#32))) (broadcastInDim Cert.Reference3Ideal.S8x4096x1 ![] Cert.Reference3Ideal.Gen.bcast_S_S8x4096x1 (constant Cert.Reference3Ideal.S_ .f32 0x358637BD#32)))))) (broadcastInDim Cert.Reference3Ideal.S8x4096x1024 ![0, 1, 2] Cert.Reference3Ideal.Gen.bcast_S1x1x1024_S8x4096x1024_0_1_2 (broadcastInDim Cert.Reference3Ideal.S1x1x1024 ![2] Cert.Reference3Ideal.Gen.bcast_S1024_S1x1x1024_2 G))) (broadcastInDim Cert.Reference3Ideal.S8x4096x1024 ![0, 1, 2] Cert.Reference3Ideal.Gen.bcast_S8x1x1024_S8x4096x1024_0_1_2 (addf (broadcastInDim Cert.Reference3Ideal.S8x1x1024 ![] Cert.Reference3Ideal.Gen.bcast_S_S8x1x1024 (constant Cert.Reference3Ideal.S_ .f32 0x3F800000#32)) SC))) (broadcastInDim Cert.Reference3Ideal.S8x4096x1024 ![0, 1, 2] Cert.Reference3Ideal.Gen.bcast_S8x1x1024_S8x4096x1024_0_1_2 SH)) (extf .f32 W bitsLt_bf16_f32)

variable (m : (ℓ : Loc nD τ sig) → Buf (Elt Ideal) ℓ)

/-- Where each window's block sits at point `t` of the 8 by 4 grid. -/
theorem places : ∀ t : Fin cfg0.N, win0_0.index t = ![t.val / 4, t.val % 4, 0] ∧ win0_1.index t = ![t.val / 4, 0, 0]
    ∧ win0_2.index t = ![t.val / 4, 0, 0] ∧ win0_3.index t = ![0, 0] ∧ win0_4.index t = ![0, 0]
    ∧ win0_5.index t = ![t.val / 4, t.val % 4, 0] :=
  (by decide +kernel : ∀ t : Fin grid0.N, _)

set_option maxHeartbeats 2000000 in
/-- What the body stores at point `t`. -/
theorem stored_eq (c : Dev nD) (t : Fin cfg0.N) (y : S1x1024x1792.Idx) :
    k0_pay2 (F := Ideal) (k0_pay1 (F := Ideal) (iblk m c 0 t) (iblk m c 3 t) (iblk m c 1 t) (iblk m c 2 t)) (iblk m c 4 t) y
      = proj (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay2, k0_pay1, proj]
  blk_point [iblk, V, places t]

/-- The result array after the run. -/
theorem result (c : Dev nD) : (dats m 0 c).arrAt 5 (cfgs 0).N
    = proj (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  exact stored_eq m c t y

/-- The reference's frame: it has no counters, so they end at zero. -/
theorem frame_reference : Cert.quiescent_Reference3Ideal := fun m g _ =>
  (θ_run _ _ _).mono (fun r h => ⟨fun c => (h c).2, sem_eq_zero_of_no_sems (by decide) r.2⟩) (Cert.Reference3Ideal.Value.run (F := Ideal) m g)

/-- Both runs end with the plain formula over the kernel's own arguments. -/
theorem same_result : Cert.algebraic_Kernel3Ideal_Reference3Ideal := by
  intro m g m' g' _ hagree
  refine ⟨fun c => proj (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), ?_, ?_⟩
  · exact (θ_run _ _ _).mono (fun r h c => ⟨(h c).1.trans (result m c), (h c).2⟩) (Cert.Kernel3Ideal.Value.run_blocks (F := Ideal) m g)
  · refine (θ_run _ _ _).mono (fun r h c => ⟨(h c).1.trans ?_, (h c).2⟩) (Cert.Reference3Ideal.Value.run (F := Ideal) m' g')
    obtain ⟨e0, e1, e2, e3, e4⟩ := hagree c
    rw [e0, e1, e2, e3, e4]
    rfl

end Cert.NormProj3

end
-- ==== Proof.NormMid.lean ====
/- The normalised, modulated projection to width 1536: what each grid point writes is the plain formula's block. -/
module

public import proofs.«01_k».proof.Defs
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Quiescent

@[expose] public section

set_option maxRecDepth 16384

noncomputable section

namespace Cert.NormProj4

open Cert.Kernel4Ideal Cert.Kernel4Ideal.Gen Cert.Kernel4Ideal.Value
open Idealize.ShloMosaic Idealize.ShloMosaic.TcCoe Idealize.SL.Sem
open Idealize.ShloMosaic.Pipeline (Dat)

/-- The reference's result as one function of the five arguments. -/
def proj (X : FVec Ideal S8x4096x1024 .f32) (SH SC : FVec Ideal S8x1x1024 .f32) (G : FVec Ideal S1024 .f32) (W : FVec Ideal S1024x1536 .bf16) : FVec Ideal S8x4096x1536 .f32 :=
  Host.dotGeneral Cert.Reference4Ideal.dot_S8x4096x1024_S1024x1536_S8x4096x1536_2_0_01_1_n_n none (addf (mulf (mulf (mulf X (broadcastInDim Cert.Reference4Ideal.S8x4096x1024 ![0, 1, 2] Cert.Reference4Ideal.Gen.bcast_S8x4096x1_S8x4096x1024_0_1_2 (Host.rsqrt (addf (Host.divf (broadcastInDim Cert.Reference4Ideal.S8x4096x1 ![0, 1] Cert.Reference4Ideal.Gen.bcast_S8x4096_S8x4096x1_0_1 (Host.reduceAdd (mulf X X) (constant Cert.Reference4Ideal.S_ .f32 0x00000000#32) Cert.Reference4Ideal.Gen.reducesTo_S8x4096x1024_S8x4096_d2 Cert.Reference4Ideal.Gen.h_S_)) (broadcastInDim Cert.Reference4Ideal.S8x4096x1 ![] Cert.Reference4Ideal.Gen.bcast_S_S8x4096x1 (constant Cert.Reference4Ideal.S_ .f32 0x44800000#32))) (broadcastInDim Cert.Reference4Ideal.S8x4096x1 ![] Cert.Reference4Ideal.Gen.bcast_S_S8x4096x1 (constant Cert.Reference4Ideal.S_ .f32 0x358637BD#32)))))) (broadcastInDim Cert.Reference4Ideal.S8x4096x1024 ![0, 1, 2] Cert.Reference4Ideal.Gen.bcast_S1x1x1024_S8x4096x1024_0_1_2 (broadcastInDim Cert.Reference4Ideal.S1x1x1024 ![2] Cert.Reference4Ideal.Gen.bcast_S1024_S1x1x1024_2 G))) (broadcastInDim Cert.Reference4Ideal.S8x4096x1024 ![0, 1, 2] Cert.Reference4Ideal.Gen.bcast_S8x1x1024_S8x4096x1024_0_1_2 (addf (broadcastInDim Cert.Reference4Ideal.S8x1x1024 ![] Cert.Reference4Ideal.Gen.bcast_S_S8x1x1024 (constant Cert.Reference4Ideal.S_ .f32 0x3F800000#32)) SC))) (broadcastInDim Cert.Reference4Ideal.S8x4096x1024 ![0, 1, 2] Cert.Reference4Ideal.Gen.bcast_S8x1x1024_S8x4096x1024_0_1_2 SH)) (extf .f32 W bitsLt_bf16_f32)

variable (m : (ℓ : Loc nD τ sig) → Buf (Elt Ideal) ℓ)

/-- Where each window's block sits at point `t` of the 8 by 4 grid. -/
theorem places : ∀ t : Fin cfg0.N, win0_0.index t = ![t.val / 4, t.val % 4, 0] ∧ win0_1.index t = ![t.val / 4, 0, 0]
    ∧ win0_2.index t = ![t.val / 4, 0, 0] ∧ win0_3.index t = ![0, 0] ∧ win0_4.index t = ![0, 0]
    ∧ win0_5.index t = ![t.val / 4, t.val % 4, 0] :=
  (by decide +kernel : ∀ t : Fin grid0.N, _)

set_option maxHeartbeats 2000000 in
/-- What the body stores at point `t`. -/
theorem stored_eq (c : Dev nD) (t : Fin cfg0.N) (y : S1x1024x1536.Idx) :
    k0_pay2 (F := Ideal) (k0_pay1 (F := Ideal) (iblk m c 0 t) (iblk m c 3 t) (iblk m c 1 t) (iblk m c 2 t)) (iblk m c 4 t) y
      = proj (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay2, k0_pay1, proj]
  blk_point [iblk, V, places t]

/-- The result array after the run. -/
theorem result (c : Dev nD) : (dats m 0 c).arrAt 5 (cfgs 0).N
    = proj (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  exact stored_eq m c t y

/-- The reference's frame: it has no counters, so they end at zero. -/
theorem frame_reference : Cert.quiescent_Reference4Ideal := fun m g _ =>
  (θ_run _ _ _).mono (fun r h => ⟨fun c => (h c).2, sem_eq_zero_of_no_sems (by decide) r.2⟩) (Cert.Reference4Ideal.Value.run (F := Ideal) m g)

/-- Both runs end with the plain formula over the kernel's own arguments. -/
theorem same_result : Cert.algebraic_Kernel4Ideal_Reference4Ideal := by
  intro m g m' g' _ hagree
  refine ⟨fun c => proj (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)), ?_, ?_⟩
  · exact (θ_run _ _ _).mono (fun r h c => ⟨(h c).1.trans (result m c), (h c).2⟩) (Cert.Kernel4Ideal.Value.run_blocks (F := Ideal) m g)
  · refine (θ_run _ _ _).mono (fun r h c => ⟨(h c).1.trans ?_, (h c).2⟩) (Cert.Reference4Ideal.Value.run (F := Ideal) m' g')
    obtain ⟨e0, e1, e2, e3, e4⟩ := hagree c
    rw [e0, e1, e2, e3, e4]
    rfl

end Cert.NormProj4

end
-- ==== Proof.NormNarrow.lean ====
/- The normalised, modulated projection to width 512: what each grid point writes is the plain formula's block. -/
module

public import proofs.«01_k».proof.Defs
public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Quiescent

@[expose] public section

set_option maxRecDepth 16384

noncomputable section

namespace Cert.NormProj5

open Cert.Kernel5Ideal Cert.Kernel5Ideal.Gen Cert.Kernel5Ideal.Value
open Idealize.ShloMosaic Idealize.ShloMosaic.TcCoe Idealize.SL.Sem
open Idealize.ShloMosaic.Pipeline (Dat)

/-- The reference's result as one function of the five arguments. -/
def proj (X : FVec Ideal S8x4096x1024 .f32) (SH SC : FVec Ideal S8x1x1024 .f32) (G : FVec Ideal S1024 .f32) (W : FVec Ideal S1024x512 .bf16) : FVec Ideal S8x4096x512 .f32 :=
  Host.dotGeneral Cert.Reference5Ideal.dot_S8x4096x1024_S1024x512_S8x4096x512_2_0_01_1_n_n none (addf (mulf (mulf (mulf X (broadcastInDim Cert.Reference5Ideal.S8x4096x1024 ![0, 1, 2] Cert.Reference5Ideal.Gen.bcast_S8x4096x1_S8x4096x1024_0_1_2 (Host.rsqrt (addf (Host.divf (broadcastInDim Cert.Reference5Ideal.S8x4096x1 ![0, 1] Cert.Reference5Ideal.Gen.bcast_S8x4096_S8x4096x1_0_1 (Host.reduceAdd (mulf X X) (constant Cert.Reference5Ideal.S_ .f32 0x00000000#32) Cert.Reference5Ideal.Gen.reducesTo_S8x4096x1024_S8x4096_d2 Cert.Reference5Ideal.Gen.h_S_)) (broadcastInDim Cert.Reference5Ideal.S8x4096x1 ![] Cert.Reference5Ideal.Gen.bcast_S_S8x4096x1 (constant Cert.Reference5Ideal.S_ .f32 0x44800000#32))) (broadcastInDim Cert.Reference5Ideal.S8x4096x1 ![] Cert.Reference5Ideal.Gen.bcast_S_S8x4096x1 (constant Cert.Reference5Ideal.S_ .f32 0x358637BD#32)))))) (broadcastInDim Cert.Reference5Ideal.S8x4096x1024 ![0, 1, 2] Cert.Reference5Ideal.Gen.bcast_S1x1x1024_S8x4096x1024_0_1_2 (broadcastInDim Cert.Reference5Ideal.S1x1x1024 ![2] Cert.Reference5Ideal.Gen.bcast_S1024_S1x1x1024_2 G))) (broadcastInDim Cert.Reference5Ideal.S8x4096x1024 ![0, 1, 2] Cert.Reference5Ideal.Gen.bcast_S8x1x1024_S8x4096x1024_0_1_2 (addf (broadcastInDim Cert.Reference5Ideal.S8x1x1024 ![] Cert.Reference5Ideal.Gen.bcast_S_S8x1x1024 (constant Cert.Reference5Ideal.S_ .f32 0x3F800000#32)) SC))) (broadcastInDim Cert.Reference5Ideal.S8x4096x1024 ![0, 1, 2] Cert.Reference5Ideal.Gen.bcast_S8x1x1024_S8x4096x1024_0_1_2 SH)) (extf .f32 W bitsLt_bf16_f32)

variable (m : (ℓ : Loc nD τ sig) → Buf (Elt Ideal) ℓ)

/-- Where each window's block sits at point `t` of the 8 by 4 grid. -/
theorem places : ∀ t : Fin cfg0.N, win0_0.index t = ![t.val / 4, t.val % 4, 0] ∧ win0_1.index t = ![t.val / 4, 0, 0]
    ∧ win0_2.index t = ![t.val / 4, 0, 0] ∧ win0_3.index t = ![0, 0] ∧ win0_4.index t = ![0, 0]
    ∧ win0_5.index t = ![t.val / 4, t.val % 4, 0] :=
  (by decide +kernel : ∀ t : Fin grid0.N, _)

set_option maxHeartbeats 2000000 in
/-- What the body stores at point `t`. -/
theorem stored_eq (c : Dev nD) (t : Fin cfg0.N) (y : S1x1024x512.Idx) :
    k0_pay2 (F := Ideal) (k0_pay1 (F := Ideal) (iblk m c 0 t) (iblk m c 3 t) (iblk m c 1 t) (iblk m c 2 t)) (iblk m c 4 t) y
      = proj (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay2, k0_pay1, proj]
  blk_point [iblk, V, places t]

/-- The result array after the run. -/
theorem result (c : Dev nD) : (dats m 0 c).arrAt 5 (cfgs 0).N
    = proj (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  exact stored_eq m c t y

/-- The reference's frame: it has no counters, so they end at zero. -/
theorem frame_reference : Cert.quiescent_Reference5Ideal := fun m g _ =>
  (θ_run _ _ _).mono (fun r h => ⟨fun c => (h c).2, sem_eq_zero_of_no_sems (by decide) r.2⟩) (Cert.Reference5Ideal.Value.run (F := Ideal) m g)

/-- Both runs end with the plain formula over the kernel's own arguments. -/
theorem same_result : Cert.algebraic_Kernel5Ideal_Reference5Ideal := by
  intro m g m' g' _ hagree
  refine ⟨fun c => proj (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), ?_, ?_⟩
  · exact (θ_run _ _ _).mono (fun r h c => ⟨(h c).1.trans (result m c), (h c).2⟩) (Cert.Kernel5Ideal.Value.run_blocks (F := Ideal) m g)
  · refine (θ_run _ _ _).mono (fun r h c => ⟨(h c).1.trans ?_, (h c).2⟩) (Cert.Reference5Ideal.Value.run (F := Ideal) m' g')
    obtain ⟨e0, e1, e2, e3, e4⟩ := hagree c
    rw [e0, e1, e2, e3, e4]
    rfl

end Cert.NormProj5

end
-- ==== Proof.ExpertPre.lean ====
/- What the condition on the table of experts says: every entry is one of the 64 experts. -/
module

public import proofs.«01_k».proof.Proof.Gen.Pre_experts_in_range
public import Idealize.ShloMosaic.Lib.ReduceAll
public import Idealize.ShloMosaic.Lib.Pointwise

@[expose] public section

set_option maxRecDepth 16384

noncomputable section

namespace Cert.ExpertFfn

open Idealize.ShloMosaic
open Cert.Pre_experts_in_range Cert.Pre_experts_in_range.Gen

variable {F : FTy → Type} [FloatOps F]

/-- Two comparisons that both hold. -/
theorem both_of (w : BitVec 32) (h : IntOp.andi (IntOp.cmpi .sge w 0#32) (IntOp.cmpi .slt w 64#32) = 1#1) : 0 ≤ w.toInt ∧ w.toInt < 64 := by
  have h' : BitVec.ofBool ((0#32 : BitVec 32).sle w) &&& BitVec.ofBool (w.slt 64#32) = 1#1 := h
  have e1 : (0#32 : BitVec 32).sle w = true := by
    revert h'; cases (0#32 : BitVec 32).sle w <;> cases w.slt 64#32 <;> decide
  have e2 : w.slt 64#32 = true := by
    revert h'; cases (0#32 : BitVec 32).sle w <;> cases w.slt 64#32 <;> decide
  simp only [BitVec.sle, BitVec.slt, decide_eq_true_eq] at e1 e2
  exact ⟨e1, e2⟩

theorem in_range [Cert.Pre_experts_in_range.Facts] (x0 : FVec F S147456x1024 .bf16) (x1 : IVec S288 32) (x2 : IVec S1 32) (x3 : FVec F S64x1024x2048 .f32) (x4 : FVec F S64x1x2048 .f32) (x5 : FVec F S64x1024x1024 .f32) (x6 : FVec F S64x1x1024 .f32)
    (h : Cert.Pre_experts_in_range.fn (F := F) x0 x1 x2 x3 x4 x5 x6 = fun _ => 1#1) (i : S288.Idx) : 0 ≤ (x1 i).toInt ∧ (x1 i).toInt < 64 := by
  have h0 := congrFun h (fun a => a.elim0)
  haveI : Subsingleton S_.Idx := ⟨fun a b => funext fun d => d.elim0⟩
  have := Host.reduce_andi_all _ _ _ _ _ h0 i
  exact both_of _ this

/-- Such a word read unsigned is its signed value. -/
theorem word_nat (w : BitVec 32) (h : 0 ≤ w.toInt ∧ w.toInt < 64) : w.toNat < 64 ∧ min w.toInt.toNat 63 = w.toNat := by
  have := BitVec.toInt_eq_toNat_cond w
  have hw := w.isLt
  split at this <;> omega

end Cert.ExpertFfn

end
-- ==== Proof.Tables.lean ====
/- Tables whose experts are in range are tables the routed feed-forward can run at; its frame. -/
module

public import proofs.«01_k».proof.Defs
public import proofs.«01_k».proof.Proof.ExpertPre
public import proofs.«01_k».proof.Proof.Run

@[expose] public section

set_option maxRecDepth 16384

noncomputable section

namespace Cert.Kernel.Expert

open Cert.Kernel Cert.Kernel.Gen Cert.ExpertFfn
open Idealize.ShloMosaic Idealize.ShloMosaic.TcCoe Idealize.SL.Sem

theorem fits (pf : pre0.Contents (Elt Bits)) (h : ∀ i : S288.Idx, (pf 0 i : BitVec 32).toNat < 64) : ok0 pf := by
  have hw : ∀ i : grid0.Coords, (pf.at 0 (Rect.unit (s := S288) (k0_off1 i) S1.size (k0_off1_inb i)) numel1_S1 : BitVec 32).toNat < 64 := fun i => by
    rw [index_word pf i (fun d => match d with | ⟨0, _⟩ => ⟨(i 0).val, (i 0).isLt⟩) rfl]; exact h _
  refine ⟨fun i => ⟨fun z => ?_, .inl rfl⟩, fun i => ⟨fun z => ?_, .inl rfl⟩, fun i => ⟨fun z => ?_, .inl rfl⟩, fun i => ⟨fun z => ?_, .inl rfl⟩⟩
  · have := hw i
    show (![(pf.at 0 (Rect.unit (s := S288) (k0_off1 i) S1.size (k0_off1_inb i)) numel1_S1 : BitVec 32).toNat, 0, 0] z + 1) * _ ≤ _
    match z with
    | ⟨0, _⟩ => show ((pf.at 0 (Rect.unit (s := S288) (k0_off1 i) S1.size (k0_off1_inb i)) numel1_S1 : BitVec 32).toNat + 1) * 1 ≤ 64; omega
    | ⟨1, _⟩ => show (0 + 1) * 1024 ≤ 1024; omega
    | ⟨2, _⟩ => show (0 + 1) * 2048 ≤ 2048; omega
  · have := hw i
    show (![(pf.at 0 (Rect.unit (s := S288) (k0_off1 i) S1.size (k0_off1_inb i)) numel1_S1 : BitVec 32).toNat, 0, 0] z + 1) * _ ≤ _
    match z with
    | ⟨0, _⟩ => show ((pf.at 0 (Rect.unit (s := S288) (k0_off1 i) S1.size (k0_off1_inb i)) numel1_S1 : BitVec 32).toNat + 1) * 1 ≤ 64; omega
    | ⟨1, _⟩ => show (0 + 1) * 1 ≤ 1; omega
    | ⟨2, _⟩ => show (0 + 1) * 2048 ≤ 2048; omega
  · have := hw i
    show (![(pf.at 0 (Rect.unit (s := S288) (k0_off1 i) S1.size (k0_off1_inb i)) numel1_S1 : BitVec 32).toNat, 0, 0] z + 1) * _ ≤ _
    match z with
    | ⟨0, _⟩ => show ((pf.at 0 (Rect.unit (s := S288) (k0_off1 i) S1.size (k0_off1_inb i)) numel1_S1 : BitVec 32).toNat + 1) * 1 ≤ 64; omega
    | ⟨1, _⟩ => show (0 + 1) * 1024 ≤ 1024; omega
    | ⟨2, _⟩ => show (0 + 1) * 1024 ≤ 1024; omega
  · have := hw i
    show (![(pf.at 0 (Rect.unit (s := S288) (k0_off1 i) S1.size (k0_off1_inb i)) numel1_S1 : BitVec 32).toNat, 0, 0] z + 1) * _ ≤ _
    match z with
    | ⟨0, _⟩ => show ((pf.at 0 (Rect.unit (s := S288) (k0_off1 i) S1.size (k0_off1_inb i)) numel1_S1 : BitVec 32).toNat + 1) * 1 ≤ 64; omega
    | ⟨1, _⟩ => show (0 + 1) * 1 ≤ 1; omega
    | ⟨2, _⟩ => show (0 + 1) * 1024 ≤ 1024; omega

/-- The tables a launch memory holds. -/
def held (m : (ℓ : Loc nD τ sig) → Buf (Elt Bits) ℓ) : pre0.Contents (Elt Bits) := fun
  | 0 => m (((0 : Dev nD) : Thread nD τ).loc main_arg1)
  | 1 => m (((0 : Dev nD) : Thread nD τ).loc main_arg2)

variable [Cert.Pre_experts_in_range.Facts] (m : (ℓ : Loc nD τ sig) → Buf (Elt Bits) ℓ) (hpre : Cert.Pre_Kernel m)

include hpre

theorem held_range (i : S288.Idx) : 0 ≤ (held m 0 i : BitVec 32).toInt ∧ (held m 0 i : BitVec 32).toInt < 64 :=
  in_range _ _ _ _ _ _ _ (hpre 0) i

/-- The tables a launch memory under the condition holds, as tables to run at. -/
def tables : (pcfg0 (F := Bits)).Adm := ⟨held m, fits (held m) fun i => (word_nat _ (held_range m hpre i)).1⟩

theorem tables_held : Tables (tables m hpre) m :=
  ⟨fun c => by obtain rfl : c = 0 := Subsingleton.elim _ _; rfl, fun c => by obtain rfl : c = 0 := Subsingleton.elim _ _; rfl⟩

end Cert.Kernel.Expert

end
-- ==== Proof.BodyIdeal.lean ====
/- One grid point of the routed feed-forward: what the body leaves in its output block and in the two weight buffers it
   keeps, at any tables. Three cases: a point in use whose expert is new, one in use with the expert of the point before,
   one not in use. -/
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Tactic

@[expose] public section

set_option maxRecDepth 16384
set_option Elab.async false

noncomputable section

namespace Cert.KernelIdeal.Expert

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources a run of this program is accounted in. -/
abbrev Res (F : FTy → Type) : Type := MT nD τ sig Unit (Elt F) ℕ (UR sig nD τ) ℕ

/-- The expert table, the used-blocks word and the two kept weight buffers, each whole. -/
abbrev tabE : Memref sig .tc .smem S288 .i32 := Memref.whole main_arg1
abbrev tabU : Memref sig .tc .smem S1 .i32 := Memref.whole main_arg2
abbrev keptIn : Memref sig .tc .vmem S1024x2048 .bf16 := Memref.whole cc0_scratch0
abbrev keptOut : Memref sig .tc .vmem S1024x1024 .bf16 := Memref.whole cc0_scratch1

/-- The word the body compares its block number with. -/
abbrev usedWord (U : S1.Idx → Elt F .i32) : BitVec 32 :=
  View.readAt (Elt F) tabU.view (Rect.unit (s := S1) ![0] S1.size inb_S1_S1_0).toLoadRect U (Shape.Idx.first (numel1_S1.symm ▸ Nat.one_pos))
/-- The table's word at the point, and at the point before it (the first point: its own). -/
abbrev hereWord (T : S288.Idx → Elt F .i32) (i : grid0.Coords) : BitVec 32 :=
  View.readAt (Elt F) tabE.view (Rect.unit (s := S288) (k0_off2 i) S1.size (k0_off2_inb i)).toLoadRect T (Shape.Idx.first (numel1_S1.symm ▸ Nat.one_pos))
abbrev priorWord (T : S288.Idx → Elt F .i32) (i : grid0.Coords) : BitVec 32 :=
  View.readAt (Elt F) tabE.view (Rect.unit (s := S288) (k0_off3 i) S1.size (k0_off3_inb i)).toLoadRect T (Shape.Idx.first (numel1_S1.symm ▸ Nat.one_pos))
/-- The bit saying that the point must take its expert's weights in. -/
abbrev newBit (T : S288.Idx → Elt F .i32) (i : grid0.Coords) : BitVec 1 :=
  Scalar.cmpi .ne (Scalar.extui (Scalar.ori (Scalar.cmpi .eq (BitVec.ofNat 32 (i 0).val) 0#32) (Scalar.cmpi .ne (hereWord (F := F) T i) (priorWord (F := F) T i))) : BitVec 32) 0#32

/-- One store over a whole buffer leaves the buffer reading what was stored. -/
theorem stored_reads {sp : Space} {s : Shape} {e : EltTy} (v : View sig .tc sp s e) (f : v.ty.Contents (Elt F)) (off : Fin s.rank → ℕ)
    (h : ∀ a, off a = 0) {inb : ∀ a, off a + s.size a ≤ s.size a} (w : s.Idx → Elt F e) :
    v.read (Elt F) (v.writes (Elt F) f [⟨Rect.unit off s.size inb, w⟩]) = w := by
  funext y
  exact View.read_writes_cons_unit_of_mem v f (off' := fun _ => 0) inb w [] y y (funext h) (fun a => (Nat.zero_add _).symm)

/-- A load of a whole buffer held whole. -/
theorem kept_reads (b : Ref sig .tc) (f : b.ty.Contents (Elt F)) (off : Fin b.ty.shape.rank → ℕ) (inb : ∀ a, off a + b.ty.shape.size a ≤ b.ty.shape.size a) :
    (Memref.whole b).view.readAt (Elt F) (Rect.unit off b.ty.shape.size inb).toLoadRect f = f :=
  View.readAt_full _ _ _

/-- One store over a whole buffer held whole leaves what was stored. -/
theorem kept_stored (b : Ref sig .tc) (f : b.ty.Contents (Elt F)) (off : Fin b.ty.shape.rank → ℕ) (h : ∀ a, off a = 0)
    {inb : ∀ a, off a + b.ty.shape.size a ≤ b.ty.shape.size a} (w : b.ty.shape.Idx → Elt F b.ty.elt) :
    (Memref.whole b).view.writes (Elt F) f [⟨Rect.unit off b.ty.shape.size inb, w⟩] = w :=
  (View.read_whole (Val := Elt F) b _).symm.trans (stored_reads (Memref.whole b).view f off h w)

/-- The stored payload over equal reads. -/
theorem serves {x x' : S512x1024.Idx → Elt F .bf16} {a a' : S1024x2048.Idx → Elt F .bf16} {b b' : S1x1x2048.Idx → Elt F .f32} {d d' : S1024x1024.Idx → Elt F .bf16} {e e' : S1x1x1024.Idx → Elt F .f32}
    (hx : x = x') (ha : a = a') (hb : b = b') (hd : d = d') (he : e = e') :
    k0_pay1 (F := F) (k0_pay5 (F := F) x a b) d e = k0_pay1 (F := F) (k0_pay5 (F := F) x' a' b') d' e' := by
  rw [hx, ha, hb, hd, he]

set_option maxHeartbeats 400000 in
/-- A point not in use: zeros go out, the kept weights stay. -/
theorem run_idle (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (T : S288.Idx → Elt F .i32) (U : S1.Idx → Elt F .i32)
    (x0 : S512x1024.Idx → Elt F .bf16) (x1 : S1x1024x2048.Idx → Elt F .f32) (x2 : S1x1x2048.Idx → Elt F .f32) (x3 : S1x1024x1024.Idx → Elt F .f32) (x4 : S1x1x1024.Idx → Elt F .f32) (a0 : S1024x2048.Idx → Elt F .bf16) (a1 : S1024x1024.Idx → Elt F .bf16)
    (h1 : ¬ (k0_cond1 i (usedWord (F := F) U) = 1#1)) (h3 : k0_cond3 i (usedWord (F := F) U) = 1#1) (K : PUnit → sProp (Res F)) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (tabE.view.loc (c : Thread nD τ) ↦{fullShare.right} T)
      ∗ (tabU.view.loc (c : Thread nD τ) ↦{fullShare.right} U)
      ∗ (∃ d, owns (c : Thread nD τ) arg8 fullShare d)
      ∗ (keptIn.view.loc (c : Thread nD τ) ↦{fullShare} a0)
      ∗ (keptOut.view.loc (c : Thread nD τ) ↦{fullShare} a1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T)
          ∗ (tabU.view.loc (c : Thread nD τ) ↦{fullShare.right} U)
          ∗ owns (c : Thread nD τ) arg8 fullShare (k0_pay2 (F := F))
          ∗ (keptIn.view.loc (c : Thread nD τ) ↦{fullShare} a0)
          ∗ (keptOut.view.loc (c : Thread nD τ) ↦{fullShare} a1)) -∗ K ⟨⟩))
      ⊢ wp frame (wpE (defs₀ (F := F)) Variants.none c none) Set.univ (cc0_expert_ffn i tabE (Memref.isWhole_whole _) tabU (Memref.isWhole_whole _) arg3 harg3 arg4 harg4 arg5 harg5 arg6 harg6 arg7 harg7 arg8 harg8 keptIn (Memref.isWhole_whole _) keptOut (Memref.isWhole_whole _)) K := by
  unfold owns
  rw [cc0_expert_ffn_eq_skeleton]; unfold cc0_expert_ffn_skel
  iintro ⟨H0, H1, H2, H3, H4, HT0, HT1, ⟨%d5, %f5, -, HO5⟩, HS0, HS1, Hk⟩
  have hS0 : keptIn.IsWhole := Memref.isWhole_whole _
  have hS1 : keptOut.IsWhole := Memref.isWhole_whole _
  have hT0 : tabE.IsWhole := Memref.isWhole_whole _
  have hT1 : tabU.IsWhole := Memref.isWhole_whole _
  sl_exec! (disch := first | sl_exact h1 | sl_exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    · ipureintro
      delta run_idle.sl.HO5_1
      exact stored_reads _ _ _ (fun a => by fin_cases a <;> rfl) _
  isplitl [HS0]; · iexact HS0
  iexact HS1

set_option maxHeartbeats 400000 in
/-- A point in use whose expert is the one of the point before: the kept weights serve again. -/
theorem run_same (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (T : S288.Idx → Elt F .i32) (U : S1.Idx → Elt F .i32)
    (x0 : S512x1024.Idx → Elt F .bf16) (x1 : S1x1024x2048.Idx → Elt F .f32) (x2 : S1x1x2048.Idx → Elt F .f32) (x3 : S1x1024x1024.Idx → Elt F .f32) (x4 : S1x1x1024.Idx → Elt F .f32) (a0 : S1024x2048.Idx → Elt F .bf16) (a1 : S1024x1024.Idx → Elt F .bf16)
    (h1 : k0_cond1 i (usedWord (F := F) U) = 1#1) (h2 : ¬ (newBit (F := F) T i = 1#1)) (h3 : ¬ (k0_cond3 i (usedWord (F := F) U) = 1#1)) (K : PUnit → sProp (Res F)) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (tabE.view.loc (c : Thread nD τ) ↦{fullShare.right} T)
      ∗ (tabU.view.loc (c : Thread nD τ) ↦{fullShare.right} U)
      ∗ (∃ d, owns (c : Thread nD τ) arg8 fullShare d)
      ∗ (keptIn.view.loc (c : Thread nD τ) ↦{fullShare} a0)
      ∗ (keptOut.view.loc (c : Thread nD τ) ↦{fullShare} a1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T)
          ∗ (tabU.view.loc (c : Thread nD τ) ↦{fullShare.right} U)
          ∗ owns (c : Thread nD τ) arg8 fullShare (k0_pay1 (F := F) (k0_pay5 (F := F) x0 a0 x2) a1 x4)
          ∗ (keptIn.view.loc (c : Thread nD τ) ↦{fullShare} a0)
          ∗ (keptOut.view.loc (c : Thread nD τ) ↦{fullShare} a1)) -∗ K ⟨⟩))
      ⊢ wp frame (wpE (defs₀ (F := F)) Variants.none c none) Set.univ (cc0_expert_ffn i tabE (Memref.isWhole_whole _) tabU (Memref.isWhole_whole _) arg3 harg3 arg4 harg4 arg5 harg5 arg6 harg6 arg7 harg7 arg8 harg8 keptIn (Memref.isWhole_whole _) keptOut (Memref.isWhole_whole _)) K := by
  unfold owns
  rw [cc0_expert_ffn_eq_skeleton]; unfold cc0_expert_ffn_skel
  rw [k0_part1_eq_skeleton]; unfold k0_part1_skel
  iintro ⟨H0, H1, H2, H3, H4, HT0, HT1, ⟨%d5, %f5, -, HO5⟩, HS0, HS1, Hk⟩
  have hS0 : keptIn.IsWhole := Memref.isWhole_whole _
  have hS1 : keptOut.IsWhole := Memref.isWhole_whole _
  have hT0 : tabE.IsWhole := Memref.isWhole_whole _
  have hT1 : tabU.IsWhole := Memref.isWhole_whole _
  sl_exec! (disch := first | sl_exact h1 | sl_exact h2 | sl_exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    · ipureintro
      delta run_same.sl.HO5_1
      refine (stored_reads _ _ _ (fun a => by fin_cases a <;> rfl) _).trans ?_
      exact serves (View.readAt_rep_full arg3.view x0 _) (kept_reads cc0_scratch0 a0 _ _) (View.readAt_rep_full arg5.view x2 _) (kept_reads cc0_scratch1 a1 _ _) (View.readAt_rep_full arg7.view x4 _)
  isplitl [HS0]; · iexact HS0
  iexact HS1

set_option maxHeartbeats 400000 in
/-- A point in use whose expert is new: its weights are taken in, and serve. -/
theorem run_new (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (T : S288.Idx → Elt F .i32) (U : S1.Idx → Elt F .i32)
    (x0 : S512x1024.Idx → Elt F .bf16) (x1 : S1x1024x2048.Idx → Elt F .f32) (x2 : S1x1x2048.Idx → Elt F .f32) (x3 : S1x1024x1024.Idx → Elt F .f32) (x4 : S1x1x1024.Idx → Elt F .f32) (a0 : S1024x2048.Idx → Elt F .bf16) (a1 : S1024x1024.Idx → Elt F .bf16)
    (h1 : k0_cond1 i (usedWord (F := F) U) = 1#1) (h2 : newBit (F := F) T i = 1#1) (h3 : ¬ (k0_cond3 i (usedWord (F := F) U) = 1#1)) (K : PUnit → sProp (Res F)) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (tabE.view.loc (c : Thread nD τ) ↦{fullShare.right} T)
      ∗ (tabU.view.loc (c : Thread nD τ) ↦{fullShare.right} U)
      ∗ (∃ d, owns (c : Thread nD τ) arg8 fullShare d)
      ∗ (keptIn.view.loc (c : Thread nD τ) ↦{fullShare} a0)
      ∗ (keptOut.view.loc (c : Thread nD τ) ↦{fullShare} a1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T)
          ∗ (tabU.view.loc (c : Thread nD τ) ↦{fullShare.right} U)
          ∗ owns (c : Thread nD τ) arg8 fullShare (k0_pay1 (F := F) (k0_pay5 (F := F) x0 (k0_pay3 (F := F) x1) x2) (k0_pay4 (F := F) x3) x4)
          ∗ (keptIn.view.loc (c : Thread nD τ) ↦{fullShare} k0_pay3 (F := F) x1)
          ∗ (keptOut.view.loc (c : Thread nD τ) ↦{fullShare} k0_pay4 (F := F) x3)) -∗ K ⟨⟩))
      ⊢ wp frame (wpE (defs₀ (F := F)) Variants.none c none) Set.univ (cc0_expert_ffn i tabE (Memref.isWhole_whole _) tabU (Memref.isWhole_whole _) arg3 harg3 arg4 harg4 arg5 harg5 arg6 harg6 arg7 harg7 arg8 harg8 keptIn (Memref.isWhole_whole _) keptOut (Memref.isWhole_whole _)) K := by
  unfold owns
  rw [cc0_expert_ffn_eq_skeleton]; unfold cc0_expert_ffn_skel
  rw [k0_part1_eq_skeleton]; unfold k0_part1_skel
  iintro ⟨H0, H1, H2, H3, H4, HT0, HT1, ⟨%d5, %f5, -, HO5⟩, HS0, HS1, Hk⟩
  have hS0 : keptIn.IsWhole := Memref.isWhole_whole _
  have hS1 : keptOut.IsWhole := Memref.isWhole_whole _
  have hT0 : tabE.IsWhole := Memref.isWhole_whole _
  have hT1 : tabU.IsWhole := Memref.isWhole_whole _
  sl_exec! (disch := first | sl_exact h1 | sl_exact h2 | sl_exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  have e0 : keptIn.view.writes (Elt F) keptIn.view.junk (run_new.sl.HS0_1 arg4 x1) = k0_pay3 (F := F) x1 := by
    delta run_new.sl.HS0_1
    refine (kept_stored cc0_scratch0 _ ![0, 0] (fun a => by fin_cases a <;> rfl) _).trans ?_
    rw [View.readAt_rep_full]
  have e1 : keptOut.view.writes (Elt F) keptOut.view.junk (run_new.sl.HS1_1 arg6 x3) = k0_pay4 (F := F) x3 := by
    delta run_new.sl.HS1_1
    refine (kept_stored cc0_scratch1 _ ![0, 0] (fun a => by fin_cases a <;> rfl) _).trans ?_
    rw [View.readAt_rep_full]
  rw [e0, e1]
  isplitl [HO5]
  · iexists _; isplitr; swap
    · iexact HO5
    · ipureintro
      delta run_new.sl.HO5_1
      refine (stored_reads _ _ _ (fun a => by fin_cases a <;> rfl) _).trans ?_
      refine serves (View.readAt_rep_full arg3.view x0 _) ?_ (View.readAt_rep_full arg5.view x2 _) ?_ (View.readAt_rep_full arg7.view x4 _)
      · delta run_new.sl.v20 run_new.sl.HS0_1
        refine (View.readCov_full _ _ _ _ _).trans ?_
        rw [View.readAt_rep_full]
      · delta run_new.sl.v48 run_new.sl.HS1_1
        refine (View.readCov_full _ _ _ _ _).trans ?_
        rw [View.readAt_rep_full]
  isplitl [HS0]; · iexact HS0
  iexact HS1

end Cert.KernelIdeal.Expert
-- ==== Proof.RunIdeal.lean ====
/- The routed feed-forward's whole run at any tables whose experts are in range: at each grid point the kept weight buffers
   hold the weights of the point before whenever that point was in use; the launch; the frame. -/
module

public import proofs.«01_k».proof.Proof.BodyIdeal
public import Idealize.ShloMosaic.Lib.Pipeline.Quiescent
public import Idealize.ShloMosaic.Lib.Claim
public import Idealize.ShloMosaic.Lib.Affine
public import Idealize.ShloMosaic.Adequacy
public import Idealize.ShloMosaic.Init

@[expose] public section

set_option maxRecDepth 16384
set_option Elab.async false

noncomputable section

namespace Cert.KernelIdeal.Expert

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The body's decisions -/

theorem bit_of_word (b : BitVec 1) : (Scalar.cmpi .ne (Scalar.extui b : BitVec 32) 0#32 = 1#1) ↔ b = 1#1 := by
  revert b; decide

theorem bit_of_bool (b : Bool) : BitVec.ofBool b = 1#1 ↔ b = true := by cases b <;> decide

theorem used_iff (i : grid0.Coords) (w : BitVec 32) : k0_cond1 i w = 1#1 ↔ (BitVec.ofNat 32 (i 0).val).slt w = true := by
  unfold k0_cond1; exact (bit_of_word _).trans (bit_of_bool _)

theorem unused_iff (i : grid0.Coords) (w : BitVec 32) : k0_cond3 i w = 1#1 ↔ w.sle (BitVec.ofNat 32 (i 0).val) = true := by
  unfold k0_cond3; exact (bit_of_word _).trans (bit_of_bool _)

theorem unused_of_not (i : grid0.Coords) (w : BitVec 32) : k0_cond3 i w = 1#1 ↔ ¬ k0_cond1 i w = 1#1 := by
  rw [used_iff, unused_iff]
  simp only [BitVec.slt, BitVec.sle, decide_eq_true_eq, not_lt]

/-- A point that takes no weights in is not the first, and its word is the word before. -/
theorem same_word (T : S288.Idx → Elt F .i32) (i : grid0.Coords) (h : ¬ newBit (F := F) T i = 1#1) :
    BitVec.ofNat 32 (i 0).val ≠ 0#32 ∧ hereWord (F := F) T i = priorWord (F := F) T i := by
  unfold newBit at h
  rw [bit_of_word] at h
  constructor
  · intro e; apply h; rw [e]
    generalize Scalar.cmpi .ne (hereWord (F := F) T i) (priorWord (F := F) T i) = b
    revert b; decide
  · by_contra e; apply h
    have : Scalar.cmpi .ne (hereWord (F := F) T i) (priorWord (F := F) T i) = 1#1 := (bit_of_bool _).2 (by simpa using e)
    rw [this]
    generalize Scalar.cmpi .eq (BitVec.ofNat 32 (i 0).val) 0#32 = b
    revert b; decide

theorem here_at : ∀ i : grid0.Coords, k0_off2 i 0 = (i 0).val := by decide +kernel
theorem prior_at : ∀ i : grid0.Coords, k0_off3 i 0 = (i 0).val - 1 := by decide +kernel
theorem index_at : ∀ i : grid0.Coords, k0_off1 i 0 = (i 0).val := by decide +kernel
theorem coord_at : ∀ t : Fin grid0.N, (grid0.coords t 0).val = t.val := by decide +kernel
theorem small_word : ∀ i : grid0.Coords, (BitVec.ofNat 32 (i 0).val).toInt = (i 0).val := by decide +kernel

theorem here_word (T : S288.Idx → Elt F .i32) (i : grid0.Coords) (x : S288.Idx) (hx : (x 0).val = (i 0).val) : hereWord (F := F) T i = T x := by
  have e : hereWord (F := F) T i = T ((Rect.unit (s := S288) (k0_off2 i) S1.size (k0_off2_inb i)).emb (Shape.Idx.first (numel1_S1.symm ▸ Nat.one_pos))) := rfl
  rw [e]; congr 1; funext a; apply Fin.ext
  have ha : a = 0 := Subsingleton.elim _ _
  subst ha
  have h0 : ((Shape.Idx.first (s := S1) (numel1_S1.symm ▸ Nat.one_pos)) 0).val = 0 := Nat.lt_one_iff.1 (Fin.isLt _)
  show k0_off2 i 0 + 1 * ((Shape.Idx.first (s := S1) (numel1_S1.symm ▸ Nat.one_pos)) 0).val = (x 0).val
  rw [h0, here_at, hx]; rfl

theorem prior_word (T : S288.Idx → Elt F .i32) (i : grid0.Coords) (x : S288.Idx) (hx : (x 0).val = (i 0).val - 1) : priorWord (F := F) T i = T x := by
  have e : priorWord (F := F) T i = T ((Rect.unit (s := S288) (k0_off3 i) S1.size (k0_off3_inb i)).emb (Shape.Idx.first (numel1_S1.symm ▸ Nat.one_pos))) := rfl
  rw [e]; congr 1; funext a; apply Fin.ext
  have ha : a = 0 := Subsingleton.elim _ _
  subst ha
  have h0 : ((Shape.Idx.first (s := S1) (numel1_S1.symm ▸ Nat.one_pos)) 0).val = 0 := Nat.lt_one_iff.1 (Fin.isLt _)
  show k0_off3 i 0 + 1 * ((Shape.Idx.first (s := S1) (numel1_S1.symm ▸ Nat.one_pos)) 0).val = (x 0).val
  rw [h0, prior_at, hx]; rfl

/-- The word an index map reads at a point is the table's at the point's number. -/
theorem index_word (pf : pre0.Contents (Elt F)) (i : grid0.Coords) (x : S288.Idx) (hx : (x 0).val = (i 0).val) :
    pf.at 0 (Rect.unit (s := S288) (k0_off1 i) S1.size (k0_off1_inb i)) numel1_S1 = pf 0 x := by
  have e : pf.at 0 (Rect.unit (s := S288) (k0_off1 i) S1.size (k0_off1_inb i)) numel1_S1 = pf 0 ((Rect.unit (s := S288) (k0_off1 i) S1.size (k0_off1_inb i)).emb (Shape.Idx.first (numel1_S1.symm ▸ Nat.one_pos))) := rfl
  rw [e]; congr 1; funext a; apply Fin.ext
  have ha : a = 0 := Subsingleton.elim _ _
  subst ha
  have h0 : ((Shape.Idx.first (s := S1) (numel1_S1.symm ▸ Nat.one_pos)) 0).val = 0 := Nat.lt_one_iff.1 (Fin.isLt _)
  show k0_off1 i 0 + 1 * ((Shape.Idx.first (s := S1) (numel1_S1.symm ▸ Nat.one_pos)) 0).val = (x 0).val
  rw [h0, index_at, hx]; rfl

/-! ## The pipeline at admissible tables -/

variable (a : (pcfg0 (F := F)).Adm)

abbrev cfgA : Pipeline.Cfg sig Λ₀ := cfg0 (F := F) a
abbrev pcs : Fin 1 → Pipeline.Cfg sig Λ₀ := Pipeline.pin (pcfgs (F := F)) fun _ => a

variable (m : (ℓ : Loc nD τ sig) → Buf (Elt F) ℓ) (ρ : Dev nD → PrngReg)

abbrev EP : Emb (UR sig nD τ) (Res F) := emb₁

/-- A point's coordinates, and the buffer each window stages into there. -/
abbrev crd (t : Fin (cfgA a).N) : (cfgA a).grid.Coords := (cfgA a).grid.coords t
abbrev ms0_0 (t : Fin (cfgA a).N) : Memref sig .tc .vmem S512x1024 .bf16 := spec0_0.stage ((cfgA a).slots t (0 : Fin 6))
abbrev hs0_0 (t : Fin (cfgA a).N) : (ms0_0 a t).IsWhole := hstage0_0 (((cfgA a).slots t (0 : Fin 6)).cast nbuf0_0)
abbrev ms0_1 (t : Fin (cfgA a).N) : Memref sig .tc .vmem S1x1024x2048 .f32 := spec0_1.stage ((cfgA a).slots t (1 : Fin 6))
abbrev hs0_1 (t : Fin (cfgA a).N) : (ms0_1 a t).IsWhole := hstage0_1 (((cfgA a).slots t (1 : Fin 6)).cast nbuf0_1)
abbrev ms0_2 (t : Fin (cfgA a).N) : Memref sig .tc .vmem S1x1x2048 .f32 := spec0_2.stage ((cfgA a).slots t (2 : Fin 6))
abbrev hs0_2 (t : Fin (cfgA a).N) : (ms0_2 a t).IsWhole := hstage0_2 (((cfgA a).slots t (2 : Fin 6)).cast nbuf0_2)
abbrev ms0_3 (t : Fin (cfgA a).N) : Memref sig .tc .vmem S1x1024x1024 .f32 := spec0_3.stage ((cfgA a).slots t (3 : Fin 6))
abbrev hs0_3 (t : Fin (cfgA a).N) : (ms0_3 a t).IsWhole := hstage0_3 (((cfgA a).slots t (3 : Fin 6)).cast nbuf0_3)
abbrev ms0_4 (t : Fin (cfgA a).N) : Memref sig .tc .vmem S1x1x1024 .f32 := spec0_4.stage ((cfgA a).slots t (4 : Fin 6))
abbrev hs0_4 (t : Fin (cfgA a).N) : (ms0_4 a t).IsWhole := hstage0_4 (((cfgA a).slots t (4 : Fin 6)).cast nbuf0_4)
abbrev ms0_5 (t : Fin (cfgA a).N) : Memref sig .tc .vmem S512x1024 .bf16 := spec0_5.stage ((cfgA a).slots t (5 : Fin 6))
abbrev hs0_5 (t : Fin (cfgA a).N) : (ms0_5 a t).IsWhole := hstage0_5 (((cfgA a).slots t (5 : Fin 6)).cast nbuf0_5)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- The point is in use. -/
abbrev Used (t : Fin (cfgA a).N) : Prop := k0_cond1 (crd a t) (usedWord (F := F) (a.1 1)) = 1#1

/-- The first layer's weights at a point, and the second's, as the body keeps them. -/
def wIn (c : Dev nD) (t : Fin (cfgA a).N) : S1024x2048.Idx → Elt F .bf16 := k0_pay3 (F := F) (iblk a m ρ c (1 : Fin 6) t)
def wOut (c : Dev nD) (t : Fin (cfgA a).N) : S1024x1024.Idx → Elt F .bf16 := k0_pay4 (F := F) (iblk a m ρ c (3 : Fin 6) t)

/-- What the output block holds after a point. -/
def out (c : Dev nD) (t : Fin (cfgA a).N) : S512x1024.Idx → Elt F .bf16 :=
  if Used a t then k0_pay1 (F := F) (k0_pay5 (F := F) (iblk a m ρ c (0 : Fin 6) t) (wIn a m ρ c t) (iblk a m ρ c (2 : Fin 6) t)) (wOut a m ρ c t) (iblk a m ρ c (4 : Fin 6) t)
  else k0_pay2 (F := F)

theorem used_prior (t u : Fin (cfgA a).N) (h : u.val + 1 = t.val) (ht : Used a t) : Used a u := by
  unfold Used at ht ⊢
  rw [used_iff] at ht ⊢
  simp only [BitVec.slt, decide_eq_true_eq] at ht ⊢
  rw [small_word] at ht ⊢
  have e1 := coord_at t; have e2 := coord_at u
  have e1' : (crd a t 0).val = t.val := e1
  have e2' : (crd a u 0).val = u.val := e2
  rw [e1'] at ht; rw [e2']
  omega

/-- A table position as an index. -/
def pos (t : Fin (cfgA a).N) : S288.Idx := fun d => match d with | ⟨0, _⟩ => ⟨t.val, t.isLt.trans_eq N_0⟩

theorem pos_val (t : Fin (cfgA a).N) : (pos a t 0).val = (crd a t 0).val := (coord_at t).symm

/-- Two points with the same word have the same weight blocks. -/
theorem index_same1 (t u : Fin (cfgA a).N) (h : a.1 0 (pos a t) = a.1 0 (pos a u)) : ((cfgA a).win (1 : Fin 6)).index t = ((cfgA a).win (1 : Fin 6)).index u := by
  show ![(a.1.at 0 (Rect.unit (s := S288) (k0_off1 (crd a t)) S1.size (k0_off1_inb _)) numel1_S1 : BitVec 32).toNat, 0, 0] = ![(a.1.at 0 (Rect.unit (s := S288) (k0_off1 (crd a u)) S1.size (k0_off1_inb _)) numel1_S1 : BitVec 32).toNat, 0, 0]
  rw [index_word a.1 (crd a t) (pos a t) (pos_val a t), index_word a.1 (crd a u) (pos a u) (pos_val a u), h]

theorem index_same3 (t u : Fin (cfgA a).N) (h : a.1 0 (pos a t) = a.1 0 (pos a u)) : ((cfgA a).win (3 : Fin 6)).index t = ((cfgA a).win (3 : Fin 6)).index u := by
  show ![(a.1.at 0 (Rect.unit (s := S288) (k0_off1 (crd a t)) S1.size (k0_off1_inb _)) numel1_S1 : BitVec 32).toNat, 0, 0] = ![(a.1.at 0 (Rect.unit (s := S288) (k0_off1 (crd a u)) S1.size (k0_off1_inb _)) numel1_S1 : BitVec 32).toNat, 0, 0]
  rw [index_word a.1 (crd a t) (pos a t) (pos_val a t), index_word a.1 (crd a u) (pos a u) (pos_val a u), h]

theorem block_same1 (c : Dev nD) (t u : Fin (cfgA a).N) (h : a.1 0 (pos a t) = a.1 0 (pos a u)) :
    (iblk a m ρ c (1 : Fin 6) t : S1x1024x2048.Idx → Elt F .f32) = iblk a m ρ c (1 : Fin 6) u := by
  funext j
  unfold iblk
  refine congrArg ((s₀ m ρ).mem (((cfgA a).win (1 : Fin 6)).arr.view.loc (c : Thread nD τ))) ?_
  have e := index_same1 a t u h
  funext d; apply Fin.ext
  show ((cfgA a).win (1 : Fin 6)).index t d * S1x1024x2048.size d + 1 * (j d).val = ((cfgA a).win (1 : Fin 6)).index u d * S1x1024x2048.size d + 1 * (j d).val
  rw [e]

theorem block_same3 (c : Dev nD) (t u : Fin (cfgA a).N) (h : a.1 0 (pos a t) = a.1 0 (pos a u)) :
    (iblk a m ρ c (3 : Fin 6) t : S1x1024x1024.Idx → Elt F .f32) = iblk a m ρ c (3 : Fin 6) u := by
  funext j
  unfold iblk
  refine congrArg ((s₀ m ρ).mem (((cfgA a).win (3 : Fin 6)).arr.view.loc (c : Thread nD τ))) ?_
  have e := index_same3 a t u h
  funext d; apply Fin.ext
  show ((cfgA a).win (3 : Fin 6)).index t d * S1x1024x1024.size d + 1 * (j d).val = ((cfgA a).win (3 : Fin 6)).index u d * S1x1024x1024.size d + 1 * (j d).val
  rw [e]

/-- A point that takes no weights in has a point before it with its word. -/
theorem kept_word (t : Fin (cfgA a).N) (h : ¬ newBit (F := F) (a.1 0) (crd a t) = 1#1) :
    ∃ u : Fin (cfgA a).N, u.val + 1 = t.val ∧ a.1 0 (pos a t) = a.1 0 (pos a u) := by
  obtain ⟨h0, hw⟩ := same_word (a.1 0) (crd a t) h
  have e1 : (crd a t 0).val = t.val := coord_at t
  have ht : t.val ≠ 0 := by
    intro e; apply h0; rw [e1, e]
  refine ⟨⟨t.val - 1, by omega⟩, by show t.val - 1 + 1 = t.val; omega, ?_⟩
  rw [here_word (a.1 0) (crd a t) (pos a t) (pos_val a t),
    prior_word (a.1 0) (crd a t) (pos a ⟨t.val - 1, by omega⟩) (by rw [e1]; rfl)] at hw
  exact hw

/-! ## The proof data -/

/-- Before a point: the kept buffers hold the weights of the point before it whenever that one was in use; the tables. -/
def Phi (c : Dev nD) (t : Fin ((cfgA a).N + 1)) : sProp (Res F) :=
  iprop(∃ a0 a1, ⌜∀ u : Fin (cfgA a).N, u.val + 1 = t.val → Used a u → a0 = wIn a m ρ c u ∧ a1 = wOut a m ρ c u⌝
    ∗ (keptIn.view.loc (c : Thread nD τ) ↦{fullShare} a0) ∗ (keptOut.view.loc (c : Thread nD τ) ↦{fullShare} a1)
    ∗ (tabE.view.loc (c : Thread nD τ) ↦{fullShare.right} a.1 0) ∗ (tabU.view.loc (c : Thread nD τ) ↦{fullShare.right} a.1 1))

/-- The proof data of the one pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => out a m ρ c t
  Φ t := Phi a m ρ c t
  q _ := fullShare
  owed _ := 0

theorem after0_0 (c : Dev nD) (t : Fin (cfgA a).N) : (dats a m ρ 0 c).after (0 : Fin 6) t = iblk a m ρ c (0 : Fin 6) t := rfl
theorem after0_1 (c : Dev nD) (t : Fin (cfgA a).N) : (dats a m ρ 0 c).after (1 : Fin 6) t = iblk a m ρ c (1 : Fin 6) t := rfl
theorem after0_2 (c : Dev nD) (t : Fin (cfgA a).N) : (dats a m ρ 0 c).after (2 : Fin 6) t = iblk a m ρ c (2 : Fin 6) t := rfl
theorem after0_3 (c : Dev nD) (t : Fin (cfgA a).N) : (dats a m ρ 0 c).after (3 : Fin 6) t = iblk a m ρ c (3 : Fin 6) t := rfl
theorem after0_4 (c : Dev nD) (t : Fin (cfgA a).N) : (dats a m ρ 0 c).after (4 : Fin 6) t = iblk a m ρ c (4 : Fin 6) t := rfl
theorem after0_5 (c : Dev nD) (t : Fin (cfgA a).N) : (dats a m ρ 0 c).after (5 : Fin 6) t = out a m ρ c t := rfl

/-- Input window 0 holds its block when the body runs. -/
theorem before0_0 (c : Dev nD) (t : Fin (cfgA a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block when the body runs. -/
theorem before0_1 (c : Dev nD) (t : Fin (cfgA a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block when the body runs. -/
theorem before0_2 (c : Dev nD) (t : Fin (cfgA a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block when the body runs. -/
theorem before0_3 (c : Dev nD) (t : Fin (cfgA a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block when the body runs. -/
theorem before0_4 (c : Dev nD) (t : Fin (cfgA a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem busy (t : Fin (cfgA a).N) : (cfgA a).idle (5 : Fin 6) ((cfgA a).grid.coords t) = false := by
  show (!(k0_cond1 (crd a t) (a.1.atD 1 ![0]) == 1#1) && !(k0_cond3 (crd a t) (a.1.atD 1 ![0]) == 1#1)) = false
  generalize a.1.atD 1 ![0] = w
  by_cases h : k0_cond1 (crd a t) w = 1#1
  · rw [h]; rfl
  · rw [(unused_of_not (crd a t) w).2 h]; simp

theorem out_used (c : Dev nD) (t : Fin (cfgA a).N) (h : Used a t) : out a m ρ c t =
    k0_pay1 (F := F) (k0_pay5 (F := F) (iblk a m ρ c (0 : Fin 6) t) (wIn a m ρ c t) (iblk a m ρ c (2 : Fin 6) t)) (wOut a m ρ c t) (iblk a m ρ c (4 : Fin 6) t) := by
  unfold out; rw [if_pos h]

theorem out_unused (c : Dev nD) (t : Fin (cfgA a).N) (h : ¬ Used a t) : out a m ρ c t = k0_pay2 (F := F) := by
  unfold out; rw [if_neg h]

/-- The body at point `t` on its staging memrefs, as the pipeline calls it. -/
abbrev bodyAt0 (t : Fin (cfgA a).N) : Prog (TpuEff nD τ sig (Elt F) Λ₀ .tc) PUnit :=
  cc0_expert_ffn (F := F) (crd a t) tabE (Memref.isWhole_whole _) tabU (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) keptIn (Memref.isWhole_whole _) keptOut (Memref.isWhole_whole _)

set_option maxHeartbeats 1600000 in
/-- The body at a generic point. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 6) t d))
        ∗ (∃ d, owns (c : Thread nD τ) (ms0_1 a t) fullShare ((dats a m ρ 0 c).before (1 : Fin 6) t d))
        ∗ (∃ d, owns (c : Thread nD τ) (ms0_2 a t) fullShare ((dats a m ρ 0 c).before (2 : Fin 6) t d))
        ∗ (∃ d, owns (c : Thread nD τ) (ms0_3 a t) fullShare ((dats a m ρ 0 c).before (3 : Fin 6) t d))
        ∗ (∃ d, owns (c : Thread nD τ) (ms0_4 a t) fullShare ((dats a m ρ 0 c).before (4 : Fin 6) t d))
        ∗ (∃ d, owns (c : Thread nD τ) (ms0_5 a t) fullShare ((dats a m ρ 0 c).before (5 : Fin 6) t d)))
      ⊢ wp frame (wpE (defs₀ (F := F)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [busy a t]
  simp only [before0_0, before0_1, before0_2, before0_3, before0_4, after0_0, after0_1, after0_2, after0_3, after0_4, after0_5]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨%a0, %a1, %hkept, HS0, HS1, HT0, HT1⟩, Ho, ⟨%d0, H0⟩, ⟨%d1, H1⟩, ⟨%d2, H2⟩, ⟨%d3, H3⟩, ⟨%d4, H4⟩, ⟨%d5, H5⟩⟩
  by_cases h1 : Used a t
  · have h3 : ¬ (k0_cond3 (crd a t) (usedWord (F := F) (a.1 1)) = 1#1) := fun h => (unused_of_not _ _).1 h h1
    by_cases h2 : newBit (F := F) (a.1 0) (crd a t) = 1#1
    · rw [out_used a m ρ c t h1]
      iapply (run_new c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) a0 a1 h1 h2 h3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, H5, HS0, HS1⟩
      isplitl [HS0 HS1 HT0 HT1]
      · iexists _; iexists _; isplitr; swap
        · isplitl [HS0]; · iexact HS0
          isplitl [HS1]; · iexact HS1
          isplitl [HT0]; · iexact HT0
          iexact HT1
        · ipureintro; intro u hu hU
          have hut : u = t := Fin.ext (by have h' : u.val + 1 = t.val + 1 := hu; omega)
          subst hut
          exact ⟨rfl, rfl⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5
    · obtain ⟨u, hu, hw⟩ := kept_word a t h2
      obtain ⟨k0, k1⟩ := hkept u hu (used_prior a t u hu h1)
      have w0 : wIn a m ρ c t = wIn a m ρ c u := by unfold wIn; rw [block_same1 a m ρ c t u hw]
      have w1 : wOut a m ρ c t = wOut a m ρ c u := by unfold wOut; rw [block_same3 a m ρ c t u hw]
      rw [← w0] at k0; rw [← w1] at k1
      rw [out_used a m ρ c t h1, ← k0, ← k1]
      iapply (run_same c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) a0 a1 h1 h2 h3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, H5, HS0, HS1⟩
      isplitl [HS0 HS1 HT0 HT1]
      · iexists _; iexists _; isplitr; swap
        · isplitl [HS0]; · iexact HS0
          isplitl [HS1]; · iexact HS1
          isplitl [HT0]; · iexact HT0
          iexact HT1
        · ipureintro; intro u hu hU
          have hut : u = t := Fin.ext (by have h' : u.val + 1 = t.val + 1 := hu; omega)
          subst hut
          exact ⟨k0, k1⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5
  · have h3 : k0_cond3 (crd a t) (usedWord (F := F) (a.1 1)) = 1#1 := (unused_of_not _ _).2 h1
    rw [out_unused a m ρ c t h1]
    iapply (run_idle c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) a0 a1 h1 h3 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, H5, HS0, HS1⟩
    isplitl [HS0 HS1 HT0 HT1]
    · iexists _; iexists _; isplitr; swap
      · isplitl [HS0]; · iexact HS0
        isplitl [HS1]; · iexact HS1
        isplitl [HT0]; · iexact HT0
        iexact HT1
      · ipureintro; intro u hu hU
        have hut : u = t := Fin.ext (by have h' : u.val + 1 = t.val + 1 := hu; omega)
        subst hut
        exact absurd hU h1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexact H5

/-- The library's body obligation, at every point. -/
theorem body_obligation (c : Dev nD) : BodyObligation (dats a m ρ 0 c) (defs₀ (F := F)) Variants.none () Set.univ := fun t => by
  rw [bigSep_W0]
  exact sound_body a m ρ c t

/-! ## The launch -/

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (Res F))
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩⟩
  iexists a0; iexists a1; isplitr; swap
  · isplitl [HS0]; · iexact HS0
    isplitl [HS1]; · iexact HS1
    isplitl [HT0]; · iexact HT0
    iexact HT1
  · ipureintro; intro u hu; exact absurd hu (Nat.succ_ne_zero _)

/-- at the last point it gives the scratch buffers back (`hout`), the tables let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨%a0, %a1, -, HS0, HS1, -, -⟩
  isplitr; · iempintro
  isplitl [HS0]
  · iexists a0; iexact HS0
  iexists a1; iexact HS1

/-- The launch memory's tables are `a`'s. -/
def Tables (m : (ℓ : Loc nD τ sig) → Buf (Elt F) ℓ) : Prop :=
  (∀ c : Dev nD, m ((c : Thread nD τ).loc main_arg1) = a.1 0) ∧ (∀ c : Dev nD, m ((c : Thread nD τ).loc main_arg2) = a.1 1)

/-- The physical post: every array at what the library computes, every table at what the pipeline ran at. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem V_pre (hp : Tables a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From any memory with zero counters whose tables are `a`'s: every weakly
    fair execution of @main on the TensorCores terminates, and every final state has each array at the computed contents,
    and every semaphore counter at zero. -/
theorem run_main_quiescent (hp : Tables a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Tables a m) : θ_run (defs (F := F)) (onTc (τ := τ) (main (F := F))) (s₀ m ρ) (QC a m ρ) :=
  (θ_run defs _ _).mono (fun _ h => h.1) (run_main_quiescent a m ρ hp)

/-- `frame` without the counters: the argument arrays end unchanged. -/
theorem unchanged (hp : Tables a m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 6)).trans ((dats a m ρ 0 c).arrAt_in (0 : Fin 6) rfl _), ((h c).2 0).trans (hp.1 c).symm, ((h c).2 1).trans (hp.2 c).symm, ((h c).1 (1 : Fin 6)).trans ((dats a m ρ 0 c).arrAt_in (1 : Fin 6) rfl _), ((h c).1 (2 : Fin 6)).trans ((dats a m ρ 0 c).arrAt_in (2 : Fin 6) rfl _), ((h c).1 (3 : Fin 6)).trans ((dats a m ρ 0 c).arrAt_in (3 : Fin 6) rfl _), ((h c).1 (4 : Fin 6)).trans ((dats a m ρ 0 c).arrAt_in (4 : Fin 6) rfl _)⟩) (run_main a m ρ hp)

/-- The frame: from a launch memory whose tables are `a`'s, every argument array ends unchanged, every counter at zero. -/
theorem frame (hp : Tables a m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged a m ρ hp) ((θ_run defs _ _).mono (fun _ h => h.2) (run_main_quiescent a m ρ hp))

end Cert.KernelIdeal.Expert

end
-- ==== Proof.TablesIdeal.lean ====
/- Tables whose experts are in range are tables the routed feed-forward can run at; its frame. -/
module

public import proofs.«01_k».proof.Defs
public import proofs.«01_k».proof.Proof.ExpertPre
public import proofs.«01_k».proof.Proof.RunIdeal

@[expose] public section

set_option maxRecDepth 16384

noncomputable section

namespace Cert.KernelIdeal.Expert

open Cert.KernelIdeal Cert.KernelIdeal.Gen Cert.ExpertFfn
open Idealize.ShloMosaic Idealize.ShloMosaic.TcCoe Idealize.SL.Sem

theorem fits (pf : pre0.Contents (Elt Ideal)) (h : ∀ i : S288.Idx, (pf 0 i : BitVec 32).toNat < 64) : ok0 pf := by
  have hw : ∀ i : grid0.Coords, (pf.at 0 (Rect.unit (s := S288) (k0_off1 i) S1.size (k0_off1_inb i)) numel1_S1 : BitVec 32).toNat < 64 := fun i => by
    rw [index_word pf i (fun d => match d with | ⟨0, _⟩ => ⟨(i 0).val, (i 0).isLt⟩) rfl]; exact h _
  refine ⟨fun i => ⟨fun z => ?_, .inl rfl⟩, fun i => ⟨fun z => ?_, .inl rfl⟩, fun i => ⟨fun z => ?_, .inl rfl⟩, fun i => ⟨fun z => ?_, .inl rfl⟩⟩
  · have := hw i
    show (![(pf.at 0 (Rect.unit (s := S288) (k0_off1 i) S1.size (k0_off1_inb i)) numel1_S1 : BitVec 32).toNat, 0, 0] z + 1) * _ ≤ _
    match z with
    | ⟨0, _⟩ => show ((pf.at 0 (Rect.unit (s := S288) (k0_off1 i) S1.size (k0_off1_inb i)) numel1_S1 : BitVec 32).toNat + 1) * 1 ≤ 64; omega
    | ⟨1, _⟩ => show (0 + 1) * 1024 ≤ 1024; omega
    | ⟨2, _⟩ => show (0 + 1) * 2048 ≤ 2048; omega
  · have := hw i
    show (![(pf.at 0 (Rect.unit (s := S288) (k0_off1 i) S1.size (k0_off1_inb i)) numel1_S1 : BitVec 32).toNat, 0, 0] z + 1) * _ ≤ _
    match z with
    | ⟨0, _⟩ => show ((pf.at 0 (Rect.unit (s := S288) (k0_off1 i) S1.size (k0_off1_inb i)) numel1_S1 : BitVec 32).toNat + 1) * 1 ≤ 64; omega
    | ⟨1, _⟩ => show (0 + 1) * 1 ≤ 1; omega
    | ⟨2, _⟩ => show (0 + 1) * 2048 ≤ 2048; omega
  · have := hw i
    show (![(pf.at 0 (Rect.unit (s := S288) (k0_off1 i) S1.size (k0_off1_inb i)) numel1_S1 : BitVec 32).toNat, 0, 0] z + 1) * _ ≤ _
    match z with
    | ⟨0, _⟩ => show ((pf.at 0 (Rect.unit (s := S288) (k0_off1 i) S1.size (k0_off1_inb i)) numel1_S1 : BitVec 32).toNat + 1) * 1 ≤ 64; omega
    | ⟨1, _⟩ => show (0 + 1) * 1024 ≤ 1024; omega
    | ⟨2, _⟩ => show (0 + 1) * 1024 ≤ 1024; omega
  · have := hw i
    show (![(pf.at 0 (Rect.unit (s := S288) (k0_off1 i) S1.size (k0_off1_inb i)) numel1_S1 : BitVec 32).toNat, 0, 0] z + 1) * _ ≤ _
    match z with
    | ⟨0, _⟩ => show ((pf.at 0 (Rect.unit (s := S288) (k0_off1 i) S1.size (k0_off1_inb i)) numel1_S1 : BitVec 32).toNat + 1) * 1 ≤ 64; omega
    | ⟨1, _⟩ => show (0 + 1) * 1 ≤ 1; omega
    | ⟨2, _⟩ => show (0 + 1) * 1024 ≤ 1024; omega

/-- The tables a launch memory holds. -/
def held (m : (ℓ : Loc nD τ sig) → Buf (Elt Ideal) ℓ) : pre0.Contents (Elt Ideal) := fun
  | 0 => m (((0 : Dev nD) : Thread nD τ).loc main_arg1)
  | 1 => m (((0 : Dev nD) : Thread nD τ).loc main_arg2)

variable [Cert.Pre_experts_in_range.Facts] (m : (ℓ : Loc nD τ sig) → Buf (Elt Ideal) ℓ) (hpre : Cert.Pre_KernelIdeal m)

include hpre

theorem held_range (i : S288.Idx) : 0 ≤ (held m 0 i : BitVec 32).toInt ∧ (held m 0 i : BitVec 32).toInt < 64 :=
  in_range _ _ _ _ _ _ _ (hpre 0) i

/-- The tables a launch memory under the condition holds, as tables to run at. -/
def tables : (pcfg0 (F := Ideal)).Adm := ⟨held m, fits (held m) fun i => (word_nat _ (held_range m hpre i)).1⟩

theorem tables_held : Tables (tables m hpre) m :=
  ⟨fun c => by obtain rfl : c = 0 := Subsingleton.elim _ _; rfl, fun c => by obtain rfl : c = 0 := Subsingleton.elim _ _; rfl⟩

end Cert.KernelIdeal.Expert

end
-- ==== Proof.ExpertSpec.lean ====
/- The routed feed-forward as a plain formula over its arguments: row `r` belongs to block `r / 512`, and is sent through the
   expert that block names, if the block is in use. -/
module

public import Idealize.ShloMosaic.PureOps.Ideal
public import Idealize.ShloMosaic.Lib.Pointwise

@[expose] public section

noncomputable section

namespace Cert.ExpertFfn

open Idealize.ShloMosaic

abbrev Rows : Shape := ⟨2, ![147456, 1024]⟩
abbrev Table : Shape := ⟨1, ![288]⟩
abbrev Count : Shape := ⟨1, ![1]⟩
abbrev InW : Shape := ⟨3, ![64, 1024, 2048]⟩
abbrev InB : Shape := ⟨3, ![64, 1, 2048]⟩
abbrev OutW : Shape := ⟨3, ![64, 1024, 1024]⟩
abbrev OutB : Shape := ⟨3, ![64, 1, 1024]⟩

/-- The limit of the gate, its negative, and the slope of the gate's sigmoid, as the program's f32 constants. -/
abbrev lim : EReal := Ideal.ofBits FTy.f32 1088421888#32
abbrev lim' : EReal := Ideal.ofBits FTy.f32 3235905536#32
abbrev slope : EReal := Ideal.ofBits FTy.f32 1071242019#32

/-- The limited gated unit of a gate `g` and a linear half `u`. -/
def gated (g u : EReal) : EReal :=
  (min lim (max lim' u) + 1) * min g lim * Ideal.div 1 (1 + Ideal.exp (0 - slope * min g lim))

variable (x0 : Rows.Idx → EReal) (x1 : Table.Idx → BitVec 32) (x2 : Count.Idx → BitVec 32) (x3 : InW.Idx → EReal)
  (x4 : InB.Idx → EReal) (x5 : OutW.Idx → EReal) (x6 : OutB.Idx → EReal)

/-- The first layer: row `r` through expert `e`, feature `f`. -/
def hidden (e : Fin 64) (r : Fin 147456) (f : Fin 2048) : EReal :=
  ∑ k : Fin 1024, x0 (ix2 r k) * x3 (ix3 e k f) + x4 (ix3 e 0 f)

/-- The activation: the first half of the features gates the second. -/
def act (e : Fin 64) (r : Fin 147456) (j : Fin 1024) : EReal :=
  gated (hidden x0 x3 x4 e r ⟨j.val, by omega⟩) (hidden x0 x3 x4 e r ⟨1024 + j.val, by omega⟩)

/-- Both layers: row `r` through expert `e`, output feature `d`. -/
def ffn (e : Fin 64) (r : Fin 147456) (d : Fin 1024) : EReal :=
  ∑ j : Fin 1024, act x0 x3 x4 e r j * x5 (ix3 e j d) + x6 (ix3 e 0 d)

/-- The expert of block `t`, its table entry read signed and limited to the experts there are. -/
def expert (t : Fin 288) : Fin 64 := ⟨min (x1 (ix1 t)).toInt.toNat 63, by omega⟩

/-- The routed result: block `r / 512`'s expert where the block is in use, zero elsewhere. -/
def routed (i : Rows.Idx) : EReal :=
  if (BitVec.ofNat 32 ((i 0).val / 512)).slt (x2 (ix1 0)) = true then
    ffn x0 x3 x4 x5 x6 (expert x1 ⟨(i 0).val / 512, by have := (i 0).isLt; change (i 0).val < 147456 at this; omega⟩) ⟨(i 0).val, (i 0).isLt⟩ ⟨(i 1).val, (i 1).isLt⟩
  else 0

end Cert.ExpertFfn

end
-- ==== Proof.ExpertValue.lean ====
/- The routed feed-forward's run, in values: the blocks each grid point reads, what it writes, and the whole result array. -/
module

public import proofs.«01_k».proof.Proof.ExpertSpec
public import proofs.«01_k».proof.Proof.ExpertPre
public import proofs.«01_k».proof.Proof.RunIdeal
public import Idealize.ShloMosaic.Lib.Pipeline.ValueKit

@[expose] public section

set_option maxRecDepth 16384

noncomputable section

namespace Cert.KernelIdeal.Expert

open Cert.KernelIdeal Cert.KernelIdeal.Gen Cert.ExpertFfn
open Idealize.ShloMosaic Idealize.ShloMosaic.TcCoe Idealize.SL.Sem
open Idealize.ShloMosaic.Pipeline (Dat Cfg Window)

/-! ## The payloads, element by element -/

theorem pay5_at (x : FVec Ideal S512x1024 .bf16) (w : FVec Ideal S1024x2048 .bf16) (b : FVec Ideal S1x1x2048 .f32) (r : Fin 512) (j : Fin 1024) :
    k0_pay5 (F := Ideal) x w b (ix2 r j) = gated (∑ k : Fin 1024, x (ix2 r k) * w (ix2 k ⟨j.val, by omega⟩) + b (ix3 0 0 ⟨j.val, by omega⟩))
      (∑ k : Fin 1024, x (ix2 r k) * w (ix2 k ⟨1024 + j.val, by omega⟩) + b (ix3 0 0 ⟨1024 + j.val, by omega⟩)) := by
  pointwise [k0_pay5]
  rfl

theorem pay1_at (x : FVec Ideal S512x1024 .f32) (w : FVec Ideal S1024x1024 .bf16) (b : FVec Ideal S1x1x1024 .f32) (r : Fin 512) (j : Fin 1024) :
    k0_pay1 (F := Ideal) x w b (ix2 r j) = ∑ k : Fin 1024, x (ix2 r k) * w (ix2 k j) + b (ix3 0 0 j) := by
  pointwise [k0_pay1]

theorem pay2_at (r : Fin 512) (j : Fin 1024) : k0_pay2 (F := Ideal) (ix2 r j) = (0 : EReal) := by
  pointwise [k0_pay2]

theorem pay3_at (w : FVec Ideal S1x1024x2048 .f32) (r : Fin 1024) (j : Fin 2048) : k0_pay3 (F := Ideal) w (ix2 r j) = w (ix3 0 r j) := by
  pointwise [k0_pay3]

theorem pay4_at (w : FVec Ideal S1x1024x1024 .f32) (r : Fin 1024) (j : Fin 1024) : k0_pay4 (F := Ideal) w (ix2 r j) = w (ix3 0 r j) := by
  pointwise [k0_pay4]

/-! ## The blocks read -/

variable (a : (pcfg0 (F := Ideal)).Adm) (m : (ℓ : Loc nD τ sig) → Buf (Elt Ideal) ℓ) (ρ : Dev nD → PrngReg)

theorem point_lt (t : Fin (cfgA a).N) : t.val < 288 := t.isLt.trans_eq N_0

/-- A window over the table sits at the plane its table entry names. -/
theorem place1 (t : Fin (cfgA a).N) : ((cfgA a).win (1 : Fin 6)).index t = ![(a.1 0 (pos a t) : BitVec 32).toNat, 0, 0] := by
  show ![(a.1.at 0 (Rect.unit (s := S288) (k0_off1 (crd a t)) S1.size (k0_off1_inb _)) numel1_S1 : BitVec 32).toNat, 0, 0] = _
  rw [index_word a.1 (crd a t) (pos a t) (pos_val a t)]
theorem place2 (t : Fin (cfgA a).N) : ((cfgA a).win (2 : Fin 6)).index t = ![(a.1 0 (pos a t) : BitVec 32).toNat, 0, 0] := by
  show ![(a.1.at 0 (Rect.unit (s := S288) (k0_off1 (crd a t)) S1.size (k0_off1_inb _)) numel1_S1 : BitVec 32).toNat, 0, 0] = _
  rw [index_word a.1 (crd a t) (pos a t) (pos_val a t)]
theorem place3 (t : Fin (cfgA a).N) : ((cfgA a).win (3 : Fin 6)).index t = ![(a.1 0 (pos a t) : BitVec 32).toNat, 0, 0] := by
  show ![(a.1.at 0 (Rect.unit (s := S288) (k0_off1 (crd a t)) S1.size (k0_off1_inb _)) numel1_S1 : BitVec 32).toNat, 0, 0] = _
  rw [index_word a.1 (crd a t) (pos a t) (pos_val a t)]
theorem place4 (t : Fin (cfgA a).N) : ((cfgA a).win (4 : Fin 6)).index t = ![(a.1 0 (pos a t) : BitVec 32).toNat, 0, 0] := by
  show ![(a.1.at 0 (Rect.unit (s := S288) (k0_off1 (crd a t)) S1.size (k0_off1_inb _)) numel1_S1 : BitVec 32).toNat, 0, 0] = _
  rw [index_word a.1 (crd a t) (pos a t) (pos_val a t)]

theorem rows_at : ∀ t : Fin grid0.N, cc0_transform_0 (grid0.coords t) = ![t.val, 0] ∧ cc0_transform_5 (grid0.coords t) = ![t.val, 0] := by
  decide +kernel
theorem place0 (t : Fin (cfgA a).N) : ((cfgA a).win (0 : Fin 6)).index t = ![t.val, 0] := (rows_at t).1
theorem place5 (t : Fin (cfgA a).N) : ((cfgA a).win (5 : Fin 6)).index t = ![t.val, 0] := (rows_at t).2

variable (c : Dev nD)

theorem block0 (t : Fin (cfgA a).N) (r : Fin 512) (k : Fin 1024) :
    (iblk a m ρ c (0 : Fin 6) t : S512x1024.Idx → EReal) (ix2 r k) = m ((c : Thread nD τ).loc main_arg0) (ix2 ⟨t.val * 512 + r.val, by have := point_lt a t; omega⟩ k) := by
  unfold iblk
  refine congrArg (m ((c : Thread nD τ).loc main_arg0)) ?_
  funext d; apply Fin.ext
  show ((cfgA a).win (0 : Fin 6)).index t d * S512x1024.size d + 1 * (ix2 r k d).val = _
  rw [place0]
  match d with
  | ⟨0, _⟩ => show t.val * 512 + 1 * r.val = t.val * 512 + r.val; omega
  | ⟨1, _⟩ => show 0 * 1024 + 1 * k.val = k.val; omega

theorem block1 (t : Fin (cfgA a).N) (e : Fin 64) (he : (a.1 0 (pos a t) : BitVec 32).toNat = e.val) (r : Fin 1024) (k : Fin 2048) :
    (iblk a m ρ c (1 : Fin 6) t : S1x1024x2048.Idx → EReal) (ix3 0 r k) = m ((c : Thread nD τ).loc main_arg3) (ix3 e r k) := by
  unfold iblk
  refine congrArg (m ((c : Thread nD τ).loc main_arg3)) ?_
  funext d; apply Fin.ext
  show ((cfgA a).win (1 : Fin 6)).index t d * S1x1024x2048.size d + 1 * (ix3 (0 : Fin 1) r k d).val = _
  rw [place1, he]
  match d with
  | ⟨0, _⟩ => show e.val * 1 + 1 * 0 = e.val; omega
  | ⟨1, _⟩ => show 0 * 1024 + 1 * r.val = r.val; omega
  | ⟨2, _⟩ => show 0 * 2048 + 1 * k.val = k.val; omega

theorem block2 (t : Fin (cfgA a).N) (e : Fin 64) (he : (a.1 0 (pos a t) : BitVec 32).toNat = e.val) (k : Fin 2048) :
    (iblk a m ρ c (2 : Fin 6) t : S1x1x2048.Idx → EReal) (ix3 0 0 k) = m ((c : Thread nD τ).loc main_arg4) (ix3 e 0 k) := by
  unfold iblk
  refine congrArg (m ((c : Thread nD τ).loc main_arg4)) ?_
  funext d; apply Fin.ext
  show ((cfgA a).win (2 : Fin 6)).index t d * S1x1x2048.size d + 1 * (ix3 (0 : Fin 1) (0 : Fin 1) k d).val = _
  rw [place2, he]
  match d with
  | ⟨0, _⟩ => show e.val * 1 + 1 * 0 = e.val; omega
  | ⟨1, _⟩ => show 0 * 1 + 1 * 0 = 0; omega
  | ⟨2, _⟩ => show 0 * 2048 + 1 * k.val = k.val; omega

theorem block3 (t : Fin (cfgA a).N) (e : Fin 64) (he : (a.1 0 (pos a t) : BitVec 32).toNat = e.val) (r : Fin 1024) (k : Fin 1024) :
    (iblk a m ρ c (3 : Fin 6) t : S1x1024x1024.Idx → EReal) (ix3 0 r k) = m ((c : Thread nD τ).loc main_arg5) (ix3 e r k) := by
  unfold iblk
  refine congrArg (m ((c : Thread nD τ).loc main_arg5)) ?_
  funext d; apply Fin.ext
  show ((cfgA a).win (3 : Fin 6)).index t d * S1x1024x1024.size d + 1 * (ix3 (0 : Fin 1) r k d).val = _
  rw [place3, he]
  match d with
  | ⟨0, _⟩ => show e.val * 1 + 1 * 0 = e.val; omega
  | ⟨1, _⟩ => show 0 * 1024 + 1 * r.val = r.val; omega
  | ⟨2, _⟩ => show 0 * 1024 + 1 * k.val = k.val; omega

theorem block4 (t : Fin (cfgA a).N) (e : Fin 64) (he : (a.1 0 (pos a t) : BitVec 32).toNat = e.val) (k : Fin 1024) :
    (iblk a m ρ c (4 : Fin 6) t : S1x1x1024.Idx → EReal) (ix3 0 0 k) = m ((c : Thread nD τ).loc main_arg6) (ix3 e 0 k) := by
  unfold iblk
  refine congrArg (m ((c : Thread nD τ).loc main_arg6)) ?_
  funext d; apply Fin.ext
  show ((cfgA a).win (4 : Fin 6)).index t d * S1x1x1024.size d + 1 * (ix3 (0 : Fin 1) (0 : Fin 1) k d).val = _
  rw [place4, he]
  match d with
  | ⟨0, _⟩ => show e.val * 1 + 1 * 0 = e.val; omega
  | ⟨1, _⟩ => show 0 * 1 + 1 * 0 = 0; omega
  | ⟨2, _⟩ => show 0 * 1024 + 1 * k.val = k.val; omega

/-! ## What a point writes -/

/-- A point in use writes its rows through the expert its table entry names. -/
theorem used_at (t : Fin (cfgA a).N) (e : Fin 64) (he : (a.1 0 (pos a t) : BitVec 32).toNat = e.val) (h : Used a t) (r : Fin 512) (d : Fin 1024) :
    (out a m ρ c t (ix2 r d) : EReal) = ffn (m ((c : Thread nD τ).loc main_arg0)) (m ((c : Thread nD τ).loc main_arg3)) (m ((c : Thread nD τ).loc main_arg4))
      (m ((c : Thread nD τ).loc main_arg5)) (m ((c : Thread nD τ).loc main_arg6)) e ⟨t.val * 512 + r.val, by have := point_lt a t; omega⟩ d := by
  rw [out_used a m ρ c t h, pay1_at]
  unfold ffn act ExpertFfn.hidden wOut
  simp only [pay5_at, pay4_at]
  unfold wIn
  simp only [pay3_at, block0 a m ρ c t, block1 a m ρ c t e he, block2 a m ρ c t e he, block3 a m ρ c t e he, block4 a m ρ c t e he]

/-- The result, as the plain formula over the launch memory. -/
abbrev res : Rows.Idx → EReal :=
  routed (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

variable (hp : Tables a m) (hr : ∀ i : S288.Idx, 0 ≤ (a.1 0 i : BitVec 32).toInt ∧ (a.1 0 i : BitVec 32).toInt < 64)

include hp hr

theorem point_at (t : Fin (cfgA a).N) (r : Fin 512) (d : Fin 1024) :
    (out a m ρ c t (ix2 r d) : EReal) = res m c (ix2 ⟨t.val * 512 + r.val, by have := point_lt a t; omega⟩ d) := by
  have ht := point_lt a t
  have eq : (t.val * 512 + r.val) / 512 = t.val := by omega
  have ep : (pos a t : S288.Idx) = ix1 ⟨t.val, ht⟩ := by
    funext z; match z with | ⟨0, _⟩ => rfl
  have h1 := hp.1 c
  have h2 := hp.2 c
  have hu : Used a t ↔ (BitVec.ofNat 32 t.val).slt (m ((c : Thread nD τ).loc main_arg2) (ix1 0)) = true := by
    rw [Used, used_iff, h2]
    have e1 : (crd a t 0).val = t.val := coord_at t
    rw [e1]
    have e2 : usedWord (F := Ideal) (a.1 1) = a.1 1 (ix1 0) := by
      have e : usedWord (F := Ideal) (a.1 1) = (a.1 1 : S1.Idx → BitVec 32) _ := rfl
      rw [e]
      refine congrArg (a.1 1 : S1.Idx → BitVec 32) (funext fun z => ?_)
      match z with
      | ⟨0, _⟩ => exact (Subsingleton.elim (α := Fin 1) _ _)
    rw [e2]
  have hw := word_nat _ (hr (pos a t))
  unfold res routed
  have e1 : ((ix2 (⟨t.val * 512 + r.val, by omega⟩ : Fin 147456) d : Rows.Idx) 0).val = t.val * 512 + r.val := rfl
  simp only [e1, eq]
  by_cases h : Used a t
  · rw [if_pos (hu.1 h)]
    refine used_at a m ρ c t _ ?_ h r d
    show (a.1 0 (pos a t) : BitVec 32).toNat = min (m ((c : Thread nD τ).loc main_arg1) (ix1 ⟨t.val, _⟩) : BitVec 32).toInt.toNat 63
    rw [h1, ← ep]; exact hw.2.symm
  · rw [if_neg (fun hh => h (hu.2 hh)), out_unused a m ρ c t h]
    exact pay2_at r d

/-! ## The whole array -/

omit hp hr in
theorem covers : ((cfgA a).win (5 : Fin 6)).Covers := by
  refine ⟨fun z => ?_, fun β => ?_⟩
  · match z with
    | ⟨0, _⟩ => show 0 < 512; decide
    | ⟨1, _⟩ => show 0 < 1024; decide
  · have h0 : (β (0 : Fin 2)).val < 288 := lt_of_lt_of_eq (β (0 : Fin 2)).isLt (by show (147456 + 512 - 1) / 512 = 288; norm_num)
    have h1 : (β (1 : Fin 2)).val < 1 := lt_of_lt_of_eq (β (1 : Fin 2)).isLt (by show (1024 + 1024 - 1) / 1024 = 1; norm_num)
    refine ⟨⟨(β (0 : Fin 2)).val, h0.trans_eq N_0.symm⟩, ?_, fun z => ⟨?_, Or.inl ?_⟩⟩
    · unfold Window.flush
      rw [Bool.and_eq_true]
      refine ⟨rfl, ?_⟩
      rw [Bool.or_eq_true]
      by_cases hl : (β (0 : Fin 2)).val + 1 = 288
      · left; rw [decide_eq_true_eq]; exact hl.trans N_0.symm
      · right; rw [decide_eq_true_eq]
        refine ⟨by show (β (0 : Fin 2)).val + 1 < _; exact lt_of_lt_of_eq (by omega) N_0.symm, ?_⟩
        intro h
        rw [place5, place5] at h
        have := congrFun h (0 : Fin 2)
        have : (β (0 : Fin 2)).val + 1 = (β (0 : Fin 2)).val := this
        omega
    · rw [place5]
      match z with
      | ⟨0, _⟩ => rfl
      | ⟨1, _⟩ => show 0 = (β (1 : Fin 2)).val; omega
    · rfl

theorem result : (dats a m ρ 0 c).arrAt (5 : Fin 6) (cfgA a).N = res m c := by
  refine (dats a m ρ 0 c).arrAt_eq_of_covers (5 : Fin 6) (res m c) (covers a) (fun t _ y => ?_)
  have hy : (y : S512x1024.Idx) = ix2 (y (0 : Fin 2)) (y (1 : Fin 2)) := eq_ix2 (y : S512x1024.Idx)
  have e : (((cfgA a).win (5 : Fin 6)).blk t).view.emb y = (ix2 ⟨t.val * 512 + (y (0 : Fin 2)).val, by have := point_lt a t; have := (y (0 : Fin 2)).isLt; change (y (0 : Fin 2)).val < 512 at this; omega⟩ (y (1 : Fin 2)) : Rows.Idx) := by
    funext d; apply Fin.ext
    show ((cfgA a).win (5 : Fin 6)).index t d * S512x1024.size d + 1 * (y d).val = _
    rw [place5]
    match d with
    | ⟨0, _⟩ => show t.val * 512 + 1 * (y (0 : Fin 2)).val = t.val * 512 + (y (0 : Fin 2)).val; omega
    | ⟨1, _⟩ => show 0 * 1024 + 1 * (y (1 : Fin 2)).val = (y (1 : Fin 2)).val; omega
  rw [e]
  refine Eq.trans ?_ (point_at a m ρ c hp hr t (y (0 : Fin 2)) (y (1 : Fin 2)))
  show out a m ρ c t y = _
  exact congrArg (out a m ρ c t) hy

end Cert.KernelIdeal.Expert

end
-- ==== Proof.ExpertRef.lean ====
/- The plain formula's program computes the routed feed-forward, for a table of experts that are all in range. -/
module

public import proofs.«01_k».proof.Proof.ExpertSpec
public import proofs.«01_k».proof.Proof.Gen.ReferenceIdeal.Read

@[expose] public section

set_option maxRecDepth 16384

noncomputable section

namespace Cert.ReferenceIdeal.Expert

open Cert.ReferenceIdeal Cert.ReferenceIdeal.Gen Cert.ReferenceIdeal.Read Cert.ExpertFfn
open Idealize.ShloMosaic Idealize.ShloMosaic.TcCoe Idealize.SL.Sem

/-- Selecting whole `A × B` planes of a stack of `N` by one index per result plane. -/
abbrev planeDims (N R A B : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndexMap := [0]
  startIndicesBatchingDims := []
  indexVectorDim := 1
  sliceSizes := ![1, A, B]
  wf := wf

theorem planes_apply {N R A B w : Nat} {α : Type} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (t : Fin R) (p : Fin A) (q : Fin B) :
    Host.gather (planeDims N R A B wf) x idx (ix3 t p q) = x (ix3 ⟨min (idx (ix2 t 0)).toInt.toNat (N - 1), by omega⟩ p q) := by
  unfold Host.gather
  congr 1
  funext d
  refine Fin.ext ?_
  show (planeDims N R A B wf).start (ix3 t p q) idx d + (planeDims N R A B wf).batchCoord (ix3 t p q) d + (planeDims N R A B wf).offCoord (ix3 t p q) d = _
  rw [GatherDims.batchCoord_eq_zero _ _ _ List.not_mem_nil, Nat.add_zero]
  match d with
  | ⟨0, _⟩ =>
    rw [GatherDims.offCoord_eq_zero _ _ _ (fun h => ((GatherDims.mem_sKept _ _).mp h).1 (List.mem_singleton.mpr rfl)), Nat.add_zero]
    unfold GatherDims.start
    have hsi : (planeDims N R A B wf).siIdx (ix3 t p q) ⟨List.idxOf (0 : Fin 3) (planeDims N R A B wf).startIndexMap,
        List.idxOf_lt_length_iff.2 (List.mem_singleton.mpr rfl)⟩ = ix2 t 0 := by
      funext b; refine Fin.ext ?_
      match b with
      | ⟨0, _⟩ => rfl
      | ⟨1, _⟩ => rfl
    refine (dif_pos (show (0 : Fin 3) ∈ (planeDims N R A B wf).startIndexMap from List.mem_singleton.mpr rfl)).trans ?_
    show min (idx ((planeDims N R A B wf).siIdx (ix3 t p q) ⟨List.idxOf (0 : Fin 3) (planeDims N R A B wf).startIndexMap,
        List.idxOf_lt_length_iff.2 (List.mem_singleton.mpr rfl)⟩)).toInt.toNat (N - 1) = _
    rw [hsi]
    rfl
  | ⟨1, _⟩ =>
    have h0 : (planeDims N R A B wf).start (ix3 t p q) idx (1 : Fin 3) = 0 := by
      unfold GatherDims.start
      exact dif_neg (show ¬ (1 : Fin 3) ∈ ([0] : List (Fin 3)) from by decide)
    refine (congrArg (· + (planeDims N R A B wf).offCoord (ix3 t p q) (1 : Fin 3)) h0).trans ?_
    exact Nat.zero_add _
  | ⟨2, _⟩ =>
    have h0 : (planeDims N R A B wf).start (ix3 t p q) idx (2 : Fin 3) = 0 := by
      unfold GatherDims.start
      exact dif_neg (show ¬ (2 : Fin 3) ∈ ([0] : List (Fin 3)) from by decide)
    refine (congrArg (· + (planeDims N R A B wf).offCoord (ix3 t p q) (2 : Fin 3)) h0).trans ?_
    exact Nat.zero_add _

/-- A word that is not negative is kept by the wrap of negative words. -/
theorem kept (w v : BitVec 32) (h : 0 ≤ w.toInt) : Scalar.select (IntOp.cmpi .slt w 0#32) v w = w := by
  have e : IntOp.cmpi .slt w 0#32 = 0#1 := by
    show BitVec.ofBool (w.slt 0#32) = 0#1
    have : w.slt 0#32 = false := by simp only [BitVec.slt, decide_eq_false_iff_not]; show ¬ w.toInt < 0; omega
    rw [this]; rfl
  rw [e]; rfl

/-- The zero the program writes is the real zero. -/
theorem zero_word : (constant (F := Ideal) S_ FTy.f32 0#32) ix0 = (0 : EReal) := by
  pointwise

variable (x0 : FVec Ideal S147456x1024 .bf16) (x1 : IVec S288 32) (x2 : IVec S1 32) (x3 : FVec Ideal S64x1024x2048 .f32) (x4 : FVec Ideal S64x1x2048 .f32) (x5 : FVec Ideal S64x1024x1024 .f32) (x6 : FVec Ideal S64x1x1024 .f32)
variable (hx : ∀ t : Fin 288, 0 ≤ (x1 (ix1 t)).toInt)

include hx

theorem at7 (t : Fin 288) : val_main_v7 (F := Ideal) x1 (ix2 t 0) = x1 (ix1 t) := by
  pointwise [val_main_v7, val_main_v6, val_main_v5, val_main_v4, val_main_v3, val_main_v2, val_main_c, val_main_c_0]
  exact kept _ _ (hx t)
theorem at15 (t : Fin 288) : val_main_v15 (F := Ideal) x1 (ix2 t 0) = x1 (ix1 t) := by
  pointwise [val_main_v15, val_main_v14, val_main_v13, val_main_v12, val_main_v11, val_main_v10, val_main_c_1, val_main_c_2]
  exact kept _ _ (hx t)
theorem at41 (t : Fin 288) : val_main_v41 (F := Ideal) x1 (ix2 t 0) = x1 (ix1 t) := by
  pointwise [val_main_v41, val_main_v40, val_main_v39, val_main_v38, val_main_v37, val_main_v36, val_main_c_9, val_main_c_10]
  exact kept _ _ (hx t)
theorem at49 (t : Fin 288) : val_main_v49 (F := Ideal) x1 (ix2 t 0) = x1 (ix1 t) := by
  pointwise [val_main_v49, val_main_v48, val_main_v47, val_main_v46, val_main_v45, val_main_v44, val_main_c_11, val_main_c_12]
  exact kept _ _ (hx t)

theorem at8 (t : Fin 288) (k : Fin 1024) (f : Fin 2048) : val_main_v8 (F := Ideal) x1 x3 (ix3 t k f) = x3 (ix3 (expert x1 t) k f) := by
  unfold val_main_v8
  refine (planes_apply (by decide) _ x3 _ t k f).trans ?_
  simp only [at7 x1 hx]; rfl
theorem at16 (t : Fin 288) (k : Fin 1) (f : Fin 2048) : val_main_v16 (F := Ideal) x1 x4 (ix3 t k f) = x4 (ix3 (expert x1 t) k f) := by
  unfold val_main_v16
  refine (planes_apply (by decide) _ x4 _ t k f).trans ?_
  simp only [at15 x1 hx]; rfl
theorem at42 (t : Fin 288) (k : Fin 1024) (f : Fin 1024) : val_main_v42 (F := Ideal) x1 x5 (ix3 t k f) = x5 (ix3 (expert x1 t) k f) := by
  unfold val_main_v42
  refine (planes_apply (by decide) _ x5 _ t k f).trans ?_
  simp only [at41 x1 hx]; rfl
theorem at50 (t : Fin 288) (k : Fin 1) (f : Fin 1024) : val_main_v50 (F := Ideal) x1 x6 (ix3 t k f) = x6 (ix3 (expert x1 t) k f) := by
  unfold val_main_v50
  refine (planes_apply (by decide) _ x6 _ t k f).trans ?_
  simp only [at49 x1 hx]; rfl

theorem at35 (t : Fin 288) (r : Fin 512) (j : Fin 1024) :
    val_main_v35 (F := Ideal) x0 x1 x3 x4 (ix3 t r j) = act x0 x3 x4 (expert x1 t) ⟨t.val * 512 + r.val, by omega⟩ j := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v9, val_main_v1, val_main_v0, val_main_call0_v4, val_main_call0_v3, val_main_call0_v2, val_main_call0_v1, val_main_call0_v0, val_main_cst, val_main_cst_3, val_main_cst_4, val_main_cst_5, val_main_cst_6, val_main_cst_7, val_main_cst_8]
  simp only [at8 x1 x3 hx, at16 x1 x4 hx, ← zero_sub (slope * _)]
  rfl

theorem at60 (r : Fin 147456) (d : Fin 1024) :
    val_main_v60 (F := Ideal) x0 x1 x2 x3 x4 x5 x6 (ix2 r d) = routed x0 x1 x2 x3 x4 x5 x6 (ix2 r d) := by
  pointwise [val_main_v60, val_main_v59, val_main_v58, val_main_v57, val_main_v56, val_main_v55, val_main_v54, val_main_v53, val_main_v52, val_main_v51, val_main_v43, val_main_call1_v2, val_main_call1_v1, val_main_call1_v0, val_main_cst_13]
  simp only [at35 x0 x1 x3 x4 hx, at42 x1 x5 hx, at50 x1 x6 hx]
  have er : (⟨r.val / 512 * 512 + r.val % 512, by omega⟩ : Fin 147456) = r := Fin.ext (Nat.div_add_mod' _ _)
  simp only [er]
  unfold routed
  have e1 : ((ix2 r d : Rows.Idx) 0).val = r.val := rfl
  have e2 : ((ix2 r d : Rows.Idx) 1).val = d.val := rfl
  simp only [e1, e2]
  cases h : (BitVec.ofNat 32 (r.val / 512)).slt (x2 (ix1 0)) with
  | true =>
    have e : IntOp.cmpi .slt (BitVec.ofNat 32 (r.val / 512)) (x2 (ix1 0)) = 1#1 := by show BitVec.ofBool _ = _; rw [h]; rfl
    rw [e, if_pos rfl]; rfl
  | false =>
    have e : IntOp.cmpi .slt (BitVec.ofNat 32 (r.val / 512)) (x2 (ix1 0)) = 0#1 := by show BitVec.ofBool _ = _; rw [h]; rfl
    rw [e, if_neg (by decide)]
    exact zero_word

theorem whole : val_main_v60 (F := Ideal) x0 x1 x2 x3 x4 x5 x6 = routed x0 x1 x2 x3 x4 x5 x6 := by
  funext i
  rw [eq_ix2 i]
  exact at60 x0 x1 x2 x3 x4 x5 x6 hx _ _

end Cert.ReferenceIdeal.Expert

end
-- ==== Proof.Expert.lean ====
/- The routed feed-forward's claims: its frames, and that its idealised kernel and the plain formula end with the same result. -/
module

public import proofs.«01_k».proof.Defs
public import proofs.«01_k».proof.Proof.Tables
public import proofs.«01_k».proof.Proof.TablesIdeal
public import proofs.«01_k».proof.Proof.ExpertValue
public import proofs.«01_k».proof.Proof.ExpertRef
public import proofs.«01_k».proof.Proof.Gen.ReferenceIdeal.Run
public import Idealize.ShloMosaic.Lib.Quiescent

@[expose] public section

set_option maxRecDepth 16384

noncomputable section

namespace Cert.ExpertFfn

open Idealize.ShloMosaic Idealize.ShloMosaic.TcCoe Idealize.SL.Sem

variable [Cert.Pre_experts_in_range.Facts]

theorem frame_kernel : Cert.quiescent_Kernel := fun m g h =>
  Cert.Kernel.Expert.frame (Cert.Kernel.Expert.tables m h) m g (Cert.Kernel.Expert.tables_held m h)

theorem frame_ideal : Cert.quiescent_KernelIdeal := fun m g h =>
  Cert.KernelIdeal.Expert.frame (Cert.KernelIdeal.Expert.tables m h) m g (Cert.KernelIdeal.Expert.tables_held m h)

omit [Cert.Pre_experts_in_range.Facts] in
/-- The reference's frame: it has no counters, so they end at zero. -/
theorem frame_reference : Cert.quiescent_ReferenceIdeal := fun m g _ =>
  (θ_run _ _ _).mono (fun r h => ⟨fun c => (h c).2, sem_eq_zero_of_no_sems (by decide) r.2⟩) (Cert.ReferenceIdeal.Value.run (F := Ideal) m g)

theorem frame_reference_pre : Cert.quiescent_ReferenceIdeal_pre_experts_in_range := fun m g _ => frame_reference m g trivial

/-- Both runs end with the routed feed-forward of the kernel's own arguments. -/
theorem same_result : Cert.algebraic_KernelIdeal_ReferenceIdeal := by
  intro m g m' g' hpre hagree
  have hp := Cert.KernelIdeal.Expert.tables_held m hpre
  refine ⟨fun c => routed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run _ _ _).mono (fun r h c => ⟨((h.1 c).1 (5 : Fin 6)).trans
        (Cert.KernelIdeal.Expert.result (Cert.KernelIdeal.Expert.tables m hpre) m g c hp (Cert.KernelIdeal.Expert.held_range m hpre)), h.2 c⟩)
      (θ_run_and (Cert.KernelIdeal.Expert.run_main (Cert.KernelIdeal.Expert.tables m hpre) m g hp)
        (Cert.KernelIdeal.Expert.unchanged (Cert.KernelIdeal.Expert.tables m hpre) m g hp))
  · refine (θ_run _ _ _).mono (fun r h c => ⟨(h c).1.trans ?_, (h c).2⟩) (Cert.ReferenceIdeal.Value.run (F := Ideal) m' g')
    obtain ⟨e0, e1, e2, e3, e4, e5, e6⟩ := hagree c
    rw [Cert.ReferenceIdeal.Read.val_main_v60_eq, e0, e1, e2, e3, e4, e5, e6]
    exact Cert.ReferenceIdeal.Expert.whole _ _ _ _ _ _ _ fun t => (in_range _ _ _ _ _ _ _ (hpre c) (ix1 t)).1

end Cert.ExpertFfn

end
-- ==== Proof.MergeSpec.lean ====
/- The merge of the three branches into the residual stream as a plain formula over one row: the recurrence's output is
   normalised per head of 64 channels, the state-space output passes a gelu and a gated layer, each branch is projected and
   weighted by its gate, and the sum, projected once more, is added to the row. -/
module

public import Idealize.ShloMosaic.PureOps.Ideal
public import Idealize.ShloMosaic.Lib.Pointwise

@[expose] public section

noncomputable section

namespace Cert.Merge

open Idealize.ShloMosaic

/-- Channels per head, and the constant added to a variance, as the program's f32 constants. -/
abbrev chans : EReal := Ideal.ofBits FTy.f32 0x42800000#32
abbrev tiny : EReal := Ideal.ofBits FTy.f32 0x3A27C5AC#32

/-- The mean over a head. -/
def mean (f : Fin 64 → EReal) : EReal := Ideal.div (∑ k : Fin 64, f k) chans

/-- A head normalised: mean taken away, divided by the root of the variance. -/
def normed (f : Fin 64 → EReal) (l : Fin 64) : EReal :=
  (f l - mean f) * Ideal.rsqrt (mean (fun k => (f k - mean f) * (f k - mean f)) + tiny)

/-- The head channel `k` belongs to, as 64 channels of a row. -/
def headOf (y : Fin 512 → EReal) (k : Fin 512) (l : Fin 64) : EReal := y ⟨k.val / 64 * 64 + l.val, by omega⟩

/-- The recurrence's output at channel `k`: normalised in its head, scaled, shifted, gated. -/
def rwkv (y lng lnb g : Fin 512 → EReal) (k : Fin 512) : EReal :=
  (normed (headOf y k) ⟨k.val % 64, by omega⟩ * lng k + lnb k) * g k

/-- The gelu in its tanh form. -/
def gelu (s : EReal) : EReal :=
  s * (Ideal.ofBits FTy.f32 0x3F000000#32 * (1 + Ideal.tanh (Ideal.ofBits FTy.f32 0x3F4C422A#32 * (s + Ideal.ofBits FTy.f32 0x3D372713#32 * (s * s * s)))))

/-- The sigmoid. -/
def gate (z : EReal) : EReal := Ideal.div 1 (1 + Ideal.exp (-z))

/-- The layer after the gelu, at output `j`. -/
def glu (s : Fin 512 → EReal) (w : Fin 512 → Fin 1024 → EReal) (b : Fin 1024 → EReal) (j : Fin 1024) : EReal :=
  ∑ k : Fin 512, gelu (s k) * w k j + b j

/-- Its first half gated by its second. -/
def ssm (s : Fin 512 → EReal) (w : Fin 512 → Fin 1024 → EReal) (b : Fin 1024 → EReal) (k : Fin 512) : EReal :=
  glu s w b ⟨k.val, by omega⟩ * gate (glu s w b ⟨512 + k.val, by omega⟩)

/-- The three branches projected, gated and summed, at channel `e`. -/
def mixed (a b c : Fin 512 → EReal) (zg : Fin 3072 → EReal) (wb : Fin 3 → Fin 512 → Fin 1024 → EReal) (e : Fin 1024) : EReal :=
  gate (zg ⟨e.val, by omega⟩) * ∑ k : Fin 512, a k * wb 0 k e + gate (zg ⟨1024 + e.val, by omega⟩) * ∑ k : Fin 512, b k * wb 1 k e
    + gate (zg ⟨2048 + e.val, by omega⟩) * ∑ k : Fin 512, c k * wb 2 k e

/-- One entry of the result. -/
def row (a b c : Fin 512 → EReal) (zg : Fin 3072 → EReal) (wb : Fin 3 → Fin 512 → Fin 1024 → EReal) (wo : Fin 1024 → EReal) (x g1 : EReal) : EReal :=
  x + g1 * ∑ e : Fin 1024, mixed a b c zg wb e * wo e

abbrev Steps : Shape := ⟨3, ![272, 1024, 128]⟩
abbrev Seq : Shape := ⟨3, ![8, 4352, 512]⟩
abbrev Lat : Shape := ⟨3, ![8, 4096, 512]⟩
abbrev Gates : Shape := ⟨3, ![8, 4096, 3072]⟩
abbrev Stream : Shape := ⟨3, ![8, 4096, 1024]⟩
abbrev Mod : Shape := ⟨3, ![8, 1, 1024]⟩
abbrev Chan : Shape := ⟨1, ![512]⟩
abbrev Wide : Shape := ⟨1, ![1024]⟩
abbrev GluW : Shape := ⟨2, ![512, 1024]⟩
abbrev BranchW : Shape := ⟨3, ![3, 512, 1024]⟩
abbrev OutW : Shape := ⟨2, ![1024, 1024]⟩

/-- The recurrence's two directions and its bonus added up, for latent row `n` of sequence `b`: the scan keeps 16 rows to a
    step, and the eight heads of the eight sequences one after the other within it. -/
def joined (x1 x2 : Steps.Idx → EReal) (x3 : Seq.Idx → EReal) (b : Fin 8) (n : Fin 4096) (k : Fin 512) : EReal :=
  x1 (ix3 ⟨16 + n.val / 16, by omega⟩ ⟨b.val * 128 + k.val / 64 * 16 + n.val % 16, by omega⟩ ⟨k.val % 64, by omega⟩)
    + x2 (ix3 ⟨16 + n.val / 16, by omega⟩ ⟨b.val * 128 + k.val / 64 * 16 + n.val % 16, by omega⟩ ⟨k.val % 64, by omega⟩)
    + x3 (ix3 b ⟨256 + n.val, by omega⟩ k)

/-- The state-space branch before its gelu. -/
def state (x5 x6 : Seq.Idx → EReal) (x7 : Lat.Idx → EReal) (x13 : Chan.Idx → EReal) (b : Fin 8) (n : Fin 4096) (k : Fin 512) : EReal :=
  x5 (ix3 b ⟨256 + n.val, by omega⟩ k) + x6 (ix3 b ⟨256 + n.val, by omega⟩ k) + x7 (ix3 b n k) * x13 (ix1 k)

/-- The result at row `n` of sequence `b`, channel `d`. -/
def merged (x0 : Lat.Idx → EReal) (x1 x2 : Steps.Idx → EReal) (x3 x4 x5 x6 : Seq.Idx → EReal) (x7 : Lat.Idx → EReal) (x8 : Gates.Idx → EReal)
    (x9 : Stream.Idx → EReal) (x10 : Mod.Idx → EReal) (x11 x12 x13 : Chan.Idx → EReal) (x14 : GluW.Idx → EReal) (x15 : Wide.Idx → EReal)
    (x16 : BranchW.Idx → EReal) (x17 : OutW.Idx → EReal) (b : Fin 8) (n : Fin 4096) (d : Fin 1024) : EReal :=
  row (fun k => x0 (ix3 b n k))
    (rwkv (joined x1 x2 x3 b n) (fun k => x11 (ix1 k)) (fun k => x12 (ix1 k)) (fun k => x4 (ix3 b ⟨256 + n.val, by omega⟩ k)))
    (ssm (state x5 x6 x7 x13 b n) (fun k j => x14 (ix2 k j)) (fun j => x15 (ix1 j)))
    (fun j => x8 (ix3 b n j)) (fun p k e => x16 (ix3 p k e)) (fun e => x17 (ix2 e d)) (x9 (ix3 b n d)) (x10 (ix3 b 0 d))

end Cert.Merge

end
-- ==== Proof.MergeHeads.lean ====
/- The kernel's gathering of a tile of the recurrence's output: sixteen steps per head one under the other, two heads side by
   side by a rotation, four such pairs side by side. -/
module

public import proofs.«01_k».proof.Proof.MergeSpec
public import proofs.«01_k».proof.Proof.Gen.Kernel6Ideal.Frame
public import proofs.«01_k».proof.Proof.Gen.Kernel6Ideal.Value
public import Idealize.ShloMosaic.Lib.Pipeline.ValueKit
public import Idealize.ShloMosaic.Lib.KernelVsHost

@[expose] public section

set_option maxRecDepth 16384

noncomputable section

namespace Cert.Merge

open Cert.Kernel6Ideal Cert.Kernel6Ideal.Gen Cert.Kernel6Ideal.Value
open Idealize.ShloMosaic Idealize.ShloMosaic.TcCoe Idealize.SL.Sem

/-- The rows of head `h` within step `k` of the sixteen steps read. -/
abbrev strip (h : Fin 8) (k : Fin 16) : Rect S16x128x128 := Rect.unit (s := S16x128x128) ![k.val, 16 * h.val, 0] S1x16x128.size
  (by
    intro d
    match d with
    | ⟨0, _⟩ => show k.val + 1 ≤ 16; omega
    | ⟨1, _⟩ => show 16 * h.val + 16 ≤ 128; omega
    | ⟨2, _⟩ => show 0 + 128 ≤ 128; omega)

variable (x1 x2 : Vec Ideal S16x128x128 .f32)

/-- Head `h`'s rows of step `k`, the two directions added. -/
def chunk (h : Fin 8) (k : Fin 16) : FVec Ideal S16x128 .f32 :=
  addf (shapeCast S16x128 (View.ld x1 (strip h k)) shapeCasts_S1x16x128_S16x128) (shapeCast S16x128 (View.ld x2 (strip h k)) shapeCasts_S1x16x128_S16x128)

/-- Head `h` over the tile's 256 rows. -/
def head (h : Fin 8) : FVec Ideal S256x128 .f32 :=
  concatenate S256x128 0 [⟨S16x128, chunk x1 x2 h 0⟩, ⟨S16x128, chunk x1 x2 h 1⟩, ⟨S16x128, chunk x1 x2 h 2⟩, ⟨S16x128, chunk x1 x2 h 3⟩, ⟨S16x128, chunk x1 x2 h 4⟩, ⟨S16x128, chunk x1 x2 h 5⟩, ⟨S16x128, chunk x1 x2 h 6⟩, ⟨S16x128, chunk x1 x2 h 7⟩, ⟨S16x128, chunk x1 x2 h 8⟩, ⟨S16x128, chunk x1 x2 h 9⟩, ⟨S16x128, chunk x1 x2 h 10⟩, ⟨S16x128, chunk x1 x2 h 11⟩, ⟨S16x128, chunk x1 x2 h 12⟩, ⟨S16x128, chunk x1 x2 h 13⟩, ⟨S16x128, chunk x1 x2 h 14⟩, ⟨S16x128, chunk x1 x2 h 15⟩] concatenates_S16x128_S16x128_S16x128_S16x128_S16x128_S16x128_S16x128_S16x128_S16x128_S16x128_S16x128_S16x128_S16x128_S16x128_S16x128_S16x128_S256x128_d0

/-- Heads `a` and `b` side by side. -/
def pair (a b : Fin 8) : FVec Ideal S256x128 .f32 :=
  select (cmpi .slt (iota .tc S256x128 32 [1] iota_S256x128_d1_w32) (broadcast S256x128 64#32)) (head x1 x2 a)
    (dynamicRotate 1 64#32 none (head x1 x2 b) rotates_S256x128_d1)

/-- All eight. -/
def gathered : FVec Ideal S256x512 .f32 :=
  concatenate S256x512 1 [⟨S256x128, pair x1 x2 0 1⟩, ⟨S256x128, pair x1 x2 2 3⟩, ⟨S256x128, pair x1 x2 4 5⟩, ⟨S256x128, pair x1 x2 6 7⟩]
    concatenates_S256x128_S256x128_S256x128_S256x128_S256x512_d1

/-- A strip read at a row and lane. -/
theorem strip_at (x : Vec Ideal S16x128x128 .f32) (h : Fin 8) (k : Fin 16) (r : Fin 16) (l : Fin 128) :
    shapeCast S16x128 (View.ld x (strip h k)) shapeCasts_S1x16x128_S16x128 (ix2 r l) = x (ix3 k ⟨16 * h.val + r.val, by omega⟩ l) := by
  rw [shapeCast_apply (View.ld x (strip h k)) shapeCasts_S1x16x128_S16x128 (ix2 r l) (ix3 (0 : Fin 1) r l)
    (by rw [Shape.rowMajor_val_three, Shape.rowMajor_val_two]; show (0 * 16 + r.val) * 128 + l.val = r.val * 128 + l.val; omega)]
  rw [View.ld_apply]
  refine congrArg x ?_
  funext d; apply Fin.ext
  match d with
  | ⟨0, _⟩ => show k.val + 1 * 0 = k.val; omega
  | ⟨1, _⟩ => show 16 * h.val + 1 * r.val = 16 * h.val + r.val; omega
  | ⟨2, _⟩ => show 0 + 1 * l.val = l.val; omega

/-- A head read at a row and lane. -/
theorem head_at (h : Fin 8) (r : Fin 256) (l : Fin 128) : head x1 x2 h (ix2 r l)
    = (x1 (ix3 ⟨r.val / 16, by omega⟩ ⟨16 * h.val + r.val % 16, by omega⟩ l) + x2 (ix3 ⟨r.val / 16, by omega⟩ ⟨16 * h.val + r.val % 16, by omega⟩ l) : EReal) := by
  have e : head x1 x2 h (ix2 r l) = chunk x1 x2 h ⟨r.val / 16, by omega⟩ (ix2 ⟨r.val % 16, by omega⟩ l) := by
    refine concatenate_ofFn_apply (t := S256x128) (s₁ := S16x128) 0 (fun k : Fin 16 => chunk x1 x2 h k) concatenates_S16x128_S16x128_S16x128_S16x128_S16x128_S16x128_S16x128_S16x128_S16x128_S16x128_S16x128_S16x128_S16x128_S16x128_S16x128_S16x128_S256x128_d0 rfl 16 rfl (ix2 r l)
      ⟨r.val / 16, by omega⟩ rfl (ix2 ⟨r.val % 16, by omega⟩ l) rfl ?_
    intro b hb
    match b with
    | ⟨0, _⟩ => exact absurd rfl hb
    | ⟨1, _⟩ => rfl
  rw [e]
  exact congrArg₂ (fun p q : EReal => p + q) (strip_at x1 h ⟨r.val / 16, by omega⟩ ⟨r.val % 16, by omega⟩ l)
    (strip_at x2 h ⟨r.val / 16, by omega⟩ ⟨r.val % 16, by omega⟩ l)

theorem first_half : ∀ l : Fin 128, IntOp.cmpi .slt (BitVec.ofNat 32 l.val) 64#32 = if l.val < 64 then 1#1 else 0#1 := by decide +kernel

/-- A pair read at a row and lane: the first head's lanes, then the second's. -/
theorem pair_at (a b : Fin 8) (r : Fin 256) (l : Fin 128) : pair x1 x2 a b (ix2 r l)
    = if l.val < 64 then head x1 x2 a (ix2 r l) else head x1 x2 b (ix2 r ⟨l.val % 64, by omega⟩) := by
  have i : iota .tc S256x128 32 [1] iota_S256x128_d1_w32 (ix2 r l) = BitVec.ofNat 32 l.val := by
    pointwise []
  have s : pair x1 x2 a b (ix2 r l) = if IntOp.cmpi .slt (iota .tc S256x128 32 [1] iota_S256x128_d1_w32 (ix2 r l)) 64#32 = 1#1
      then head x1 x2 a (ix2 r l) else dynamicRotate 1 64#32 none (head x1 x2 b) rotates_S256x128_d1 (ix2 r l) := rfl
  rw [s, i, first_half l]
  by_cases h : l.val < 64
  · rw [if_pos h, if_pos rfl, if_pos h]
  · rw [if_neg h, if_neg (by decide), if_neg h]
    refine dynamicRotate_apply 1 64#32 (head x1 x2 b) rotates_S256x128_d1 (ix2 r l) (ix2 r ⟨l.val % 64, by omega⟩) ?_
    intro d
    match d with
    | ⟨0, _⟩ => rfl
    | ⟨1, _⟩ => show l.val % 64 = (l.val + 128 - 64 % 128) % 128; omega

/-- The gathered tile read at a row and channel. -/
theorem gathered_at (r : Fin 256) (d : Fin 512) : gathered x1 x2 (ix2 r d)
    = (x1 (ix3 ⟨r.val / 16, by omega⟩ ⟨16 * (d.val / 64) + r.val % 16, by omega⟩ ⟨d.val % 64, by omega⟩)
      + x2 (ix3 ⟨r.val / 16, by omega⟩ ⟨16 * (d.val / 64) + r.val % 16, by omega⟩ ⟨d.val % 64, by omega⟩) : EReal) := by
  have e : gathered x1 x2 (ix2 r d) = pair x1 x2 ⟨2 * (d.val / 128), by omega⟩ ⟨2 * (d.val / 128) + 1, by omega⟩ (ix2 r ⟨d.val % 128, by omega⟩) := by
    refine concatenate_ofFn_apply (t := S256x512) (s₁ := S256x128) 1 (fun q : Fin 4 => pair x1 x2 ⟨2 * q.val, by omega⟩ ⟨2 * q.val + 1, by omega⟩)
      concatenates_S256x128_S256x128_S256x128_S256x128_S256x512_d1 rfl 128 rfl (ix2 r d)
      ⟨d.val / 128, by omega⟩ rfl (ix2 r ⟨d.val % 128, by omega⟩) rfl ?_
    intro b hb
    match b with
    | ⟨0, _⟩ => rfl
    | ⟨1, _⟩ => exact absurd rfl hb
  rw [e, pair_at]
  by_cases h : d.val % 128 < 64
  · rw [if_pos h, head_at]
    have a : 2 * (d.val / 128) = d.val / 64 := by omega
    have c : d.val % 128 = d.val % 64 := by omega
    simp only [a, c]
  · rw [if_neg h, head_at]
    have a : 2 * (d.val / 128) + 1 = d.val / 64 := by omega
    have c : d.val % 128 % 64 = d.val % 64 := by omega
    simp only [a, c]

end Cert.Merge

end
-- ==== Proof.MergeNorm.lean ====
/- The kernel's per-head normalisation: head sums as products with the 0/1 table of heads, the operand split in three parts
   whose later two vanish over the reals, is the plain normalisation of Proof/MergeSpec.lean where the operand is finite. -/
module

public import proofs.«01_k».proof.Proof.MergeSpec
public import proofs.«01_k».proof.Proof.Gen.Kernel6Ideal.Frame
public import proofs.«01_k».proof.Proof.Gen.Kernel6Ideal.Value
public import Idealize.ShloMosaic.Lib.Pipeline.ValueKit
public import Idealize.ShloMosaic.Lib.KernelVsHost

@[expose] public section

set_option maxRecDepth 16384

noncomputable section

namespace Cert.Merge

open Cert.Kernel6Ideal Cert.Kernel6Ideal.Gen Cert.Kernel6Ideal.Value
open Idealize.ShloMosaic Idealize.ShloMosaic.TcCoe Idealize.SL.Sem

/-- The sum over a channel's head, as the kernel computes it: three parts, each multiplied with the table. -/
def segSum (e : FVec Ideal S512x512 .bf16) (y : FVec Ideal S256x512 .f32) : FVec Ideal S256x512 .f32 :=
  addf (addf (matmul dot_S256x512_S512x512_S256x512_1_0_0_1_n_n none (truncf .bf16 y bitsLt_bf16_f32) e (constant S256x512 .f32 0x00000000#32))
    (matmul dot_S256x512_S512x512_S256x512_1_0_0_1_n_n none (truncf .bf16 (subf y (extf .f32 (truncf .bf16 y bitsLt_bf16_f32) bitsLt_bf16_f32)) bitsLt_bf16_f32) e (constant S256x512 .f32 0x00000000#32)))
    (matmul dot_S256x512_S512x512_S256x512_1_0_0_1_n_n none (truncf .bf16 (subf (subf y (extf .f32 (truncf .bf16 y bitsLt_bf16_f32) bitsLt_bf16_f32))
      (extf .f32 (truncf .bf16 (subf y (extf .f32 (truncf .bf16 y bitsLt_bf16_f32) bitsLt_bf16_f32)) bitsLt_bf16_f32) bitsLt_bf16_f32)) bitsLt_bf16_f32) e (constant S256x512 .f32 0x00000000#32))

/-- The operand less its head's mean. -/
def centred (e : FVec Ideal S512x512 .bf16) (y : FVec Ideal S256x512 .f32) : FVec Ideal S256x512 .f32 :=
  subf y (mulf (segSum e y) (broadcast S256x512 (Scalar.ofBits .f32 0x3C800000#32)))

/-- The operand normalised. -/
def normalised (e : FVec Ideal S512x512 .bf16) (y : FVec Ideal S256x512 .f32) : FVec Ideal S256x512 .f32 :=
  mulf (centred e y) (rsqrt (addf (mulf (segSum e (mulf (centred e y) (centred e y))) (broadcast S256x512 (Scalar.ofBits .f32 0x3C800000#32)))
    (broadcast S256x512 (Scalar.ofBits .f32 0x3A27C5AC#32))))

/-- 64 and its reciprocal. -/
theorem chans_eq : chans = ((64 : ℝ) : EReal) := by
  simp [chans, Ideal.ofBits, Ideal.ieee]; rw [← EReal.coe_mul]; norm_num
theorem recip_eq : Ideal.ofBits FTy.f32 0x3C800000#32 = ((1 / 64 : ℝ) : EReal) := by
  simp [Ideal.ofBits, Ideal.ieee]; rw [← EReal.coe_mul]; norm_num

theorem recip_mul (x : EReal) : x * Ideal.ofBits FTy.f32 0x3C800000#32 = Ideal.div x chans := by
  rw [recip_eq, chans_eq, Ideal.div_coe (by norm_num)]

/-- A number that is neither infinity. -/
def Fine (x : EReal) : Prop := ∃ v : ℝ, x = (v : EReal)

theorem fin_of (x : EReal) (h : x ≠ ⊤) (h' : x ≠ ⊥) : Fine x := ⟨x.toReal, (EReal.coe_toReal h h').symm⟩
theorem fin_add {x y : EReal} : Fine x → Fine y → Fine (x + y) := fun ⟨u, hu⟩ ⟨v, hv⟩ => ⟨u + v, by rw [hu, hv, EReal.coe_add]⟩
theorem fin_sub {x y : EReal} : Fine x → Fine y → Fine (x - y) := fun ⟨u, hu⟩ ⟨v, hv⟩ => ⟨u - v, by rw [hu, hv, EReal.coe_sub]⟩
theorem fin_mul {x y : EReal} : Fine x → Fine y → Fine (x * y) := fun ⟨u, hu⟩ ⟨v, hv⟩ => ⟨u * v, by rw [hu, hv, EReal.coe_mul]⟩
theorem fin_self {x : EReal} : Fine x → x - x = 0 := fun ⟨u, hu⟩ => by rw [hu, ← EReal.coe_sub, sub_self, EReal.coe_zero]
theorem fin_sum {n : Nat} (f : Fin n → EReal) (h : ∀ k, Fine (f k)) : Fine (∑ k : Fin n, f k) :=
  Finset.sum_induction f Fine (fun _ _ => fin_add) ⟨0, EReal.coe_zero.symm⟩ (fun k _ => h k)
theorem fin_mean (f : Fin 64 → EReal) (h : ∀ k, Fine (f k)) : Fine (mean f) := by
  unfold mean
  rw [← recip_mul, recip_eq]
  exact fin_mul (fin_sum f h) ⟨_, rfl⟩

/-- Summing against the table of heads is summing over the head. -/
theorem head_sum (f : Fin 512 → EReal) (d : Fin 512) :
    ∑ k : Fin 512, f k * (if k.val / 64 = d.val / 64 then (1 : EReal) else 0) = ∑ l : Fin 64, headOf f d l := by
  have e : ∀ k : Fin 512, f k * (if k.val / 64 = d.val / 64 then (1 : EReal) else 0) = if k.val / 64 = d.val / 64 then f k else 0 := by
    intro k
    by_cases h : k.val / 64 = d.val / 64
    · rw [if_pos h, if_pos h, mul_one]
    · rw [if_neg h, if_neg h, mul_zero]
  rw [Finset.sum_congr rfl fun k _ => e k, ← (finProdFinEquiv (m := 8) (n := 64)).sum_comp, Fintype.sum_prod_type]
  rw [Finset.sum_eq_single (⟨d.val / 64, by omega⟩ : Fin 8)]
  · refine Finset.sum_congr rfl fun l _ => ?_
    have v : (finProdFinEquiv (m := 8) (n := 64) (⟨d.val / 64, by omega⟩, l)).val = l.val + 64 * (d.val / 64) := rfl
    rw [if_pos (by rw [v]; omega)]
    exact congrArg f (Fin.ext (by rw [v]; show _ = d.val / 64 * 64 + l.val; omega))
  · intro h _ hne
    refine Finset.sum_eq_zero fun l _ => ?_
    have v : (finProdFinEquiv (m := 8) (n := 64) (h, l)).val = l.val + 64 * h.val := rfl
    rw [if_neg]
    intro c
    rw [v] at c
    exact hne (Fin.ext (by show h.val = d.val / 64; omega))
  · intro h
    exact absurd (Finset.mem_univ _) h

variable (e : FVec Ideal S512x512 .bf16) (he : ∀ k d : Fin 512, e (ix2 k d) = (if k.val / 64 = d.val / 64 then (1 : EReal) else 0))

/-- One product with the table. -/
theorem table_at (y : FVec Ideal S256x512 .bf16) (r : Fin 256) (d : Fin 512) :
    matmul dot_S256x512_S512x512_S256x512_1_0_0_1_n_n none y e (constant S256x512 .f32 0x00000000#32) (ix2 r d)
      = ∑ k : Fin 512, (y (ix2 r k) * e (ix2 k d) : EReal) := by
  pointwise []

include he in
theorem segSum_at (y : FVec Ideal S256x512 .f32) (r : Fin 256) (hy : ∀ k, Fine (y (ix2 r k))) (d : Fin 512) :
    segSum e y (ix2 r d) = ∑ l : Fin 64, headOf (fun k => y (ix2 r k)) d l := by
  have h0 : ∀ f : FVec Ideal S256x512 .bf16, (∀ k, f (ix2 r k) = (0 : EReal)) →
      matmul dot_S256x512_S512x512_S256x512_1_0_0_1_n_n none f e (constant S256x512 .f32 0x00000000#32) (ix2 r d) = (0 : EReal) := by
    intro f hf
    rw [table_at]
    exact Finset.sum_eq_zero fun k _ => by rw [hf k, zero_mul]
  have z1 : ∀ k, (y (ix2 r k) - y (ix2 r k) : EReal) = 0 := fun k => fin_self (hy k)
  have z2 : ∀ k, ((y (ix2 r k) - y (ix2 r k)) - (y (ix2 r k) - y (ix2 r k)) : EReal) = 0 := fun k => by rw [z1 k, sub_zero]
  refine Eq.trans (b := ((∑ k : Fin 512, (y (ix2 r k) * e (ix2 k d) : EReal)) + 0 + 0 : EReal)) ?_ ?_
  · exact congrArg₂ (fun p q : EReal => p + q) (congrArg₂ (fun p q : EReal => p + q) (table_at e _ r d) (h0 _ z1)) (h0 _ z2)
  · rw [add_zero, add_zero, ← head_sum]
    exact Finset.sum_congr rfl fun k _ => by rw [he k d]

include he in
theorem centred_at (y : FVec Ideal S256x512 .f32) (r : Fin 256) (hy : ∀ k, Fine (y (ix2 r k))) (d : Fin 512) :
    centred e y (ix2 r d) = (y (ix2 r d) - mean (headOf (fun k => y (ix2 r k)) d) : EReal) := by
  refine Eq.trans (b := (y (ix2 r d) - segSum e y (ix2 r d) * Ideal.ofBits FTy.f32 0x3C800000#32 : EReal)) rfl ?_
  rw [segSum_at e he y r hy d, recip_mul]
  rfl

include he in
/-- The kernel's normalisation of a finite row is the plain one. -/
theorem normalised_at (y : FVec Ideal S256x512 .f32) (r : Fin 256) (hy : ∀ k, Fine (y (ix2 r k))) (d : Fin 512) :
    normalised e y (ix2 r d) = normed (headOf (fun k => y (ix2 r k)) d) ⟨d.val % 64, by omega⟩ := by
  have hc : ∀ k, Fine (centred e y (ix2 r k)) := fun k => by
    rw [centred_at e he y r hy k]
    exact fin_sub (hy k) (fin_mean _ fun l => hy _)
  have hq : ∀ k, Fine (mulf (centred e y) (centred e y) (ix2 r k)) := fun k => fin_mul (hc k) (hc k)
  have hs : segSum e (mulf (centred e y) (centred e y)) (ix2 r d)
      = ∑ l : Fin 64, ((headOf (fun k => y (ix2 r k)) d l - mean (headOf (fun k => y (ix2 r k)) d)) * (headOf (fun k => y (ix2 r k)) d l - mean (headOf (fun k => y (ix2 r k)) d)) : EReal) := by
    rw [segSum_at e he _ r hq d]
    refine Finset.sum_congr rfl fun l _ => ?_
    have hh : headOf (fun k => y (ix2 r k)) (⟨d.val / 64 * 64 + l.val, by omega⟩ : Fin 512) = headOf (fun k => y (ix2 r k)) d := by
      funext j
      exact congrArg (fun k => y (ix2 r k)) (Fin.ext (by show (d.val / 64 * 64 + l.val) / 64 * 64 + j.val = d.val / 64 * 64 + j.val; omega))
    have hk := centred_at e he y r hy ⟨d.val / 64 * 64 + l.val, by omega⟩
    rw [hh] at hk
    exact congrArg₂ (fun p q : EReal => p * q) hk hk
  refine Eq.trans (b := (centred e y (ix2 r d) * Ideal.rsqrt (segSum e (mulf (centred e y) (centred e y)) (ix2 r d) * Ideal.ofBits FTy.f32 0x3C800000#32 + tiny) : EReal)) rfl ?_
  rw [hs, recip_mul, centred_at e he y r hy d]
  unfold normed
  have own : headOf (fun k => y (ix2 r k)) d ⟨d.val % 64, by omega⟩ = y (ix2 r d) :=
    congrArg (fun k => y (ix2 r k)) (Fin.ext (by show d.val / 64 * 64 + d.val % 64 = d.val; omega))
  rw [own]
  rfl

end Cert.Merge

end
-- ==== Proof.MergeOut.lean ====
/- What the merge's body stores at a row and channel of its tile is the row formula. -/
module

public import proofs.«01_k».proof.Proof.MergeHeads
public import proofs.«01_k».proof.Proof.MergeNorm

@[expose] public section

set_option maxRecDepth 16384

noncomputable section

namespace Cert.Merge

open Cert.Kernel6Ideal Cert.Kernel6Ideal.Gen Cert.Kernel6Ideal.Value
open Idealize.ShloMosaic Idealize.ShloMosaic.TcCoe Idealize.SL.Sem

set_option maxHeartbeats 4000000 in
/-- The stored tile with its recurrence part named. -/
theorem out_eq (x0 : Vec Ideal S1x256x512 .f32) (x1 : Vec Ideal S16x128x128 .f32) (x2 : Vec Ideal S16x128x128 .f32) (x3 : Vec Ideal S1x256x512 .f32) (x4 : Vec Ideal S1x256x512 .f32) (x5 : Vec Ideal S1x256x512 .f32) (x6 : Vec Ideal S1x256x512 .f32) (x7 : Vec Ideal S1x256x512 .f32) (x8 : Vec Ideal S1x256x3072 .f32) (x9 : Vec Ideal S1x256x1024 .f32) (x10 : Vec Ideal S1x1x1024 .f32) (x11 : Vec Ideal S512x512 .bf16) (x12 : Vec Ideal S1x512 .f32) (x13 : Vec Ideal S1x512 .f32) (x14 : Vec Ideal S1x512 .f32) (x15 : Vec Ideal S512x1024 .bf16) (x16 : Vec Ideal S1x1024 .f32) (x17 : Vec Ideal S3x512x1024 .bf16) (x18 : Vec Ideal S1024x1024 .bf16) :
    out0_19 (F := Ideal) x0 x1 x2 x3 x4 x5 x6 x7 x8 x9 x10 x11 x12 x13 x14 x15 x16 x17 x18
      = View.canon [⟨r0_137, k0_pay153 (F := Ideal) (k0_pay146 (normalised (k0_pay1 (View.ld x11 r0_0)) (addf (gathered x1 x2) (shapeCast S256x512 (View.ld x3 r0_129) shapeCasts_S1x256x512_S256x512)))
          (View.ld x12 r0_130) (View.ld x13 r0_130) (View.ld x4 r0_129)) (k0_pay149 (k0_pay147 (View.ld x5 r0_129) (View.ld x6 r0_129) (View.ld x7 r0_129) (View.ld x14 r0_130)) (k0_pay148 (View.ld x15 r0_131)) (View.ld x16 r0_132)) (k0_pay150 (View.ld x8 r0_133)) (k0_pay151 (View.ld x8 r0_133) (View.ld x0 r0_129) (View.ld x17 r0_134)) (k0_pay152 (View.ld x8 r0_133)) (Scalar.ofBits .f32 0x3F800000#32) (View.ld x17 r0_135) (View.ld x17 r0_136) (View.ld x9 r0_137) (View.ld x10 r0_138) (View.ld x18 r0_139)⟩] := rfl

/-- The scaled, shifted, gated recurrence. -/
theorem rwkv_at (y : FVec Ideal S256x512 .f32) (lng lnb : Vec Ideal S1x512 .f32) (g : Vec Ideal S1x256x512 .f32) (r : Fin 256) (k : Fin 512) :
    k0_pay146 (F := Ideal) y lng lnb g (ix2 r k) = ((y (ix2 r k) * lng (ix2 0 k) + lnb (ix2 0 k)) * g (ix3 0 r k) : EReal) := by
  pointwise [k0_pay146]

theorem half_first (s h t : EReal) : h * s * t = s * (h * t) := by rw [mul_comm h s, mul_assoc]

/-- The gelu of the state-space output. -/
theorem gelu_at (s0 s1 u : Vec Ideal S1x256x512 .f32) (d : Vec Ideal S1x512 .f32) (r : Fin 256) (k : Fin 512) :
    k0_pay147 (F := Ideal) s0 s1 u d (ix2 r k) = gelu (s0 (ix3 0 r k) + s1 (ix3 0 r k) + u (ix3 0 r k) * d (ix2 0 k)) := by
  unfold gelu
  rw [← half_first]
  pointwise [k0_pay147]

/-- The layer after it, one half gated by the other. -/
theorem ssm_at (a : FVec Ideal S256x512 .bf16) (w : FVec Ideal S512x1024 .bf16) (b : Vec Ideal S1x1024 .f32) (r : Fin 256) (k : Fin 512) :
    k0_pay149 (F := Ideal) a w b (ix2 r k)
      = ((∑ q : Fin 512, (a (ix2 r q) * w (ix2 q ⟨k.val, by omega⟩) : EReal) + b (ix2 0 ⟨k.val, by omega⟩))
        * gate (∑ q : Fin 512, (a (ix2 r q) * w (ix2 q ⟨512 + k.val, by omega⟩) : EReal) + b (ix2 0 ⟨512 + k.val, by omega⟩)) : EReal) := by
  unfold gate
  rw [← zero_sub]
  pointwise [k0_pay149]

/-- The stored entry. -/
theorem row_at (a b : FVec Ideal S256x512 .f32) (z : Vec Ideal S1x256x3072 .f32) (h : Vec Ideal S1x256x512 .f32) (w0 w1 w2 : Vec Ideal S1x512x1024 .bf16)
    (x : Vec Ideal S1x256x1024 .f32) (g1 : Vec Ideal S1x1x1024 .f32) (wo : Vec Ideal S1024x1024 .bf16) (wb : Fin 3 → Fin 512 → Fin 1024 → EReal)
    (h0 : ∀ k e, w0 (ix3 0 k e) = wb 0 k e) (h1 : ∀ k e, w1 (ix3 0 k e) = wb 1 k e) (h2 : ∀ k e, w2 (ix3 0 k e) = wb 2 k e) (r : Fin 256) (d : Fin 1024) :
    k0_pay153 (F := Ideal) a b (k0_pay150 z) (k0_pay151 z h w0) (k0_pay152 z) (Scalar.ofBits .f32 0x3F800000#32) w1 w2 x g1 wo (ix3 0 r d)
      = row (fun k => h (ix3 0 r k)) (fun k => a (ix2 r k)) (fun k => b (ix2 r k)) (fun j => z (ix3 0 r j)) wb (fun e => wo (ix2 e d)) (x (ix3 0 r d)) (g1 (ix3 0 0 d)) := by
  unfold row mixed gate
  simp only [← zero_sub, ← h0, ← h1, ← h2]
  pointwise [k0_pay153, k0_pay150, k0_pay151, k0_pay152]

end Cert.Merge

end
-- ==== Proof.MergeBlocks.lean ====
/- The merge's blocks: what each input window shows at a grid point, read at an index, and the arrays the host prepares. -/
module

public import proofs.«01_k».proof.Proof.MergeSpec
public import proofs.«01_k».proof.Proof.Gen.Kernel6Ideal.Frame
public import Idealize.ShloMosaic.Lib.Pipeline.ValueKit

@[expose] public section

set_option maxRecDepth 16384

noncomputable section

namespace Cert.Merge

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Where each window's block sits at point `t` of the 8 by 16 grid. -/
theorem places : ∀ t : Fin cfg0.N, (win0_0.index t = ![t.val / 16, t.val % 16, 0] ∧ win0_1.index t = ![1 + t.val % 16, t.val / 16, 0]
    ∧ win0_2.index t = ![1 + t.val % 16, t.val / 16, 0] ∧ win0_3.index t = ![t.val / 16, 1 + t.val % 16, 0] ∧ win0_4.index t = ![t.val / 16, 1 + t.val % 16, 0]
    ∧ win0_5.index t = ![t.val / 16, 1 + t.val % 16, 0] ∧ win0_6.index t = ![t.val / 16, 1 + t.val % 16, 0] ∧ win0_7.index t = ![t.val / 16, t.val % 16, 0]
    ∧ win0_8.index t = ![t.val / 16, t.val % 16, 0] ∧ win0_9.index t = ![t.val / 16, t.val % 16, 0]) ∧ win0_10.index t = ![t.val / 16, 0, 0]
    ∧ win0_11.index t = ![0, 0] ∧ win0_12.index t = ![0, 0] ∧ win0_13.index t = ![0, 0] ∧ win0_14.index t = ![0, 0] ∧ win0_15.index t = ![0, 0]
    ∧ win0_16.index t = ![0, 0] ∧ win0_17.index t = ![0, 0, 0] ∧ win0_18.index t = ![0, 0] ∧ win0_19.index t = ![t.val / 16, t.val % 16, 0] :=
  (by decide +kernel : ∀ t : Fin grid0.N, _)

theorem point_lt (t : Fin cfg0.N) : t.val < 128 := t.isLt

theorem block0 (t : Fin cfg0.N) (k : Fin 1) (q : Fin 256) (l : Fin 512) :
    (iblk m c 0 t : S1x256x512.Idx → EReal) (ix3 k q l) = m ((c : Thread nD τ).loc main_arg0)
      (ix3 ⟨t.val / 16, by have := point_lt t; omega⟩ ⟨256 * (t.val % 16) + q.val, by omega⟩ l) := by
  unfold iblk
  show V m c main_arg0 _ = _
  rw [V_main_arg0]
  refine congrArg (m ((c : Thread nD τ).loc main_arg0)) ?_
  funext d; apply Fin.ext
  show win0_0.index t d * S1x256x512.size d + 1 * (ix3 k q l d).val = _
  rw [(places t).1.1]
  match d with
  | ⟨0, _⟩ => show (t.val / 16) * 1 + 1 * k.val = _; simp <;> omega
  | ⟨1, _⟩ => show (t.val % 16) * 256 + 1 * q.val = _; simp <;> omega
  | ⟨2, _⟩ => show (0) * 512 + 1 * l.val = _; simp <;> omega

theorem block1 (t : Fin cfg0.N) (k : Fin 16) (q : Fin 128) (l : Fin 128) :
    (iblk m c 1 t : S16x128x128.Idx → EReal) (ix3 k q l) = m ((c : Thread nD τ).loc main_arg1)
      (ix3 ⟨16 + (16 * (t.val % 16) + k.val), by omega⟩ ⟨t.val / 16 * 128 + q.val, by have := point_lt t; omega⟩ l) := by
  unfold iblk
  show V m c main_arg1 _ = _
  rw [V_main_arg1]
  refine congrArg (m ((c : Thread nD τ).loc main_arg1)) ?_
  funext d; apply Fin.ext
  show win0_1.index t d * S16x128x128.size d + 1 * (ix3 k q l d).val = _
  rw [(places t).1.2.1]
  match d with
  | ⟨0, _⟩ => show (1 + t.val % 16) * 16 + 1 * k.val = _; simp <;> omega
  | ⟨1, _⟩ => show (t.val / 16) * 128 + 1 * q.val = _; simp <;> omega
  | ⟨2, _⟩ => show (0) * 128 + 1 * l.val = _; simp <;> omega

theorem block2 (t : Fin cfg0.N) (k : Fin 16) (q : Fin 128) (l : Fin 128) :
    (iblk m c 2 t : S16x128x128.Idx → EReal) (ix3 k q l) = m ((c : Thread nD τ).loc main_arg2)
      (ix3 ⟨16 + (16 * (t.val % 16) + k.val), by omega⟩ ⟨t.val / 16 * 128 + q.val, by have := point_lt t; omega⟩ l) := by
  unfold iblk
  show V m c main_arg2 _ = _
  rw [V_main_arg2]
  refine congrArg (m ((c : Thread nD τ).loc main_arg2)) ?_
  funext d; apply Fin.ext
  show win0_2.index t d * S16x128x128.size d + 1 * (ix3 k q l d).val = _
  rw [(places t).1.2.2.1]
  match d with
  | ⟨0, _⟩ => show (1 + t.val % 16) * 16 + 1 * k.val = _; simp <;> omega
  | ⟨1, _⟩ => show (t.val / 16) * 128 + 1 * q.val = _; simp <;> omega
  | ⟨2, _⟩ => show (0) * 128 + 1 * l.val = _; simp <;> omega

theorem block3 (t : Fin cfg0.N) (k : Fin 1) (q : Fin 256) (l : Fin 512) :
    (iblk m c 3 t : S1x256x512.Idx → EReal) (ix3 k q l) = m ((c : Thread nD τ).loc main_arg3)
      (ix3 ⟨t.val / 16, by have := point_lt t; omega⟩ ⟨256 + (256 * (t.val % 16) + q.val), by omega⟩ l) := by
  unfold iblk
  show V m c main_arg3 _ = _
  rw [V_main_arg3]
  refine congrArg (m ((c : Thread nD τ).loc main_arg3)) ?_
  funext d; apply Fin.ext
  show win0_3.index t d * S1x256x512.size d + 1 * (ix3 k q l d).val = _
  rw [(places t).1.2.2.2.1]
  match d with
  | ⟨0, _⟩ => show (t.val / 16) * 1 + 1 * k.val = _; simp <;> omega
  | ⟨1, _⟩ => show (1 + t.val % 16) * 256 + 1 * q.val = _; simp <;> omega
  | ⟨2, _⟩ => show (0) * 512 + 1 * l.val = _; simp <;> omega

theorem block4 (t : Fin cfg0.N) (k : Fin 1) (q : Fin 256) (l : Fin 512) :
    (iblk m c 4 t : S1x256x512.Idx → EReal) (ix3 k q l) = m ((c : Thread nD τ).loc main_arg4)
      (ix3 ⟨t.val / 16, by have := point_lt t; omega⟩ ⟨256 + (256 * (t.val % 16) + q.val), by omega⟩ l) := by
  unfold iblk
  show V m c main_arg4 _ = _
  rw [V_main_arg4]
  refine congrArg (m ((c : Thread nD τ).loc main_arg4)) ?_
  funext d; apply Fin.ext
  show win0_4.index t d * S1x256x512.size d + 1 * (ix3 k q l d).val = _
  rw [(places t).1.2.2.2.2.1]
  match d with
  | ⟨0, _⟩ => show (t.val / 16) * 1 + 1 * k.val = _; simp <;> omega
  | ⟨1, _⟩ => show (1 + t.val % 16) * 256 + 1 * q.val = _; simp <;> omega
  | ⟨2, _⟩ => show (0) * 512 + 1 * l.val = _; simp <;> omega

theorem block5 (t : Fin cfg0.N) (k : Fin 1) (q : Fin 256) (l : Fin 512) :
    (iblk m c 5 t : S1x256x512.Idx → EReal) (ix3 k q l) = m ((c : Thread nD τ).loc main_arg5)
      (ix3 ⟨t.val / 16, by have := point_lt t; omega⟩ ⟨256 + (256 * (t.val % 16) + q.val), by omega⟩ l) := by
  unfold iblk
  show V m c main_arg5 _ = _
  rw [V_main_arg5]
  refine congrArg (m ((c : Thread nD τ).loc main_arg5)) ?_
  funext d; apply Fin.ext
  show win0_5.index t d * S1x256x512.size d + 1 * (ix3 k q l d).val = _
  rw [(places t).1.2.2.2.2.2.1]
  match d with
  | ⟨0, _⟩ => show (t.val / 16) * 1 + 1 * k.val = _; simp <;> omega
  | ⟨1, _⟩ => show (1 + t.val % 16) * 256 + 1 * q.val = _; simp <;> omega
  | ⟨2, _⟩ => show (0) * 512 + 1 * l.val = _; simp <;> omega

theorem block6 (t : Fin cfg0.N) (k : Fin 1) (q : Fin 256) (l : Fin 512) :
    (iblk m c 6 t : S1x256x512.Idx → EReal) (ix3 k q l) = m ((c : Thread nD τ).loc main_arg6)
      (ix3 ⟨t.val / 16, by have := point_lt t; omega⟩ ⟨256 + (256 * (t.val % 16) + q.val), by omega⟩ l) := by
  unfold iblk
  show V m c main_arg6 _ = _
  rw [V_main_arg6]
  refine congrArg (m ((c : Thread nD τ).loc main_arg6)) ?_
  funext d; apply Fin.ext
  show win0_6.index t d * S1x256x512.size d + 1 * (ix3 k q l d).val = _
  rw [(places t).1.2.2.2.2.2.2.1]
  match d with
  | ⟨0, _⟩ => show (t.val / 16) * 1 + 1 * k.val = _; simp <;> omega
  | ⟨1, _⟩ => show (1 + t.val % 16) * 256 + 1 * q.val = _; simp <;> omega
  | ⟨2, _⟩ => show (0) * 512 + 1 * l.val = _; simp <;> omega

theorem block7 (t : Fin cfg0.N) (k : Fin 1) (q : Fin 256) (l : Fin 512) :
    (iblk m c 7 t : S1x256x512.Idx → EReal) (ix3 k q l) = m ((c : Thread nD τ).loc main_arg7)
      (ix3 ⟨t.val / 16, by have := point_lt t; omega⟩ ⟨256 * (t.val % 16) + q.val, by omega⟩ l) := by
  unfold iblk
  show V m c main_arg7 _ = _
  rw [V_main_arg7]
  refine congrArg (m ((c : Thread nD τ).loc main_arg7)) ?_
  funext d; apply Fin.ext
  show win0_7.index t d * S1x256x512.size d + 1 * (ix3 k q l d).val = _
  rw [(places t).1.2.2.2.2.2.2.2.1]
  match d with
  | ⟨0, _⟩ => show (t.val / 16) * 1 + 1 * k.val = _; simp <;> omega
  | ⟨1, _⟩ => show (t.val % 16) * 256 + 1 * q.val = _; simp <;> omega
  | ⟨2, _⟩ => show (0) * 512 + 1 * l.val = _; simp <;> omega

theorem block8 (t : Fin cfg0.N) (k : Fin 1) (q : Fin 256) (l : Fin 3072) :
    (iblk m c 8 t : S1x256x3072.Idx → EReal) (ix3 k q l) = m ((c : Thread nD τ).loc main_arg8)
      (ix3 ⟨t.val / 16, by have := point_lt t; omega⟩ ⟨256 * (t.val % 16) + q.val, by omega⟩ l) := by
  unfold iblk
  show V m c main_arg8 _ = _
  rw [V_main_arg8]
  refine congrArg (m ((c : Thread nD τ).loc main_arg8)) ?_
  funext d; apply Fin.ext
  show win0_8.index t d * S1x256x3072.size d + 1 * (ix3 k q l d).val = _
  rw [(places t).1.2.2.2.2.2.2.2.2.1]
  match d with
  | ⟨0, _⟩ => show (t.val / 16) * 1 + 1 * k.val = _; simp <;> omega
  | ⟨1, _⟩ => show (t.val % 16) * 256 + 1 * q.val = _; simp <;> omega
  | ⟨2, _⟩ => show (0) * 3072 + 1 * l.val = _; simp <;> omega

theorem block9 (t : Fin cfg0.N) (k : Fin 1) (q : Fin 256) (l : Fin 1024) :
    (iblk m c 9 t : S1x256x1024.Idx → EReal) (ix3 k q l) = m ((c : Thread nD τ).loc main_arg9)
      (ix3 ⟨t.val / 16, by have := point_lt t; omega⟩ ⟨256 * (t.val % 16) + q.val, by omega⟩ l) := by
  unfold iblk
  show V m c main_arg9 _ = _
  rw [V_main_arg9]
  refine congrArg (m ((c : Thread nD τ).loc main_arg9)) ?_
  funext d; apply Fin.ext
  show win0_9.index t d * S1x256x1024.size d + 1 * (ix3 k q l d).val = _
  rw [(places t).1.2.2.2.2.2.2.2.2.2]
  match d with
  | ⟨0, _⟩ => show (t.val / 16) * 1 + 1 * k.val = _; simp <;> omega
  | ⟨1, _⟩ => show (t.val % 16) * 256 + 1 * q.val = _; simp <;> omega
  | ⟨2, _⟩ => show (0) * 1024 + 1 * l.val = _; simp <;> omega

theorem block10 (t : Fin cfg0.N) (k : Fin 1) (q : Fin 1) (l : Fin 1024) :
    (iblk m c 10 t : S1x1x1024.Idx → EReal) (ix3 k q l) = m ((c : Thread nD τ).loc main_arg10)
      (ix3 ⟨t.val / 16, by have := point_lt t; omega⟩ 0 l) := by
  unfold iblk
  show V m c main_arg10 _ = _
  rw [V_main_arg10]
  refine congrArg (m ((c : Thread nD τ).loc main_arg10)) ?_
  funext d; apply Fin.ext
  show win0_10.index t d * S1x1x1024.size d + 1 * (ix3 k q l d).val = _
  rw [(places t).2.1]
  match d with
  | ⟨0, _⟩ => show (t.val / 16) * 1 + 1 * k.val = _; simp <;> omega
  | ⟨1, _⟩ => show (0) * 1 + 1 * q.val = _; simp <;> omega
  | ⟨2, _⟩ => show (0) * 1024 + 1 * l.val = _; simp <;> omega

theorem block11 (t : Fin cfg0.N) (k : Fin 512) (q : Fin 512) :
    (iblk m c 11 t : S512x512.Idx → EReal) (ix2 k q) = (V m c main_v7 : S512x512.Idx → EReal) (ix2 k q) := by
  unfold iblk
  refine congrArg (V m c main_v7 : S512x512.Idx → EReal) ?_
  funext d; apply Fin.ext
  show win0_11.index t d * S512x512.size d + 1 * (ix2 k q d).val = _
  rw [(places t).2.2.1]
  match d with
  | ⟨0, _⟩ => show 0 * 512 + 1 * k.val = _; simp
  | ⟨1, _⟩ => show 0 * 512 + 1 * q.val = _; simp

theorem block12 (t : Fin cfg0.N) (k : Fin 1) (q : Fin 512) :
    (iblk m c 12 t : S1x512.Idx → EReal) (ix2 k q) = (V m c main_v8 : S1x512.Idx → EReal) (ix2 k q) := by
  unfold iblk
  refine congrArg (V m c main_v8 : S1x512.Idx → EReal) ?_
  funext d; apply Fin.ext
  show win0_12.index t d * S1x512.size d + 1 * (ix2 k q d).val = _
  rw [(places t).2.2.2.1]
  match d with
  | ⟨0, _⟩ => show 0 * 1 + 1 * k.val = _; simp
  | ⟨1, _⟩ => show 0 * 512 + 1 * q.val = _; simp

theorem block13 (t : Fin cfg0.N) (k : Fin 1) (q : Fin 512) :
    (iblk m c 13 t : S1x512.Idx → EReal) (ix2 k q) = (V m c main_v9 : S1x512.Idx → EReal) (ix2 k q) := by
  unfold iblk
  refine congrArg (V m c main_v9 : S1x512.Idx → EReal) ?_
  funext d; apply Fin.ext
  show win0_13.index t d * S1x512.size d + 1 * (ix2 k q d).val = _
  rw [(places t).2.2.2.2.1]
  match d with
  | ⟨0, _⟩ => show 0 * 1 + 1 * k.val = _; simp
  | ⟨1, _⟩ => show 0 * 512 + 1 * q.val = _; simp

theorem block14 (t : Fin cfg0.N) (k : Fin 1) (q : Fin 512) :
    (iblk m c 14 t : S1x512.Idx → EReal) (ix2 k q) = (V m c main_v10 : S1x512.Idx → EReal) (ix2 k q) := by
  unfold iblk
  refine congrArg (V m c main_v10 : S1x512.Idx → EReal) ?_
  funext d; apply Fin.ext
  show win0_14.index t d * S1x512.size d + 1 * (ix2 k q d).val = _
  rw [(places t).2.2.2.2.2.1]
  match d with
  | ⟨0, _⟩ => show 0 * 1 + 1 * k.val = _; simp
  | ⟨1, _⟩ => show 0 * 512 + 1 * q.val = _; simp

theorem block15 (t : Fin cfg0.N) (k : Fin 512) (q : Fin 1024) :
    (iblk m c 15 t : S512x1024.Idx → EReal) (ix2 k q) = (V m c main_v11 : S512x1024.Idx → EReal) (ix2 k q) := by
  unfold iblk
  refine congrArg (V m c main_v11 : S512x1024.Idx → EReal) ?_
  funext d; apply Fin.ext
  show win0_15.index t d * S512x1024.size d + 1 * (ix2 k q d).val = _
  rw [(places t).2.2.2.2.2.2.1]
  match d with
  | ⟨0, _⟩ => show 0 * 512 + 1 * k.val = _; simp
  | ⟨1, _⟩ => show 0 * 1024 + 1 * q.val = _; simp

theorem block16 (t : Fin cfg0.N) (k : Fin 1) (q : Fin 1024) :
    (iblk m c 16 t : S1x1024.Idx → EReal) (ix2 k q) = (V m c main_v12 : S1x1024.Idx → EReal) (ix2 k q) := by
  unfold iblk
  refine congrArg (V m c main_v12 : S1x1024.Idx → EReal) ?_
  funext d; apply Fin.ext
  show win0_16.index t d * S1x1024.size d + 1 * (ix2 k q d).val = _
  rw [(places t).2.2.2.2.2.2.2.1]
  match d with
  | ⟨0, _⟩ => show 0 * 1 + 1 * k.val = _; simp
  | ⟨1, _⟩ => show 0 * 1024 + 1 * q.val = _; simp

theorem block17 (t : Fin cfg0.N) (k : Fin 3) (q : Fin 512) (l : Fin 1024) :
    (iblk m c 17 t : S3x512x1024.Idx → EReal) (ix3 k q l) = (V m c main_v13 : S3x512x1024.Idx → EReal) (ix3 k q l) := by
  unfold iblk
  refine congrArg (V m c main_v13 : S3x512x1024.Idx → EReal) ?_
  funext d; apply Fin.ext
  show win0_17.index t d * S3x512x1024.size d + 1 * (ix3 k q l d).val = _
  rw [(places t).2.2.2.2.2.2.2.2.1]
  match d with
  | ⟨0, _⟩ => show 0 * 3 + 1 * k.val = _; simp
  | ⟨1, _⟩ => show 0 * 512 + 1 * q.val = _; simp
  | ⟨2, _⟩ => show 0 * 1024 + 1 * l.val = _; simp

theorem block18 (t : Fin cfg0.N) (k : Fin 1024) (q : Fin 1024) :
    (iblk m c 18 t : S1024x1024.Idx → EReal) (ix2 k q) = (V m c main_v14 : S1024x1024.Idx → EReal) (ix2 k q) := by
  unfold iblk
  refine congrArg (V m c main_v14 : S1024x1024.Idx → EReal) ?_
  funext d; apply Fin.ext
  show win0_18.index t d * S1024x1024.size d + 1 * (ix2 k q d).val = _
  rw [(places t).2.2.2.2.2.2.2.2.2.1]
  match d with
  | ⟨0, _⟩ => show 0 * 1024 + 1 * k.val = _; simp
  | ⟨1, _⟩ => show 0 * 1024 + 1 * q.val = _; simp

theorem host8 (k : Fin 512) : (V m c main_v8 : S1x512.Idx → EReal) (ix2 0 k) = m ((c : Thread nD τ).loc main_arg11) (ix1 k) := by
  show (shapeCast S1x512 (m ((c : Thread nD τ).loc main_arg11) : FVec Ideal S512 .f32) shapeCasts_S512_S1x512) (ix2 0 k) = _
  pointwise []

theorem host9 (k : Fin 512) : (V m c main_v9 : S1x512.Idx → EReal) (ix2 0 k) = m ((c : Thread nD τ).loc main_arg12) (ix1 k) := by
  show (shapeCast S1x512 (m ((c : Thread nD τ).loc main_arg12) : FVec Ideal S512 .f32) shapeCasts_S512_S1x512) (ix2 0 k) = _
  pointwise []

theorem host10 (k : Fin 512) : (V m c main_v10 : S1x512.Idx → EReal) (ix2 0 k) = m ((c : Thread nD τ).loc main_arg13) (ix1 k) := by
  show (shapeCast S1x512 (m ((c : Thread nD τ).loc main_arg13) : FVec Ideal S512 .f32) shapeCasts_S512_S1x512) (ix2 0 k) = _
  pointwise []

theorem host12 (k : Fin 1024) : (V m c main_v12 : S1x1024.Idx → EReal) (ix2 0 k) = m ((c : Thread nD τ).loc main_arg15) (ix1 k) := by
  show (shapeCast S1x1024 (m ((c : Thread nD τ).loc main_arg15) : FVec Ideal S1024 .f32) shapeCasts_S1024_S1x1024) (ix2 0 k) = _
  pointwise []

theorem host11 (k : Fin 512) (q : Fin 1024) : (V m c main_v11 : S512x1024.Idx → EReal) (ix2 k q) = m ((c : Thread nD τ).loc main_arg14) (ix2 k q) := rfl

theorem host13 (k : Fin 3) (q : Fin 512) (l : Fin 1024) : (V m c main_v13 : S3x512x1024.Idx → EReal) (ix3 k q l) = m ((c : Thread nD τ).loc main_arg16) (ix3 k q l) := rfl

theorem host14 (k : Fin 1024) (q : Fin 1024) : (V m c main_v14 : S1024x1024.Idx → EReal) (ix2 k q) = m ((c : Thread nD τ).loc main_arg17) (ix2 k q) := rfl

/-- The host's division of a channel by the width of a head. -/
theorem quot : ∀ k : Fin 512, (IntOp.divsi .host (BitVec.ofNat 32 k.val) 64#32 : BitVec 32) = BitVec.ofNat 32 (k.val / 64) := by
  decide +kernel

theorem eq_word : ∀ a b : Fin 8, IntOp.cmpi .eq (BitVec.ofNat 32 a.val) (BitVec.ofNat 32 b.val) = if a = b then 1#1 else 0#1 := by
  decide

theorem V7 : (V m c main_v7 : S512x512.Idx → EReal) = uitofp (F := Ideal) .bf16 (cmpi .eq
    (Host.divsi (iotaInDim S512x512 32 0) (broadcastInDim S512x512 ![] bcast_S_S512x512 (constantI S_ 32 64#32)))
    (Host.divsi (iotaInDim S512x512 32 1) (broadcastInDim S512x512 ![] bcast_S_S512x512 (constantI S_ 32 64#32)))) := rfl

/-- The mask of the heads: one where two channels share a head, zero elsewhere. -/
theorem host7 (k d : Fin 512) : (V m c main_v7 : S512x512.Idx → EReal) (ix2 k d) = if k.val / 64 = d.val / 64 then (1 : EReal) else 0 := by
  rw [V7]
  show FloatOps.uitofp (F := Ideal) .bf16 (IntOp.cmpi .eq (IntOp.divsi .host (BitVec.ofNat 32 k.val) 64#32) (IntOp.divsi .host (BitVec.ofNat 32 d.val) 64#32)) = _
  rw [quot, quot]
  have e := eq_word ⟨k.val / 64, by omega⟩ ⟨d.val / 64, by omega⟩
  simp only [Fin.mk.injEq] at e
  rw [e]
  split <;> simp [FloatOps.uitofp]

end Cert.Merge

end
-- ==== Proof.MergeValue.lean ====
/- The merge's run, in values: the tile each grid point writes, and the whole result array. -/
module

public import proofs.«01_k».proof.Proof.MergeOut
public import proofs.«01_k».proof.Proof.MergeBlocks

@[expose] public section

set_option maxRecDepth 16384

noncomputable section

namespace Cert.Merge

open Cert.Kernel6Ideal Cert.Kernel6Ideal.Gen Cert.Kernel6Ideal.Value
open Idealize.ShloMosaic Idealize.ShloMosaic.TcCoe Idealize.SL.Sem
open Idealize.ShloMosaic.Pipeline (Dat)

/-! ## One tile -/

theorem pay1_eq (x : Vec Ideal S512x512 .bf16) (k d : Fin 512) : k0_pay1 (F := Ideal) x (ix2 k d) = x (ix2 k d) := by
  pointwise [k0_pay1]

theorem pay148_eq (x : Vec Ideal S512x1024 .bf16) (k : Fin 512) (d : Fin 1024) : k0_pay148 (F := Ideal) x (ix2 k d) = x (ix2 k d) := by
  pointwise [k0_pay148]

/-- A branch's weights within the stack of three. -/
theorem branch0 (x : Vec Ideal S3x512x1024 .bf16) (k : Fin 512) (e : Fin 1024) : View.ld x r0_134 (ix3 0 k e) = x (ix3 0 k e) := by
  rw [View.ld_apply]
  refine congrArg x ?_
  funext d; apply Fin.ext
  match d with
  | ⟨0, _⟩ => rfl
  | ⟨1, _⟩ => show 0 + 1 * k.val = k.val; omega
  | ⟨2, _⟩ => show 0 + 1 * e.val = e.val; omega
theorem branch1 (x : Vec Ideal S3x512x1024 .bf16) (k : Fin 512) (e : Fin 1024) : View.ld x r0_135 (ix3 0 k e) = x (ix3 1 k e) := by
  rw [View.ld_apply]
  refine congrArg x ?_
  funext d; apply Fin.ext
  match d with
  | ⟨0, _⟩ => rfl
  | ⟨1, _⟩ => show 0 + 1 * k.val = k.val; omega
  | ⟨2, _⟩ => show 0 + 1 * e.val = e.val; omega
theorem branch2 (x : Vec Ideal S3x512x1024 .bf16) (k : Fin 512) (e : Fin 1024) : View.ld x r0_136 (ix3 0 k e) = x (ix3 2 k e) := by
  rw [View.ld_apply]
  refine congrArg x ?_
  funext d; apply Fin.ext
  match d with
  | ⟨0, _⟩ => rfl
  | ⟨1, _⟩ => show 0 + 1 * k.val = k.val; omega
  | ⟨2, _⟩ => show 0 + 1 * e.val = e.val; omega

theorem whole_tile (x : Vec Ideal S1x256x512 .f32) : View.ld x r0_129 = x := View.ld_unit_lit _ x (by decide)
theorem whole_mask (x : Vec Ideal S512x512 .bf16) : View.ld x r0_0 = x := View.ld_unit_lit _ x (by decide)
theorem whole_chan (x : Vec Ideal S1x512 .f32) : View.ld x r0_130 = x := View.ld_unit_lit _ x (by decide)
theorem whole_glu (x : Vec Ideal S512x1024 .bf16) : View.ld x r0_131 = x := View.ld_unit_lit _ x (by decide)
theorem whole_bias (x : Vec Ideal S1x1024 .f32) : View.ld x r0_132 = x := View.ld_unit_lit _ x (by decide)
theorem whole_gates (x : Vec Ideal S1x256x3072 .f32) : View.ld x r0_133 = x := View.ld_unit_lit _ x (by decide)
theorem whole_stream (x : Vec Ideal S1x256x1024 .f32) : View.ld x r0_137 = x := View.ld_unit_lit _ x (by decide)
theorem whole_mod (x : Vec Ideal S1x1x1024 .f32) : View.ld x r0_138 = x := View.ld_unit_lit _ x (by decide)
theorem whole_out (x : Vec Ideal S1024x1024 .bf16) : View.ld x r0_139 = x := View.ld_unit_lit _ x (by decide)

/-- The recurrence's part of a tile before its normalisation. -/
theorem sum_at (x1 x2 : Vec Ideal S16x128x128 .f32) (x3 : Vec Ideal S1x256x512 .f32) (r : Fin 256) (k : Fin 512) :
    addf (gathered x1 x2) (shapeCast S256x512 x3 shapeCasts_S1x256x512_S256x512) (ix2 r k) = (gathered x1 x2 (ix2 r k) + x3 (ix3 0 r k) : EReal) := by
  refine congrArg (fun q : EReal => gathered x1 x2 (ix2 r k) + q) ?_
  exact shapeCast_apply x3 shapeCasts_S1x256x512_S256x512 (ix2 r k) (ix3 (0 : Fin 1) r k)
    (by rw [Shape.rowMajor_val_three, Shape.rowMajor_val_two]; show (0 * 256 + r.val) * 512 + k.val = r.val * 512 + k.val; omega)

/-- What a point stores at row `r` and channel `d`, from the blocks it reads. -/
theorem tile_at (x0 : Vec Ideal S1x256x512 .f32) (x1 : Vec Ideal S16x128x128 .f32) (x2 : Vec Ideal S16x128x128 .f32) (x3 x4 x5 x6 x7 : Vec Ideal S1x256x512 .f32) (x8 : Vec Ideal S1x256x3072 .f32) (x9 : Vec Ideal S1x256x1024 .f32) (x10 : Vec Ideal S1x1x1024 .f32) (x11 : Vec Ideal S512x512 .bf16) (x12 x13 x14 : Vec Ideal S1x512 .f32) (x15 : Vec Ideal S512x1024 .bf16) (x16 : Vec Ideal S1x1024 .f32) (x17 : Vec Ideal S3x512x1024 .bf16) (x18 : Vec Ideal S1024x1024 .bf16)
    (r : Fin 256) (d : Fin 1024) (hm : ∀ k d : Fin 512, x11 (ix2 k d) = if k.val / 64 = d.val / 64 then (1 : EReal) else 0)
    (hy : ∀ k, Fine (gathered x1 x2 (ix2 r k) + x3 (ix3 0 r k))) :
    out0_19 (F := Ideal) x0 x1 x2 x3 x4 x5 x6 x7 x8 x9 x10 x11 x12 x13 x14 x15 x16 x17 x18 (ix3 0 r d)
      = row (fun k => x0 (ix3 0 r k)) (rwkv (fun k => gathered x1 x2 (ix2 r k) + x3 (ix3 0 r k)) (fun k => x12 (ix2 0 k)) (fun k => x13 (ix2 0 k)) (fun k => x4 (ix3 0 r k)))
          (ssm (fun k => x5 (ix3 0 r k) + x6 (ix3 0 r k) + x7 (ix3 0 r k) * x14 (ix2 0 k)) (fun k j => x15 (ix2 k j)) (fun j => x16 (ix2 0 j)))
          (fun j => x8 (ix3 0 r j)) (fun p k e => x17 (ix3 p k e)) (fun e => x18 (ix2 e d)) (x9 (ix3 0 r d)) (x10 (ix3 0 0 d)) := by
  rw [out_eq, View.canon_cons_unit_lit _ _ _ (by decide)]
  rw [whole_tile, whole_tile, whole_tile, whole_tile, whole_tile, whole_tile, whole_mask, whole_chan, whole_chan, whole_chan, whole_glu, whole_bias, whole_gates, whole_stream, whole_mod, whole_out]
  rw [row_at _ _ x8 x0 _ _ _ x9 x10 x18 (fun p k e => x17 (ix3 p k e)) (branch0 x17) (branch1 x17) (branch2 x17) r d]
  have ha : (fun k => k0_pay146 (F := Ideal) (normalised (k0_pay1 x11) (addf (gathered x1 x2) (shapeCast S256x512 x3 shapeCasts_S1x256x512_S256x512))) x12 x13 x4 (ix2 r k))
      = rwkv (fun k => gathered x1 x2 (ix2 r k) + x3 (ix3 0 r k)) (fun k => x12 (ix2 0 k)) (fun k => x13 (ix2 0 k)) (fun k => x4 (ix3 0 r k)) := by
    funext k
    rw [rwkv_at, normalised_at _ (fun k d => (pay1_eq x11 k d).trans (hm k d)) _ r (fun k => by rw [sum_at]; exact hy k) k]
    simp only [sum_at]
    rfl
  have hb : (fun k => k0_pay149 (F := Ideal) (k0_pay147 x5 x6 x7 x14) (k0_pay148 x15) x16 (ix2 r k))
      = ssm (fun k => x5 (ix3 0 r k) + x6 (ix3 0 r k) + x7 (ix3 0 r k) * x14 (ix2 0 k)) (fun k j => x15 (ix2 k j)) (fun j => x16 (ix2 0 j)) := by
    funext k
    rw [ssm_at]
    simp only [gelu_at, pay148_eq]
    rfl
  rw [ha, hb]

/-! ## The blocks put in -/

variable (m : (ℓ : Loc nD τ sig) → Buf (Elt Ideal) ℓ) (c : Dev nD)

/-- Row `r` of point `t`'s tile as a latent row. -/
abbrev lat (t : Fin cfg0.N) (r : Fin 256) : Fin 4096 := ⟨256 * (t.val % 16) + r.val, by omega⟩
abbrev bat (t : Fin cfg0.N) : Fin 8 := ⟨t.val / 16, by have := point_lt t; omega⟩

theorem joined_at (t : Fin cfg0.N) (r : Fin 256) (k : Fin 512) :
    (gathered (iblk m c 1 t) (iblk m c 2 t) (ix2 r k) + (iblk m c 3 t : S1x256x512.Idx → EReal) (ix3 0 r k) : EReal)
      = joined (m ((c : Thread nD τ).loc main_arg1)) (m ((c : Thread nD τ).loc main_arg2)) (m ((c : Thread nD τ).loc main_arg3)) (bat t) (lat t r) k := by
  rw [gathered_at, block1, block2, block3]
  unfold joined
  have e1 : 16 * (t.val % 16) + r.val / 16 = (256 * (t.val % 16) + r.val) / 16 := by omega
  have e2 : t.val / 16 * 128 + (16 * (k.val / 64) + r.val % 16) = t.val / 16 * 128 + k.val / 64 * 16 + (256 * (t.val % 16) + r.val) % 16 := by omega
  simp only [e1, e2]

/-- What point `t` writes at row `r` and channel `d`. -/
theorem written (hf : (∀ i, Fine (m ((c : Thread nD τ).loc main_arg1) i)) ∧ (∀ i, Fine (m ((c : Thread nD τ).loc main_arg2) i)) ∧ (∀ i, Fine (m ((c : Thread nD τ).loc main_arg3) i)))
    (t : Fin cfg0.N) (r : Fin 256) (d : Fin 1024) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix3 0 r d)
      = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (bat t) (lat t r) d := by
  rw [tile_at _ _ _ _ _ _ _ _ _ _ _ _ _ _ _ _ _ _ _ r d (fun k d => (block11 m c t k d).trans (host7 m c k d))
    (fun k => by rw [joined_at]; exact fin_add (fin_add (hf.1 _) (hf.2.1 _)) (hf.2.2 _))]
  have hj := funext (fun k => joined_at m c t r k)
  rw [hj]
  have b12 : ∀ k : Fin 512, (iblk m c 12 t : S1x512.Idx → EReal) (ix2 0 k) = m ((c : Thread nD τ).loc main_arg11) (ix1 k) := fun k => (block12 m c t 0 k).trans (host8 m c k)
  have b13 : ∀ k : Fin 512, (iblk m c 13 t : S1x512.Idx → EReal) (ix2 0 k) = m ((c : Thread nD τ).loc main_arg12) (ix1 k) := fun k => (block13 m c t 0 k).trans (host9 m c k)
  have b14 : ∀ k : Fin 512, (iblk m c 14 t : S1x512.Idx → EReal) (ix2 0 k) = m ((c : Thread nD τ).loc main_arg13) (ix1 k) := fun k => (block14 m c t 0 k).trans (host10 m c k)
  have b15 : ∀ (k : Fin 512) (q : Fin 1024), (iblk m c 15 t : S512x1024.Idx → EReal) (ix2 k q) = m ((c : Thread nD τ).loc main_arg14) (ix2 k q) := fun k q => (block15 m c t k q).trans (host11 m c k q)
  have b16 : ∀ k : Fin 1024, (iblk m c 16 t : S1x1024.Idx → EReal) (ix2 0 k) = m ((c : Thread nD τ).loc main_arg15) (ix1 k) := fun k => (block16 m c t 0 k).trans (host12 m c k)
  have b17 : ∀ (k : Fin 3) (q : Fin 512) (l : Fin 1024), (iblk m c 17 t : S3x512x1024.Idx → EReal) (ix3 k q l) = m ((c : Thread nD τ).loc main_arg16) (ix3 k q l) := fun k q l => (block17 m c t k q l).trans (host13 m c k q l)
  have b18 : ∀ (k : Fin 1024) (q : Fin 1024), (iblk m c 18 t : S1024x1024.Idx → EReal) (ix2 k q) = m ((c : Thread nD τ).loc main_arg17) (ix2 k q) := fun k q => (block18 m c t k q).trans (host14 m c k q)
  simp only [block0, block4, block5, block6, block7, block8, block9, block10, b12, b13, b14, b15, b16, b17, b18]
  rfl

/-- The result as one array. -/
def merge : S8x4096x1024.Idx → EReal := fun i => merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (i 0) (i 1) (i 2)

theorem index_eq (y : S1x256x1024.Idx) : ∃ (r : Fin 256) (d : Fin 1024), y = ix3 (0 : Fin 1) r d := by
  refine ⟨y 1, y 2, ?_⟩
  funext a
  match a with
  | ⟨0, _⟩ => exact Subsingleton.elim (α := Fin 1) _ _
  | ⟨1, _⟩ => rfl
  | ⟨2, _⟩ => rfl

/-- Where a cell of the tile lies in the result. -/
theorem cell (t : Fin cfg0.N) (r : Fin 256) (d : Fin 1024) :
    (((cfg0.win 19).blk t).view.emb (ix3 (0 : Fin 1) r d) : S8x4096x1024.Idx) = ix3 (bat t) (lat t r) d := by
  funext a; apply Fin.ext
  show win0_19.index t a * S1x256x1024.size a + 1 * (ix3 (0 : Fin 1) r d a).val = _
  rw [(places t).2.2.2.2.2.2.2.2.2.2]
  match a with
  | ⟨0, _⟩ => show t.val / 16 * 1 + 1 * 0 = t.val / 16; omega
  | ⟨1, _⟩ => show t.val % 16 * 256 + 1 * r.val = 256 * (t.val % 16) + r.val; omega
  | ⟨2, _⟩ => show 0 * 1024 + 1 * d.val = d.val; omega

theorem covers19 : (cfg0.win 19).Covers := by decide +kernel

set_option maxHeartbeats 2000000 in
/-- The result array after the run. -/
theorem result (hf : (∀ i, Fine (m ((c : Thread nD τ).loc main_arg1) i)) ∧ (∀ i, Fine (m ((c : Thread nD τ).loc main_arg2) i)) ∧ (∀ i, Fine (m ((c : Thread nD τ).loc main_arg3) i))) :
    (dats m 0 c).arrAt 19 (cfgs 0).N = merge m c := by
  refine (dats m 0 c).arrAt_eq_of_covers 19 (merge m c) covers19 fun t _ y => ?_
  obtain ⟨r, d, e⟩ := index_eq y
  subst e
  have e1 := written m c hf t r d
  have e2 := congrArg (merge m c) (cell t r d)
  have e3 : merge m c (ix3 (bat t) (lat t r) d) = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (bat t) (lat t r) d := rfl
  generalize merge m c = G at e2 e3 ⊢
  rw [e2, e3, ← e1]
  blk_simp
  rw [after0_19]

end Cert.Merge

end
-- ==== Proof.MergeRef.lean ====
/- The reference's result is the plain formula of Proof/MergeSpec.lean. -/
module

public import proofs.«01_k».proof.Proof.MergeSpec
public import proofs.«01_k».proof.Proof.Gen.Reference6Ideal.Read
public import Idealize.ShloMosaic.Lib.Pointwise

@[expose] public section

set_option maxRecDepth 16384

noncomputable section

namespace Cert.Merge

open Cert.Reference6Ideal Cert.Reference6Ideal.Gen Cert.Reference6Ideal.Read
open Idealize.ShloMosaic Idealize.ShloMosaic.TcCoe Idealize.SL.Sem

variable (x0 : Lat.Idx → EReal) (x1 x2 : Steps.Idx → EReal) (x3 x4 x5 x6 : Seq.Idx → EReal) (x7 : Lat.Idx → EReal) (x8 : Gates.Idx → EReal)
  (x9 : Stream.Idx → EReal) (x10 : Mod.Idx → EReal) (x11 x12 x13 : Chan.Idx → EReal) (x14 : GluW.Idx → EReal) (x15 : Wide.Idx → EReal)
  (x16 : BranchW.Idx → EReal) (x17 : OutW.Idx → EReal)

theorem ref_one : (FloatOps.ofBits FTy.f32 0x3F800000#32 : Ideal .f32) = (1 : EReal) := by
  show Ideal.ofBits FTy.f32 0x3F800000#32 = 1
  simp

/-- An index with the coordinates of another is that other. -/
theorem eq3 {a b c : Nat} (i : (⟨3, ![a, b, c]⟩ : Shape).Idx) (p : Fin a) (q : Fin b) (r : Fin c) (h0 : (i 0).val = p.val) (h1 : (i 1).val = q.val)
    (h2 : (i 2).val = r.val) : i = ix3 p q r := by
  funext d; apply Fin.ext
  match d with
  | ⟨0, _⟩ => exact h0
  | ⟨1, _⟩ => exact h1
  | ⟨2, _⟩ => exact h2

/-- The two directions added, read in the scan's own split of a step's rows into sequence, head and row. -/
theorem ref_steps (i : S272x8x8x16x64.Idx) (t : Fin 272) (r : Fin 1024) (l : Fin 128) (h0 : (i 0).val = t.val)
    (h1 : (i 1).val * 128 + (i 2).val * 16 + (i 3).val = r.val) (h2 : (i 4).val = l.val) :
    val_main_v2 (F := Ideal) x1 x2 i = x1 (ix3 t r l) + x2 (ix3 t r l) := by
  have i0 : (i 0).val < 272 := (i 0).isLt
  have i1 : (i 1).val < 8 := (i 1).isLt
  have i2 : (i 2).val < 8 := (i 2).isLt
  have i3 : (i 3).val < 16 := (i 3).isLt
  have i4 : (i 4).val < 64 := (i 4).isLt
  have e : idx_main_v1 (idx_main_v2 i) = ix3 t r l := by
    refine eq3 _ _ _ _ ?_ ?_ ?_
    · show (((((i 0).val * 8 + (i 1).val) * 8 + (i 2).val) * 16 + (i 3).val) * 64 + (i 4).val) / 65536 = t.val
      omega
    · show (((((i 0).val * 8 + (i 1).val) * 8 + (i 2).val) * 16 + (i 3).val) * 64 + (i 4).val) / 64 % 1024 = r.val
      omega
    · show (((((i 0).val * 8 + (i 1).val) * 8 + (i 2).val) * 16 + (i 3).val) * 64 + (i 4).val) % 64 = l.val
      omega
  rw [val_main_v2_apply, val_main_v1_apply, e, val_main_v0_apply]
  rfl

/-- Whole sequences keep whole steps. -/
theorem step_of (p x : Nat) : (p * 4352 + x) / 16 = p * 272 + x / 16 := by omega

/-- The same in the order of the sequence: row `n` is row `n % 16` of step `n / 16`. -/
theorem ref_rows (i : S8x4352x8x64.Idx) (t : Fin 272) (r : Fin 1024) (l : Fin 128) (h0 : (i 1).val / 16 = t.val)
    (h1 : (i 0).val * 128 + (i 2).val * 16 + (i 1).val % 16 = r.val) (h2 : (i 3).val = l.val) :
    val_main_v4 (F := Ideal) x1 x2 i = x1 (ix3 t r l) + x2 (ix3 t r l) := by
  have i0 : (i 0).val < 8 := (i 0).isLt
  have i1 : (i 1).val < 4352 := (i 1).isLt
  have i2 : (i 2).val < 8 := (i 2).isLt
  have i3 : (i 3).val < 64 := (i 3).isLt
  rw [val_main_v4_apply, val_main_v3_apply]
  refine ref_steps x1 x2 _ t r l ?_ ?_ ?_
  · show ((((i 0).val * 4352 + (i 1).val) * 8 + (i 2).val) * 64 + (i 3).val) / 8192 % 272 = t.val
    have a2 : ((((i 0).val * 4352 + (i 1).val) * 8 + (i 2).val) * 64 + (i 3).val) / 512 = (i 0).val * 4352 + (i 1).val := by omega
    have a3 : ((((i 0).val * 4352 + (i 1).val) * 8 + (i 2).val) * 64 + (i 3).val) / 8192 = ((((i 0).val * 4352 + (i 1).val) * 8 + (i 2).val) * 64 + (i 3).val) / 512 / 16 := by rw [Nat.div_div_eq_div_mul]
    rw [a3, a2, step_of, h0]
    omega
  · show ((((i 0).val * 4352 + (i 1).val) * 8 + (i 2).val) * 64 + (i 3).val) / 2228224 * 128
      + ((((i 0).val * 4352 + (i 1).val) * 8 + (i 2).val) * 64 + (i 3).val) / 64 % 8 * 16
      + ((((i 0).val * 4352 + (i 1).val) * 8 + (i 2).val) * 64 + (i 3).val) / 512 % 16 = r.val
    have a0 : ((((i 0).val * 4352 + (i 1).val) * 8 + (i 2).val) * 64 + (i 3).val) / 2228224 = (i 0).val := by omega
    have a1 : ((((i 0).val * 4352 + (i 1).val) * 8 + (i 2).val) * 64 + (i 3).val) / 64 % 8 = (i 2).val := by omega
    have a3 : ((((i 0).val * 4352 + (i 1).val) * 8 + (i 2).val) * 64 + (i 3).val) / 512 = (i 0).val * 4352 + (i 1).val := by omega
    have a2 : ((((i 0).val * 4352 + (i 1).val) * 8 + (i 2).val) * 64 + (i 3).val) / 512 % 16 = (i 1).val % 16 := by rw [a3]; omega
    rw [a0, a1, a2, h1]
  · show ((((i 0).val * 4352 + (i 1).val) * 8 + (i 2).val) * 64 + (i 3).val) % 64 = l.val
    omega

/-- The joined output at a latent row, head and channel. -/
theorem ref_joined (b : Fin 8) (n : Fin 4096) (k : Fin 512) (i : S8x4096x8x64.Idx) (h0 : (i 0).val = b.val) (h1 : (i 1).val = n.val)
    (h2 : (i 2).val * 64 + (i 3).val = k.val) :
    val_main_v7 (F := Ideal) x1 x2 x3 i = joined x1 x2 x3 b n k := by
  have i0 : (i 0).val < 8 := (i 0).isLt
  have i1 : (i 1).val < 4096 := (i 1).isLt
  have i2 : (i 2).val < 8 := (i 2).isLt
  have i3 : (i 3).val < 64 := (i 3).isLt
  have e : idx_main_v5 (idx_main_v7 i) = ix3 b ⟨256 + n.val, by omega⟩ k := by
    refine eq3 _ _ _ _ ?_ ?_ ?_
    · show ((((i 0).val * 4352 + (256 + (i 1).val)) * 8 + (i 2).val) * 64 + (i 3).val) / 2228224 = b.val
      omega
    · show ((((i 0).val * 4352 + (256 + (i 1).val)) * 8 + (i 2).val) * 64 + (i 3).val) / 512 % 4352 = 256 + n.val
      omega
    · show ((((i 0).val * 4352 + (256 + (i 1).val)) * 8 + (i 2).val) * 64 + (i 3).val) % 512 = k.val
      omega
  have r := ref_rows x1 x2 (idx_main_v7 i) ⟨16 + n.val / 16, by omega⟩ ⟨b.val * 128 + k.val / 64 * 16 + n.val % 16, by omega⟩ ⟨k.val % 64, by omega⟩
    (by show (256 + (i 1).val) / 16 = 16 + n.val / 16; omega)
    (by show (i 0).val * 128 + (i 2).val * 16 + (256 + (i 1).val) % 16 = b.val * 128 + k.val / 64 * 16 + n.val % 16; omega)
    (by show (i 3).val = k.val % 64; omega)
  rw [val_main_v7_apply, val_main_v6_apply, val_main_v5_apply, e, r]
  rfl

/-- The head's mean. -/
theorem ref_mean (b : Fin 8) (n : Fin 4096) (k : Fin 512) (i : S8x4096x8x1.Idx) (h0 : (i 0).val = b.val) (h1 : (i 1).val = n.val)
    (h2 : (i 2).val = k.val / 64) :
    val_main_v11 (F := Ideal) x1 x2 x3 i = mean (headOf (joined x1 x2 x3 b n) k) := by
  rw [val_main_v11_apply, val_main_v9_apply, val_main_v8_apply, val_main_v10_apply, val_main_cst_0_apply, val_main_cst_apply]
  refine congrArg (fun e : EReal => Ideal.div e chans) ?_
  have z : (FloatOps.ofBits FTy.f32 0x00000000#32 : Ideal .f32) = (0 : EReal) := by show Ideal.ofBits FTy.f32 0x00000000#32 = 0; simp
  rw [z]
  refine (zero_add _).trans (Finset.sum_congr rfl fun l _ => ?_)
  exact ref_joined x1 x2 x3 b n ⟨k.val / 64 * 64 + l.val, by omega⟩ _ h0 h1 (by show (i 2).val * 64 + l.val = k.val / 64 * 64 + l.val; rw [h2])

/-- The head with its mean taken away. -/
theorem ref_centred (b : Fin 8) (n : Fin 4096) (k : Fin 512) (l : Fin 64) (i : S8x4096x8x64.Idx) (h0 : (i 0).val = b.val) (h1 : (i 1).val = n.val)
    (h2 : (i 2).val = k.val / 64) (h3 : (i 3).val = l.val) :
    val_main_v13 (F := Ideal) x1 x2 x3 i = headOf (joined x1 x2 x3 b n) k l - mean (headOf (joined x1 x2 x3 b n) k) := by
  rw [val_main_v13_apply, val_main_v12_apply, ref_mean x1 x2 x3 b n k _ h0 h1 h2,
    ref_joined x1 x2 x3 b n ⟨k.val / 64 * 64 + l.val, by omega⟩ i h0 h1 (by show (i 2).val * 64 + (i 3).val = k.val / 64 * 64 + l.val; rw [h2, h3])]
  rfl

/-- The head's variance. -/
theorem ref_var (b : Fin 8) (n : Fin 4096) (k : Fin 512) (i : S8x4096x8x1.Idx) (h0 : (i 0).val = b.val) (h1 : (i 1).val = n.val)
    (h2 : (i 2).val = k.val / 64) :
    val_main_v18 (F := Ideal) x1 x2 x3 i = mean (fun l => (headOf (joined x1 x2 x3 b n) k l - mean (headOf (joined x1 x2 x3 b n) k))
      * (headOf (joined x1 x2 x3 b n) k l - mean (headOf (joined x1 x2 x3 b n) k))) := by
  rw [val_main_v18_apply, val_main_v16_apply, val_main_v15_apply, val_main_v17_apply, val_main_cst_2_apply, val_main_cst_1_apply]
  refine congrArg (fun e : EReal => Ideal.div e chans) ?_
  have z : (FloatOps.ofBits FTy.f32 0x00000000#32 : Ideal .f32) = (0 : EReal) := by show Ideal.ofBits FTy.f32 0x00000000#32 = 0; simp
  rw [z]
  refine (zero_add _).trans (Finset.sum_congr rfl fun l _ => ?_)
  rw [val_main_v14_apply, ref_centred x1 x2 x3 b n k l _ h0 h1 h2 rfl]
  rfl

/-- The recurrence's output normalised, scaled, shifted and gated. -/
theorem ref_rwkv (b : Fin 8) (n : Fin 4096) (k : Fin 512) :
    val_main_v32 (F := Ideal) x1 x2 x3 x4 x11 x12 (ix3 b n k) = rwkv (joined x1 x2 x3 b n) (fun k => x11 (ix1 k)) (fun k => x12 (ix1 k))
      (fun k => x4 (ix3 b ⟨256 + n.val, by omega⟩ k)) k := by
  have e0 : (idx_main_v24 (ix3 b n k) 0).val = b.val := by
    show ((b.val * 4096 + n.val) * 512 + k.val) / 2097152 = b.val; omega
  have e1 : (idx_main_v24 (ix3 b n k) 1).val = n.val := by
    show ((b.val * 4096 + n.val) * 512 + k.val) / 512 % 4096 = n.val; omega
  have e2 : (idx_main_v24 (ix3 b n k) 2).val = k.val / 64 := by
    show ((b.val * 4096 + n.val) * 512 + k.val) / 64 % 8 = k.val / 64; omega
  have e3 : (idx_main_v24 (ix3 b n k) 3).val = k.val % 64 := by
    show ((b.val * 4096 + n.val) * 512 + k.val) % 64 = k.val % 64; omega
  have i31 : idx_main_v31 (ix3 b n k) = ix3 b ⟨256 + n.val, by omega⟩ k := eq3 _ _ _ _ rfl rfl rfl
  have i25 : idx_main_v25 (idx_main_v26 (ix3 b n k)) = ix1 k := by funext d; match d with | ⟨0, _⟩ => rfl
  have i28 : idx_main_v28 (idx_main_v29 (ix3 b n k)) = ix1 k := by funext d; match d with | ⟨0, _⟩ => rfl
  rw [val_main_v32_apply, val_main_v31_apply, i31, val_main_v30_apply, val_main_v29_apply, val_main_v28_apply, i28, val_main_v27_apply,
    val_main_v26_apply, val_main_v25_apply, i25, val_main_v24_apply, val_main_v23_apply, val_main_v22_apply, val_main_v21_apply, val_main_v20_apply,
    val_main_v19_apply, val_main_cst_3_apply, ref_var x1 x2 x3 b n k _ e0 e1 e2, ref_centred x1 x2 x3 b n k ⟨k.val % 64, by omega⟩ _ e0 e1 e2 e3]
  rfl

/-- The state-space branch before its gelu. -/
theorem ref_state (b : Fin 8) (n : Fin 4096) (k : Fin 512) : val_main_v39 (F := Ideal) x5 x6 x7 x13 (ix3 b n k) = state x5 x6 x7 x13 b n k := by
  have i33 : idx_main_v33 (ix3 b n k) = ix3 b ⟨256 + n.val, by omega⟩ k := eq3 _ _ _ _ rfl rfl rfl
  have i34 : idx_main_v34 (ix3 b n k) = ix3 b ⟨256 + n.val, by omega⟩ k := eq3 _ _ _ _ rfl rfl rfl
  have i36 : idx_main_v36 (idx_main_v37 (ix3 b n k)) = ix1 k := by funext d; match d with | ⟨0, _⟩ => rfl
  rw [val_main_v39_apply, val_main_v35_apply, val_main_v33_apply, i33, val_main_v34_apply, i34, val_main_v38_apply, val_main_v37_apply,
    val_main_v36_apply, i36]
  rfl

/-- Its gelu. -/
theorem ref_gelu (b : Fin 8) (n : Fin 4096) (k : Fin 512) : val_main_v52 (F := Ideal) x5 x6 x7 x13 (ix3 b n k) = gelu (state x5 x6 x7 x13 b n k) := by
  rw [val_main_v52_apply, val_main_v51_apply, val_main_v50_apply, val_main_cst_7_apply, val_main_v49_apply, val_main_v48_apply, val_main_cst_6_apply,
    ref_one, val_main_v47_apply, val_main_v46_apply, val_main_v45_apply, val_main_cst_5_apply, val_main_v44_apply, val_main_v43_apply,
    val_main_v42_apply, val_main_cst_4_apply, val_main_v41_apply, val_main_v40_apply, ref_state]
  rfl

/-- The layer after it. -/
theorem ref_glu (b : Fin 8) (n : Fin 4096) (j : Fin 1024) : val_main_v56 (F := Ideal) x5 x6 x7 x13 x14 x15 (ix3 b n j)
    = glu (state x5 x6 x7 x13 b n) (fun k j => x14 (ix2 k j)) (fun j => x15 (ix1 j)) j := by
  have i54 : idx_main_v54 (idx_main_v55 (ix3 b n j)) = ix1 j := by funext d; match d with | ⟨0, _⟩ => rfl
  rw [val_main_v56_apply, val_main_v55_apply, val_main_v54_apply, i54, val_main_v53_apply]
  refine congrArg (fun e : EReal => e + x15 (ix1 j)) (Finset.sum_congr rfl fun k _ => ?_)
  have l : lidx_main_v53 (ix3 b n j) k = ix3 b n k := eq3 _ _ _ _ rfl rfl rfl
  have r : ridx_main_v53 (ix3 b n j) k = ix2 k j := by funext d; match d with | ⟨0, _⟩ => rfl | ⟨1, _⟩ => rfl
  rw [l, r, ref_gelu]

/-- One half gated by the other. -/
theorem ref_ssm (b : Fin 8) (n : Fin 4096) (k : Fin 512) : val_main_v65 (F := Ideal) x5 x6 x7 x13 x14 x15 (ix3 b n k)
    = ssm (state x5 x6 x7 x13 b n) (fun k j => x14 (ix2 k j)) (fun j => x15 (ix1 j)) k := by
  have i57 : idx_main_v57 (ix3 b n k) = ix3 b n ⟨k.val, by omega⟩ := eq3 _ _ _ _ rfl rfl rfl
  have i58 : idx_main_v58 (ix3 b n k) = ix3 b n ⟨512 + k.val, by omega⟩ := eq3 _ _ _ _ rfl rfl rfl
  rw [val_main_v65_apply, val_main_v57_apply, i57, ref_glu, val_main_v64_apply, val_main_v63_apply, val_main_cst_9_apply, val_main_v62_apply,
    val_main_v61_apply, val_main_cst_8_apply, ref_one, val_main_v60_apply, val_main_v59_apply, val_main_v58_apply, i58, ref_glu]
  rfl

/-- A gate. -/
theorem ref_gate (i : S8x4096x3072.Idx) : val_main_v71 (F := Ideal) x8 i = gate (x8 i) := by
  rw [val_main_v71_apply, val_main_v70_apply, val_main_cst_11_apply, val_main_v69_apply, val_main_v68_apply, val_main_cst_10_apply, ref_one,
    val_main_v67_apply, val_main_v66_apply]
  rfl

/-- Branch 0's weights. -/
theorem ref_w0 (k : Fin 512) (e : Fin 1024) (i : S512x1024.Idx) (h0 : (i 0).val = k.val) (h1 : (i 1).val = e.val) :
    val_main_v76 (F := Ideal) x16 i = x16 (ix3 0 k e) := by
  have q : idx_main_v75 (idx_main_v76 i) = ix3 0 k e := by
    refine eq3 _ _ _ _ rfl ?_ ?_
    · show ((i 0).val * 1024 + (i 1).val) / 1024 % 512 = k.val
      omega
    · show ((i 0).val * 1024 + (i 1).val) % 1024 = e.val
      omega
  rw [val_main_v76_apply, val_main_v75_apply, q]

/-- Branch 1's weights. -/
theorem ref_w1 (k : Fin 512) (e : Fin 1024) (i : S512x1024.Idx) (h0 : (i 0).val = k.val) (h1 : (i 1).val = e.val) :
    val_main_v80 (F := Ideal) x16 i = x16 (ix3 1 k e) := by
  have q : idx_main_v79 (idx_main_v80 i) = ix3 1 k e := by
    refine eq3 _ _ _ _ rfl ?_ ?_
    · show ((i 0).val * 1024 + (i 1).val) / 1024 % 512 = k.val
      omega
    · show ((i 0).val * 1024 + (i 1).val) % 1024 = e.val
      omega
  rw [val_main_v80_apply, val_main_v79_apply, q]

/-- Branch 2's weights. -/
theorem ref_w2 (k : Fin 512) (e : Fin 1024) (i : S512x1024.Idx) (h0 : (i 0).val = k.val) (h1 : (i 1).val = e.val) :
    val_main_v85 (F := Ideal) x16 i = x16 (ix3 2 k e) := by
  have q : idx_main_v84 (idx_main_v85 i) = ix3 2 k e := by
    refine eq3 _ _ _ _ rfl ?_ ?_
    · show ((i 0).val * 1024 + (i 1).val) / 1024 % 512 = k.val
      omega
    · show ((i 0).val * 1024 + (i 1).val) % 1024 = e.val
      omega
  rw [val_main_v85_apply, val_main_v84_apply, q]

/-- The three branches projected, gated and summed. -/
theorem ref_mixed (b : Fin 8) (n : Fin 4096) (e : Fin 1024) :
    val_main_v88 (F := Ideal) x0 x1 x2 x3 x4 x5 x6 x7 x8 x11 x12 x13 x14 x15 x16 (ix3 b n e) = mixed (fun k => x0 (ix3 b n k))
      (rwkv (joined x1 x2 x3 b n) (fun k => x11 (ix1 k)) (fun k => x12 (ix1 k)) (fun k => x4 (ix3 b ⟨256 + n.val, by omega⟩ k)))
      (ssm (state x5 x6 x7 x13 b n) (fun k j => x14 (ix2 k j)) (fun j => x15 (ix1 j)))
      (fun j => x8 (ix3 b n j)) (fun p k e => x16 (ix3 p k e)) e := by
  have g0 : idx_main_v72 (ix3 b n e) = ix3 b n ⟨e.val, by omega⟩ := eq3 _ _ _ _ rfl rfl rfl
  have g1 : idx_main_v73 (ix3 b n e) = ix3 b n ⟨1024 + e.val, by omega⟩ := eq3 _ _ _ _ rfl rfl rfl
  have g2 : idx_main_v74 (ix3 b n e) = ix3 b n ⟨2048 + e.val, by omega⟩ := eq3 _ _ _ _ rfl rfl rfl
  have d0 : val_main_v77 (F := Ideal) x0 x16 (ix3 b n e) = ∑ k : Fin 512, x0 (ix3 b n k) * x16 (ix3 0 k e) := by
    rw [val_main_v77_apply]
    refine Finset.sum_congr rfl fun k _ => ?_
    rw [ref_w0 x16 k e _ rfl rfl, eq3 (lidx_main_v77 (ix3 b n e) k) b n k rfl rfl rfl]
  have d1 : val_main_v81 (F := Ideal) x1 x2 x3 x4 x11 x12 x16 (ix3 b n e) = ∑ k : Fin 512, rwkv (joined x1 x2 x3 b n) (fun k => x11 (ix1 k))
      (fun k => x12 (ix1 k)) (fun k => x4 (ix3 b ⟨256 + n.val, by omega⟩ k)) k * x16 (ix3 1 k e) := by
    rw [val_main_v81_apply]
    refine Finset.sum_congr rfl fun k _ => ?_
    rw [ref_w1 x16 k e _ rfl rfl, eq3 (lidx_main_v81 (ix3 b n e) k) b n k rfl rfl rfl, ref_rwkv]
  have d2 : val_main_v86 (F := Ideal) x5 x6 x7 x13 x14 x15 x16 (ix3 b n e) = ∑ k : Fin 512, ssm (state x5 x6 x7 x13 b n) (fun k j => x14 (ix2 k j))
      (fun j => x15 (ix1 j)) k * x16 (ix3 2 k e) := by
    rw [val_main_v86_apply]
    refine Finset.sum_congr rfl fun k _ => ?_
    rw [ref_w2 x16 k e _ rfl rfl, eq3 (lidx_main_v86 (ix3 b n e) k) b n k rfl rfl rfl, ref_ssm]
  rw [val_main_v88_apply, val_main_v83_apply, val_main_v78_apply, val_main_v72_apply, g0, ref_gate, d0, val_main_v82_apply, val_main_v73_apply, g1,
    ref_gate, d1, val_main_v87_apply, val_main_v74_apply, g2, ref_gate, d2]
  rfl

/-- The reference's result is the formula. -/
theorem ref_merged (b : Fin 8) (n : Fin 4096) (d : Fin 1024) :
    val_main_v92 (F := Ideal) x0 x1 x2 x3 x4 x5 x6 x7 x8 x9 x10 x11 x12 x13 x14 x15 x16 x17 (ix3 b n d)
      = merged x0 x1 x2 x3 x4 x5 x6 x7 x8 x9 x10 x11 x12 x13 x14 x15 x16 x17 b n d := by
  have q : idx_main_v90 (ix3 b n d) = ix3 b 0 d := eq3 _ _ _ _ rfl rfl rfl
  rw [val_main_v92_apply, val_main_v91_apply, val_main_v90_apply, q, val_main_v89_apply]
  refine congrArg (fun e : EReal => x9 (ix3 b n d) + x10 (ix3 b 0 d) * e) (Finset.sum_congr rfl fun e _ => ?_)
  have r : ridx_main_v89 (ix3 b n d) e = ix2 e d := by funext a; match a with | ⟨0, _⟩ => rfl | ⟨1, _⟩ => rfl
  rw [r, eq3 (lidx_main_v89 (ix3 b n d) e) b n e rfl rfl rfl, ref_mixed]

end Cert.Merge

end
-- ==== Proof.MergePre.lean ====
/- What the condition on the recurrence's output says: every entry of its two directions and of the bonus is finite. -/
module

public import proofs.«01_k».proof.Proof.MergeNorm
public import proofs.«01_k».proof.Proof.Gen.Pre_recurrence_finite
public import Idealize.ShloMosaic.Lib.ReduceAll
public import Idealize.ShloMosaic.Lib.Pointwise

@[expose] public section

set_option maxRecDepth 16384

noncomputable section

namespace Cert.Merge

open Idealize.ShloMosaic
open Cert.Pre_recurrence_finite Cert.Pre_recurrence_finite.Gen

theorem inf_eq : Ideal.ofBits FTy.f32 0x7F800000#32 = ⊤ := by simp [Ideal.ofBits, Ideal.ieee]

/-- A conjunction that holds. -/
theorem and_one : ∀ a b : BitVec 1, a &&& b = 1#1 → a = 1#1 ∧ b = 1#1 := by decide

/-- A number whose absolute value is below infinity is finite. -/
theorem fine_of_abs (x : EReal) (h : Ideal.cmp .olt (max x (-x)) (Ideal.ofBits FTy.f32 0x7F800000#32) = 1#1) : Fine x := by
  have h' : max x (-x) < ⊤ := by
    rw [inf_eq] at h
    by_contra c
    have h2 : BitVec.ofBool (decide (max x (-x) < ⊤)) = 1#1 := h
    rw [decide_eq_false c] at h2
    revert h2; decide
  refine fin_of _ ?_ ?_
  · rintro rfl; simp at h'
  · rintro rfl; simp at h'

theorem finite [Cert.Pre_recurrence_finite.Facts] (x0 : FVec Ideal S8x4096x512 .f32) (x1 x2 : FVec Ideal S272x1024x128 .f32) (x3 x4 x5 x6 : FVec Ideal S8x4352x512 .f32)
    (x7 : FVec Ideal S8x4096x512 .f32) (x8 : FVec Ideal S8x4096x3072 .f32) (x9 : FVec Ideal S8x4096x1024 .f32) (x10 : FVec Ideal S8x1x1024 .f32)
    (x11 x12 x13 : FVec Ideal S512 .f32) (x14 : FVec Ideal S512x1024 .f32) (x15 : FVec Ideal S1024 .f32) (x16 : FVec Ideal S3x512x1024 .f32) (x17 : FVec Ideal S1024x1024 .f32)
    (h : Cert.Pre_recurrence_finite.fn (F := Ideal) x0 x1 x2 x3 x4 x5 x6 x7 x8 x9 x10 x11 x12 x13 x14 x15 x16 x17 = fun _ => 1#1) :
    (∀ i, Fine (x1 i)) ∧ (∀ i, Fine (x2 i)) ∧ (∀ i, Fine (x3 i)) := by
  have h0 := congrFun h (fun a => a.elim0)
  haveI : Subsingleton S_.Idx := ⟨fun a b => funext fun d => d.elim0⟩
  obtain ⟨h12, h3⟩ := and_one _ _ h0
  obtain ⟨h1, h2⟩ := and_one _ _ h12
  exact ⟨fun i => fine_of_abs _ (Host.reduce_andi_all _ _ _ _ _ h1 i), fun i => fine_of_abs _ (Host.reduce_andi_all _ _ _ _ _ h2 i),
    fun i => fine_of_abs _ (Host.reduce_andi_all _ _ _ _ _ h3 i)⟩

end Cert.Merge

end
-- ==== Proof.Merge.lean ====
/- The merge's claims: its frames, and that its idealised kernel and the plain formula end with the same result. -/
module

public import proofs.«01_k».proof.Defs
public import proofs.«01_k».proof.Proof.MergeValue
public import proofs.«01_k».proof.Proof.MergeRef
public import proofs.«01_k».proof.Proof.MergePre
public import proofs.«01_k».proof.Proof.Gen.Kernel6.Frame
public import proofs.«01_k».proof.Proof.Gen.Reference6Ideal.Run
public import proofs.«01_k».proof.Proof.Gen.Reference6Ideal.Read
public import Idealize.ShloMosaic.Lib.Quiescent

@[expose] public section

set_option maxRecDepth 16384

noncomputable section

namespace Cert.Merge

open Idealize.ShloMosaic Idealize.ShloMosaic.TcCoe Idealize.SL.Sem

variable [Cert.Pre_recurrence_finite.Facts]

theorem frame_kernel : Cert.quiescent_Kernel6 := fun m g _ => Cert.Kernel6.Gen.frame m g

theorem frame_ideal : Cert.quiescent_Kernel6Ideal := fun m g _ => Cert.Kernel6Ideal.Gen.frame m g

theorem frame_ideal_pre : Cert.quiescent_Kernel6Ideal_pre_recurrence_finite := fun m g _ => Cert.Kernel6Ideal.Gen.frame m g

/-- The reference's frame: it has no counters, so they end at zero. -/
theorem frame_reference : Cert.quiescent_Reference6Ideal := fun m g _ =>
  (θ_run _ _ _).mono (fun r h => ⟨fun c => (h c).2, sem_eq_zero_of_no_sems (by decide) r.2⟩) (Cert.Reference6Ideal.Value.run (F := Ideal) m g)

theorem frame_reference_pre : Cert.quiescent_Reference6Ideal_pre_recurrence_finite := fun m g _ =>
  (θ_run _ _ _).mono (fun r h => ⟨fun c => (h c).2, sem_eq_zero_of_no_sems (by decide) r.2⟩) (Cert.Reference6Ideal.Value.run (F := Ideal) m g)

/-- Both runs end with the merge of the kernel's own arguments. -/
theorem same_result : Cert.algebraic_Kernel6Ideal_Reference6Ideal_pre_recurrence_finite := by
  intro m g m' g' hpre hagree
  refine ⟨fun c => merge m c, ?_, ?_⟩
  · exact (θ_run _ _ _).mono (fun r h c => ⟨(h c).1.trans (result m c (finite _ _ _ _ _ _ _ _ _ _ _ _ _ _ _ _ _ _ (hpre c))), (h c).2⟩) (Cert.Kernel6Ideal.Value.run_blocks (F := Ideal) m g)
  · refine (θ_run _ _ _).mono (fun r h c => ⟨(h c).1.trans ?_, (h c).2⟩) (Cert.Reference6Ideal.Value.run (F := Ideal) m' g')
    obtain ⟨e0, e1, e2, e3, e4, e5, e6, e7, e8, e9, e10, e11, e12, e13, e14, e15, e16, e17⟩ := hagree c
    rw [Cert.Reference6Ideal.Read.val_main_v92_eq, e0, e1, e2, e3, e4, e5, e6, e7, e8, e9, e10, e11, e12, e13, e14, e15, e16, e17]
    funext i
    rw [eq3 i (i 0) (i 1) (i 2) rfl rfl rfl]
    exact ref_merged _ _ _ _ _ _ _ _ _ _ _ _ _ _ _ _ _ _ (i 0) (i 1) (i 2)

end Cert.Merge

end
-- ==== Proof.ContextNorm.lean ====
/- The normalised, modulated projection of the context rows to width 3072: what each grid point writes is the plain formula's block. -/
module

public import proofs.«01_k».proof.Defs
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Quiescent

@[expose] public section

set_option maxRecDepth 16384

noncomputable section

namespace Cert.NormProj7

open Cert.Kernel7Ideal Cert.Kernel7Ideal.Gen Cert.Kernel7Ideal.Value
open Idealize.ShloMosaic Idealize.ShloMosaic.TcCoe Idealize.SL.Sem
open Idealize.ShloMosaic.Pipeline (Dat)

/-- The reference's result as one function of the five arguments. -/
def proj (X : FVec Ideal S8x256x1024 .f32) (SH SC : FVec Ideal S8x1x1024 .f32) (G : FVec Ideal S1024 .f32) (W : FVec Ideal S1024x3072 .bf16) : FVec Ideal S8x256x3072 .f32 :=
  Host.dotGeneral Cert.Reference7Ideal.dot_S8x256x1024_S1024x3072_S8x256x3072_2_0_01_1_n_n none (addf (mulf (mulf (mulf X (broadcastInDim Cert.Reference7Ideal.S8x256x1024 ![0, 1, 2] Cert.Reference7Ideal.Gen.bcast_S8x256x1_S8x256x1024_0_1_2 (Host.rsqrt (addf (Host.divf (broadcastInDim Cert.Reference7Ideal.S8x256x1 ![0, 1] Cert.Reference7Ideal.Gen.bcast_S8x256_S8x256x1_0_1 (Host.reduceAdd (mulf X X) (constant Cert.Reference7Ideal.S_ .f32 0x00000000#32) Cert.Reference7Ideal.Gen.reducesTo_S8x256x1024_S8x256_d2 Cert.Reference7Ideal.Gen.h_S_)) (broadcastInDim Cert.Reference7Ideal.S8x256x1 ![] Cert.Reference7Ideal.Gen.bcast_S_S8x256x1 (constant Cert.Reference7Ideal.S_ .f32 0x44800000#32))) (broadcastInDim Cert.Reference7Ideal.S8x256x1 ![] Cert.Reference7Ideal.Gen.bcast_S_S8x256x1 (constant Cert.Reference7Ideal.S_ .f32 0x358637BD#32)))))) (broadcastInDim Cert.Reference7Ideal.S8x256x1024 ![0, 1, 2] Cert.Reference7Ideal.Gen.bcast_S1x1x1024_S8x256x1024_0_1_2 (broadcastInDim Cert.Reference7Ideal.S1x1x1024 ![2] Cert.Reference7Ideal.Gen.bcast_S1024_S1x1x1024_2 G))) (broadcastInDim Cert.Reference7Ideal.S8x256x1024 ![0, 1, 2] Cert.Reference7Ideal.Gen.bcast_S8x1x1024_S8x256x1024_0_1_2 (addf (broadcastInDim Cert.Reference7Ideal.S8x1x1024 ![] Cert.Reference7Ideal.Gen.bcast_S_S8x1x1024 (constant Cert.Reference7Ideal.S_ .f32 0x3F800000#32)) SC))) (broadcastInDim Cert.Reference7Ideal.S8x256x1024 ![0, 1, 2] Cert.Reference7Ideal.Gen.bcast_S8x1x1024_S8x256x1024_0_1_2 SH)) (extf .f32 W bitsLt_bf16_f32)

variable (m : (ℓ : Loc nD τ sig) → Buf (Elt Ideal) ℓ)

/-- Where each window's block sits at point `t` of the 8 by 2 grid. -/
theorem places : ∀ t : Fin cfg0.N, win0_0.index t = ![t.val / 2, 0, 0] ∧ win0_1.index t = ![t.val / 2, 0, 0]
    ∧ win0_2.index t = ![t.val / 2, 0, 0] ∧ win0_3.index t = ![0, 0] ∧ win0_4.index t = ![0, t.val % 2]
    ∧ win0_5.index t = ![t.val / 2, 0, t.val % 2] :=
  (by decide +kernel : ∀ t : Fin grid0.N, _)

set_option maxHeartbeats 2000000 in
/-- What the body stores at point `t` from the rows normalised at a point `u` of the same rows. -/
theorem stored_eq (c : Dev nD) (t u : Fin cfg0.N) (hu : u.val / 2 = t.val / 2) (y : S1x256x1536.Idx) :
    k0_pay2 (F := Ideal) (k0_pay1 (F := Ideal) (iblk m c 0 u) (iblk m c 3 u) (iblk m c 1 u) (iblk m c 2 u)) (iblk m c 4 t) y
      = proj (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay2, k0_pay1, proj]
  blk_point [iblk, V, places t, places u, hu]

/-- The result array after the run. -/
theorem result (c : Dev nD) : (dats m 0 c).arrAt 5 (cfgs 0).N
    = proj (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  by_cases h0 : t.val % 2 = 0
  · rw [outsAt0_A m c t h0]; frame_out
    exact stored_eq m c t t rfl y
  · rw [outsAt0_B m c t h0];
    have hp : (t.val - 1) % 2 = 0 := by omega
    have e := outsAt0_A m c ⟨t.val - 1, Nat.lt_of_le_of_lt (Nat.sub_le _ _) t.isLt⟩ hp
    dsimp only at e
    rw [e]; frame_out
    erw [Memref.IsWhole.read_unread]
    exact stored_eq m c t ⟨t.val - 1, Nat.lt_of_le_of_lt (Nat.sub_le _ _) t.isLt⟩ (by show (t.val - 1) / 2 = t.val / 2; omega) y

/-- The reference's frame: it has no counters, so they end at zero. -/
theorem frame_reference : Cert.quiescent_Reference7Ideal := fun m g _ =>
  (θ_run _ _ _).mono (fun r h => ⟨fun c => (h c).2, sem_eq_zero_of_no_sems (by decide) r.2⟩) (Cert.Reference7Ideal.Value.run (F := Ideal) m g)

/-- Both runs end with the plain formula over the kernel's own arguments. -/
theorem same_result : Cert.algebraic_Kernel7Ideal_Reference7Ideal := by
  intro m g m' g' _ hagree
  refine ⟨fun c => proj (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), ?_, ?_⟩
  · exact (θ_run _ _ _).mono (fun r h c => ⟨(h c).1.trans (result m c), (h c).2⟩) (Cert.Kernel7Ideal.Value.run_blocks (F := Ideal) m g)
  · refine (θ_run _ _ _).mono (fun r h c => ⟨(h c).1.trans ?_, (h c).2⟩) (Cert.Reference7Ideal.Value.run (F := Ideal) m' g')
    obtain ⟨e0, e1, e2, e3, e4⟩ := hagree c
    rw [e0, e1, e2, e3, e4]
    rfl

end Cert.NormProj7
-- ==== Proof.ContextNormWide.lean ====
/- The normalised, modulated projection of the context rows to width 1792: what each grid point writes is the plain formula's block. -/
module

public import proofs.«01_k».proof.Defs
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Quiescent

@[expose] public section

set_option maxRecDepth 16384

noncomputable section

namespace Cert.NormProj8

open Cert.Kernel8Ideal Cert.Kernel8Ideal.Gen Cert.Kernel8Ideal.Value
open Idealize.ShloMosaic Idealize.ShloMosaic.TcCoe Idealize.SL.Sem
open Idealize.ShloMosaic.Pipeline (Dat)

/-- The reference's result as one function of the five arguments. -/
def proj (X : FVec Ideal S8x256x1024 .f32) (SH SC : FVec Ideal S8x1x1024 .f32) (G : FVec Ideal S1024 .f32) (W : FVec Ideal S1024x1792 .bf16) : FVec Ideal S8x256x1792 .f32 :=
  Host.dotGeneral Cert.Reference8Ideal.dot_S8x256x1024_S1024x1792_S8x256x1792_2_0_01_1_n_n none (addf (mulf (mulf (mulf X (broadcastInDim Cert.Reference8Ideal.S8x256x1024 ![0, 1, 2] Cert.Reference8Ideal.Gen.bcast_S8x256x1_S8x256x1024_0_1_2 (Host.rsqrt (addf (Host.divf (broadcastInDim Cert.Reference8Ideal.S8x256x1 ![0, 1] Cert.Reference8Ideal.Gen.bcast_S8x256_S8x256x1_0_1 (Host.reduceAdd (mulf X X) (constant Cert.Reference8Ideal.S_ .f32 0x00000000#32) Cert.Reference8Ideal.Gen.reducesTo_S8x256x1024_S8x256_d2 Cert.Reference8Ideal.Gen.h_S_)) (broadcastInDim Cert.Reference8Ideal.S8x256x1 ![] Cert.Reference8Ideal.Gen.bcast_S_S8x256x1 (constant Cert.Reference8Ideal.S_ .f32 0x44800000#32))) (broadcastInDim Cert.Reference8Ideal.S8x256x1 ![] Cert.Reference8Ideal.Gen.bcast_S_S8x256x1 (constant Cert.Reference8Ideal.S_ .f32 0x358637BD#32)))))) (broadcastInDim Cert.Reference8Ideal.S8x256x1024 ![0, 1, 2] Cert.Reference8Ideal.Gen.bcast_S1x1x1024_S8x256x1024_0_1_2 (broadcastInDim Cert.Reference8Ideal.S1x1x1024 ![2] Cert.Reference8Ideal.Gen.bcast_S1024_S1x1x1024_2 G))) (broadcastInDim Cert.Reference8Ideal.S8x256x1024 ![0, 1, 2] Cert.Reference8Ideal.Gen.bcast_S8x1x1024_S8x256x1024_0_1_2 (addf (broadcastInDim Cert.Reference8Ideal.S8x1x1024 ![] Cert.Reference8Ideal.Gen.bcast_S_S8x1x1024 (constant Cert.Reference8Ideal.S_ .f32 0x3F800000#32)) SC))) (broadcastInDim Cert.Reference8Ideal.S8x256x1024 ![0, 1, 2] Cert.Reference8Ideal.Gen.bcast_S8x1x1024_S8x256x1024_0_1_2 SH)) (extf .f32 W bitsLt_bf16_f32)

variable (m : (ℓ : Loc nD τ sig) → Buf (Elt Ideal) ℓ)

/-- Where each window's block sits at point `t` of the 8-point grid. -/
theorem places : ∀ t : Fin cfg0.N, win0_0.index t = ![t.val, 0, 0] ∧ win0_1.index t = ![t.val, 0, 0]
    ∧ win0_2.index t = ![t.val, 0, 0] ∧ win0_3.index t = ![0, 0] ∧ win0_4.index t = ![0, 0]
    ∧ win0_5.index t = ![t.val, 0, 0] :=
  (by decide +kernel : ∀ t : Fin grid0.N, _)

set_option maxHeartbeats 2000000 in
/-- What the body stores at point `t`. -/
theorem stored_eq (c : Dev nD) (t : Fin cfg0.N) (y : S1x256x1792.Idx) :
    k0_pay2 (F := Ideal) (k0_pay1 (F := Ideal) (iblk m c 0 t) (iblk m c 3 t) (iblk m c 1 t) (iblk m c 2 t)) (iblk m c 4 t) y
      = proj (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay2, k0_pay1, proj]
  blk_point [iblk, V, places t]

/-- The result array after the run. -/
theorem result (c : Dev nD) : (dats m 0 c).arrAt 5 (cfgs 0).N
    = proj (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  exact stored_eq m c t y

/-- The reference's frame: it has no counters, so they end at zero. -/
theorem frame_reference : Cert.quiescent_Reference8Ideal := fun m g _ =>
  (θ_run _ _ _).mono (fun r h => ⟨fun c => (h c).2, sem_eq_zero_of_no_sems (by decide) r.2⟩) (Cert.Reference8Ideal.Value.run (F := Ideal) m g)

/-- Both runs end with the plain formula over the kernel's own arguments. -/
theorem same_result : Cert.algebraic_Kernel8Ideal_Reference8Ideal := by
  intro m g m' g' _ hagree
  refine ⟨fun c => proj (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)), ?_, ?_⟩
  · exact (θ_run _ _ _).mono (fun r h c => ⟨(h c).1.trans (result m c), (h c).2⟩) (Cert.Kernel8Ideal.Value.run_blocks (F := Ideal) m g)
  · refine (θ_run _ _ _).mono (fun r h c => ⟨(h c).1.trans ?_, (h c).2⟩) (Cert.Reference8Ideal.Value.run (F := Ideal) m' g')
    obtain ⟨e0, e1, e2, e3, e4⟩ := hagree c
    rw [e0, e1, e2, e3, e4]
    rfl

end Cert.NormProj8

end
-- ==== Proof.ContextNormMid.lean ====
/- The normalised, modulated projection of the context rows to width 1536: what each grid point writes is the plain formula's block. -/
module

public import proofs.«01_k».proof.Defs
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Quiescent

@[expose] public section

set_option maxRecDepth 16384

noncomputable section

namespace Cert.NormProj9

open Cert.Kernel9Ideal Cert.Kernel9Ideal.Gen Cert.Kernel9Ideal.Value
open Idealize.ShloMosaic Idealize.ShloMosaic.TcCoe Idealize.SL.Sem
open Idealize.ShloMosaic.Pipeline (Dat)

/-- The reference's result as one function of the five arguments. -/
def proj (X : FVec Ideal S8x256x1024 .f32) (SH SC : FVec Ideal S8x1x1024 .f32) (G : FVec Ideal S1024 .f32) (W : FVec Ideal S1024x1536 .bf16) : FVec Ideal S8x256x1536 .f32 :=
  Host.dotGeneral Cert.Reference9Ideal.dot_S8x256x1024_S1024x1536_S8x256x1536_2_0_01_1_n_n none (addf (mulf (mulf (mulf X (broadcastInDim Cert.Reference9Ideal.S8x256x1024 ![0, 1, 2] Cert.Reference9Ideal.Gen.bcast_S8x256x1_S8x256x1024_0_1_2 (Host.rsqrt (addf (Host.divf (broadcastInDim Cert.Reference9Ideal.S8x256x1 ![0, 1] Cert.Reference9Ideal.Gen.bcast_S8x256_S8x256x1_0_1 (Host.reduceAdd (mulf X X) (constant Cert.Reference9Ideal.S_ .f32 0x00000000#32) Cert.Reference9Ideal.Gen.reducesTo_S8x256x1024_S8x256_d2 Cert.Reference9Ideal.Gen.h_S_)) (broadcastInDim Cert.Reference9Ideal.S8x256x1 ![] Cert.Reference9Ideal.Gen.bcast_S_S8x256x1 (constant Cert.Reference9Ideal.S_ .f32 0x44800000#32))) (broadcastInDim Cert.Reference9Ideal.S8x256x1 ![] Cert.Reference9Ideal.Gen.bcast_S_S8x256x1 (constant Cert.Reference9Ideal.S_ .f32 0x358637BD#32)))))) (broadcastInDim Cert.Reference9Ideal.S8x256x1024 ![0, 1, 2] Cert.Reference9Ideal.Gen.bcast_S1x1x1024_S8x256x1024_0_1_2 (broadcastInDim Cert.Reference9Ideal.S1x1x1024 ![2] Cert.Reference9Ideal.Gen.bcast_S1024_S1x1x1024_2 G))) (broadcastInDim Cert.Reference9Ideal.S8x256x1024 ![0, 1, 2] Cert.Reference9Ideal.Gen.bcast_S8x1x1024_S8x256x1024_0_1_2 (addf (broadcastInDim Cert.Reference9Ideal.S8x1x1024 ![] Cert.Reference9Ideal.Gen.bcast_S_S8x1x1024 (constant Cert.Reference9Ideal.S_ .f32 0x3F800000#32)) SC))) (broadcastInDim Cert.Reference9Ideal.S8x256x1024 ![0, 1, 2] Cert.Reference9Ideal.Gen.bcast_S8x1x1024_S8x256x1024_0_1_2 SH)) (extf .f32 W bitsLt_bf16_f32)

variable (m : (ℓ : Loc nD τ sig) → Buf (Elt Ideal) ℓ)

/-- Where each window's block sits at point `t` of the 8-point grid. -/
theorem places : ∀ t : Fin cfg0.N, win0_0.index t = ![t.val, 0, 0] ∧ win0_1.index t = ![t.val, 0, 0]
    ∧ win0_2.index t = ![t.val, 0, 0] ∧ win0_3.index t = ![0, 0] ∧ win0_4.index t = ![0, 0]
    ∧ win0_5.index t = ![t.val, 0, 0] :=
  (by decide +kernel : ∀ t : Fin grid0.N, _)

set_option maxHeartbeats 2000000 in
/-- What the body stores at point `t`. -/
theorem stored_eq (c : Dev nD) (t : Fin cfg0.N) (y : S1x256x1536.Idx) :
    k0_pay2 (F := Ideal) (k0_pay1 (F := Ideal) (iblk m c 0 t) (iblk m c 3 t) (iblk m c 1 t) (iblk m c 2 t)) (iblk m c 4 t) y
      = proj (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay2, k0_pay1, proj]
  blk_point [iblk, V, places t]

/-- The result array after the run. -/
theorem result (c : Dev nD) : (dats m 0 c).arrAt 5 (cfgs 0).N
    = proj (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  exact stored_eq m c t y

/-- The reference's frame: it has no counters, so they end at zero. -/
theorem frame_reference : Cert.quiescent_Reference9Ideal := fun m g _ =>
  (θ_run _ _ _).mono (fun r h => ⟨fun c => (h c).2, sem_eq_zero_of_no_sems (by decide) r.2⟩) (Cert.Reference9Ideal.Value.run (F := Ideal) m g)

/-- Both runs end with the plain formula over the kernel's own arguments. -/
theorem same_result : Cert.algebraic_Kernel9Ideal_Reference9Ideal := by
  intro m g m' g' _ hagree
  refine ⟨fun c => proj (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)), ?_, ?_⟩
  · exact (θ_run _ _ _).mono (fun r h c => ⟨(h c).1.trans (result m c), (h c).2⟩) (Cert.Kernel9Ideal.Value.run_blocks (F := Ideal) m g)
  · refine (θ_run _ _ _).mono (fun r h c => ⟨(h c).1.trans ?_, (h c).2⟩) (Cert.Reference9Ideal.Value.run (F := Ideal) m' g')
    obtain ⟨e0, e1, e2, e3, e4⟩ := hagree c
    rw [e0, e1, e2, e3, e4]
    rfl

end Cert.NormProj9

end
-- ==== Proof.ContextNormNarrow.lean ====
/- The normalised, modulated projection of the context rows to width 512: what each grid point writes is the plain formula's block. -/
module

public import proofs.«01_k».proof.Defs
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Quiescent

@[expose] public section

set_option maxRecDepth 16384

noncomputable section

namespace Cert.NormProj10

open Cert.Kernel10Ideal Cert.Kernel10Ideal.Gen Cert.Kernel10Ideal.Value
open Idealize.ShloMosaic Idealize.ShloMosaic.TcCoe Idealize.SL.Sem
open Idealize.ShloMosaic.Pipeline (Dat)

/-- The reference's result as one function of the five arguments. -/
def proj (X : FVec Ideal S8x256x1024 .f32) (SH SC : FVec Ideal S8x1x1024 .f32) (G : FVec Ideal S1024 .f32) (W : FVec Ideal S1024x512 .bf16) : FVec Ideal S8x256x512 .f32 :=
  Host.dotGeneral Cert.Reference10Ideal.dot_S8x256x1024_S1024x512_S8x256x512_2_0_01_1_n_n none (addf (mulf (mulf (mulf X (broadcastInDim Cert.Reference10Ideal.S8x256x1024 ![0, 1, 2] Cert.Reference10Ideal.Gen.bcast_S8x256x1_S8x256x1024_0_1_2 (Host.rsqrt (addf (Host.divf (broadcastInDim Cert.Reference10Ideal.S8x256x1 ![0, 1] Cert.Reference10Ideal.Gen.bcast_S8x256_S8x256x1_0_1 (Host.reduceAdd (mulf X X) (constant Cert.Reference10Ideal.S_ .f32 0x00000000#32) Cert.Reference10Ideal.Gen.reducesTo_S8x256x1024_S8x256_d2 Cert.Reference10Ideal.Gen.h_S_)) (broadcastInDim Cert.Reference10Ideal.S8x256x1 ![] Cert.Reference10Ideal.Gen.bcast_S_S8x256x1 (constant Cert.Reference10Ideal.S_ .f32 0x44800000#32))) (broadcastInDim Cert.Reference10Ideal.S8x256x1 ![] Cert.Reference10Ideal.Gen.bcast_S_S8x256x1 (constant Cert.Reference10Ideal.S_ .f32 0x358637BD#32)))))) (broadcastInDim Cert.Reference10Ideal.S8x256x1024 ![0, 1, 2] Cert.Reference10Ideal.Gen.bcast_S1x1x1024_S8x256x1024_0_1_2 (broadcastInDim Cert.Reference10Ideal.S1x1x1024 ![2] Cert.Reference10Ideal.Gen.bcast_S1024_S1x1x1024_2 G))) (broadcastInDim Cert.Reference10Ideal.S8x256x1024 ![0, 1, 2] Cert.Reference10Ideal.Gen.bcast_S8x1x1024_S8x256x1024_0_1_2 (addf (broadcastInDim Cert.Reference10Ideal.S8x1x1024 ![] Cert.Reference10Ideal.Gen.bcast_S_S8x1x1024 (constant Cert.Reference10Ideal.S_ .f32 0x3F800000#32)) SC))) (broadcastInDim Cert.Reference10Ideal.S8x256x1024 ![0, 1, 2] Cert.Reference10Ideal.Gen.bcast_S8x1x1024_S8x256x1024_0_1_2 SH)) (extf .f32 W bitsLt_bf16_f32)

variable (m : (ℓ : Loc nD τ sig) → Buf (Elt Ideal) ℓ)

/-- Where each window's block sits at point `t` of the 8-point grid. -/
theorem places : ∀ t : Fin cfg0.N, win0_0.index t = ![t.val, 0, 0] ∧ win0_1.index t = ![t.val, 0, 0]
    ∧ win0_2.index t = ![t.val, 0, 0] ∧ win0_3.index t = ![0, 0] ∧ win0_4.index t = ![0, 0]
    ∧ win0_5.index t = ![t.val, 0, 0] :=
  (by decide +kernel : ∀ t : Fin grid0.N, _)

set_option maxHeartbeats 2000000 in
/-- What the body stores at point `t`. -/
theorem stored_eq (c : Dev nD) (t : Fin cfg0.N) (y : S1x256x512.Idx) :
    k0_pay2 (F := Ideal) (k0_pay1 (F := Ideal) (iblk m c 0 t) (iblk m c 3 t) (iblk m c 1 t) (iblk m c 2 t)) (iblk m c 4 t) y
      = proj (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay2, k0_pay1, proj]
  blk_point [iblk, V, places t]

/-- The result array after the run. -/
theorem result (c : Dev nD) : (dats m 0 c).arrAt 5 (cfgs 0).N
    = proj (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  exact stored_eq m c t y

/-- The reference's frame: it has no counters, so they end at zero. -/
theorem frame_reference : Cert.quiescent_Reference10Ideal := fun m g _ =>
  (θ_run _ _ _).mono (fun r h => ⟨fun c => (h c).2, sem_eq_zero_of_no_sems (by decide) r.2⟩) (Cert.Reference10Ideal.Value.run (F := Ideal) m g)

/-- Both runs end with the plain formula over the kernel's own arguments. -/
theorem same_result : Cert.algebraic_Kernel10Ideal_Reference10Ideal := by
  intro m g m' g' _ hagree
  refine ⟨fun c => proj (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)), ?_, ?_⟩
  · exact (θ_run _ _ _).mono (fun r h c => ⟨(h c).1.trans (result m c), (h c).2⟩) (Cert.Kernel10Ideal.Value.run_blocks (F := Ideal) m g)
  · refine (θ_run _ _ _).mono (fun r h c => ⟨(h c).1.trans ?_, (h c).2⟩) (Cert.Reference10Ideal.Value.run (F := Ideal) m' g')
    obtain ⟨e0, e1, e2, e3, e4⟩ := hagree c
    rw [e0, e1, e2, e3, e4]
    rfl

end Cert.NormProj10

end
-- ==== Proof.ContextExpertPre.lean ====
/- What the condition on the table of experts says: every entry is one of the 64 experts. -/
module

public import proofs.«01_k».proof.Proof.Gen.Pre_context_experts_in_range
public import Idealize.ShloMosaic.Lib.ReduceAll
public import Idealize.ShloMosaic.Lib.Pointwise

@[expose] public section

set_option maxRecDepth 16384

noncomputable section

namespace Cert.ContextFfn

open Idealize.ShloMosaic
open Cert.Pre_context_experts_in_range Cert.Pre_context_experts_in_range.Gen

variable {F : FTy → Type} [FloatOps F]

/-- Two comparisons that both hold. -/
theorem both_of (w : BitVec 32) (h : IntOp.andi (IntOp.cmpi .sge w 0#32) (IntOp.cmpi .slt w 64#32) = 1#1) : 0 ≤ w.toInt ∧ w.toInt < 64 := by
  have h' : BitVec.ofBool ((0#32 : BitVec 32).sle w) &&& BitVec.ofBool (w.slt 64#32) = 1#1 := h
  have e1 : (0#32 : BitVec 32).sle w = true := by
    revert h'; cases (0#32 : BitVec 32).sle w <;> cases w.slt 64#32 <;> decide
  have e2 : w.slt 64#32 = true := by
    revert h'; cases (0#32 : BitVec 32).sle w <;> cases w.slt 64#32 <;> decide
  simp only [BitVec.sle, BitVec.slt, decide_eq_true_eq] at e1 e2
  exact ⟨e1, e2⟩

theorem in_range [Cert.Pre_context_experts_in_range.Facts] (x0 : FVec F S24576x1024 .bf16) (x1 : IVec S48 32) (x2 : IVec S1 32) (x3 : FVec F S64x1024x2048 .f32) (x4 : FVec F S64x1x2048 .f32) (x5 : FVec F S64x1024x1024 .f32) (x6 : FVec F S64x1x1024 .f32)
    (h : Cert.Pre_context_experts_in_range.fn (F := F) x0 x1 x2 x3 x4 x5 x6 = fun _ => 1#1) (i : S48.Idx) : 0 ≤ (x1 i).toInt ∧ (x1 i).toInt < 64 := by
  have h0 := congrFun h (fun a => a.elim0)
  haveI : Subsingleton S_.Idx := ⟨fun a b => funext fun d => d.elim0⟩
  have := Host.reduce_andi_all _ _ _ _ _ h0 i
  exact both_of _ this

/-- Such a word read unsigned is its signed value. -/
theorem word_nat (w : BitVec 32) (h : 0 ≤ w.toInt ∧ w.toInt < 64) : w.toNat < 64 ∧ min w.toInt.toNat 63 = w.toNat := by
  have := BitVec.toInt_eq_toNat_cond w
  have hw := w.isLt
  split at this <;> omega

end Cert.ContextFfn

end
-- ==== Proof.ContextTables.lean ====
/- Tables whose experts are in range are tables the routed feed-forward can run at; its frame. -/
module

public import proofs.«01_k».proof.Defs
public import proofs.«01_k».proof.Proof.ContextExpertPre
public import proofs.«01_k».proof.Proof.ContextRun

@[expose] public section

set_option maxRecDepth 16384

noncomputable section

namespace Cert.Kernel11.Expert

open Cert.Kernel11 Cert.Kernel11.Gen Cert.ContextFfn
open Idealize.ShloMosaic Idealize.ShloMosaic.TcCoe Idealize.SL.Sem

theorem fits (pf : pre0.Contents (Elt Bits)) (h : ∀ i : S48.Idx, (pf 0 i : BitVec 32).toNat < 64) : ok0 pf := by
  have hw : ∀ i : grid0.Coords, (pf.at 0 (Rect.unit (s := S48) (k0_off1 i) S1.size (k0_off1_inb i)) numel1_S1 : BitVec 32).toNat < 64 := fun i => by
    rw [index_word pf i (fun d => match d with | ⟨0, _⟩ => ⟨(i 0).val, (i 0).isLt⟩) rfl]; exact h _
  refine ⟨fun i => ⟨fun z => ?_, .inl rfl⟩, fun i => ⟨fun z => ?_, .inl rfl⟩, fun i => ⟨fun z => ?_, .inl rfl⟩, fun i => ⟨fun z => ?_, .inl rfl⟩⟩
  · have := hw i
    show (![(pf.at 0 (Rect.unit (s := S48) (k0_off1 i) S1.size (k0_off1_inb i)) numel1_S1 : BitVec 32).toNat, 0, 0] z + 1) * _ ≤ _
    match z with
    | ⟨0, _⟩ => show ((pf.at 0 (Rect.unit (s := S48) (k0_off1 i) S1.size (k0_off1_inb i)) numel1_S1 : BitVec 32).toNat + 1) * 1 ≤ 64; omega
    | ⟨1, _⟩ => show (0 + 1) * 1024 ≤ 1024; omega
    | ⟨2, _⟩ => show (0 + 1) * 2048 ≤ 2048; omega
  · have := hw i
    show (![(pf.at 0 (Rect.unit (s := S48) (k0_off1 i) S1.size (k0_off1_inb i)) numel1_S1 : BitVec 32).toNat, 0, 0] z + 1) * _ ≤ _
    match z with
    | ⟨0, _⟩ => show ((pf.at 0 (Rect.unit (s := S48) (k0_off1 i) S1.size (k0_off1_inb i)) numel1_S1 : BitVec 32).toNat + 1) * 1 ≤ 64; omega
    | ⟨1, _⟩ => show (0 + 1) * 1 ≤ 1; omega
    | ⟨2, _⟩ => show (0 + 1) * 2048 ≤ 2048; omega
  · have := hw i
    show (![(pf.at 0 (Rect.unit (s := S48) (k0_off1 i) S1.size (k0_off1_inb i)) numel1_S1 : BitVec 32).toNat, 0, 0] z + 1) * _ ≤ _
    match z with
    | ⟨0, _⟩ => show ((pf.at 0 (Rect.unit (s := S48) (k0_off1 i) S1.size (k0_off1_inb i)) numel1_S1 : BitVec 32).toNat + 1) * 1 ≤ 64; omega
    | ⟨1, _⟩ => show (0 + 1) * 1024 ≤ 1024; omega
    | ⟨2, _⟩ => show (0 + 1) * 1024 ≤ 1024; omega
  · have := hw i
    show (![(pf.at 0 (Rect.unit (s := S48) (k0_off1 i) S1.size (k0_off1_inb i)) numel1_S1 : BitVec 32).toNat, 0, 0] z + 1) * _ ≤ _
    match z with
    | ⟨0, _⟩ => show ((pf.at 0 (Rect.unit (s := S48) (k0_off1 i) S1.size (k0_off1_inb i)) numel1_S1 : BitVec 32).toNat + 1) * 1 ≤ 64; omega
    | ⟨1, _⟩ => show (0 + 1) * 1 ≤ 1; omega
    | ⟨2, _⟩ => show (0 + 1) * 1024 ≤ 1024; omega

/-- The tables a launch memory holds. -/
def held (m : (ℓ : Loc nD τ sig) → Buf (Elt Bits) ℓ) : pre0.Contents (Elt Bits) := fun
  | 0 => m (((0 : Dev nD) : Thread nD τ).loc main_arg1)
  | 1 => m (((0 : Dev nD) : Thread nD τ).loc main_arg2)

variable [Cert.Pre_context_experts_in_range.Facts] (m : (ℓ : Loc nD τ sig) → Buf (Elt Bits) ℓ) (hpre : Cert.Pre_Kernel11 m)

include hpre

theorem held_range (i : S48.Idx) : 0 ≤ (held m 0 i : BitVec 32).toInt ∧ (held m 0 i : BitVec 32).toInt < 64 :=
  in_range _ _ _ _ _ _ _ (hpre 0) i

/-- The tables a launch memory under the condition holds, as tables to run at. -/
def tables : (pcfg0 (F := Bits)).Adm := ⟨held m, fits (held m) fun i => (word_nat _ (held_range m hpre i)).1⟩

theorem tables_held : Tables (tables m hpre) m :=
  ⟨fun c => by obtain rfl : c = 0 := Subsingleton.elim _ _; rfl, fun c => by obtain rfl : c = 0 := Subsingleton.elim _ _; rfl⟩

end Cert.Kernel11.Expert

end
-- ==== Proof.ContextBodyIdeal.lean ====
/- One grid point of the routed feed-forward: what the body leaves in its output block and in the two weight buffers it
   keeps, at any tables. Three cases: a point in use whose expert is new, one in use with the expert of the point before,
   one not in use. -/
module

public import proofs.«01_k».proof.Proof.Gen.Kernel11Ideal.Skeleton
public import proofs.«01_k».proof.Proof.Gen.Kernel11Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Tactic

@[expose] public section

set_option maxRecDepth 16384
set_option Elab.async false

noncomputable section

namespace Cert.Kernel11Ideal.Expert

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources a run of this program is accounted in. -/
abbrev Res (F : FTy → Type) : Type := MT nD τ sig Unit (Elt F) ℕ (UR sig nD τ) ℕ

/-- The expert table, the used-blocks word and the two kept weight buffers, each whole. -/
abbrev tabE : Memref sig .tc .smem S48 .i32 := Memref.whole main_arg1
abbrev tabU : Memref sig .tc .smem S1 .i32 := Memref.whole main_arg2
abbrev keptIn : Memref sig .tc .vmem S1024x2048 .bf16 := Memref.whole cc0_scratch0
abbrev keptOut : Memref sig .tc .vmem S1024x1024 .bf16 := Memref.whole cc0_scratch1

/-- The word the body compares its block number with. -/
abbrev usedWord (U : S1.Idx → Elt F .i32) : BitVec 32 :=
  View.readAt (Elt F) tabU.view (Rect.unit (s := S1) ![0] S1.size inb_S1_S1_0).toLoadRect U (Shape.Idx.first (numel1_S1.symm ▸ Nat.one_pos))
/-- The table's word at the point, and at the point before it (the first point: its own). -/
abbrev hereWord (T : S48.Idx → Elt F .i32) (i : grid0.Coords) : BitVec 32 :=
  View.readAt (Elt F) tabE.view (Rect.unit (s := S48) (k0_off2 i) S1.size (k0_off2_inb i)).toLoadRect T (Shape.Idx.first (numel1_S1.symm ▸ Nat.one_pos))
abbrev priorWord (T : S48.Idx → Elt F .i32) (i : grid0.Coords) : BitVec 32 :=
  View.readAt (Elt F) tabE.view (Rect.unit (s := S48) (k0_off3 i) S1.size (k0_off3_inb i)).toLoadRect T (Shape.Idx.first (numel1_S1.symm ▸ Nat.one_pos))
/-- The bit saying that the point must take its expert's weights in. -/
abbrev newBit (T : S48.Idx → Elt F .i32) (i : grid0.Coords) : BitVec 1 :=
  Scalar.cmpi .ne (Scalar.extui (Scalar.ori (Scalar.cmpi .eq (BitVec.ofNat 32 (i 0).val) 0#32) (Scalar.cmpi .ne (hereWord (F := F) T i) (priorWord (F := F) T i))) : BitVec 32) 0#32

/-- One store over a whole buffer leaves the buffer reading what was stored. -/
theorem stored_reads {sp : Space} {s : Shape} {e : EltTy} (v : View sig .tc sp s e) (f : v.ty.Contents (Elt F)) (off : Fin s.rank → ℕ)
    (h : ∀ a, off a = 0) {inb : ∀ a, off a + s.size a ≤ s.size a} (w : s.Idx → Elt F e) :
    v.read (Elt F) (v.writes (Elt F) f [⟨Rect.unit off s.size inb, w⟩]) = w := by
  funext y
  exact View.read_writes_cons_unit_of_mem v f (off' := fun _ => 0) inb w [] y y (funext h) (fun a => (Nat.zero_add _).symm)

/-- A load of a whole buffer held whole. -/
theorem kept_reads (b : Ref sig .tc) (f : b.ty.Contents (Elt F)) (off : Fin b.ty.shape.rank → ℕ) (inb : ∀ a, off a + b.ty.shape.size a ≤ b.ty.shape.size a) :
    (Memref.whole b).view.readAt (Elt F) (Rect.unit off b.ty.shape.size inb).toLoadRect f = f :=
  View.readAt_full _ _ _

/-- One store over a whole buffer held whole leaves what was stored. -/
theorem kept_stored (b : Ref sig .tc) (f : b.ty.Contents (Elt F)) (off : Fin b.ty.shape.rank → ℕ) (h : ∀ a, off a = 0)
    {inb : ∀ a, off a + b.ty.shape.size a ≤ b.ty.shape.size a} (w : b.ty.shape.Idx → Elt F b.ty.elt) :
    (Memref.whole b).view.writes (Elt F) f [⟨Rect.unit off b.ty.shape.size inb, w⟩] = w :=
  (View.read_whole (Val := Elt F) b _).symm.trans (stored_reads (Memref.whole b).view f off h w)

/-- The stored payload over equal reads. -/
theorem serves {x x' : S512x1024.Idx → Elt F .bf16} {a a' : S1024x2048.Idx → Elt F .bf16} {b b' : S1x1x2048.Idx → Elt F .f32} {d d' : S1024x1024.Idx → Elt F .bf16} {e e' : S1x1x1024.Idx → Elt F .f32}
    (hx : x = x') (ha : a = a') (hb : b = b') (hd : d = d') (he : e = e') :
    k0_pay1 (F := F) (k0_pay5 (F := F) x a b) d e = k0_pay1 (F := F) (k0_pay5 (F := F) x' a' b') d' e' := by
  rw [hx, ha, hb, hd, he]

set_option maxHeartbeats 400000 in
/-- A point not in use: zeros go out, the kept weights stay. -/
theorem run_idle (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (T : S48.Idx → Elt F .i32) (U : S1.Idx → Elt F .i32)
    (x0 : S512x1024.Idx → Elt F .bf16) (x1 : S1x1024x2048.Idx → Elt F .f32) (x2 : S1x1x2048.Idx → Elt F .f32) (x3 : S1x1024x1024.Idx → Elt F .f32) (x4 : S1x1x1024.Idx → Elt F .f32) (a0 : S1024x2048.Idx → Elt F .bf16) (a1 : S1024x1024.Idx → Elt F .bf16)
    (h1 : ¬ (k0_cond1 i (usedWord (F := F) U) = 1#1)) (h3 : k0_cond3 i (usedWord (F := F) U) = 1#1) (K : PUnit → sProp (Res F)) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (tabE.view.loc (c : Thread nD τ) ↦{fullShare.right} T)
      ∗ (tabU.view.loc (c : Thread nD τ) ↦{fullShare.right} U)
      ∗ (∃ d, owns (c : Thread nD τ) arg8 fullShare d)
      ∗ (keptIn.view.loc (c : Thread nD τ) ↦{fullShare} a0)
      ∗ (keptOut.view.loc (c : Thread nD τ) ↦{fullShare} a1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T)
          ∗ (tabU.view.loc (c : Thread nD τ) ↦{fullShare.right} U)
          ∗ owns (c : Thread nD τ) arg8 fullShare (k0_pay2 (F := F))
          ∗ (keptIn.view.loc (c : Thread nD τ) ↦{fullShare} a0)
          ∗ (keptOut.view.loc (c : Thread nD τ) ↦{fullShare} a1)) -∗ K ⟨⟩))
      ⊢ wp frame (wpE (defs₀ (F := F)) Variants.none c none) Set.univ (cc0_expert_ffn i tabE (Memref.isWhole_whole _) tabU (Memref.isWhole_whole _) arg3 harg3 arg4 harg4 arg5 harg5 arg6 harg6 arg7 harg7 arg8 harg8 keptIn (Memref.isWhole_whole _) keptOut (Memref.isWhole_whole _)) K := by
  unfold owns
  rw [cc0_expert_ffn_eq_skeleton]; unfold cc0_expert_ffn_skel
  iintro ⟨H0, H1, H2, H3, H4, HT0, HT1, ⟨%d5, %f5, -, HO5⟩, HS0, HS1, Hk⟩
  have hS0 : keptIn.IsWhole := Memref.isWhole_whole _
  have hS1 : keptOut.IsWhole := Memref.isWhole_whole _
  have hT0 : tabE.IsWhole := Memref.isWhole_whole _
  have hT1 : tabU.IsWhole := Memref.isWhole_whole _
  sl_exec! (disch := first | sl_exact h1 | sl_exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    · ipureintro
      delta run_idle.sl.HO5_1
      exact stored_reads _ _ _ (fun a => by fin_cases a <;> rfl) _
  isplitl [HS0]; · iexact HS0
  iexact HS1

set_option maxHeartbeats 400000 in
/-- A point in use whose expert is the one of the point before: the kept weights serve again. -/
theorem run_same (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (T : S48.Idx → Elt F .i32) (U : S1.Idx → Elt F .i32)
    (x0 : S512x1024.Idx → Elt F .bf16) (x1 : S1x1024x2048.Idx → Elt F .f32) (x2 : S1x1x2048.Idx → Elt F .f32) (x3 : S1x1024x1024.Idx → Elt F .f32) (x4 : S1x1x1024.Idx → Elt F .f32) (a0 : S1024x2048.Idx → Elt F .bf16) (a1 : S1024x1024.Idx → Elt F .bf16)
    (h1 : k0_cond1 i (usedWord (F := F) U) = 1#1) (h2 : ¬ (newBit (F := F) T i = 1#1)) (h3 : ¬ (k0_cond3 i (usedWord (F := F) U) = 1#1)) (K : PUnit → sProp (Res F)) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (tabE.view.loc (c : Thread nD τ) ↦{fullShare.right} T)
      ∗ (tabU.view.loc (c : Thread nD τ) ↦{fullShare.right} U)
      ∗ (∃ d, owns (c : Thread nD τ) arg8 fullShare d)
      ∗ (keptIn.view.loc (c : Thread nD τ) ↦{fullShare} a0)
      ∗ (keptOut.view.loc (c : Thread nD τ) ↦{fullShare} a1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T)
          ∗ (tabU.view.loc (c : Thread nD τ) ↦{fullShare.right} U)
          ∗ owns (c : Thread nD τ) arg8 fullShare (k0_pay1 (F := F) (k0_pay5 (F := F) x0 a0 x2) a1 x4)
          ∗ (keptIn.view.loc (c : Thread nD τ) ↦{fullShare} a0)
          ∗ (keptOut.view.loc (c : Thread nD τ) ↦{fullShare} a1)) -∗ K ⟨⟩))
      ⊢ wp frame (wpE (defs₀ (F := F)) Variants.none c none) Set.univ (cc0_expert_ffn i tabE (Memref.isWhole_whole _) tabU (Memref.isWhole_whole _) arg3 harg3 arg4 harg4 arg5 harg5 arg6 harg6 arg7 harg7 arg8 harg8 keptIn (Memref.isWhole_whole _) keptOut (Memref.isWhole_whole _)) K := by
  unfold owns
  rw [cc0_expert_ffn_eq_skeleton]; unfold cc0_expert_ffn_skel
  rw [k0_part1_eq_skeleton]; unfold k0_part1_skel
  iintro ⟨H0, H1, H2, H3, H4, HT0, HT1, ⟨%d5, %f5, -, HO5⟩, HS0, HS1, Hk⟩
  have hS0 : keptIn.IsWhole := Memref.isWhole_whole _
  have hS1 : keptOut.IsWhole := Memref.isWhole_whole _
  have hT0 : tabE.IsWhole := Memref.isWhole_whole _
  have hT1 : tabU.IsWhole := Memref.isWhole_whole _
  sl_exec! (disch := first | sl_exact h1 | sl_exact h2 | sl_exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    · ipureintro
      delta run_same.sl.HO5_1
      refine (stored_reads _ _ _ (fun a => by fin_cases a <;> rfl) _).trans ?_
      exact serves (View.readAt_rep_full arg3.view x0 _) (kept_reads cc0_scratch0 a0 _ _) (View.readAt_rep_full arg5.view x2 _) (kept_reads cc0_scratch1 a1 _ _) (View.readAt_rep_full arg7.view x4 _)
  isplitl [HS0]; · iexact HS0
  iexact HS1

set_option maxHeartbeats 400000 in
/-- A point in use whose expert is new: its weights are taken in, and serve. -/
theorem run_new (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .bf16) (harg8 : arg8.IsWhole) (T : S48.Idx → Elt F .i32) (U : S1.Idx → Elt F .i32)
    (x0 : S512x1024.Idx → Elt F .bf16) (x1 : S1x1024x2048.Idx → Elt F .f32) (x2 : S1x1x2048.Idx → Elt F .f32) (x3 : S1x1024x1024.Idx → Elt F .f32) (x4 : S1x1x1024.Idx → Elt F .f32) (a0 : S1024x2048.Idx → Elt F .bf16) (a1 : S1024x1024.Idx → Elt F .bf16)
    (h1 : k0_cond1 i (usedWord (F := F) U) = 1#1) (h2 : newBit (F := F) T i = 1#1) (h3 : ¬ (k0_cond3 i (usedWord (F := F) U) = 1#1)) (K : PUnit → sProp (Res F)) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (tabE.view.loc (c : Thread nD τ) ↦{fullShare.right} T)
      ∗ (tabU.view.loc (c : Thread nD τ) ↦{fullShare.right} U)
      ∗ (∃ d, owns (c : Thread nD τ) arg8 fullShare d)
      ∗ (keptIn.view.loc (c : Thread nD τ) ↦{fullShare} a0)
      ∗ (keptOut.view.loc (c : Thread nD τ) ↦{fullShare} a1)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T)
          ∗ (tabU.view.loc (c : Thread nD τ) ↦{fullShare.right} U)
          ∗ owns (c : Thread nD τ) arg8 fullShare (k0_pay1 (F := F) (k0_pay5 (F := F) x0 (k0_pay3 (F := F) x1) x2) (k0_pay4 (F := F) x3) x4)
          ∗ (keptIn.view.loc (c : Thread nD τ) ↦{fullShare} k0_pay3 (F := F) x1)
          ∗ (keptOut.view.loc (c : Thread nD τ) ↦{fullShare} k0_pay4 (F := F) x3)) -∗ K ⟨⟩))
      ⊢ wp frame (wpE (defs₀ (F := F)) Variants.none c none) Set.univ (cc0_expert_ffn i tabE (Memref.isWhole_whole _) tabU (Memref.isWhole_whole _) arg3 harg3 arg4 harg4 arg5 harg5 arg6 harg6 arg7 harg7 arg8 harg8 keptIn (Memref.isWhole_whole _) keptOut (Memref.isWhole_whole _)) K := by
  unfold owns
  rw [cc0_expert_ffn_eq_skeleton]; unfold cc0_expert_ffn_skel
  rw [k0_part1_eq_skeleton]; unfold k0_part1_skel
  iintro ⟨H0, H1, H2, H3, H4, HT0, HT1, ⟨%d5, %f5, -, HO5⟩, HS0, HS1, Hk⟩
  have hS0 : keptIn.IsWhole := Memref.isWhole_whole _
  have hS1 : keptOut.IsWhole := Memref.isWhole_whole _
  have hT0 : tabE.IsWhole := Memref.isWhole_whole _
  have hT1 : tabU.IsWhole := Memref.isWhole_whole _
  sl_exec! (disch := first | sl_exact h1 | sl_exact h2 | sl_exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  have e0 : keptIn.view.writes (Elt F) keptIn.view.junk (run_new.sl.HS0_1 arg4 x1) = k0_pay3 (F := F) x1 := by
    delta run_new.sl.HS0_1
    refine (kept_stored cc0_scratch0 _ ![0, 0] (fun a => by fin_cases a <;> rfl) _).trans ?_
    rw [View.readAt_rep_full]
  have e1 : keptOut.view.writes (Elt F) keptOut.view.junk (run_new.sl.HS1_1 arg6 x3) = k0_pay4 (F := F) x3 := by
    delta run_new.sl.HS1_1
    refine (kept_stored cc0_scratch1 _ ![0, 0] (fun a => by fin_cases a <;> rfl) _).trans ?_
    rw [View.readAt_rep_full]
  rw [e0, e1]
  isplitl [HO5]
  · iexists _; isplitr; swap
    · iexact HO5
    · ipureintro
      delta run_new.sl.HO5_1
      refine (stored_reads _ _ _ (fun a => by fin_cases a <;> rfl) _).trans ?_
      refine serves (View.readAt_rep_full arg3.view x0 _) ?_ (View.readAt_rep_full arg5.view x2 _) ?_ (View.readAt_rep_full arg7.view x4 _)
      · delta run_new.sl.v20 run_new.sl.HS0_1
        refine (View.readCov_full _ _ _ _ _).trans ?_
        rw [View.readAt_rep_full]
      · delta run_new.sl.v48 run_new.sl.HS1_1
        refine (View.readCov_full _ _ _ _ _).trans ?_
        rw [View.readAt_rep_full]
  isplitl [HS0]; · iexact HS0
  iexact HS1

end Cert.Kernel11Ideal.Expert
-- ==== Proof.ContextRunIdeal.lean ====
/- The routed feed-forward's whole run at any tables whose experts are in range: at each grid point the kept weight buffers
   hold the weights of the point before whenever that point was in use; the launch; the frame. -/
module

public import proofs.«01_k».proof.Proof.ContextBodyIdeal
public import Idealize.ShloMosaic.Lib.Pipeline.Quiescent
public import Idealize.ShloMosaic.Lib.Claim
public import Idealize.ShloMosaic.Lib.Affine
public import Idealize.ShloMosaic.Adequacy
public import Idealize.ShloMosaic.Init

@[expose] public section

set_option maxRecDepth 16384
set_option Elab.async false

noncomputable section

namespace Cert.Kernel11Ideal.Expert

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The body's decisions -/

theorem bit_of_word (b : BitVec 1) : (Scalar.cmpi .ne (Scalar.extui b : BitVec 32) 0#32 = 1#1) ↔ b = 1#1 := by
  revert b; decide

theorem bit_of_bool (b : Bool) : BitVec.ofBool b = 1#1 ↔ b = true := by cases b <;> decide

theorem used_iff (i : grid0.Coords) (w : BitVec 32) : k0_cond1 i w = 1#1 ↔ (BitVec.ofNat 32 (i 0).val).slt w = true := by
  unfold k0_cond1; exact (bit_of_word _).trans (bit_of_bool _)

theorem unused_iff (i : grid0.Coords) (w : BitVec 32) : k0_cond3 i w = 1#1 ↔ w.sle (BitVec.ofNat 32 (i 0).val) = true := by
  unfold k0_cond3; exact (bit_of_word _).trans (bit_of_bool _)

theorem unused_of_not (i : grid0.Coords) (w : BitVec 32) : k0_cond3 i w = 1#1 ↔ ¬ k0_cond1 i w = 1#1 := by
  rw [used_iff, unused_iff]
  simp only [BitVec.slt, BitVec.sle, decide_eq_true_eq, not_lt]

/-- A point that takes no weights in is not the first, and its word is the word before. -/
theorem same_word (T : S48.Idx → Elt F .i32) (i : grid0.Coords) (h : ¬ newBit (F := F) T i = 1#1) :
    BitVec.ofNat 32 (i 0).val ≠ 0#32 ∧ hereWord (F := F) T i = priorWord (F := F) T i := by
  unfold newBit at h
  rw [bit_of_word] at h
  constructor
  · intro e; apply h; rw [e]
    generalize Scalar.cmpi .ne (hereWord (F := F) T i) (priorWord (F := F) T i) = b
    revert b; decide
  · by_contra e; apply h
    have : Scalar.cmpi .ne (hereWord (F := F) T i) (priorWord (F := F) T i) = 1#1 := (bit_of_bool _).2 (by simpa using e)
    rw [this]
    generalize Scalar.cmpi .eq (BitVec.ofNat 32 (i 0).val) 0#32 = b
    revert b; decide

theorem here_at : ∀ i : grid0.Coords, k0_off2 i 0 = (i 0).val := by decide +kernel
theorem prior_at : ∀ i : grid0.Coords, k0_off3 i 0 = (i 0).val - 1 := by decide +kernel
theorem index_at : ∀ i : grid0.Coords, k0_off1 i 0 = (i 0).val := by decide +kernel
theorem coord_at : ∀ t : Fin grid0.N, (grid0.coords t 0).val = t.val := by decide +kernel
theorem small_word : ∀ i : grid0.Coords, (BitVec.ofNat 32 (i 0).val).toInt = (i 0).val := by decide +kernel

theorem here_word (T : S48.Idx → Elt F .i32) (i : grid0.Coords) (x : S48.Idx) (hx : (x 0).val = (i 0).val) : hereWord (F := F) T i = T x := by
  have e : hereWord (F := F) T i = T ((Rect.unit (s := S48) (k0_off2 i) S1.size (k0_off2_inb i)).emb (Shape.Idx.first (numel1_S1.symm ▸ Nat.one_pos))) := rfl
  rw [e]; congr 1; funext a; apply Fin.ext
  have ha : a = 0 := Subsingleton.elim _ _
  subst ha
  have h0 : ((Shape.Idx.first (s := S1) (numel1_S1.symm ▸ Nat.one_pos)) 0).val = 0 := Nat.lt_one_iff.1 (Fin.isLt _)
  show k0_off2 i 0 + 1 * ((Shape.Idx.first (s := S1) (numel1_S1.symm ▸ Nat.one_pos)) 0).val = (x 0).val
  rw [h0, here_at, hx]; rfl

theorem prior_word (T : S48.Idx → Elt F .i32) (i : grid0.Coords) (x : S48.Idx) (hx : (x 0).val = (i 0).val - 1) : priorWord (F := F) T i = T x := by
  have e : priorWord (F := F) T i = T ((Rect.unit (s := S48) (k0_off3 i) S1.size (k0_off3_inb i)).emb (Shape.Idx.first (numel1_S1.symm ▸ Nat.one_pos))) := rfl
  rw [e]; congr 1; funext a; apply Fin.ext
  have ha : a = 0 := Subsingleton.elim _ _
  subst ha
  have h0 : ((Shape.Idx.first (s := S1) (numel1_S1.symm ▸ Nat.one_pos)) 0).val = 0 := Nat.lt_one_iff.1 (Fin.isLt _)
  show k0_off3 i 0 + 1 * ((Shape.Idx.first (s := S1) (numel1_S1.symm ▸ Nat.one_pos)) 0).val = (x 0).val
  rw [h0, prior_at, hx]; rfl

/-- The word an index map reads at a point is the table's at the point's number. -/
theorem index_word (pf : pre0.Contents (Elt F)) (i : grid0.Coords) (x : S48.Idx) (hx : (x 0).val = (i 0).val) :
    pf.at 0 (Rect.unit (s := S48) (k0_off1 i) S1.size (k0_off1_inb i)) numel1_S1 = pf 0 x := by
  have e : pf.at 0 (Rect.unit (s := S48) (k0_off1 i) S1.size (k0_off1_inb i)) numel1_S1 = pf 0 ((Rect.unit (s := S48) (k0_off1 i) S1.size (k0_off1_inb i)).emb (Shape.Idx.first (numel1_S1.symm ▸ Nat.one_pos))) := rfl
  rw [e]; congr 1; funext a; apply Fin.ext
  have ha : a = 0 := Subsingleton.elim _ _
  subst ha
  have h0 : ((Shape.Idx.first (s := S1) (numel1_S1.symm ▸ Nat.one_pos)) 0).val = 0 := Nat.lt_one_iff.1 (Fin.isLt _)
  show k0_off1 i 0 + 1 * ((Shape.Idx.first (s := S1) (numel1_S1.symm ▸ Nat.one_pos)) 0).val = (x 0).val
  rw [h0, index_at, hx]; rfl

/-! ## The pipeline at admissible tables -/

variable (a : (pcfg0 (F := F)).Adm)

abbrev cfgA : Pipeline.Cfg sig Λ₀ := cfg0 (F := F) a
abbrev pcs : Fin 1 → Pipeline.Cfg sig Λ₀ := Pipeline.pin (pcfgs (F := F)) fun _ => a

variable (m : (ℓ : Loc nD τ sig) → Buf (Elt F) ℓ) (ρ : Dev nD → PrngReg)

abbrev EP : Emb (UR sig nD τ) (Res F) := emb₁

/-- A point's coordinates, and the buffer each window stages into there. -/
abbrev crd (t : Fin (cfgA a).N) : (cfgA a).grid.Coords := (cfgA a).grid.coords t
abbrev ms0_0 (t : Fin (cfgA a).N) : Memref sig .tc .vmem S512x1024 .bf16 := spec0_0.stage ((cfgA a).slots t (0 : Fin 6))
abbrev hs0_0 (t : Fin (cfgA a).N) : (ms0_0 a t).IsWhole := hstage0_0 (((cfgA a).slots t (0 : Fin 6)).cast nbuf0_0)
abbrev ms0_1 (t : Fin (cfgA a).N) : Memref sig .tc .vmem S1x1024x2048 .f32 := spec0_1.stage ((cfgA a).slots t (1 : Fin 6))
abbrev hs0_1 (t : Fin (cfgA a).N) : (ms0_1 a t).IsWhole := hstage0_1 (((cfgA a).slots t (1 : Fin 6)).cast nbuf0_1)
abbrev ms0_2 (t : Fin (cfgA a).N) : Memref sig .tc .vmem S1x1x2048 .f32 := spec0_2.stage ((cfgA a).slots t (2 : Fin 6))
abbrev hs0_2 (t : Fin (cfgA a).N) : (ms0_2 a t).IsWhole := hstage0_2 (((cfgA a).slots t (2 : Fin 6)).cast nbuf0_2)
abbrev ms0_3 (t : Fin (cfgA a).N) : Memref sig .tc .vmem S1x1024x1024 .f32 := spec0_3.stage ((cfgA a).slots t (3 : Fin 6))
abbrev hs0_3 (t : Fin (cfgA a).N) : (ms0_3 a t).IsWhole := hstage0_3 (((cfgA a).slots t (3 : Fin 6)).cast nbuf0_3)
abbrev ms0_4 (t : Fin (cfgA a).N) : Memref sig .tc .vmem S1x1x1024 .f32 := spec0_4.stage ((cfgA a).slots t (4 : Fin 6))
abbrev hs0_4 (t : Fin (cfgA a).N) : (ms0_4 a t).IsWhole := hstage0_4 (((cfgA a).slots t (4 : Fin 6)).cast nbuf0_4)
abbrev ms0_5 (t : Fin (cfgA a).N) : Memref sig .tc .vmem S512x1024 .bf16 := spec0_5.stage ((cfgA a).slots t (5 : Fin 6))
abbrev hs0_5 (t : Fin (cfgA a).N) : (ms0_5 a t).IsWhole := hstage0_5 (((cfgA a).slots t (5 : Fin 6)).cast nbuf0_5)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- The point is in use. -/
abbrev Used (t : Fin (cfgA a).N) : Prop := k0_cond1 (crd a t) (usedWord (F := F) (a.1 1)) = 1#1

/-- The first layer's weights at a point, and the second's, as the body keeps them. -/
def wIn (c : Dev nD) (t : Fin (cfgA a).N) : S1024x2048.Idx → Elt F .bf16 := k0_pay3 (F := F) (iblk a m ρ c (1 : Fin 6) t)
def wOut (c : Dev nD) (t : Fin (cfgA a).N) : S1024x1024.Idx → Elt F .bf16 := k0_pay4 (F := F) (iblk a m ρ c (3 : Fin 6) t)

/-- What the output block holds after a point. -/
def out (c : Dev nD) (t : Fin (cfgA a).N) : S512x1024.Idx → Elt F .bf16 :=
  if Used a t then k0_pay1 (F := F) (k0_pay5 (F := F) (iblk a m ρ c (0 : Fin 6) t) (wIn a m ρ c t) (iblk a m ρ c (2 : Fin 6) t)) (wOut a m ρ c t) (iblk a m ρ c (4 : Fin 6) t)
  else k0_pay2 (F := F)

theorem used_prior (t u : Fin (cfgA a).N) (h : u.val + 1 = t.val) (ht : Used a t) : Used a u := by
  unfold Used at ht ⊢
  rw [used_iff] at ht ⊢
  simp only [BitVec.slt, decide_eq_true_eq] at ht ⊢
  rw [small_word] at ht ⊢
  have e1 := coord_at t; have e2 := coord_at u
  have e1' : (crd a t 0).val = t.val := e1
  have e2' : (crd a u 0).val = u.val := e2
  rw [e1'] at ht; rw [e2']
  omega

/-- A table position as an index. -/
def pos (t : Fin (cfgA a).N) : S48.Idx := fun d => match d with | ⟨0, _⟩ => ⟨t.val, t.isLt.trans_eq N_0⟩

theorem pos_val (t : Fin (cfgA a).N) : (pos a t 0).val = (crd a t 0).val := (coord_at t).symm

/-- Two points with the same word have the same weight blocks. -/
theorem index_same1 (t u : Fin (cfgA a).N) (h : a.1 0 (pos a t) = a.1 0 (pos a u)) : ((cfgA a).win (1 : Fin 6)).index t = ((cfgA a).win (1 : Fin 6)).index u := by
  show ![(a.1.at 0 (Rect.unit (s := S48) (k0_off1 (crd a t)) S1.size (k0_off1_inb _)) numel1_S1 : BitVec 32).toNat, 0, 0] = ![(a.1.at 0 (Rect.unit (s := S48) (k0_off1 (crd a u)) S1.size (k0_off1_inb _)) numel1_S1 : BitVec 32).toNat, 0, 0]
  rw [index_word a.1 (crd a t) (pos a t) (pos_val a t), index_word a.1 (crd a u) (pos a u) (pos_val a u), h]

theorem index_same3 (t u : Fin (cfgA a).N) (h : a.1 0 (pos a t) = a.1 0 (pos a u)) : ((cfgA a).win (3 : Fin 6)).index t = ((cfgA a).win (3 : Fin 6)).index u := by
  show ![(a.1.at 0 (Rect.unit (s := S48) (k0_off1 (crd a t)) S1.size (k0_off1_inb _)) numel1_S1 : BitVec 32).toNat, 0, 0] = ![(a.1.at 0 (Rect.unit (s := S48) (k0_off1 (crd a u)) S1.size (k0_off1_inb _)) numel1_S1 : BitVec 32).toNat, 0, 0]
  rw [index_word a.1 (crd a t) (pos a t) (pos_val a t), index_word a.1 (crd a u) (pos a u) (pos_val a u), h]

theorem block_same1 (c : Dev nD) (t u : Fin (cfgA a).N) (h : a.1 0 (pos a t) = a.1 0 (pos a u)) :
    (iblk a m ρ c (1 : Fin 6) t : S1x1024x2048.Idx → Elt F .f32) = iblk a m ρ c (1 : Fin 6) u := by
  funext j
  unfold iblk
  refine congrArg ((s₀ m ρ).mem (((cfgA a).win (1 : Fin 6)).arr.view.loc (c : Thread nD τ))) ?_
  have e := index_same1 a t u h
  funext d; apply Fin.ext
  show ((cfgA a).win (1 : Fin 6)).index t d * S1x1024x2048.size d + 1 * (j d).val = ((cfgA a).win (1 : Fin 6)).index u d * S1x1024x2048.size d + 1 * (j d).val
  rw [e]

theorem block_same3 (c : Dev nD) (t u : Fin (cfgA a).N) (h : a.1 0 (pos a t) = a.1 0 (pos a u)) :
    (iblk a m ρ c (3 : Fin 6) t : S1x1024x1024.Idx → Elt F .f32) = iblk a m ρ c (3 : Fin 6) u := by
  funext j
  unfold iblk
  refine congrArg ((s₀ m ρ).mem (((cfgA a).win (3 : Fin 6)).arr.view.loc (c : Thread nD τ))) ?_
  have e := index_same3 a t u h
  funext d; apply Fin.ext
  show ((cfgA a).win (3 : Fin 6)).index t d * S1x1024x1024.size d + 1 * (j d).val = ((cfgA a).win (3 : Fin 6)).index u d * S1x1024x1024.size d + 1 * (j d).val
  rw [e]

/-- A point that takes no weights in has a point before it with its word. -/
theorem kept_word (t : Fin (cfgA a).N) (h : ¬ newBit (F := F) (a.1 0) (crd a t) = 1#1) :
    ∃ u : Fin (cfgA a).N, u.val + 1 = t.val ∧ a.1 0 (pos a t) = a.1 0 (pos a u) := by
  obtain ⟨h0, hw⟩ := same_word (a.1 0) (crd a t) h
  have e1 : (crd a t 0).val = t.val := coord_at t
  have ht : t.val ≠ 0 := by
    intro e; apply h0; rw [e1, e]
  refine ⟨⟨t.val - 1, by omega⟩, by show t.val - 1 + 1 = t.val; omega, ?_⟩
  rw [here_word (a.1 0) (crd a t) (pos a t) (pos_val a t),
    prior_word (a.1 0) (crd a t) (pos a ⟨t.val - 1, by omega⟩) (by rw [e1]; rfl)] at hw
  exact hw

/-! ## The proof data -/

/-- Before a point: the kept buffers hold the weights of the point before it whenever that one was in use; the tables. -/
def Phi (c : Dev nD) (t : Fin ((cfgA a).N + 1)) : sProp (Res F) :=
  iprop(∃ a0 a1, ⌜∀ u : Fin (cfgA a).N, u.val + 1 = t.val → Used a u → a0 = wIn a m ρ c u ∧ a1 = wOut a m ρ c u⌝
    ∗ (keptIn.view.loc (c : Thread nD τ) ↦{fullShare} a0) ∗ (keptOut.view.loc (c : Thread nD τ) ↦{fullShare} a1)
    ∗ (tabE.view.loc (c : Thread nD τ) ↦{fullShare.right} a.1 0) ∗ (tabU.view.loc (c : Thread nD τ) ↦{fullShare.right} a.1 1))

/-- The proof data of the one pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => out a m ρ c t
  Φ t := Phi a m ρ c t
  q _ := fullShare
  owed _ := 0

theorem after0_0 (c : Dev nD) (t : Fin (cfgA a).N) : (dats a m ρ 0 c).after (0 : Fin 6) t = iblk a m ρ c (0 : Fin 6) t := rfl
theorem after0_1 (c : Dev nD) (t : Fin (cfgA a).N) : (dats a m ρ 0 c).after (1 : Fin 6) t = iblk a m ρ c (1 : Fin 6) t := rfl
theorem after0_2 (c : Dev nD) (t : Fin (cfgA a).N) : (dats a m ρ 0 c).after (2 : Fin 6) t = iblk a m ρ c (2 : Fin 6) t := rfl
theorem after0_3 (c : Dev nD) (t : Fin (cfgA a).N) : (dats a m ρ 0 c).after (3 : Fin 6) t = iblk a m ρ c (3 : Fin 6) t := rfl
theorem after0_4 (c : Dev nD) (t : Fin (cfgA a).N) : (dats a m ρ 0 c).after (4 : Fin 6) t = iblk a m ρ c (4 : Fin 6) t := rfl
theorem after0_5 (c : Dev nD) (t : Fin (cfgA a).N) : (dats a m ρ 0 c).after (5 : Fin 6) t = out a m ρ c t := rfl

/-- Input window 0 holds its block when the body runs. -/
theorem before0_0 (c : Dev nD) (t : Fin (cfgA a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block when the body runs. -/
theorem before0_1 (c : Dev nD) (t : Fin (cfgA a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block when the body runs. -/
theorem before0_2 (c : Dev nD) (t : Fin (cfgA a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block when the body runs. -/
theorem before0_3 (c : Dev nD) (t : Fin (cfgA a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block when the body runs. -/
theorem before0_4 (c : Dev nD) (t : Fin (cfgA a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem busy (t : Fin (cfgA a).N) : (cfgA a).idle (5 : Fin 6) ((cfgA a).grid.coords t) = false := by
  show (!(k0_cond1 (crd a t) (a.1.atD 1 ![0]) == 1#1) && !(k0_cond3 (crd a t) (a.1.atD 1 ![0]) == 1#1)) = false
  generalize a.1.atD 1 ![0] = w
  by_cases h : k0_cond1 (crd a t) w = 1#1
  · rw [h]; rfl
  · rw [(unused_of_not (crd a t) w).2 h]; simp

theorem out_used (c : Dev nD) (t : Fin (cfgA a).N) (h : Used a t) : out a m ρ c t =
    k0_pay1 (F := F) (k0_pay5 (F := F) (iblk a m ρ c (0 : Fin 6) t) (wIn a m ρ c t) (iblk a m ρ c (2 : Fin 6) t)) (wOut a m ρ c t) (iblk a m ρ c (4 : Fin 6) t) := by
  unfold out; rw [if_pos h]

theorem out_unused (c : Dev nD) (t : Fin (cfgA a).N) (h : ¬ Used a t) : out a m ρ c t = k0_pay2 (F := F) := by
  unfold out; rw [if_neg h]

/-- The body at point `t` on its staging memrefs, as the pipeline calls it. -/
abbrev bodyAt0 (t : Fin (cfgA a).N) : Prog (TpuEff nD τ sig (Elt F) Λ₀ .tc) PUnit :=
  cc0_expert_ffn (F := F) (crd a t) tabE (Memref.isWhole_whole _) tabU (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) keptIn (Memref.isWhole_whole _) keptOut (Memref.isWhole_whole _)

set_option maxHeartbeats 1600000 in
/-- The body at a generic point. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 6) t d))
        ∗ (∃ d, owns (c : Thread nD τ) (ms0_1 a t) fullShare ((dats a m ρ 0 c).before (1 : Fin 6) t d))
        ∗ (∃ d, owns (c : Thread nD τ) (ms0_2 a t) fullShare ((dats a m ρ 0 c).before (2 : Fin 6) t d))
        ∗ (∃ d, owns (c : Thread nD τ) (ms0_3 a t) fullShare ((dats a m ρ 0 c).before (3 : Fin 6) t d))
        ∗ (∃ d, owns (c : Thread nD τ) (ms0_4 a t) fullShare ((dats a m ρ 0 c).before (4 : Fin 6) t d))
        ∗ (∃ d, owns (c : Thread nD τ) (ms0_5 a t) fullShare ((dats a m ρ 0 c).before (5 : Fin 6) t d)))
      ⊢ wp frame (wpE (defs₀ (F := F)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [busy a t]
  simp only [before0_0, before0_1, before0_2, before0_3, before0_4, after0_0, after0_1, after0_2, after0_3, after0_4, after0_5]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨%a0, %a1, %hkept, HS0, HS1, HT0, HT1⟩, Ho, ⟨%d0, H0⟩, ⟨%d1, H1⟩, ⟨%d2, H2⟩, ⟨%d3, H3⟩, ⟨%d4, H4⟩, ⟨%d5, H5⟩⟩
  by_cases h1 : Used a t
  · have h3 : ¬ (k0_cond3 (crd a t) (usedWord (F := F) (a.1 1)) = 1#1) := fun h => (unused_of_not _ _).1 h h1
    by_cases h2 : newBit (F := F) (a.1 0) (crd a t) = 1#1
    · rw [out_used a m ρ c t h1]
      iapply (run_new c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) a0 a1 h1 h2 h3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, H5, HS0, HS1⟩
      isplitl [HS0 HS1 HT0 HT1]
      · iexists _; iexists _; isplitr; swap
        · isplitl [HS0]; · iexact HS0
          isplitl [HS1]; · iexact HS1
          isplitl [HT0]; · iexact HT0
          iexact HT1
        · ipureintro; intro u hu hU
          have hut : u = t := Fin.ext (by have h' : u.val + 1 = t.val + 1 := hu; omega)
          subst hut
          exact ⟨rfl, rfl⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5
    · obtain ⟨u, hu, hw⟩ := kept_word a t h2
      obtain ⟨k0, k1⟩ := hkept u hu (used_prior a t u hu h1)
      have w0 : wIn a m ρ c t = wIn a m ρ c u := by unfold wIn; rw [block_same1 a m ρ c t u hw]
      have w1 : wOut a m ρ c t = wOut a m ρ c u := by unfold wOut; rw [block_same3 a m ρ c t u hw]
      rw [← w0] at k0; rw [← w1] at k1
      rw [out_used a m ρ c t h1, ← k0, ← k1]
      iapply (run_same c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) a0 a1 h1 h2 h3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, H5, HS0, HS1⟩
      isplitl [HS0 HS1 HT0 HT1]
      · iexists _; iexists _; isplitr; swap
        · isplitl [HS0]; · iexact HS0
          isplitl [HS1]; · iexact HS1
          isplitl [HT0]; · iexact HT0
          iexact HT1
        · ipureintro; intro u hu hU
          have hut : u = t := Fin.ext (by have h' : u.val + 1 = t.val + 1 := hu; omega)
          subst hut
          exact ⟨k0, k1⟩
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5
  · have h3 : k0_cond3 (crd a t) (usedWord (F := F) (a.1 1)) = 1#1 := (unused_of_not _ _).2 h1
    rw [out_unused a m ρ c t h1]
    iapply (run_idle c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) a0 a1 h1 h3 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, H5, HS0, HS1⟩
    isplitl [HS0 HS1 HT0 HT1]
    · iexists _; iexists _; isplitr; swap
      · isplitl [HS0]; · iexact HS0
        isplitl [HS1]; · iexact HS1
        isplitl [HT0]; · iexact HT0
        iexact HT1
      · ipureintro; intro u hu hU
        have hut : u = t := Fin.ext (by have h' : u.val + 1 = t.val + 1 := hu; omega)
        subst hut
        exact absurd hU h1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexact H5

/-- The library's body obligation, at every point. -/
theorem body_obligation (c : Dev nD) : BodyObligation (dats a m ρ 0 c) (defs₀ (F := F)) Variants.none () Set.univ := fun t => by
  rw [bigSep_W0]
  exact sound_body a m ρ c t

/-! ## The launch -/

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (Res F))
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩⟩
  iexists a0; iexists a1; isplitr; swap
  · isplitl [HS0]; · iexact HS0
    isplitl [HS1]; · iexact HS1
    isplitl [HT0]; · iexact HT0
    iexact HT1
  · ipureintro; intro u hu; exact absurd hu (Nat.succ_ne_zero _)

/-- at the last point it gives the scratch buffers back (`hout`), the tables let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨%a0, %a1, -, HS0, HS1, -, -⟩
  isplitr; · iempintro
  isplitl [HS0]
  · iexists a0; iexact HS0
  iexists a1; iexact HS1

/-- The launch memory's tables are `a`'s. -/
def Tables (m : (ℓ : Loc nD τ sig) → Buf (Elt F) ℓ) : Prop :=
  (∀ c : Dev nD, m ((c : Thread nD τ).loc main_arg1) = a.1 0) ∧ (∀ c : Dev nD, m ((c : Thread nD τ).loc main_arg2) = a.1 1)

/-- The physical post: every array at what the library computes, every table at what the pipeline ran at. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem V_pre (hp : Tables a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From any memory with zero counters whose tables are `a`'s: every weakly
    fair execution of @main on the TensorCores terminates, and every final state has each array at the computed contents,
    and every semaphore counter at zero. -/
theorem run_main_quiescent (hp : Tables a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := V_pre a m hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Tables a m) : θ_run (defs (F := F)) (onTc (τ := τ) (main (F := F))) (s₀ m ρ) (QC a m ρ) :=
  (θ_run defs _ _).mono (fun _ h => h.1) (run_main_quiescent a m ρ hp)

/-- `frame` without the counters: the argument arrays end unchanged. -/
theorem unchanged (hp : Tables a m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 6)).trans ((dats a m ρ 0 c).arrAt_in (0 : Fin 6) rfl _), ((h c).2 0).trans (hp.1 c).symm, ((h c).2 1).trans (hp.2 c).symm, ((h c).1 (1 : Fin 6)).trans ((dats a m ρ 0 c).arrAt_in (1 : Fin 6) rfl _), ((h c).1 (2 : Fin 6)).trans ((dats a m ρ 0 c).arrAt_in (2 : Fin 6) rfl _), ((h c).1 (3 : Fin 6)).trans ((dats a m ρ 0 c).arrAt_in (3 : Fin 6) rfl _), ((h c).1 (4 : Fin 6)).trans ((dats a m ρ 0 c).arrAt_in (4 : Fin 6) rfl _)⟩) (run_main a m ρ hp)

/-- The frame: from a launch memory whose tables are `a`'s, every argument array ends unchanged, every counter at zero. -/
theorem frame (hp : Tables a m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged a m ρ hp) ((θ_run defs _ _).mono (fun _ h => h.2) (run_main_quiescent a m ρ hp))

end Cert.Kernel11Ideal.Expert

end
-- ==== Proof.ContextTablesIdeal.lean ====
/- Tables whose experts are in range are tables the routed feed-forward can run at; its frame. -/
module

public import proofs.«01_k».proof.Defs
public import proofs.«01_k».proof.Proof.ContextExpertPre
public import proofs.«01_k».proof.Proof.ContextRunIdeal

@[expose] public section

set_option maxRecDepth 16384

noncomputable section

namespace Cert.Kernel11Ideal.Expert

open Cert.Kernel11Ideal Cert.Kernel11Ideal.Gen Cert.ContextFfn
open Idealize.ShloMosaic Idealize.ShloMosaic.TcCoe Idealize.SL.Sem

theorem fits (pf : pre0.Contents (Elt Ideal)) (h : ∀ i : S48.Idx, (pf 0 i : BitVec 32).toNat < 64) : ok0 pf := by
  have hw : ∀ i : grid0.Coords, (pf.at 0 (Rect.unit (s := S48) (k0_off1 i) S1.size (k0_off1_inb i)) numel1_S1 : BitVec 32).toNat < 64 := fun i => by
    rw [index_word pf i (fun d => match d with | ⟨0, _⟩ => ⟨(i 0).val, (i 0).isLt⟩) rfl]; exact h _
  refine ⟨fun i => ⟨fun z => ?_, .inl rfl⟩, fun i => ⟨fun z => ?_, .inl rfl⟩, fun i => ⟨fun z => ?_, .inl rfl⟩, fun i => ⟨fun z => ?_, .inl rfl⟩⟩
  · have := hw i
    show (![(pf.at 0 (Rect.unit (s := S48) (k0_off1 i) S1.size (k0_off1_inb i)) numel1_S1 : BitVec 32).toNat, 0, 0] z + 1) * _ ≤ _
    match z with
    | ⟨0, _⟩ => show ((pf.at 0 (Rect.unit (s := S48) (k0_off1 i) S1.size (k0_off1_inb i)) numel1_S1 : BitVec 32).toNat + 1) * 1 ≤ 64; omega
    | ⟨1, _⟩ => show (0 + 1) * 1024 ≤ 1024; omega
    | ⟨2, _⟩ => show (0 + 1) * 2048 ≤ 2048; omega
  · have := hw i
    show (![(pf.at 0 (Rect.unit (s := S48) (k0_off1 i) S1.size (k0_off1_inb i)) numel1_S1 : BitVec 32).toNat, 0, 0] z + 1) * _ ≤ _
    match z with
    | ⟨0, _⟩ => show ((pf.at 0 (Rect.unit (s := S48) (k0_off1 i) S1.size (k0_off1_inb i)) numel1_S1 : BitVec 32).toNat + 1) * 1 ≤ 64; omega
    | ⟨1, _⟩ => show (0 + 1) * 1 ≤ 1; omega
    | ⟨2, _⟩ => show (0 + 1) * 2048 ≤ 2048; omega
  · have := hw i
    show (![(pf.at 0 (Rect.unit (s := S48) (k0_off1 i) S1.size (k0_off1_inb i)) numel1_S1 : BitVec 32).toNat, 0, 0] z + 1) * _ ≤ _
    match z with
    | ⟨0, _⟩ => show ((pf.at 0 (Rect.unit (s := S48) (k0_off1 i) S1.size (k0_off1_inb i)) numel1_S1 : BitVec 32).toNat + 1) * 1 ≤ 64; omega
    | ⟨1, _⟩ => show (0 + 1) * 1024 ≤ 1024; omega
    | ⟨2, _⟩ => show (0 + 1) * 1024 ≤ 1024; omega
  · have := hw i
    show (![(pf.at 0 (Rect.unit (s := S48) (k0_off1 i) S1.size (k0_off1_inb i)) numel1_S1 : BitVec 32).toNat, 0, 0] z + 1) * _ ≤ _
    match z with
    | ⟨0, _⟩ => show ((pf.at 0 (Rect.unit (s := S48) (k0_off1 i) S1.size (k0_off1_inb i)) numel1_S1 : BitVec 32).toNat + 1) * 1 ≤ 64; omega
    | ⟨1, _⟩ => show (0 + 1) * 1 ≤ 1; omega
    | ⟨2, _⟩ => show (0 + 1) * 1024 ≤ 1024; omega

/-- The tables a launch memory holds. -/
def held (m : (ℓ : Loc nD τ sig) → Buf (Elt Ideal) ℓ) : pre0.Contents (Elt Ideal) := fun
  | 0 => m (((0 : Dev nD) : Thread nD τ).loc main_arg1)
  | 1 => m (((0 : Dev nD) : Thread nD τ).loc main_arg2)

variable [Cert.Pre_context_experts_in_range.Facts] (m : (ℓ : Loc nD τ sig) → Buf (Elt Ideal) ℓ) (hpre : Cert.Pre_Kernel11Ideal m)

include hpre

theorem held_range (i : S48.Idx) : 0 ≤ (held m 0 i : BitVec 32).toInt ∧ (held m 0 i : BitVec 32).toInt < 64 :=
  in_range _ _ _ _ _ _ _ (hpre 0) i

/-- The tables a launch memory under the condition holds, as tables to run at. -/
def tables : (pcfg0 (F := Ideal)).Adm := ⟨held m, fits (held m) fun i => (word_nat _ (held_range m hpre i)).1⟩

theorem tables_held : Tables (tables m hpre) m :=
  ⟨fun c => by obtain rfl : c = 0 := Subsingleton.elim _ _; rfl, fun c => by obtain rfl : c = 0 := Subsingleton.elim _ _; rfl⟩

end Cert.Kernel11Ideal.Expert

end
-- ==== Proof.ContextExpertSpec.lean ====
/- The routed feed-forward as a plain formula over its arguments: row `r` belongs to block `r / 512`, and is sent through the
   expert that block names, if the block is in use. -/
module

public import Idealize.ShloMosaic.PureOps.Ideal
public import Idealize.ShloMosaic.Lib.Pointwise

@[expose] public section

noncomputable section

namespace Cert.ContextFfn

open Idealize.ShloMosaic

abbrev Rows : Shape := ⟨2, ![24576, 1024]⟩
abbrev Table : Shape := ⟨1, ![48]⟩
abbrev Count : Shape := ⟨1, ![1]⟩
abbrev InW : Shape := ⟨3, ![64, 1024, 2048]⟩
abbrev InB : Shape := ⟨3, ![64, 1, 2048]⟩
abbrev OutW : Shape := ⟨3, ![64, 1024, 1024]⟩
abbrev OutB : Shape := ⟨3, ![64, 1, 1024]⟩

/-- The limit of the gate, its negative, and the slope of the gate's sigmoid, as the program's f32 constants. -/
abbrev lim : EReal := Ideal.ofBits FTy.f32 1088421888#32
abbrev lim' : EReal := Ideal.ofBits FTy.f32 3235905536#32
abbrev slope : EReal := Ideal.ofBits FTy.f32 1071242019#32

/-- The limited gated unit of a gate `g` and a linear half `u`. -/
def gated (g u : EReal) : EReal :=
  (min lim (max lim' u) + 1) * min g lim * Ideal.div 1 (1 + Ideal.exp (0 - slope * min g lim))

variable (x0 : Rows.Idx → EReal) (x1 : Table.Idx → BitVec 32) (x2 : Count.Idx → BitVec 32) (x3 : InW.Idx → EReal)
  (x4 : InB.Idx → EReal) (x5 : OutW.Idx → EReal) (x6 : OutB.Idx → EReal)

/-- The first layer: row `r` through expert `e`, feature `f`. -/
def hidden (e : Fin 64) (r : Fin 24576) (f : Fin 2048) : EReal :=
  ∑ k : Fin 1024, x0 (ix2 r k) * x3 (ix3 e k f) + x4 (ix3 e 0 f)

/-- The activation: the first half of the features gates the second. -/
def act (e : Fin 64) (r : Fin 24576) (j : Fin 1024) : EReal :=
  gated (hidden x0 x3 x4 e r ⟨j.val, by omega⟩) (hidden x0 x3 x4 e r ⟨1024 + j.val, by omega⟩)

/-- Both layers: row `r` through expert `e`, output feature `d`. -/
def ffn (e : Fin 64) (r : Fin 24576) (d : Fin 1024) : EReal :=
  ∑ j : Fin 1024, act x0 x3 x4 e r j * x5 (ix3 e j d) + x6 (ix3 e 0 d)

/-- The expert of block `t`, its table entry read signed and limited to the experts there are. -/
def expert (t : Fin 48) : Fin 64 := ⟨min (x1 (ix1 t)).toInt.toNat 63, by omega⟩

/-- The routed result: block `r / 512`'s expert where the block is in use, zero elsewhere. -/
def routed (i : Rows.Idx) : EReal :=
  if (BitVec.ofNat 32 ((i 0).val / 512)).slt (x2 (ix1 0)) = true then
    ffn x0 x3 x4 x5 x6 (expert x1 ⟨(i 0).val / 512, by have := (i 0).isLt; change (i 0).val < 24576 at this; omega⟩) ⟨(i 0).val, (i 0).isLt⟩ ⟨(i 1).val, (i 1).isLt⟩
  else 0

end Cert.ContextFfn

end
-- ==== Proof.ContextExpertValue.lean ====
/- The routed feed-forward's run, in values: the blocks each grid point reads, what it writes, and the whole result array. -/
module

public import proofs.«01_k».proof.Proof.ContextExpertSpec
public import proofs.«01_k».proof.Proof.ContextExpertPre
public import proofs.«01_k».proof.Proof.ContextRunIdeal
public import Idealize.ShloMosaic.Lib.Pipeline.ValueKit

@[expose] public section

set_option maxRecDepth 16384

noncomputable section

namespace Cert.Kernel11Ideal.Expert

open Cert.Kernel11Ideal Cert.Kernel11Ideal.Gen Cert.ContextFfn
open Idealize.ShloMosaic Idealize.ShloMosaic.TcCoe Idealize.SL.Sem
open Idealize.ShloMosaic.Pipeline (Dat Cfg Window)

/-! ## The payloads, element by element -/

theorem pay5_at (x : FVec Ideal S512x1024 .bf16) (w : FVec Ideal S1024x2048 .bf16) (b : FVec Ideal S1x1x2048 .f32) (r : Fin 512) (j : Fin 1024) :
    k0_pay5 (F := Ideal) x w b (ix2 r j) = gated (∑ k : Fin 1024, x (ix2 r k) * w (ix2 k ⟨j.val, by omega⟩) + b (ix3 0 0 ⟨j.val, by omega⟩))
      (∑ k : Fin 1024, x (ix2 r k) * w (ix2 k ⟨1024 + j.val, by omega⟩) + b (ix3 0 0 ⟨1024 + j.val, by omega⟩)) := by
  pointwise [k0_pay5]
  rfl

theorem pay1_at (x : FVec Ideal S512x1024 .f32) (w : FVec Ideal S1024x1024 .bf16) (b : FVec Ideal S1x1x1024 .f32) (r : Fin 512) (j : Fin 1024) :
    k0_pay1 (F := Ideal) x w b (ix2 r j) = ∑ k : Fin 1024, x (ix2 r k) * w (ix2 k j) + b (ix3 0 0 j) := by
  pointwise [k0_pay1]

theorem pay2_at (r : Fin 512) (j : Fin 1024) : k0_pay2 (F := Ideal) (ix2 r j) = (0 : EReal) := by
  pointwise [k0_pay2]

theorem pay3_at (w : FVec Ideal S1x1024x2048 .f32) (r : Fin 1024) (j : Fin 2048) : k0_pay3 (F := Ideal) w (ix2 r j) = w (ix3 0 r j) := by
  pointwise [k0_pay3]

theorem pay4_at (w : FVec Ideal S1x1024x1024 .f32) (r : Fin 1024) (j : Fin 1024) : k0_pay4 (F := Ideal) w (ix2 r j) = w (ix3 0 r j) := by
  pointwise [k0_pay4]

/-! ## The blocks read -/

variable (a : (pcfg0 (F := Ideal)).Adm) (m : (ℓ : Loc nD τ sig) → Buf (Elt Ideal) ℓ) (ρ : Dev nD → PrngReg)

theorem point_lt (t : Fin (cfgA a).N) : t.val < 48 := t.isLt.trans_eq N_0

/-- A window over the table sits at the plane its table entry names. -/
theorem place1 (t : Fin (cfgA a).N) : ((cfgA a).win (1 : Fin 6)).index t = ![(a.1 0 (pos a t) : BitVec 32).toNat, 0, 0] := by
  show ![(a.1.at 0 (Rect.unit (s := S48) (k0_off1 (crd a t)) S1.size (k0_off1_inb _)) numel1_S1 : BitVec 32).toNat, 0, 0] = _
  rw [index_word a.1 (crd a t) (pos a t) (pos_val a t)]
theorem place2 (t : Fin (cfgA a).N) : ((cfgA a).win (2 : Fin 6)).index t = ![(a.1 0 (pos a t) : BitVec 32).toNat, 0, 0] := by
  show ![(a.1.at 0 (Rect.unit (s := S48) (k0_off1 (crd a t)) S1.size (k0_off1_inb _)) numel1_S1 : BitVec 32).toNat, 0, 0] = _
  rw [index_word a.1 (crd a t) (pos a t) (pos_val a t)]
theorem place3 (t : Fin (cfgA a).N) : ((cfgA a).win (3 : Fin 6)).index t = ![(a.1 0 (pos a t) : BitVec 32).toNat, 0, 0] := by
  show ![(a.1.at 0 (Rect.unit (s := S48) (k0_off1 (crd a t)) S1.size (k0_off1_inb _)) numel1_S1 : BitVec 32).toNat, 0, 0] = _
  rw [index_word a.1 (crd a t) (pos a t) (pos_val a t)]
theorem place4 (t : Fin (cfgA a).N) : ((cfgA a).win (4 : Fin 6)).index t = ![(a.1 0 (pos a t) : BitVec 32).toNat, 0, 0] := by
  show ![(a.1.at 0 (Rect.unit (s := S48) (k0_off1 (crd a t)) S1.size (k0_off1_inb _)) numel1_S1 : BitVec 32).toNat, 0, 0] = _
  rw [index_word a.1 (crd a t) (pos a t) (pos_val a t)]

theorem rows_at : ∀ t : Fin grid0.N, cc0_transform_0 (grid0.coords t) = ![t.val, 0] ∧ cc0_transform_5 (grid0.coords t) = ![t.val, 0] := by
  decide +kernel
theorem place0 (t : Fin (cfgA a).N) : ((cfgA a).win (0 : Fin 6)).index t = ![t.val, 0] := (rows_at t).1
theorem place5 (t : Fin (cfgA a).N) : ((cfgA a).win (5 : Fin 6)).index t = ![t.val, 0] := (rows_at t).2

variable (c : Dev nD)

theorem block0 (t : Fin (cfgA a).N) (r : Fin 512) (k : Fin 1024) :
    (iblk a m ρ c (0 : Fin 6) t : S512x1024.Idx → EReal) (ix2 r k) = m ((c : Thread nD τ).loc main_arg0) (ix2 ⟨t.val * 512 + r.val, by have := point_lt a t; omega⟩ k) := by
  unfold iblk
  refine congrArg (m ((c : Thread nD τ).loc main_arg0)) ?_
  funext d; apply Fin.ext
  show ((cfgA a).win (0 : Fin 6)).index t d * S512x1024.size d + 1 * (ix2 r k d).val = _
  rw [place0]
  match d with
  | ⟨0, _⟩ => show t.val * 512 + 1 * r.val = t.val * 512 + r.val; omega
  | ⟨1, _⟩ => show 0 * 1024 + 1 * k.val = k.val; omega

theorem block1 (t : Fin (cfgA a).N) (e : Fin 64) (he : (a.1 0 (pos a t) : BitVec 32).toNat = e.val) (r : Fin 1024) (k : Fin 2048) :
    (iblk a m ρ c (1 : Fin 6) t : S1x1024x2048.Idx → EReal) (ix3 0 r k) = m ((c : Thread nD τ).loc main_arg3) (ix3 e r k) := by
  unfold iblk
  refine congrArg (m ((c : Thread nD τ).loc main_arg3)) ?_
  funext d; apply Fin.ext
  show ((cfgA a).win (1 : Fin 6)).index t d * S1x1024x2048.size d + 1 * (ix3 (0 : Fin 1) r k d).val = _
  rw [place1, he]
  match d with
  | ⟨0, _⟩ => show e.val * 1 + 1 * 0 = e.val; omega
  | ⟨1, _⟩ => show 0 * 1024 + 1 * r.val = r.val; omega
  | ⟨2, _⟩ => show 0 * 2048 + 1 * k.val = k.val; omega

theorem block2 (t : Fin (cfgA a).N) (e : Fin 64) (he : (a.1 0 (pos a t) : BitVec 32).toNat = e.val) (k : Fin 2048) :
    (iblk a m ρ c (2 : Fin 6) t : S1x1x2048.Idx → EReal) (ix3 0 0 k) = m ((c : Thread nD τ).loc main_arg4) (ix3 e 0 k) := by
  unfold iblk
  refine congrArg (m ((c : Thread nD τ).loc main_arg4)) ?_
  funext d; apply Fin.ext
  show ((cfgA a).win (2 : Fin 6)).index t d * S1x1x2048.size d + 1 * (ix3 (0 : Fin 1) (0 : Fin 1) k d).val = _
  rw [place2, he]
  match d with
  | ⟨0, _⟩ => show e.val * 1 + 1 * 0 = e.val; omega
  | ⟨1, _⟩ => show 0 * 1 + 1 * 0 = 0; omega
  | ⟨2, _⟩ => show 0 * 2048 + 1 * k.val = k.val; omega

theorem block3 (t : Fin (cfgA a).N) (e : Fin 64) (he : (a.1 0 (pos a t) : BitVec 32).toNat = e.val) (r : Fin 1024) (k : Fin 1024) :
    (iblk a m ρ c (3 : Fin 6) t : S1x1024x1024.Idx → EReal) (ix3 0 r k) = m ((c : Thread nD τ).loc main_arg5) (ix3 e r k) := by
  unfold iblk
  refine congrArg (m ((c : Thread nD τ).loc main_arg5)) ?_
  funext d; apply Fin.ext
  show ((cfgA a).win (3 : Fin 6)).index t d * S1x1024x1024.size d + 1 * (ix3 (0 : Fin 1) r k d).val = _
  rw [place3, he]
  match d with
  | ⟨0, _⟩ => show e.val * 1 + 1 * 0 = e.val; omega
  | ⟨1, _⟩ => show 0 * 1024 + 1 * r.val = r.val; omega
  | ⟨2, _⟩ => show 0 * 1024 + 1 * k.val = k.val; omega

theorem block4 (t : Fin (cfgA a).N) (e : Fin 64) (he : (a.1 0 (pos a t) : BitVec 32).toNat = e.val) (k : Fin 1024) :
    (iblk a m ρ c (4 : Fin 6) t : S1x1x1024.Idx → EReal) (ix3 0 0 k) = m ((c : Thread nD τ).loc main_arg6) (ix3 e 0 k) := by
  unfold iblk
  refine congrArg (m ((c : Thread nD τ).loc main_arg6)) ?_
  funext d; apply Fin.ext
  show ((cfgA a).win (4 : Fin 6)).index t d * S1x1x1024.size d + 1 * (ix3 (0 : Fin 1) (0 : Fin 1) k d).val = _
  rw [place4, he]
  match d with
  | ⟨0, _⟩ => show e.val * 1 + 1 * 0 = e.val; omega
  | ⟨1, _⟩ => show 0 * 1 + 1 * 0 = 0; omega
  | ⟨2, _⟩ => show 0 * 1024 + 1 * k.val = k.val; omega

/-! ## What a point writes -/

/-- A point in use writes its rows through the expert its table entry names. -/
theorem used_at (t : Fin (cfgA a).N) (e : Fin 64) (he : (a.1 0 (pos a t) : BitVec 32).toNat = e.val) (h : Used a t) (r : Fin 512) (d : Fin 1024) :
    (out a m ρ c t (ix2 r d) : EReal) = ffn (m ((c : Thread nD τ).loc main_arg0)) (m ((c : Thread nD τ).loc main_arg3)) (m ((c : Thread nD τ).loc main_arg4))
      (m ((c : Thread nD τ).loc main_arg5)) (m ((c : Thread nD τ).loc main_arg6)) e ⟨t.val * 512 + r.val, by have := point_lt a t; omega⟩ d := by
  rw [out_used a m ρ c t h, pay1_at]
  unfold ffn act ContextFfn.hidden wOut
  simp only [pay5_at, pay4_at]
  unfold wIn
  simp only [pay3_at, block0 a m ρ c t, block1 a m ρ c t e he, block2 a m ρ c t e he, block3 a m ρ c t e he, block4 a m ρ c t e he]

/-- The result, as the plain formula over the launch memory. -/
abbrev res : Rows.Idx → EReal :=
  routed (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

variable (hp : Tables a m) (hr : ∀ i : S48.Idx, 0 ≤ (a.1 0 i : BitVec 32).toInt ∧ (a.1 0 i : BitVec 32).toInt < 64)

include hp hr

theorem point_at (t : Fin (cfgA a).N) (r : Fin 512) (d : Fin 1024) :
    (out a m ρ c t (ix2 r d) : EReal) = res m c (ix2 ⟨t.val * 512 + r.val, by have := point_lt a t; omega⟩ d) := by
  have ht := point_lt a t
  have eq : (t.val * 512 + r.val) / 512 = t.val := by omega
  have ep : (pos a t : S48.Idx) = ix1 ⟨t.val, ht⟩ := by
    funext z; match z with | ⟨0, _⟩ => rfl
  have h1 := hp.1 c
  have h2 := hp.2 c
  have hu : Used a t ↔ (BitVec.ofNat 32 t.val).slt (m ((c : Thread nD τ).loc main_arg2) (ix1 0)) = true := by
    rw [Used, used_iff, h2]
    have e1 : (crd a t 0).val = t.val := coord_at t
    rw [e1]
    have e2 : usedWord (F := Ideal) (a.1 1) = a.1 1 (ix1 0) := by
      have e : usedWord (F := Ideal) (a.1 1) = (a.1 1 : S1.Idx → BitVec 32) _ := rfl
      rw [e]
      refine congrArg (a.1 1 : S1.Idx → BitVec 32) (funext fun z => ?_)
      match z with
      | ⟨0, _⟩ => exact (Subsingleton.elim (α := Fin 1) _ _)
    rw [e2]
  have hw := word_nat _ (hr (pos a t))
  unfold res routed
  have e1 : ((ix2 (⟨t.val * 512 + r.val, by omega⟩ : Fin 24576) d : Rows.Idx) 0).val = t.val * 512 + r.val := rfl
  simp only [e1, eq]
  by_cases h : Used a t
  · rw [if_pos (hu.1 h)]
    refine used_at a m ρ c t _ ?_ h r d
    show (a.1 0 (pos a t) : BitVec 32).toNat = min (m ((c : Thread nD τ).loc main_arg1) (ix1 ⟨t.val, _⟩) : BitVec 32).toInt.toNat 63
    rw [h1, ← ep]; exact hw.2.symm
  · rw [if_neg (fun hh => h (hu.2 hh)), out_unused a m ρ c t h]
    exact pay2_at r d

/-! ## The whole array -/

omit hp hr in
theorem covers : ((cfgA a).win (5 : Fin 6)).Covers := by
  refine ⟨fun z => ?_, fun β => ?_⟩
  · match z with
    | ⟨0, _⟩ => show 0 < 512; decide
    | ⟨1, _⟩ => show 0 < 1024; decide
  · have h0 : (β (0 : Fin 2)).val < 48 := lt_of_lt_of_eq (β (0 : Fin 2)).isLt (by show (24576 + 512 - 1) / 512 = 48; norm_num)
    have h1 : (β (1 : Fin 2)).val < 1 := lt_of_lt_of_eq (β (1 : Fin 2)).isLt (by show (1024 + 1024 - 1) / 1024 = 1; norm_num)
    refine ⟨⟨(β (0 : Fin 2)).val, h0.trans_eq N_0.symm⟩, ?_, fun z => ⟨?_, Or.inl ?_⟩⟩
    · unfold Window.flush
      rw [Bool.and_eq_true]
      refine ⟨rfl, ?_⟩
      rw [Bool.or_eq_true]
      by_cases hl : (β (0 : Fin 2)).val + 1 = 48
      · left; rw [decide_eq_true_eq]; exact hl.trans N_0.symm
      · right; rw [decide_eq_true_eq]
        refine ⟨by show (β (0 : Fin 2)).val + 1 < _; exact lt_of_lt_of_eq (by omega) N_0.symm, ?_⟩
        intro h
        rw [place5, place5] at h
        have := congrFun h (0 : Fin 2)
        have : (β (0 : Fin 2)).val + 1 = (β (0 : Fin 2)).val := this
        omega
    · rw [place5]
      match z with
      | ⟨0, _⟩ => rfl
      | ⟨1, _⟩ => show 0 = (β (1 : Fin 2)).val; omega
    · rfl

theorem result : (dats a m ρ 0 c).arrAt (5 : Fin 6) (cfgA a).N = res m c := by
  refine (dats a m ρ 0 c).arrAt_eq_of_covers (5 : Fin 6) (res m c) (covers a) (fun t _ y => ?_)
  have hy : (y : S512x1024.Idx) = ix2 (y (0 : Fin 2)) (y (1 : Fin 2)) := eq_ix2 (y : S512x1024.Idx)
  have e : (((cfgA a).win (5 : Fin 6)).blk t).view.emb y = (ix2 ⟨t.val * 512 + (y (0 : Fin 2)).val, by have := point_lt a t; have := (y (0 : Fin 2)).isLt; change (y (0 : Fin 2)).val < 512 at this; omega⟩ (y (1 : Fin 2)) : Rows.Idx) := by
    funext d; apply Fin.ext
    show ((cfgA a).win (5 : Fin 6)).index t d * S512x1024.size d + 1 * (y d).val = _
    rw [place5]
    match d with
    | ⟨0, _⟩ => show t.val * 512 + 1 * (y (0 : Fin 2)).val = t.val * 512 + (y (0 : Fin 2)).val; omega
    | ⟨1, _⟩ => show 0 * 1024 + 1 * (y (1 : Fin 2)).val = (y (1 : Fin 2)).val; omega
  rw [e]
  refine Eq.trans ?_ (point_at a m ρ c hp hr t (y (0 : Fin 2)) (y (1 : Fin 2)))
  show out a m ρ c t y = _
  exact congrArg (out a m ρ c t) hy

end Cert.Kernel11Ideal.Expert

end
-- ==== Proof.ContextExpertRef.lean ====
/- The plain formula's program computes the routed feed-forward, for a table of experts that are all in range. -/
module

public import proofs.«01_k».proof.Proof.ContextExpertSpec
public import proofs.«01_k».proof.Proof.Gen.Reference11Ideal.Read

@[expose] public section

set_option maxRecDepth 16384

noncomputable section

namespace Cert.Reference11Ideal.Expert

open Cert.Reference11Ideal Cert.Reference11Ideal.Gen Cert.Reference11Ideal.Read Cert.ContextFfn
open Idealize.ShloMosaic Idealize.ShloMosaic.TcCoe Idealize.SL.Sem

/-- Selecting whole `A × B` planes of a stack of `N` by one index per result plane. -/
abbrev planeDims (N R A B : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndexMap := [0]
  startIndicesBatchingDims := []
  indexVectorDim := 1
  sliceSizes := ![1, A, B]
  wf := wf

theorem planes_apply {N R A B w : Nat} {α : Type} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (t : Fin R) (p : Fin A) (q : Fin B) :
    Host.gather (planeDims N R A B wf) x idx (ix3 t p q) = x (ix3 ⟨min (idx (ix2 t 0)).toInt.toNat (N - 1), by omega⟩ p q) := by
  unfold Host.gather
  congr 1
  funext d
  refine Fin.ext ?_
  show (planeDims N R A B wf).start (ix3 t p q) idx d + (planeDims N R A B wf).batchCoord (ix3 t p q) d + (planeDims N R A B wf).offCoord (ix3 t p q) d = _
  rw [GatherDims.batchCoord_eq_zero _ _ _ List.not_mem_nil, Nat.add_zero]
  match d with
  | ⟨0, _⟩ =>
    rw [GatherDims.offCoord_eq_zero _ _ _ (fun h => ((GatherDims.mem_sKept _ _).mp h).1 (List.mem_singleton.mpr rfl)), Nat.add_zero]
    unfold GatherDims.start
    have hsi : (planeDims N R A B wf).siIdx (ix3 t p q) ⟨List.idxOf (0 : Fin 3) (planeDims N R A B wf).startIndexMap,
        List.idxOf_lt_length_iff.2 (List.mem_singleton.mpr rfl)⟩ = ix2 t 0 := by
      funext b; refine Fin.ext ?_
      match b with
      | ⟨0, _⟩ => rfl
      | ⟨1, _⟩ => rfl
    refine (dif_pos (show (0 : Fin 3) ∈ (planeDims N R A B wf).startIndexMap from List.mem_singleton.mpr rfl)).trans ?_
    show min (idx ((planeDims N R A B wf).siIdx (ix3 t p q) ⟨List.idxOf (0 : Fin 3) (planeDims N R A B wf).startIndexMap,
        List.idxOf_lt_length_iff.2 (List.mem_singleton.mpr rfl)⟩)).toInt.toNat (N - 1) = _
    rw [hsi]
    rfl
  | ⟨1, _⟩ =>
    have h0 : (planeDims N R A B wf).start (ix3 t p q) idx (1 : Fin 3) = 0 := by
      unfold GatherDims.start
      exact dif_neg (show ¬ (1 : Fin 3) ∈ ([0] : List (Fin 3)) from by decide)
    refine (congrArg (· + (planeDims N R A B wf).offCoord (ix3 t p q) (1 : Fin 3)) h0).trans ?_
    exact Nat.zero_add _
  | ⟨2, _⟩ =>
    have h0 : (planeDims N R A B wf).start (ix3 t p q) idx (2 : Fin 3) = 0 := by
      unfold GatherDims.start
      exact dif_neg (show ¬ (2 : Fin 3) ∈ ([0] : List (Fin 3)) from by decide)
    refine (congrArg (· + (planeDims N R A B wf).offCoord (ix3 t p q) (2 : Fin 3)) h0).trans ?_
    exact Nat.zero_add _

/-- A word that is not negative is kept by the wrap of negative words. -/
theorem kept (w v : BitVec 32) (h : 0 ≤ w.toInt) : Scalar.select (IntOp.cmpi .slt w 0#32) v w = w := by
  have e : IntOp.cmpi .slt w 0#32 = 0#1 := by
    show BitVec.ofBool (w.slt 0#32) = 0#1
    have : w.slt 0#32 = false := by simp only [BitVec.slt, decide_eq_false_iff_not]; show ¬ w.toInt < 0; omega
    rw [this]; rfl
  rw [e]; rfl

/-- The zero the program writes is the real zero. -/
theorem zero_word : (constant (F := Ideal) S_ FTy.f32 0#32) ix0 = (0 : EReal) := by
  pointwise

variable (x0 : FVec Ideal S24576x1024 .bf16) (x1 : IVec S48 32) (x2 : IVec S1 32) (x3 : FVec Ideal S64x1024x2048 .f32) (x4 : FVec Ideal S64x1x2048 .f32) (x5 : FVec Ideal S64x1024x1024 .f32) (x6 : FVec Ideal S64x1x1024 .f32)
variable (hx : ∀ t : Fin 48, 0 ≤ (x1 (ix1 t)).toInt)

include hx

theorem at7 (t : Fin 48) : val_main_v7 (F := Ideal) x1 (ix2 t 0) = x1 (ix1 t) := by
  pointwise [val_main_v7, val_main_v6, val_main_v5, val_main_v4, val_main_v3, val_main_v2, val_main_c, val_main_c_0]
  exact kept _ _ (hx t)
theorem at15 (t : Fin 48) : val_main_v15 (F := Ideal) x1 (ix2 t 0) = x1 (ix1 t) := by
  pointwise [val_main_v15, val_main_v14, val_main_v13, val_main_v12, val_main_v11, val_main_v10, val_main_c_1, val_main_c_2]
  exact kept _ _ (hx t)
theorem at41 (t : Fin 48) : val_main_v41 (F := Ideal) x1 (ix2 t 0) = x1 (ix1 t) := by
  pointwise [val_main_v41, val_main_v40, val_main_v39, val_main_v38, val_main_v37, val_main_v36, val_main_c_9, val_main_c_10]
  exact kept _ _ (hx t)
theorem at49 (t : Fin 48) : val_main_v49 (F := Ideal) x1 (ix2 t 0) = x1 (ix1 t) := by
  pointwise [val_main_v49, val_main_v48, val_main_v47, val_main_v46, val_main_v45, val_main_v44, val_main_c_11, val_main_c_12]
  exact kept _ _ (hx t)

theorem at8 (t : Fin 48) (k : Fin 1024) (f : Fin 2048) : val_main_v8 (F := Ideal) x1 x3 (ix3 t k f) = x3 (ix3 (expert x1 t) k f) := by
  unfold val_main_v8
  refine (planes_apply (by decide) _ x3 _ t k f).trans ?_
  simp only [at7 x1 hx]; rfl
theorem at16 (t : Fin 48) (k : Fin 1) (f : Fin 2048) : val_main_v16 (F := Ideal) x1 x4 (ix3 t k f) = x4 (ix3 (expert x1 t) k f) := by
  unfold val_main_v16
  refine (planes_apply (by decide) _ x4 _ t k f).trans ?_
  simp only [at15 x1 hx]; rfl
theorem at42 (t : Fin 48) (k : Fin 1024) (f : Fin 1024) : val_main_v42 (F := Ideal) x1 x5 (ix3 t k f) = x5 (ix3 (expert x1 t) k f) := by
  unfold val_main_v42
  refine (planes_apply (by decide) _ x5 _ t k f).trans ?_
  simp only [at41 x1 hx]; rfl
theorem at50 (t : Fin 48) (k : Fin 1) (f : Fin 1024) : val_main_v50 (F := Ideal) x1 x6 (ix3 t k f) = x6 (ix3 (expert x1 t) k f) := by
  unfold val_main_v50
  refine (planes_apply (by decide) _ x6 _ t k f).trans ?_
  simp only [at49 x1 hx]; rfl

theorem at35 (t : Fin 48) (r : Fin 512) (j : Fin 1024) :
    val_main_v35 (F := Ideal) x0 x1 x3 x4 (ix3 t r j) = act x0 x3 x4 (expert x1 t) ⟨t.val * 512 + r.val, by omega⟩ j := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v9, val_main_v1, val_main_v0, val_main_call0_v4, val_main_call0_v3, val_main_call0_v2, val_main_call0_v1, val_main_call0_v0, val_main_cst, val_main_cst_3, val_main_cst_4, val_main_cst_5, val_main_cst_6, val_main_cst_7, val_main_cst_8]
  simp only [at8 x1 x3 hx, at16 x1 x4 hx, ← zero_sub (slope * _)]
  rfl

theorem at60 (r : Fin 24576) (d : Fin 1024) :
    val_main_v60 (F := Ideal) x0 x1 x2 x3 x4 x5 x6 (ix2 r d) = routed x0 x1 x2 x3 x4 x5 x6 (ix2 r d) := by
  pointwise [val_main_v60, val_main_v59, val_main_v58, val_main_v57, val_main_v56, val_main_v55, val_main_v54, val_main_v53, val_main_v52, val_main_v51, val_main_v43, val_main_call1_v2, val_main_call1_v1, val_main_call1_v0, val_main_cst_13]
  simp only [at35 x0 x1 x3 x4 hx, at42 x1 x5 hx, at50 x1 x6 hx]
  have er : (⟨r.val / 512 * 512 + r.val % 512, by omega⟩ : Fin 24576) = r := Fin.ext (Nat.div_add_mod' _ _)
  simp only [er]
  unfold routed
  have e1 : ((ix2 r d : Rows.Idx) 0).val = r.val := rfl
  have e2 : ((ix2 r d : Rows.Idx) 1).val = d.val := rfl
  simp only [e1, e2]
  cases h : (BitVec.ofNat 32 (r.val / 512)).slt (x2 (ix1 0)) with
  | true =>
    have e : IntOp.cmpi .slt (BitVec.ofNat 32 (r.val / 512)) (x2 (ix1 0)) = 1#1 := by show BitVec.ofBool _ = _; rw [h]; rfl
    rw [e, if_pos rfl]; rfl
  | false =>
    have e : IntOp.cmpi .slt (BitVec.ofNat 32 (r.val / 512)) (x2 (ix1 0)) = 0#1 := by show BitVec.ofBool _ = _; rw [h]; rfl
    rw [e, if_neg (by decide)]
    exact zero_word

theorem whole : val_main_v60 (F := Ideal) x0 x1 x2 x3 x4 x5 x6 = routed x0 x1 x2 x3 x4 x5 x6 := by
  funext i
  rw [eq_ix2 i]
  exact at60 x0 x1 x2 x3 x4 x5 x6 hx _ _

end Cert.Reference11Ideal.Expert

end
-- ==== Proof.ContextExpert.lean ====
/- The routed feed-forward's claims: its frames, and that its idealised kernel and the plain formula end with the same result. -/
module

public import proofs.«01_k».proof.Defs
public import proofs.«01_k».proof.Proof.ContextTables
public import proofs.«01_k».proof.Proof.ContextTablesIdeal
public import proofs.«01_k».proof.Proof.ContextExpertValue
public import proofs.«01_k».proof.Proof.ContextExpertRef
public import proofs.«01_k».proof.Proof.Gen.Reference11Ideal.Run
public import Idealize.ShloMosaic.Lib.Quiescent

@[expose] public section

set_option maxRecDepth 16384

noncomputable section

namespace Cert.ContextFfn

open Idealize.ShloMosaic Idealize.ShloMosaic.TcCoe Idealize.SL.Sem

variable [Cert.Pre_context_experts_in_range.Facts]

theorem frame_kernel : Cert.quiescent_Kernel11 := fun m g h =>
  Cert.Kernel11.Expert.frame (Cert.Kernel11.Expert.tables m h) m g (Cert.Kernel11.Expert.tables_held m h)

theorem frame_ideal : Cert.quiescent_Kernel11Ideal := fun m g h =>
  Cert.Kernel11Ideal.Expert.frame (Cert.Kernel11Ideal.Expert.tables m h) m g (Cert.Kernel11Ideal.Expert.tables_held m h)

omit [Cert.Pre_context_experts_in_range.Facts] in
/-- The reference's frame: it has no counters, so they end at zero. -/
theorem frame_reference : Cert.quiescent_Reference11Ideal := fun m g _ =>
  (θ_run _ _ _).mono (fun r h => ⟨fun c => (h c).2, sem_eq_zero_of_no_sems (by decide) r.2⟩) (Cert.Reference11Ideal.Value.run (F := Ideal) m g)

theorem frame_reference_pre : Cert.quiescent_Reference11Ideal_pre_context_experts_in_range := fun m g _ => frame_reference m g trivial

/-- Both runs end with the routed feed-forward of the kernel's own arguments. -/
theorem same_result : Cert.algebraic_Kernel11Ideal_Reference11Ideal := by
  intro m g m' g' hpre hagree
  have hp := Cert.Kernel11Ideal.Expert.tables_held m hpre
  refine ⟨fun c => routed (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)), ?_, ?_⟩
  · exact (θ_run _ _ _).mono (fun r h c => ⟨((h.1 c).1 (5 : Fin 6)).trans
        (Cert.Kernel11Ideal.Expert.result (Cert.Kernel11Ideal.Expert.tables m hpre) m g c hp (Cert.Kernel11Ideal.Expert.held_range m hpre)), h.2 c⟩)
      (θ_run_and (Cert.Kernel11Ideal.Expert.run_main (Cert.Kernel11Ideal.Expert.tables m hpre) m g hp)
        (Cert.Kernel11Ideal.Expert.unchanged (Cert.Kernel11Ideal.Expert.tables m hpre) m g hp))
  · refine (θ_run _ _ _).mono (fun r h c => ⟨(h c).1.trans ?_, (h c).2⟩) (Cert.Reference11Ideal.Value.run (F := Ideal) m' g')
    obtain ⟨e0, e1, e2, e3, e4, e5, e6⟩ := hagree c
    rw [Cert.Reference11Ideal.Read.val_main_v60_eq, e0, e1, e2, e3, e4, e5, e6]
    exact Cert.Reference11Ideal.Expert.whole _ _ _ _ _ _ _ fun t => (in_range _ _ _ _ _ _ _ (hpre c) (ix1 t)).1

end Cert.ContextFfn

end
-- ==== Proof.FinalNorm.lean ====
/- The last normalisation: what each grid point writes is the plain formula's block. -/
module

public import proofs.«01_k».proof.Defs
public import proofs.«01_k».proof.Proof.Gen.Kernel12Ideal.Frame
public import proofs.«01_k».proof.Proof.Gen.Kernel12Ideal.Value
public import proofs.«01_k».proof.Proof.Gen.Reference12Ideal.Run
public import Idealize.ShloMosaic.Lib.Pipeline.ValueKit
public import Idealize.ShloMosaic.Lib.Quiescent

@[expose] public section

set_option maxRecDepth 16384

noncomputable section

namespace Cert.FinalNorm

open Cert.Kernel12Ideal Cert.Kernel12Ideal.Gen Cert.Kernel12Ideal.Value
open Idealize.ShloMosaic Idealize.ShloMosaic.TcCoe Idealize.SL.Sem
open Idealize.ShloMosaic.Pipeline (Dat)

/-- The reference's result as one function of the two arguments. -/
def norm (X : FVec Ideal S8x4096x1024 .f32) (G : FVec Ideal S1024 .f32) : FVec Ideal S8x4096x1024 .f32 :=
  mulf (mulf X (broadcastInDim Cert.Reference12Ideal.S8x4096x1024 ![0, 1, 2] Cert.Reference12Ideal.Gen.bcast_S8x4096x1_S8x4096x1024_0_1_2 (Host.rsqrt (addf (Host.divf (broadcastInDim Cert.Reference12Ideal.S8x4096x1 ![0, 1] Cert.Reference12Ideal.Gen.bcast_S8x4096_S8x4096x1_0_1 (Host.reduceAdd (mulf X X) (constant Cert.Reference12Ideal.S_ .f32 0x00000000#32) Cert.Reference12Ideal.Gen.reducesTo_S8x4096x1024_S8x4096_d2 Cert.Reference12Ideal.Gen.h_S_)) (broadcastInDim Cert.Reference12Ideal.S8x4096x1 ![] Cert.Reference12Ideal.Gen.bcast_S_S8x4096x1 (constant Cert.Reference12Ideal.S_ .f32 0x44800000#32))) (broadcastInDim Cert.Reference12Ideal.S8x4096x1 ![] Cert.Reference12Ideal.Gen.bcast_S_S8x4096x1 (constant Cert.Reference12Ideal.S_ .f32 0x358637BD#32)))))) (broadcastInDim Cert.Reference12Ideal.S8x4096x1024 ![0, 1, 2] Cert.Reference12Ideal.Gen.bcast_S1x1x1024_S8x4096x1024_0_1_2 (broadcastInDim Cert.Reference12Ideal.S1x1x1024 ![2] Cert.Reference12Ideal.Gen.bcast_S1024_S1x1x1024_2 G))

variable (m : (ℓ : Loc nD τ sig) → Buf (Elt Ideal) ℓ)

/-- Where each window's block sits at point `t` of the 8 by 8 grid. -/
theorem places : ∀ t : Fin cfg0.N, win0_0.index t = ![t.val / 8, t.val % 8, 0] ∧ win0_1.index t = ![0, 0] ∧ win0_2.index t = ![t.val / 8, t.val % 8, 0] :=
  (by decide +kernel : ∀ t : Fin grid0.N, _)

set_option maxHeartbeats 2000000 in
/-- What the body stores at point `t`. -/
theorem stored_eq (c : Dev nD) (t : Fin cfg0.N) (y : S1x512x1024.Idx) :
    k0_pay1 (F := Ideal) (iblk m c 0 t) (iblk m c 1 t) y
      = norm (m ((c : Thread nD τ).loc main_arg0)) (m ((c : Thread nD τ).loc main_arg1)) (((cfg0.win 2).blk t).view.emb y) := by
  pointwise [k0_pay1, norm]
  blk_point [iblk, V, places t]

/-- The result array after the run. -/
theorem result (c : Dev nD) : (dats m 0 c).arrAt 2 (cfgs 0).N
    = norm (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  exact stored_eq m c t y

/-- The reference's frame: it has no counters, so they end at zero. -/
theorem frame_reference : Cert.quiescent_Reference12Ideal := fun m g _ =>
  (θ_run _ _ _).mono (fun r h => ⟨fun c => (h c).2, sem_eq_zero_of_no_sems (by decide) r.2⟩) (Cert.Reference12Ideal.Value.run (F := Ideal) m g)

/-- Both runs end with the plain formula over the kernel's own arguments. -/
theorem same_result : Cert.algebraic_Kernel12Ideal_Reference12Ideal := by
  intro m g m' g' _ hagree
  refine ⟨fun c => norm (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · exact (θ_run _ _ _).mono (fun r h c => ⟨(h c).1.trans (result m c), (h c).2⟩) (Cert.Kernel12Ideal.Value.run_blocks (F := Ideal) m g)
  · refine (θ_run _ _ _).mono (fun r h c => ⟨(h c).1.trans ?_, (h c).2⟩) (Cert.Reference12Ideal.Value.run (F := Ideal) m' g')
    obtain ⟨e0, e1⟩ := hagree c
    rw [e0, e1]
    rfl

end Cert.FinalNorm

end
-- ==== Proof.Combine.lean ====
/- The combination of the routed rows: what each grid point writes is the plain formula's block. -/
module

public import proofs.«01_k».proof.Defs
public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Combine

open Cert.Kernel13Ideal Cert.Kernel13Ideal.Gen Cert.Kernel13Ideal.Value
open Idealize.ShloMosaic Idealize.ShloMosaic.TcCoe Idealize.SL.Sem
open Idealize.ShloMosaic.Pipeline (Dat)

/-- One entry of the result: the stream plus the gated sum of the four routed rows. -/
def cellOf (x g2 y0 y1 y2 y3 g0 g1 g2' g3 : EReal) : EReal := x + g2 * (y0 * g0 + y1 * g1 + y2 * g2' + y3 * g3)

/-- The result: row `n` of sequence `b` takes row `b * 4096 + n` of each of the four. -/
def combined (Y0 Y1 Y2 Y3 : S32768x1024.Idx → EReal) (G : S8x4096x128.Idx → EReal) (X : S8x4096x1024.Idx → EReal) (G2 : S8x1x1024.Idx → EReal)
    (b : Fin 8) (n : Fin 4096) (d : Fin 1024) : EReal :=
  cellOf (X (ix3 b n d)) (G2 (ix3 b 0 d)) (Y0 (ix2 ⟨b.val * 4096 + n.val, by omega⟩ d)) (Y1 (ix2 ⟨b.val * 4096 + n.val, by omega⟩ d))
    (Y2 (ix2 ⟨b.val * 4096 + n.val, by omega⟩ d)) (Y3 (ix2 ⟨b.val * 4096 + n.val, by omega⟩ d))
    (G (ix3 b n 0)) (G (ix3 b n 1)) (G (ix3 b n 2)) (G (ix3 b n 3))

/-! ## The reference -/

theorem sum_apply (X A Z B0 C0 B1 C1 B2 C2 B3 C3 : FVec Ideal S8x4096x1024 .f32) (i : S8x4096x1024.Idx) :
    addf X (mulf A (addf (addf (addf (addf Z (mulf B0 C0)) (mulf B1 C1)) (mulf B2 C2)) (mulf B3 C3))) i
      = (X i + A i * (Z i + B0 i * C0 i + B1 i * C1 i + B2 i * C2 i + B3 i * C3 i) : EReal) := rfl

theorem row_apply (Y : FVec Ideal S32768x1024 .bf16) (b : Fin 8) (n : Fin 4096) (d : Fin 1024) :
    shapeCast Cert.Reference13Ideal.S8x4096x1024 (extf .f32 Y Cert.Reference13Ideal.Gen.bitsLt_bf16_f32) Cert.Reference13Ideal.Gen.shapeCasts_S32768x1024_S8x4096x1024 (ix3 b n d)
      = Y (ix2 ⟨b.val * 4096 + n.val, by omega⟩ d) :=
  shapeCast_apply (extf .f32 Y Cert.Reference13Ideal.Gen.bitsLt_bf16_f32) Cert.Reference13Ideal.Gen.shapeCasts_S32768x1024_S8x4096x1024 (ix3 b n d) (ix2 ⟨b.val * 4096 + n.val, by omega⟩ d)
    (by rw [Shape.rowMajor_val_two, Shape.rowMajor_val_three]; rfl)

theorem gate0_apply (G : FVec Ideal S8x4096x128 .f32) (b : Fin 8) (n : Fin 4096) (d : Fin 1024) :
    (broadcastInDim Cert.Reference13Ideal.S8x4096x1024 ![0, 1, 2] Cert.Reference13Ideal.Gen.bcast_S8x4096x1_S8x4096x1024_0_1_2 (broadcastInDim Cert.Reference13Ideal.S8x4096x1 ![0, 1] Cert.Reference13Ideal.Gen.bcast_S8x4096_S8x4096x1_0_1 (shapeCast _ (extractStridedSlice Cert.Reference13Ideal.S8x4096x1 ![0, 0, 0] G Cert.Reference13Ideal.Gen.slices_S8x4096x128_S8x4096x1_0_0_0) Cert.Reference13Ideal.Gen.shapeCasts_S8x4096x1_S8x4096))) (ix3 b n d) = G (ix3 b n 0) := by
  show shapeCast Cert.Reference13Ideal.S8x4096 (extractStridedSlice Cert.Reference13Ideal.S8x4096x1 ![0, 0, 0] G Cert.Reference13Ideal.Gen.slices_S8x4096x128_S8x4096x1_0_0_0) Cert.Reference13Ideal.Gen.shapeCasts_S8x4096x1_S8x4096 _ = _
  rw [shapeCast_apply (extractStridedSlice Cert.Reference13Ideal.S8x4096x1 ![0, 0, 0] G Cert.Reference13Ideal.Gen.slices_S8x4096x128_S8x4096x1_0_0_0) Cert.Reference13Ideal.Gen.shapeCasts_S8x4096x1_S8x4096 _ (ix3 b n (0 : Fin 1))
    (by rw [Shape.rowMajor_val_two, Shape.rowMajor_val_three]; show (b.val * 4096 + n.val) * 1 + 0 = b.val * 4096 + n.val; omega)]
  refine congrArg G ?_
  funext a; apply Fin.ext
  match a with
  | ⟨0, _⟩ => show 0 + b.val = b.val; omega
  | ⟨1, _⟩ => show 0 + n.val = n.val; omega
  | ⟨2, _⟩ => rfl

theorem gate1_apply (G : FVec Ideal S8x4096x128 .f32) (b : Fin 8) (n : Fin 4096) (d : Fin 1024) :
    (broadcastInDim Cert.Reference13Ideal.S8x4096x1024 ![0, 1, 2] Cert.Reference13Ideal.Gen.bcast_S8x4096x1_S8x4096x1024_0_1_2 (broadcastInDim Cert.Reference13Ideal.S8x4096x1 ![0, 1] Cert.Reference13Ideal.Gen.bcast_S8x4096_S8x4096x1_0_1 (shapeCast _ (extractStridedSlice Cert.Reference13Ideal.S8x4096x1 ![0, 0, 1] G Cert.Reference13Ideal.Gen.slices_S8x4096x128_S8x4096x1_0_0_1) Cert.Reference13Ideal.Gen.shapeCasts_S8x4096x1_S8x4096))) (ix3 b n d) = G (ix3 b n 1) := by
  show shapeCast Cert.Reference13Ideal.S8x4096 (extractStridedSlice Cert.Reference13Ideal.S8x4096x1 ![0, 0, 1] G Cert.Reference13Ideal.Gen.slices_S8x4096x128_S8x4096x1_0_0_1) Cert.Reference13Ideal.Gen.shapeCasts_S8x4096x1_S8x4096 _ = _
  rw [shapeCast_apply (extractStridedSlice Cert.Reference13Ideal.S8x4096x1 ![0, 0, 1] G Cert.Reference13Ideal.Gen.slices_S8x4096x128_S8x4096x1_0_0_1) Cert.Reference13Ideal.Gen.shapeCasts_S8x4096x1_S8x4096 _ (ix3 b n (0 : Fin 1))
    (by rw [Shape.rowMajor_val_two, Shape.rowMajor_val_three]; show (b.val * 4096 + n.val) * 1 + 0 = b.val * 4096 + n.val; omega)]
  refine congrArg G ?_
  funext a; apply Fin.ext
  match a with
  | ⟨0, _⟩ => show 0 + b.val = b.val; omega
  | ⟨1, _⟩ => show 0 + n.val = n.val; omega
  | ⟨2, _⟩ => rfl

theorem gate2_apply (G : FVec Ideal S8x4096x128 .f32) (b : Fin 8) (n : Fin 4096) (d : Fin 1024) :
    (broadcastInDim Cert.Reference13Ideal.S8x4096x1024 ![0, 1, 2] Cert.Reference13Ideal.Gen.bcast_S8x4096x1_S8x4096x1024_0_1_2 (broadcastInDim Cert.Reference13Ideal.S8x4096x1 ![0, 1] Cert.Reference13Ideal.Gen.bcast_S8x4096_S8x4096x1_0_1 (shapeCast _ (extractStridedSlice Cert.Reference13Ideal.S8x4096x1 ![0, 0, 2] G Cert.Reference13Ideal.Gen.slices_S8x4096x128_S8x4096x1_0_0_2) Cert.Reference13Ideal.Gen.shapeCasts_S8x4096x1_S8x4096))) (ix3 b n d) = G (ix3 b n 2) := by
  show shapeCast Cert.Reference13Ideal.S8x4096 (extractStridedSlice Cert.Reference13Ideal.S8x4096x1 ![0, 0, 2] G Cert.Reference13Ideal.Gen.slices_S8x4096x128_S8x4096x1_0_0_2) Cert.Reference13Ideal.Gen.shapeCasts_S8x4096x1_S8x4096 _ = _
  rw [shapeCast_apply (extractStridedSlice Cert.Reference13Ideal.S8x4096x1 ![0, 0, 2] G Cert.Reference13Ideal.Gen.slices_S8x4096x128_S8x4096x1_0_0_2) Cert.Reference13Ideal.Gen.shapeCasts_S8x4096x1_S8x4096 _ (ix3 b n (0 : Fin 1))
    (by rw [Shape.rowMajor_val_two, Shape.rowMajor_val_three]; show (b.val * 4096 + n.val) * 1 + 0 = b.val * 4096 + n.val; omega)]
  refine congrArg G ?_
  funext a; apply Fin.ext
  match a with
  | ⟨0, _⟩ => show 0 + b.val = b.val; omega
  | ⟨1, _⟩ => show 0 + n.val = n.val; omega
  | ⟨2, _⟩ => rfl

theorem gate3_apply (G : FVec Ideal S8x4096x128 .f32) (b : Fin 8) (n : Fin 4096) (d : Fin 1024) :
    (broadcastInDim Cert.Reference13Ideal.S8x4096x1024 ![0, 1, 2] Cert.Reference13Ideal.Gen.bcast_S8x4096x1_S8x4096x1024_0_1_2 (broadcastInDim Cert.Reference13Ideal.S8x4096x1 ![0, 1] Cert.Reference13Ideal.Gen.bcast_S8x4096_S8x4096x1_0_1 (shapeCast _ (extractStridedSlice Cert.Reference13Ideal.S8x4096x1 ![0, 0, 3] G Cert.Reference13Ideal.Gen.slices_S8x4096x128_S8x4096x1_0_0_3) Cert.Reference13Ideal.Gen.shapeCasts_S8x4096x1_S8x4096))) (ix3 b n d) = G (ix3 b n 3) := by
  show shapeCast Cert.Reference13Ideal.S8x4096 (extractStridedSlice Cert.Reference13Ideal.S8x4096x1 ![0, 0, 3] G Cert.Reference13Ideal.Gen.slices_S8x4096x128_S8x4096x1_0_0_3) Cert.Reference13Ideal.Gen.shapeCasts_S8x4096x1_S8x4096 _ = _
  rw [shapeCast_apply (extractStridedSlice Cert.Reference13Ideal.S8x4096x1 ![0, 0, 3] G Cert.Reference13Ideal.Gen.slices_S8x4096x128_S8x4096x1_0_0_3) Cert.Reference13Ideal.Gen.shapeCasts_S8x4096x1_S8x4096 _ (ix3 b n (0 : Fin 1))
    (by rw [Shape.rowMajor_val_two, Shape.rowMajor_val_three]; show (b.val * 4096 + n.val) * 1 + 0 = b.val * 4096 + n.val; omega)]
  refine congrArg G ?_
  funext a; apply Fin.ext
  match a with
  | ⟨0, _⟩ => show 0 + b.val = b.val; omega
  | ⟨1, _⟩ => show 0 + n.val = n.val; omega
  | ⟨2, _⟩ => rfl

theorem zero_word : (FloatOps.ofBits FTy.f32 0x00000000#32 : Ideal .f32) = (0 : EReal) := by
  show Ideal.ofBits FTy.f32 0x00000000#32 = 0
  simp

theorem mod_apply (G2 : FVec Ideal S8x1x1024 .f32) (b : Fin 8) (n : Fin 4096) (d : Fin 1024) :
    broadcastInDim Cert.Reference13Ideal.S8x4096x1024 ![0, 1, 2] Cert.Reference13Ideal.Gen.bcast_S8x1x1024_S8x4096x1024_0_1_2 G2 (ix3 b n d) = G2 (ix3 b 0 d) := by
  pointwise

theorem zero_apply (i : S8x4096x1024.Idx) :
    broadcastInDim Cert.Reference13Ideal.S8x4096x1024 ![] Cert.Reference13Ideal.Gen.bcast_S_S8x4096x1024 (constant (F := Ideal) Cert.Reference13Ideal.S_ .f32 0x00000000#32) i = (0 : EReal) :=
  zero_word

theorem ref_combined (Y0 Y1 Y2 Y3 : FVec Ideal S32768x1024 .bf16) (G : FVec Ideal S8x4096x128 .f32) (X : FVec Ideal S8x4096x1024 .f32) (G2 : FVec Ideal S8x1x1024 .f32)
    (b : Fin 8) (n : Fin 4096) (d : Fin 1024) :
    addf X (mulf (broadcastInDim Cert.Reference13Ideal.S8x4096x1024 ![0, 1, 2] Cert.Reference13Ideal.Gen.bcast_S8x1x1024_S8x4096x1024_0_1_2 G2) (addf (addf (addf (addf (broadcastInDim Cert.Reference13Ideal.S8x4096x1024 ![] Cert.Reference13Ideal.Gen.bcast_S_S8x4096x1024 (constant Cert.Reference13Ideal.S_ .f32 0x00000000#32)) (mulf (broadcastInDim Cert.Reference13Ideal.S8x4096x1024 ![0, 1, 2] Cert.Reference13Ideal.Gen.bcast_S8x4096x1_S8x4096x1024_0_1_2 (broadcastInDim Cert.Reference13Ideal.S8x4096x1 ![0, 1] Cert.Reference13Ideal.Gen.bcast_S8x4096_S8x4096x1_0_1 (shapeCast _ (extractStridedSlice Cert.Reference13Ideal.S8x4096x1 ![0, 0, 0] G Cert.Reference13Ideal.Gen.slices_S8x4096x128_S8x4096x1_0_0_0) Cert.Reference13Ideal.Gen.shapeCasts_S8x4096x1_S8x4096))) (shapeCast Cert.Reference13Ideal.S8x4096x1024 (extf .f32 Y0 Cert.Reference13Ideal.Gen.bitsLt_bf16_f32) Cert.Reference13Ideal.Gen.shapeCasts_S32768x1024_S8x4096x1024))) (mulf (broadcastInDim Cert.Reference13Ideal.S8x4096x1024 ![0, 1, 2] Cert.Reference13Ideal.Gen.bcast_S8x4096x1_S8x4096x1024_0_1_2 (broadcastInDim Cert.Reference13Ideal.S8x4096x1 ![0, 1] Cert.Reference13Ideal.Gen.bcast_S8x4096_S8x4096x1_0_1 (shapeCast _ (extractStridedSlice Cert.Reference13Ideal.S8x4096x1 ![0, 0, 1] G Cert.Reference13Ideal.Gen.slices_S8x4096x128_S8x4096x1_0_0_1) Cert.Reference13Ideal.Gen.shapeCasts_S8x4096x1_S8x4096))) (shapeCast Cert.Reference13Ideal.S8x4096x1024 (extf .f32 Y1 Cert.Reference13Ideal.Gen.bitsLt_bf16_f32) Cert.Reference13Ideal.Gen.shapeCasts_S32768x1024_S8x4096x1024))) (mulf (broadcastInDim Cert.Reference13Ideal.S8x4096x1024 ![0, 1, 2] Cert.Reference13Ideal.Gen.bcast_S8x4096x1_S8x4096x1024_0_1_2 (broadcastInDim Cert.Reference13Ideal.S8x4096x1 ![0, 1] Cert.Reference13Ideal.Gen.bcast_S8x4096_S8x4096x1_0_1 (shapeCast _ (extractStridedSlice Cert.Reference13Ideal.S8x4096x1 ![0, 0, 2] G Cert.Reference13Ideal.Gen.slices_S8x4096x128_S8x4096x1_0_0_2) Cert.Reference13Ideal.Gen.shapeCasts_S8x4096x1_S8x4096))) (shapeCast Cert.Reference13Ideal.S8x4096x1024 (extf .f32 Y2 Cert.Reference13Ideal.Gen.bitsLt_bf16_f32) Cert.Reference13Ideal.Gen.shapeCasts_S32768x1024_S8x4096x1024))) (mulf (broadcastInDim Cert.Reference13Ideal.S8x4096x1024 ![0, 1, 2] Cert.Reference13Ideal.Gen.bcast_S8x4096x1_S8x4096x1024_0_1_2 (broadcastInDim Cert.Reference13Ideal.S8x4096x1 ![0, 1] Cert.Reference13Ideal.Gen.bcast_S8x4096_S8x4096x1_0_1 (shapeCast _ (extractStridedSlice Cert.Reference13Ideal.S8x4096x1 ![0, 0, 3] G Cert.Reference13Ideal.Gen.slices_S8x4096x128_S8x4096x1_0_0_3) Cert.Reference13Ideal.Gen.shapeCasts_S8x4096x1_S8x4096))) (shapeCast Cert.Reference13Ideal.S8x4096x1024 (extf .f32 Y3 Cert.Reference13Ideal.Gen.bitsLt_bf16_f32) Cert.Reference13Ideal.Gen.shapeCasts_S32768x1024_S8x4096x1024)))) (ix3 b n d)
      = combined Y0 Y1 Y2 Y3 G X G2 b n d := by
  rw [sum_apply, gate0_apply, gate1_apply, gate2_apply, gate3_apply, row_apply, row_apply, row_apply, row_apply]
  rw [mod_apply, zero_apply]
  unfold combined cellOf
  simp only [zero_add, mul_comm]

/-! ## The kernel -/

variable (m : (ℓ : Loc nD τ sig) → Buf (Elt Ideal) ℓ) (c : Dev nD)

theorem places : ∀ t : Fin cfg0.N, win0_0.index t = ![t.val, 0] ∧ win0_1.index t = ![t.val, 0] ∧ win0_2.index t = ![t.val, 0] ∧ win0_3.index t = ![t.val, 0]
    ∧ win0_4.index t = ![t.val / 16, t.val % 16, 0] ∧ win0_5.index t = ![t.val / 16, t.val % 16, 0] ∧ win0_6.index t = ![t.val / 16, 0, 0] ∧ win0_7.index t = ![t.val / 16, t.val % 16, 0] :=
  (by decide +kernel : ∀ t : Fin grid0.N, _)

theorem point_lt (t : Fin cfg0.N) : t.val < 128 := t.isLt

/-- The sequence and the row of it a tile's row is. -/
def bat (t : Fin cfg0.N) : Fin 8 := ⟨t.val / 16, by have := point_lt t; omega⟩
def lat (t : Fin cfg0.N) (r : Fin 256) : Fin 4096 := ⟨256 * (t.val % 16) + r.val, by omega⟩

/-- What a point stores at row `r` and channel `d`, from the blocks it reads. -/
theorem pay_at (x0 x1 x2 x3 : Vec Ideal S256x1024 .bf16) (x4 : Vec Ideal S1x256x128 .f32) (x5 : Vec Ideal S1x256x1024 .f32) (x6 : Vec Ideal S1x1x1024 .f32) (r : Fin 256) (d : Fin 1024) :
    k0_pay1 (F := Ideal) x4 x0 x1 x2 x3 x5 x6 (ix3 0 r d)
      = cellOf (x5 (ix3 0 r d)) (x6 (ix3 0 0 d)) (x0 (ix2 r d)) (x1 (ix2 r d)) (x2 (ix2 r d)) (x3 (ix2 r d))
          (x4 (ix3 0 r 0)) (x4 (ix3 0 r 1)) (x4 (ix3 0 r 2)) (x4 (ix3 0 r 3)) := by
  pointwise [k0_pay1, cellOf]

theorem block0 (t : Fin cfg0.N) (r : Fin 256) (d : Fin 1024) :
    (iblk m c 0 t : S256x1024.Idx → EReal) (ix2 r d) = m ((c : Thread nD τ).loc main_arg0) (ix2 ⟨(bat t).val * 4096 + (lat t r).val, by omega⟩ d) := by
  unfold iblk
  show V m c main_arg0 _ = _
  rw [V_main_arg0]
  refine congrArg (m ((c : Thread nD τ).loc main_arg0)) ?_
  funext a; apply Fin.ext
  show win0_0.index t a * S256x1024.size a + 1 * (ix2 r d a).val = _
  rw [(places t).1]
  match a with
  | ⟨0, _⟩ => show t.val * 256 + 1 * r.val = t.val / 16 * 4096 + (256 * (t.val % 16) + r.val); omega
  | ⟨1, _⟩ => show 0 * 1024 + 1 * d.val = d.val; omega

theorem block1 (t : Fin cfg0.N) (r : Fin 256) (d : Fin 1024) :
    (iblk m c 1 t : S256x1024.Idx → EReal) (ix2 r d) = m ((c : Thread nD τ).loc main_arg1) (ix2 ⟨(bat t).val * 4096 + (lat t r).val, by omega⟩ d) := by
  unfold iblk
  show V m c main_arg1 _ = _
  rw [V_main_arg1]
  refine congrArg (m ((c : Thread nD τ).loc main_arg1)) ?_
  funext a; apply Fin.ext
  show win0_1.index t a * S256x1024.size a + 1 * (ix2 r d a).val = _
  rw [(places t).2.1]
  match a with
  | ⟨0, _⟩ => show t.val * 256 + 1 * r.val = t.val / 16 * 4096 + (256 * (t.val % 16) + r.val); omega
  | ⟨1, _⟩ => show 0 * 1024 + 1 * d.val = d.val; omega

theorem block2 (t : Fin cfg0.N) (r : Fin 256) (d : Fin 1024) :
    (iblk m c 2 t : S256x1024.Idx → EReal) (ix2 r d) = m ((c : Thread nD τ).loc main_arg2) (ix2 ⟨(bat t).val * 4096 + (lat t r).val, by omega⟩ d) := by
  unfold iblk
  show V m c main_arg2 _ = _
  rw [V_main_arg2]
  refine congrArg (m ((c : Thread nD τ).loc main_arg2)) ?_
  funext a; apply Fin.ext
  show win0_2.index t a * S256x1024.size a + 1 * (ix2 r d a).val = _
  rw [(places t).2.2.1]
  match a with
  | ⟨0, _⟩ => show t.val * 256 + 1 * r.val = t.val / 16 * 4096 + (256 * (t.val % 16) + r.val); omega
  | ⟨1, _⟩ => show 0 * 1024 + 1 * d.val = d.val; omega

theorem block3 (t : Fin cfg0.N) (r : Fin 256) (d : Fin 1024) :
    (iblk m c 3 t : S256x1024.Idx → EReal) (ix2 r d) = m ((c : Thread nD τ).loc main_arg3) (ix2 ⟨(bat t).val * 4096 + (lat t r).val, by omega⟩ d) := by
  unfold iblk
  show V m c main_arg3 _ = _
  rw [V_main_arg3]
  refine congrArg (m ((c : Thread nD τ).loc main_arg3)) ?_
  funext a; apply Fin.ext
  show win0_3.index t a * S256x1024.size a + 1 * (ix2 r d a).val = _
  rw [(places t).2.2.2.1]
  match a with
  | ⟨0, _⟩ => show t.val * 256 + 1 * r.val = t.val / 16 * 4096 + (256 * (t.val % 16) + r.val); omega
  | ⟨1, _⟩ => show 0 * 1024 + 1 * d.val = d.val; omega

theorem block4 (t : Fin cfg0.N) (r : Fin 256) (d : Fin 128) :
    (iblk m c 4 t : S1x256x128.Idx → EReal) (ix3 0 r d) = m ((c : Thread nD τ).loc main_arg4) (ix3 (bat t) (lat t r) d) := by
  unfold iblk
  show V m c main_arg4 _ = _
  rw [V_main_arg4]
  refine congrArg (m ((c : Thread nD τ).loc main_arg4)) ?_
  funext a; apply Fin.ext
  show win0_4.index t a * S1x256x128.size a + 1 * (ix3 (0 : Fin 1) r d a).val = _
  rw [(places t).2.2.2.2.1]
  match a with
  | ⟨0, _⟩ => show t.val / 16 * 1 + 1 * 0 = t.val / 16; omega
  | ⟨1, _⟩ => show t.val % 16 * 256 + 1 * r.val = 256 * (t.val % 16) + r.val; omega
  | ⟨2, _⟩ => show 0 * 128 + 1 * d.val = d.val; omega

theorem block5 (t : Fin cfg0.N) (r : Fin 256) (d : Fin 1024) :
    (iblk m c 5 t : S1x256x1024.Idx → EReal) (ix3 0 r d) = m ((c : Thread nD τ).loc main_arg5) (ix3 (bat t) (lat t r) d) := by
  unfold iblk
  show V m c main_arg5 _ = _
  rw [V_main_arg5]
  refine congrArg (m ((c : Thread nD τ).loc main_arg5)) ?_
  funext a; apply Fin.ext
  show win0_5.index t a * S1x256x1024.size a + 1 * (ix3 (0 : Fin 1) r d a).val = _
  rw [(places t).2.2.2.2.2.1]
  match a with
  | ⟨0, _⟩ => show t.val / 16 * 1 + 1 * 0 = t.val / 16; omega
  | ⟨1, _⟩ => show t.val % 16 * 256 + 1 * r.val = 256 * (t.val % 16) + r.val; omega
  | ⟨2, _⟩ => show 0 * 1024 + 1 * d.val = d.val; omega

theorem block6 (t : Fin cfg0.N) (d : Fin 1024) :
    (iblk m c 6 t : S1x1x1024.Idx → EReal) (ix3 0 0 d) = m ((c : Thread nD τ).loc main_arg6) (ix3 (bat t) 0 d) := by
  unfold iblk
  show V m c main_arg6 _ = _
  rw [V_main_arg6]
  refine congrArg (m ((c : Thread nD τ).loc main_arg6)) ?_
  funext a; apply Fin.ext
  show win0_6.index t a * S1x1x1024.size a + 1 * (ix3 (0 : Fin 1) (0 : Fin 1) d a).val = _
  rw [(places t).2.2.2.2.2.2.1]
  match a with
  | ⟨0, _⟩ => show t.val / 16 * 1 + 1 * 0 = t.val / 16; omega
  | ⟨1, _⟩ => rfl
  | ⟨2, _⟩ => show 0 * 1024 + 1 * d.val = d.val; omega

theorem whole_rows (x : Vec Ideal S256x1024 .bf16) : View.ld x r0_1 = x := View.ld_unit_lit _ x (by decide)
theorem whole_gate (x : Vec Ideal S1x256x128 .f32) : View.ld x r0_0 = x := View.ld_unit_lit _ x (by decide)
theorem whole_stream (x : Vec Ideal S1x256x1024 .f32) : View.ld x r0_2 = x := View.ld_unit_lit _ x (by decide)
theorem whole_mod (x : Vec Ideal S1x1x1024 .f32) : View.ld x r0_3 = x := View.ld_unit_lit _ x (by decide)

/-- The whole result as one function of the kernel's arguments. -/
def combine : S8x4096x1024.Idx → EReal := fun i =>
  combined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)

theorem written (t : Fin cfg0.N) (r : Fin 256) (d : Fin 1024) :
    out0_7 (F := Ideal) (iblk m c 0 t) (iblk m c 1 t) (iblk m c 2 t) (iblk m c 3 t) (iblk m c 4 t) (iblk m c 5 t) (iblk m c 6 t) (ix3 0 r d)
      = combined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bat t) (lat t r) d := by
  have e : out0_7 (F := Ideal) (iblk m c 0 t) (iblk m c 1 t) (iblk m c 2 t) (iblk m c 3 t) (iblk m c 4 t) (iblk m c 5 t) (iblk m c 6 t)
      = k0_pay1 (F := Ideal) (iblk m c 4 t) (iblk m c 0 t) (iblk m c 1 t) (iblk m c 2 t) (iblk m c 3 t) (iblk m c 5 t) (iblk m c 6 t) := by
    unfold out0_7
    rw [whole_gate, whole_rows, whole_rows, whole_rows, whole_rows, whole_stream, whole_mod]
    exact View.canon_cons_unit_lit _ _ _ (by decide)
  rw [e, pay_at, block0 m c t r d, block1 m c t r d, block2 m c t r d, block3 m c t r d, block4 m c t r 0, block4 m c t r 1, block4 m c t r 2, block4 m c t r 3, block5 m c t r d, block6 m c t d]
  rfl

theorem index_eq (y : S1x256x1024.Idx) : ∃ (r : Fin 256) (d : Fin 1024), y = ix3 (0 : Fin 1) r d := by
  refine ⟨y 1, y 2, ?_⟩
  funext a
  match a with
  | ⟨0, _⟩ => exact Subsingleton.elim (α := Fin 1) _ _
  | ⟨1, _⟩ => rfl
  | ⟨2, _⟩ => rfl

/-- Where a cell of the tile lies in the result. -/
theorem cell (t : Fin cfg0.N) (r : Fin 256) (d : Fin 1024) :
    (((cfg0.win 7).blk t).view.emb (ix3 (0 : Fin 1) r d) : S8x4096x1024.Idx) = ix3 (bat t) (lat t r) d := by
  funext a; apply Fin.ext
  show win0_7.index t a * S1x256x1024.size a + 1 * (ix3 (0 : Fin 1) r d a).val = _
  rw [(places t).2.2.2.2.2.2.2]
  match a with
  | ⟨0, _⟩ => show t.val / 16 * 1 + 1 * 0 = t.val / 16; omega
  | ⟨1, _⟩ => show t.val % 16 * 256 + 1 * r.val = 256 * (t.val % 16) + r.val; omega
  | ⟨2, _⟩ => show 0 * 1024 + 1 * d.val = d.val; omega

theorem covers7 : (cfg0.win 7).Covers := by decide +kernel

set_option maxHeartbeats 1000000 in
/-- The result array after the run. -/
theorem result : (dats m 0 c).arrAt 7 (cfgs 0).N = combine m c := by
  refine (dats m 0 c).arrAt_eq_of_covers 7 (combine m c) covers7 fun t _ y => ?_
  obtain ⟨r, d, e⟩ := index_eq y
  subst e
  have e1 := written m c t r d
  have e2 := congrArg (combine m c) (cell t r d)
  have e3 : combine m c (ix3 (bat t) (lat t r) d) = combined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bat t) (lat t r) d := rfl
  generalize combine m c = G at e2 e3 ⊢
  rw [e2, e3, ← e1]
  blk_simp
  rw [after0_7]

/-- The reference's frame: it has no counters, so they end at zero. -/
theorem frame_reference : Cert.quiescent_Reference13Ideal := fun m g _ =>
  (θ_run _ _ _).mono (fun r h => ⟨fun c => (h c).2, sem_eq_zero_of_no_sems (by decide) r.2⟩) (Cert.Reference13Ideal.Value.run (F := Ideal) m g)

/-- Both runs end with the combination of the kernel's own arguments. -/
theorem same_result : Cert.algebraic_Kernel13Ideal_Reference13Ideal := by
  intro m g m' g' _ hagree
  refine ⟨fun c => combine m c, ?_, ?_⟩
  · exact (θ_run _ _ _).mono (fun r h c => ⟨(h c).1.trans (result m c), (h c).2⟩) (Cert.Kernel13Ideal.Value.run_blocks (F := Ideal) m g)
  · refine (θ_run _ _ _).mono (fun r h c => ⟨(h c).1.trans ?_, (h c).2⟩) (Cert.Reference13Ideal.Value.run (F := Ideal) m' g')
    obtain ⟨e0, e1, e2, e3, e4, e5, e6⟩ := hagree c
    rw [e0, e1, e2, e3, e4, e5, e6]
    funext i
    have e : i = ix3 (i 0) (i 1) (i 2) := by
      funext a
      match a with
      | ⟨0, _⟩ => rfl
      | ⟨1, _⟩ => rfl
      | ⟨2, _⟩ => rfl
    rw [e]
    exact ref_combined _ _ _ _ _ _ _ (i 0) (i 1) (i 2)

end Cert.Combine

end
-- ==== Proof.ContextMergeSpec.lean ====
/- The merge of the three branches into the residual stream as a plain formula over one row: the recurrence's output is
   normalised per head of 64 channels, the state-space output passes a gelu and a gated layer, each branch is projected and
   weighted by its gate, and the sum, projected once more, is added to the row. -/
module

public import Idealize.ShloMosaic.PureOps.Ideal
public import Idealize.ShloMosaic.Lib.Pointwise

@[expose] public section

noncomputable section

namespace Cert.ContextMerge

open Idealize.ShloMosaic

/-- Channels per head, and the constant added to a variance, as the program's f32 constants. -/
abbrev chans : EReal := Ideal.ofBits FTy.f32 0x42800000#32
abbrev tiny : EReal := Ideal.ofBits FTy.f32 0x3A27C5AC#32

/-- The mean over a head. -/
def mean (f : Fin 64 → EReal) : EReal := Ideal.div (∑ k : Fin 64, f k) chans

/-- A head normalised: mean taken away, divided by the root of the variance. -/
def normed (f : Fin 64 → EReal) (l : Fin 64) : EReal :=
  (f l - mean f) * Ideal.rsqrt (mean (fun k => (f k - mean f) * (f k - mean f)) + tiny)

/-- The head channel `k` belongs to, as 64 channels of a row. -/
def headOf (y : Fin 512 → EReal) (k : Fin 512) (l : Fin 64) : EReal := y ⟨k.val / 64 * 64 + l.val, by omega⟩

/-- The recurrence's output at channel `k`: normalised in its head, scaled, shifted, gated. -/
def rwkv (y lng lnb g : Fin 512 → EReal) (k : Fin 512) : EReal :=
  (normed (headOf y k) ⟨k.val % 64, by omega⟩ * lng k + lnb k) * g k

/-- The gelu in its tanh form. -/
def gelu (s : EReal) : EReal :=
  s * (Ideal.ofBits FTy.f32 0x3F000000#32 * (1 + Ideal.tanh (Ideal.ofBits FTy.f32 0x3F4C422A#32 * (s + Ideal.ofBits FTy.f32 0x3D372713#32 * (s * s * s)))))

/-- The sigmoid. -/
def gate (z : EReal) : EReal := Ideal.div 1 (1 + Ideal.exp (-z))

/-- The layer after the gelu, at output `j`. -/
def glu (s : Fin 512 → EReal) (w : Fin 512 → Fin 1024 → EReal) (b : Fin 1024 → EReal) (j : Fin 1024) : EReal :=
  ∑ k : Fin 512, gelu (s k) * w k j + b j

/-- Its first half gated by its second. -/
def ssm (s : Fin 512 → EReal) (w : Fin 512 → Fin 1024 → EReal) (b : Fin 1024 → EReal) (k : Fin 512) : EReal :=
  glu s w b ⟨k.val, by omega⟩ * gate (glu s w b ⟨512 + k.val, by omega⟩)

/-- The three branches projected, gated and summed, at channel `e`. -/
def mixed (a b c : Fin 512 → EReal) (zg : Fin 3072 → EReal) (wb : Fin 3 → Fin 512 → Fin 1024 → EReal) (e : Fin 1024) : EReal :=
  gate (zg ⟨e.val, by omega⟩) * ∑ k : Fin 512, a k * wb 0 k e + gate (zg ⟨1024 + e.val, by omega⟩) * ∑ k : Fin 512, b k * wb 1 k e
    + gate (zg ⟨2048 + e.val, by omega⟩) * ∑ k : Fin 512, c k * wb 2 k e

/-- One entry of the result. -/
def row (a b c : Fin 512 → EReal) (zg : Fin 3072 → EReal) (wb : Fin 3 → Fin 512 → Fin 1024 → EReal) (wo : Fin 1024 → EReal) (x g1 : EReal) : EReal :=
  x + g1 * ∑ e : Fin 1024, mixed a b c zg wb e * wo e

abbrev Steps : Shape := ⟨3, ![272, 1024, 128]⟩
abbrev Seq : Shape := ⟨3, ![8, 4352, 512]⟩
abbrev Lat : Shape := ⟨3, ![8, 256, 512]⟩
abbrev Gates : Shape := ⟨3, ![8, 256, 3072]⟩
abbrev Stream : Shape := ⟨3, ![8, 256, 1024]⟩
abbrev Mod : Shape := ⟨3, ![8, 1, 1024]⟩
abbrev Chan : Shape := ⟨1, ![512]⟩
abbrev Wide : Shape := ⟨1, ![1024]⟩
abbrev GluW : Shape := ⟨2, ![512, 1024]⟩
abbrev BranchW : Shape := ⟨3, ![3, 512, 1024]⟩
abbrev OutW : Shape := ⟨2, ![1024, 1024]⟩

/-- The recurrence's two directions and its bonus added up, for context row `n` of sequence `b`: the scan keeps 16 rows to a
    step, and the eight heads of the eight sequences one after the other within it. -/
def joined (x1 x2 : Steps.Idx → EReal) (x3 : Seq.Idx → EReal) (b : Fin 8) (n : Fin 256) (k : Fin 512) : EReal :=
  x1 (ix3 ⟨n.val / 16, by omega⟩ ⟨b.val * 128 + k.val / 64 * 16 + n.val % 16, by omega⟩ ⟨k.val % 64, by omega⟩)
    + x2 (ix3 ⟨n.val / 16, by omega⟩ ⟨b.val * 128 + k.val / 64 * 16 + n.val % 16, by omega⟩ ⟨k.val % 64, by omega⟩)
    + x3 (ix3 b ⟨n.val, by omega⟩ k)

/-- The state-space branch before its gelu. -/
def state (x5 x6 : Seq.Idx → EReal) (x7 : Lat.Idx → EReal) (x13 : Chan.Idx → EReal) (b : Fin 8) (n : Fin 256) (k : Fin 512) : EReal :=
  x5 (ix3 b ⟨n.val, by omega⟩ k) + x6 (ix3 b ⟨n.val, by omega⟩ k) + x7 (ix3 b n k) * x13 (ix1 k)

/-- The result at row `n` of sequence `b`, channel `d`. -/
def merged (x0 : Lat.Idx → EReal) (x1 x2 : Steps.Idx → EReal) (x3 x4 x5 x6 : Seq.Idx → EReal) (x7 : Lat.Idx → EReal) (x8 : Gates.Idx → EReal)
    (x9 : Stream.Idx → EReal) (x10 : Mod.Idx → EReal) (x11 x12 x13 : Chan.Idx → EReal) (x14 : GluW.Idx → EReal) (x15 : Wide.Idx → EReal)
    (x16 : BranchW.Idx → EReal) (x17 : OutW.Idx → EReal) (b : Fin 8) (n : Fin 256) (d : Fin 1024) : EReal :=
  row (fun k => x0 (ix3 b n k))
    (rwkv (joined x1 x2 x3 b n) (fun k => x11 (ix1 k)) (fun k => x12 (ix1 k)) (fun k => x4 (ix3 b ⟨n.val, by omega⟩ k)))
    (ssm (state x5 x6 x7 x13 b n) (fun k j => x14 (ix2 k j)) (fun j => x15 (ix1 j)))
    (fun j => x8 (ix3 b n j)) (fun p k e => x16 (ix3 p k e)) (fun e => x17 (ix2 e d)) (x9 (ix3 b n d)) (x10 (ix3 b 0 d))

end Cert.ContextMerge

end
-- ==== Proof.ContextMergeHeads.lean ====
/- The kernel's gathering of a tile of the recurrence's output: sixteen steps per head one under the other, two heads side by
   side by a rotation, four such pairs side by side. -/
module

public import proofs.«01_k».proof.Proof.ContextMergeSpec
public import proofs.«01_k».proof.Proof.Gen.Kernel14Ideal.Frame
public import proofs.«01_k».proof.Proof.Gen.Kernel14Ideal.Value
public import Idealize.ShloMosaic.Lib.Pipeline.ValueKit
public import Idealize.ShloMosaic.Lib.KernelVsHost

@[expose] public section

set_option maxRecDepth 16384

noncomputable section

namespace Cert.ContextMerge

open Cert.Kernel14Ideal Cert.Kernel14Ideal.Gen Cert.Kernel14Ideal.Value
open Idealize.ShloMosaic Idealize.ShloMosaic.TcCoe Idealize.SL.Sem

/-- The rows of head `h` within step `k` of the sixteen steps read. -/
abbrev strip (h : Fin 8) (k : Fin 16) : Rect S16x128x128 := Rect.unit (s := S16x128x128) ![k.val, 16 * h.val, 0] S1x16x128.size
  (by
    intro d
    match d with
    | ⟨0, _⟩ => show k.val + 1 ≤ 16; omega
    | ⟨1, _⟩ => show 16 * h.val + 16 ≤ 128; omega
    | ⟨2, _⟩ => show 0 + 128 ≤ 128; omega)

variable (x1 x2 : Vec Ideal S16x128x128 .f32)

/-- Head `h`'s rows of step `k`, the two directions added. -/
def chunk (h : Fin 8) (k : Fin 16) : FVec Ideal S16x128 .f32 :=
  addf (shapeCast S16x128 (View.ld x1 (strip h k)) shapeCasts_S1x16x128_S16x128) (shapeCast S16x128 (View.ld x2 (strip h k)) shapeCasts_S1x16x128_S16x128)

/-- Head `h` over the tile's 256 rows. -/
def head (h : Fin 8) : FVec Ideal S256x128 .f32 :=
  concatenate S256x128 0 [⟨S16x128, chunk x1 x2 h 0⟩, ⟨S16x128, chunk x1 x2 h 1⟩, ⟨S16x128, chunk x1 x2 h 2⟩, ⟨S16x128, chunk x1 x2 h 3⟩, ⟨S16x128, chunk x1 x2 h 4⟩, ⟨S16x128, chunk x1 x2 h 5⟩, ⟨S16x128, chunk x1 x2 h 6⟩, ⟨S16x128, chunk x1 x2 h 7⟩, ⟨S16x128, chunk x1 x2 h 8⟩, ⟨S16x128, chunk x1 x2 h 9⟩, ⟨S16x128, chunk x1 x2 h 10⟩, ⟨S16x128, chunk x1 x2 h 11⟩, ⟨S16x128, chunk x1 x2 h 12⟩, ⟨S16x128, chunk x1 x2 h 13⟩, ⟨S16x128, chunk x1 x2 h 14⟩, ⟨S16x128, chunk x1 x2 h 15⟩] concatenates_S16x128_S16x128_S16x128_S16x128_S16x128_S16x128_S16x128_S16x128_S16x128_S16x128_S16x128_S16x128_S16x128_S16x128_S16x128_S16x128_S256x128_d0

/-- Heads `a` and `b` side by side. -/
def pair (a b : Fin 8) : FVec Ideal S256x128 .f32 :=
  select (cmpi .slt (iota .tc S256x128 32 [1] iota_S256x128_d1_w32) (broadcast S256x128 64#32)) (head x1 x2 a)
    (dynamicRotate 1 64#32 none (head x1 x2 b) rotates_S256x128_d1)

/-- All eight. -/
def gathered : FVec Ideal S256x512 .f32 :=
  concatenate S256x512 1 [⟨S256x128, pair x1 x2 0 1⟩, ⟨S256x128, pair x1 x2 2 3⟩, ⟨S256x128, pair x1 x2 4 5⟩, ⟨S256x128, pair x1 x2 6 7⟩]
    concatenates_S256x128_S256x128_S256x128_S256x128_S256x512_d1

/-- A strip read at a row and lane. -/
theorem strip_at (x : Vec Ideal S16x128x128 .f32) (h : Fin 8) (k : Fin 16) (r : Fin 16) (l : Fin 128) :
    shapeCast S16x128 (View.ld x (strip h k)) shapeCasts_S1x16x128_S16x128 (ix2 r l) = x (ix3 k ⟨16 * h.val + r.val, by omega⟩ l) := by
  rw [shapeCast_apply (View.ld x (strip h k)) shapeCasts_S1x16x128_S16x128 (ix2 r l) (ix3 (0 : Fin 1) r l)
    (by rw [Shape.rowMajor_val_three, Shape.rowMajor_val_two]; show (0 * 16 + r.val) * 128 + l.val = r.val * 128 + l.val; omega)]
  rw [View.ld_apply]
  refine congrArg x ?_
  funext d; apply Fin.ext
  match d with
  | ⟨0, _⟩ => show k.val + 1 * 0 = k.val; omega
  | ⟨1, _⟩ => show 16 * h.val + 1 * r.val = 16 * h.val + r.val; omega
  | ⟨2, _⟩ => show 0 + 1 * l.val = l.val; omega

/-- A head read at a row and lane. -/
theorem head_at (h : Fin 8) (r : Fin 256) (l : Fin 128) : head x1 x2 h (ix2 r l)
    = (x1 (ix3 ⟨r.val / 16, by omega⟩ ⟨16 * h.val + r.val % 16, by omega⟩ l) + x2 (ix3 ⟨r.val / 16, by omega⟩ ⟨16 * h.val + r.val % 16, by omega⟩ l) : EReal) := by
  have e : head x1 x2 h (ix2 r l) = chunk x1 x2 h ⟨r.val / 16, by omega⟩ (ix2 ⟨r.val % 16, by omega⟩ l) := by
    refine concatenate_ofFn_apply (t := S256x128) (s₁ := S16x128) 0 (fun k : Fin 16 => chunk x1 x2 h k) concatenates_S16x128_S16x128_S16x128_S16x128_S16x128_S16x128_S16x128_S16x128_S16x128_S16x128_S16x128_S16x128_S16x128_S16x128_S16x128_S16x128_S256x128_d0 rfl 16 rfl (ix2 r l)
      ⟨r.val / 16, by omega⟩ rfl (ix2 ⟨r.val % 16, by omega⟩ l) rfl ?_
    intro b hb
    match b with
    | ⟨0, _⟩ => exact absurd rfl hb
    | ⟨1, _⟩ => rfl
  rw [e]
  exact congrArg₂ (fun p q : EReal => p + q) (strip_at x1 h ⟨r.val / 16, by omega⟩ ⟨r.val % 16, by omega⟩ l)
    (strip_at x2 h ⟨r.val / 16, by omega⟩ ⟨r.val % 16, by omega⟩ l)

theorem first_half : ∀ l : Fin 128, IntOp.cmpi .slt (BitVec.ofNat 32 l.val) 64#32 = if l.val < 64 then 1#1 else 0#1 := by decide +kernel

/-- A pair read at a row and lane: the first head's lanes, then the second's. -/
theorem pair_at (a b : Fin 8) (r : Fin 256) (l : Fin 128) : pair x1 x2 a b (ix2 r l)
    = if l.val < 64 then head x1 x2 a (ix2 r l) else head x1 x2 b (ix2 r ⟨l.val % 64, by omega⟩) := by
  have i : iota .tc S256x128 32 [1] iota_S256x128_d1_w32 (ix2 r l) = BitVec.ofNat 32 l.val := by
    pointwise []
  have s : pair x1 x2 a b (ix2 r l) = if IntOp.cmpi .slt (iota .tc S256x128 32 [1] iota_S256x128_d1_w32 (ix2 r l)) 64#32 = 1#1
      then head x1 x2 a (ix2 r l) else dynamicRotate 1 64#32 none (head x1 x2 b) rotates_S256x128_d1 (ix2 r l) := rfl
  rw [s, i, first_half l]
  by_cases h : l.val < 64
  · rw [if_pos h, if_pos rfl, if_pos h]
  · rw [if_neg h, if_neg (by decide), if_neg h]
    refine dynamicRotate_apply 1 64#32 (head x1 x2 b) rotates_S256x128_d1 (ix2 r l) (ix2 r ⟨l.val % 64, by omega⟩) ?_
    intro d
    match d with
    | ⟨0, _⟩ => rfl
    | ⟨1, _⟩ => show l.val % 64 = (l.val + 128 - 64 % 128) % 128; omega

/-- The gathered tile read at a row and channel. -/
theorem gathered_at (r : Fin 256) (d : Fin 512) : gathered x1 x2 (ix2 r d)
    = (x1 (ix3 ⟨r.val / 16, by omega⟩ ⟨16 * (d.val / 64) + r.val % 16, by omega⟩ ⟨d.val % 64, by omega⟩)
      + x2 (ix3 ⟨r.val / 16, by omega⟩ ⟨16 * (d.val / 64) + r.val % 16, by omega⟩ ⟨d.val % 64, by omega⟩) : EReal) := by
  have e : gathered x1 x2 (ix2 r d) = pair x1 x2 ⟨2 * (d.val / 128), by omega⟩ ⟨2 * (d.val / 128) + 1, by omega⟩ (ix2 r ⟨d.val % 128, by omega⟩) := by
    refine concatenate_ofFn_apply (t := S256x512) (s₁ := S256x128) 1 (fun q : Fin 4 => pair x1 x2 ⟨2 * q.val, by omega⟩ ⟨2 * q.val + 1, by omega⟩)
      concatenates_S256x128_S256x128_S256x128_S256x128_S256x512_d1 rfl 128 rfl (ix2 r d)
      ⟨d.val / 128, by omega⟩ rfl (ix2 r ⟨d.val % 128, by omega⟩) rfl ?_
    intro b hb
    match b with
    | ⟨0, _⟩ => rfl
    | ⟨1, _⟩ => exact absurd rfl hb
  rw [e, pair_at]
  by_cases h : d.val % 128 < 64
  · rw [if_pos h, head_at]
    have a : 2 * (d.val / 128) = d.val / 64 := by omega
    have c : d.val % 128 = d.val % 64 := by omega
    simp only [a, c]
  · rw [if_neg h, head_at]
    have a : 2 * (d.val / 128) + 1 = d.val / 64 := by omega
    have c : d.val % 128 % 64 = d.val % 64 := by omega
    simp only [a, c]

end Cert.ContextMerge

end
-- ==== Proof.ContextMergeNorm.lean ====
/- The kernel's per-head normalisation: head sums as products with the 0/1 table of heads, the operand split in three parts
   whose later two vanish over the reals, is the plain normalisation of Proof/MergeSpec.lean where the operand is finite. -/
module

public import proofs.«01_k».proof.Proof.ContextMergeSpec
public import proofs.«01_k».proof.Proof.Gen.Kernel14Ideal.Frame
public import proofs.«01_k».proof.Proof.Gen.Kernel14Ideal.Value
public import Idealize.ShloMosaic.Lib.Pipeline.ValueKit
public import Idealize.ShloMosaic.Lib.KernelVsHost

@[expose] public section

set_option maxRecDepth 16384

noncomputable section

namespace Cert.ContextMerge

open Cert.Kernel14Ideal Cert.Kernel14Ideal.Gen Cert.Kernel14Ideal.Value
open Idealize.ShloMosaic Idealize.ShloMosaic.TcCoe Idealize.SL.Sem

/-- The sum over a channel's head, as the kernel computes it: three parts, each multiplied with the table. -/
def segSum (e : FVec Ideal S512x512 .bf16) (y : FVec Ideal S256x512 .f32) : FVec Ideal S256x512 .f32 :=
  addf (addf (matmul dot_S256x512_S512x512_S256x512_1_0_0_1_n_n none (truncf .bf16 y bitsLt_bf16_f32) e (constant S256x512 .f32 0x00000000#32))
    (matmul dot_S256x512_S512x512_S256x512_1_0_0_1_n_n none (truncf .bf16 (subf y (extf .f32 (truncf .bf16 y bitsLt_bf16_f32) bitsLt_bf16_f32)) bitsLt_bf16_f32) e (constant S256x512 .f32 0x00000000#32)))
    (matmul dot_S256x512_S512x512_S256x512_1_0_0_1_n_n none (truncf .bf16 (subf (subf y (extf .f32 (truncf .bf16 y bitsLt_bf16_f32) bitsLt_bf16_f32))
      (extf .f32 (truncf .bf16 (subf y (extf .f32 (truncf .bf16 y bitsLt_bf16_f32) bitsLt_bf16_f32)) bitsLt_bf16_f32) bitsLt_bf16_f32)) bitsLt_bf16_f32) e (constant S256x512 .f32 0x00000000#32))

/-- The operand less its head's mean. -/
def centred (e : FVec Ideal S512x512 .bf16) (y : FVec Ideal S256x512 .f32) : FVec Ideal S256x512 .f32 :=
  subf y (mulf (segSum e y) (broadcast S256x512 (Scalar.ofBits .f32 0x3C800000#32)))

/-- The operand normalised. -/
def normalised (e : FVec Ideal S512x512 .bf16) (y : FVec Ideal S256x512 .f32) : FVec Ideal S256x512 .f32 :=
  mulf (centred e y) (rsqrt (addf (mulf (segSum e (mulf (centred e y) (centred e y))) (broadcast S256x512 (Scalar.ofBits .f32 0x3C800000#32)))
    (broadcast S256x512 (Scalar.ofBits .f32 0x3A27C5AC#32))))

/-- 64 and its reciprocal. -/
theorem chans_eq : chans = ((64 : ℝ) : EReal) := by
  simp [chans, Ideal.ofBits, Ideal.ieee]; rw [← EReal.coe_mul]; norm_num
theorem recip_eq : Ideal.ofBits FTy.f32 0x3C800000#32 = ((1 / 64 : ℝ) : EReal) := by
  simp [Ideal.ofBits, Ideal.ieee]; rw [← EReal.coe_mul]; norm_num

theorem recip_mul (x : EReal) : x * Ideal.ofBits FTy.f32 0x3C800000#32 = Ideal.div x chans := by
  rw [recip_eq, chans_eq, Ideal.div_coe (by norm_num)]

/-- A number that is neither infinity. -/
def Fine (x : EReal) : Prop := ∃ v : ℝ, x = (v : EReal)

theorem fin_of (x : EReal) (h : x ≠ ⊤) (h' : x ≠ ⊥) : Fine x := ⟨x.toReal, (EReal.coe_toReal h h').symm⟩
theorem fin_add {x y : EReal} : Fine x → Fine y → Fine (x + y) := fun ⟨u, hu⟩ ⟨v, hv⟩ => ⟨u + v, by rw [hu, hv, EReal.coe_add]⟩
theorem fin_sub {x y : EReal} : Fine x → Fine y → Fine (x - y) := fun ⟨u, hu⟩ ⟨v, hv⟩ => ⟨u - v, by rw [hu, hv, EReal.coe_sub]⟩
theorem fin_mul {x y : EReal} : Fine x → Fine y → Fine (x * y) := fun ⟨u, hu⟩ ⟨v, hv⟩ => ⟨u * v, by rw [hu, hv, EReal.coe_mul]⟩
theorem fin_self {x : EReal} : Fine x → x - x = 0 := fun ⟨u, hu⟩ => by rw [hu, ← EReal.coe_sub, sub_self, EReal.coe_zero]
theorem fin_sum {n : Nat} (f : Fin n → EReal) (h : ∀ k, Fine (f k)) : Fine (∑ k : Fin n, f k) :=
  Finset.sum_induction f Fine (fun _ _ => fin_add) ⟨0, EReal.coe_zero.symm⟩ (fun k _ => h k)
theorem fin_mean (f : Fin 64 → EReal) (h : ∀ k, Fine (f k)) : Fine (mean f) := by
  unfold mean
  rw [← recip_mul, recip_eq]
  exact fin_mul (fin_sum f h) ⟨_, rfl⟩

/-- Summing against the table of heads is summing over the head. -/
theorem head_sum (f : Fin 512 → EReal) (d : Fin 512) :
    ∑ k : Fin 512, f k * (if k.val / 64 = d.val / 64 then (1 : EReal) else 0) = ∑ l : Fin 64, headOf f d l := by
  have e : ∀ k : Fin 512, f k * (if k.val / 64 = d.val / 64 then (1 : EReal) else 0) = if k.val / 64 = d.val / 64 then f k else 0 := by
    intro k
    by_cases h : k.val / 64 = d.val / 64
    · rw [if_pos h, if_pos h, mul_one]
    · rw [if_neg h, if_neg h, mul_zero]
  rw [Finset.sum_congr rfl fun k _ => e k, ← (finProdFinEquiv (m := 8) (n := 64)).sum_comp, Fintype.sum_prod_type]
  rw [Finset.sum_eq_single (⟨d.val / 64, by omega⟩ : Fin 8)]
  · refine Finset.sum_congr rfl fun l _ => ?_
    have v : (finProdFinEquiv (m := 8) (n := 64) (⟨d.val / 64, by omega⟩, l)).val = l.val + 64 * (d.val / 64) := rfl
    rw [if_pos (by rw [v]; omega)]
    exact congrArg f (Fin.ext (by rw [v]; show _ = d.val / 64 * 64 + l.val; omega))
  · intro h _ hne
    refine Finset.sum_eq_zero fun l _ => ?_
    have v : (finProdFinEquiv (m := 8) (n := 64) (h, l)).val = l.val + 64 * h.val := rfl
    rw [if_neg]
    intro c
    rw [v] at c
    exact hne (Fin.ext (by show h.val = d.val / 64; omega))
  · intro h
    exact absurd (Finset.mem_univ _) h

variable (e : FVec Ideal S512x512 .bf16) (he : ∀ k d : Fin 512, e (ix2 k d) = (if k.val / 64 = d.val / 64 then (1 : EReal) else 0))

/-- One product with the table. -/
theorem table_at (y : FVec Ideal S256x512 .bf16) (r : Fin 256) (d : Fin 512) :
    matmul dot_S256x512_S512x512_S256x512_1_0_0_1_n_n none y e (constant S256x512 .f32 0x00000000#32) (ix2 r d)
      = ∑ k : Fin 512, (y (ix2 r k) * e (ix2 k d) : EReal) := by
  pointwise []

include he in
theorem segSum_at (y : FVec Ideal S256x512 .f32) (r : Fin 256) (hy : ∀ k, Fine (y (ix2 r k))) (d : Fin 512) :
    segSum e y (ix2 r d) = ∑ l : Fin 64, headOf (fun k => y (ix2 r k)) d l := by
  have h0 : ∀ f : FVec Ideal S256x512 .bf16, (∀ k, f (ix2 r k) = (0 : EReal)) →
      matmul dot_S256x512_S512x512_S256x512_1_0_0_1_n_n none f e (constant S256x512 .f32 0x00000000#32) (ix2 r d) = (0 : EReal) := by
    intro f hf
    rw [table_at]
    exact Finset.sum_eq_zero fun k _ => by rw [hf k, zero_mul]
  have z1 : ∀ k, (y (ix2 r k) - y (ix2 r k) : EReal) = 0 := fun k => fin_self (hy k)
  have z2 : ∀ k, ((y (ix2 r k) - y (ix2 r k)) - (y (ix2 r k) - y (ix2 r k)) : EReal) = 0 := fun k => by rw [z1 k, sub_zero]
  refine Eq.trans (b := ((∑ k : Fin 512, (y (ix2 r k) * e (ix2 k d) : EReal)) + 0 + 0 : EReal)) ?_ ?_
  · exact congrArg₂ (fun p q : EReal => p + q) (congrArg₂ (fun p q : EReal => p + q) (table_at e _ r d) (h0 _ z1)) (h0 _ z2)
  · rw [add_zero, add_zero, ← head_sum]
    exact Finset.sum_congr rfl fun k _ => by rw [he k d]

include he in
theorem centred_at (y : FVec Ideal S256x512 .f32) (r : Fin 256) (hy : ∀ k, Fine (y (ix2 r k))) (d : Fin 512) :
    centred e y (ix2 r d) = (y (ix2 r d) - mean (headOf (fun k => y (ix2 r k)) d) : EReal) := by
  refine Eq.trans (b := (y (ix2 r d) - segSum e y (ix2 r d) * Ideal.ofBits FTy.f32 0x3C800000#32 : EReal)) rfl ?_
  rw [segSum_at e he y r hy d, recip_mul]
  rfl

include he in
/-- The kernel's normalisation of a finite row is the plain one. -/
theorem normalised_at (y : FVec Ideal S256x512 .f32) (r : Fin 256) (hy : ∀ k, Fine (y (ix2 r k))) (d : Fin 512) :
    normalised e y (ix2 r d) = normed (headOf (fun k => y (ix2 r k)) d) ⟨d.val % 64, by omega⟩ := by
  have hc : ∀ k, Fine (centred e y (ix2 r k)) := fun k => by
    rw [centred_at e he y r hy k]
    exact fin_sub (hy k) (fin_mean _ fun l => hy _)
  have hq : ∀ k, Fine (mulf (centred e y) (centred e y) (ix2 r k)) := fun k => fin_mul (hc k) (hc k)
  have hs : segSum e (mulf (centred e y) (centred e y)) (ix2 r d)
      = ∑ l : Fin 64, ((headOf (fun k => y (ix2 r k)) d l - mean (headOf (fun k => y (ix2 r k)) d)) * (headOf (fun k => y (ix2 r k)) d l - mean (headOf (fun k => y (ix2 r k)) d)) : EReal) := by
    rw [segSum_at e he _ r hq d]
    refine Finset.sum_congr rfl fun l _ => ?_
    have hh : headOf (fun k => y (ix2 r k)) (⟨d.val / 64 * 64 + l.val, by omega⟩ : Fin 512) = headOf (fun k => y (ix2 r k)) d := by
      funext j
      exact congrArg (fun k => y (ix2 r k)) (Fin.ext (by show (d.val / 64 * 64 + l.val) / 64 * 64 + j.val = d.val / 64 * 64 + j.val; omega))
    have hk := centred_at e he y r hy ⟨d.val / 64 * 64 + l.val, by omega⟩
    rw [hh] at hk
    exact congrArg₂ (fun p q : EReal => p * q) hk hk
  refine Eq.trans (b := (centred e y (ix2 r d) * Ideal.rsqrt (segSum e (mulf (centred e y) (centred e y)) (ix2 r d) * Ideal.ofBits FTy.f32 0x3C800000#32 + tiny) : EReal)) rfl ?_
  rw [hs, recip_mul, centred_at e he y r hy d]
  unfold normed
  have own : headOf (fun k => y (ix2 r k)) d ⟨d.val % 64, by omega⟩ = y (ix2 r d) :=
    congrArg (fun k => y (ix2 r k)) (Fin.ext (by show d.val / 64 * 64 + d.val % 64 = d.val; omega))
  rw [own]
  rfl

end Cert.ContextMerge

end
-- ==== Proof.ContextMergeOut.lean ====
/- What the merge's body stores at a row and channel of its tile is the row formula. -/
module

public import proofs.«01_k».proof.Proof.ContextMergeHeads
public import proofs.«01_k».proof.Proof.ContextMergeNorm

@[expose] public section

set_option maxRecDepth 16384

noncomputable section

namespace Cert.ContextMerge

open Cert.Kernel14Ideal Cert.Kernel14Ideal.Gen Cert.Kernel14Ideal.Value
open Idealize.ShloMosaic Idealize.ShloMosaic.TcCoe Idealize.SL.Sem

set_option maxHeartbeats 4000000 in
/-- The stored tile with its recurrence part named. -/
theorem out_eq (x0 : Vec Ideal S1x256x512 .f32) (x1 : Vec Ideal S16x128x128 .f32) (x2 : Vec Ideal S16x128x128 .f32) (x3 : Vec Ideal S1x256x512 .f32) (x4 : Vec Ideal S1x256x512 .f32) (x5 : Vec Ideal S1x256x512 .f32) (x6 : Vec Ideal S1x256x512 .f32) (x7 : Vec Ideal S1x256x512 .f32) (x8 : Vec Ideal S1x256x3072 .f32) (x9 : Vec Ideal S1x256x1024 .f32) (x10 : Vec Ideal S1x1x1024 .f32) (x11 : Vec Ideal S512x512 .bf16) (x12 : Vec Ideal S1x512 .f32) (x13 : Vec Ideal S1x512 .f32) (x14 : Vec Ideal S1x512 .f32) (x15 : Vec Ideal S512x1024 .bf16) (x16 : Vec Ideal S1x1024 .f32) (x17 : Vec Ideal S3x512x1024 .bf16) (x18 : Vec Ideal S1024x1024 .bf16) :
    out0_19 (F := Ideal) x0 x1 x2 x3 x4 x5 x6 x7 x8 x9 x10 x11 x12 x13 x14 x15 x16 x17 x18
      = View.canon [⟨r0_137, k0_pay153 (F := Ideal) (k0_pay146 (normalised (k0_pay1 (View.ld x11 r0_0)) (addf (gathered x1 x2) (shapeCast S256x512 (View.ld x3 r0_129) shapeCasts_S1x256x512_S256x512)))
          (View.ld x12 r0_130) (View.ld x13 r0_130) (View.ld x4 r0_129)) (k0_pay149 (k0_pay147 (View.ld x5 r0_129) (View.ld x6 r0_129) (View.ld x7 r0_129) (View.ld x14 r0_130)) (k0_pay148 (View.ld x15 r0_131)) (View.ld x16 r0_132)) (k0_pay150 (View.ld x8 r0_133)) (k0_pay151 (View.ld x8 r0_133) (View.ld x0 r0_129) (View.ld x17 r0_134)) (k0_pay152 (View.ld x8 r0_133)) (Scalar.ofBits .f32 0x3F800000#32) (View.ld x17 r0_135) (View.ld x17 r0_136) (View.ld x9 r0_137) (View.ld x10 r0_138) (View.ld x18 r0_139)⟩] := rfl

/-- The scaled, shifted, gated recurrence. -/
theorem rwkv_at (y : FVec Ideal S256x512 .f32) (lng lnb : Vec Ideal S1x512 .f32) (g : Vec Ideal S1x256x512 .f32) (r : Fin 256) (k : Fin 512) :
    k0_pay146 (F := Ideal) y lng lnb g (ix2 r k) = ((y (ix2 r k) * lng (ix2 0 k) + lnb (ix2 0 k)) * g (ix3 0 r k) : EReal) := by
  pointwise [k0_pay146]

theorem half_first (s h t : EReal) : h * s * t = s * (h * t) := by rw [mul_comm h s, mul_assoc]

/-- The gelu of the state-space output. -/
theorem gelu_at (s0 s1 u : Vec Ideal S1x256x512 .f32) (d : Vec Ideal S1x512 .f32) (r : Fin 256) (k : Fin 512) :
    k0_pay147 (F := Ideal) s0 s1 u d (ix2 r k) = gelu (s0 (ix3 0 r k) + s1 (ix3 0 r k) + u (ix3 0 r k) * d (ix2 0 k)) := by
  unfold gelu
  rw [← half_first]
  pointwise [k0_pay147]

/-- The layer after it, one half gated by the other. -/
theorem ssm_at (a : FVec Ideal S256x512 .bf16) (w : FVec Ideal S512x1024 .bf16) (b : Vec Ideal S1x1024 .f32) (r : Fin 256) (k : Fin 512) :
    k0_pay149 (F := Ideal) a w b (ix2 r k)
      = ((∑ q : Fin 512, (a (ix2 r q) * w (ix2 q ⟨k.val, by omega⟩) : EReal) + b (ix2 0 ⟨k.val, by omega⟩))
        * gate (∑ q : Fin 512, (a (ix2 r q) * w (ix2 q ⟨512 + k.val, by omega⟩) : EReal) + b (ix2 0 ⟨512 + k.val, by omega⟩)) : EReal) := by
  unfold gate
  rw [← zero_sub]
  pointwise [k0_pay149]

/-- The stored entry. -/
theorem row_at (a b : FVec Ideal S256x512 .f32) (z : Vec Ideal S1x256x3072 .f32) (h : Vec Ideal S1x256x512 .f32) (w0 w1 w2 : Vec Ideal S1x512x1024 .bf16)
    (x : Vec Ideal S1x256x1024 .f32) (g1 : Vec Ideal S1x1x1024 .f32) (wo : Vec Ideal S1024x1024 .bf16) (wb : Fin 3 → Fin 512 → Fin 1024 → EReal)
    (h0 : ∀ k e, w0 (ix3 0 k e) = wb 0 k e) (h1 : ∀ k e, w1 (ix3 0 k e) = wb 1 k e) (h2 : ∀ k e, w2 (ix3 0 k e) = wb 2 k e) (r : Fin 256) (d : Fin 1024) :
    k0_pay153 (F := Ideal) a b (k0_pay150 z) (k0_pay151 z h w0) (k0_pay152 z) (Scalar.ofBits .f32 0x3F800000#32) w1 w2 x g1 wo (ix3 0 r d)
      = row (fun k => h (ix3 0 r k)) (fun k => a (ix2 r k)) (fun k => b (ix2 r k)) (fun j => z (ix3 0 r j)) wb (fun e => wo (ix2 e d)) (x (ix3 0 r d)) (g1 (ix3 0 0 d)) := by
  unfold row mixed gate
  simp only [← zero_sub, ← h0, ← h1, ← h2]
  pointwise [k0_pay153, k0_pay150, k0_pay151, k0_pay152]

end Cert.ContextMerge

end
-- ==== Proof.ContextMergeBlocks.lean ====
/- The merge's blocks: what each input window shows at a grid point, read at an index, and the arrays the host prepares. -/
module

public import proofs.«01_k».proof.Proof.ContextMergeSpec
public import proofs.«01_k».proof.Proof.Gen.Kernel14Ideal.Frame
public import Idealize.ShloMosaic.Lib.Pipeline.ValueKit

@[expose] public section

set_option maxRecDepth 16384

noncomputable section

namespace Cert.ContextMerge

open Cert.Kernel14Ideal Cert.Kernel14Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Where each window's block sits at point `t` of the 8-point grid. -/
theorem places : ∀ t : Fin cfg0.N, (win0_0.index t = ![t.val, 0, 0] ∧ win0_1.index t = ![0, t.val, 0]
    ∧ win0_2.index t = ![0, t.val, 0] ∧ win0_3.index t = ![t.val, 0, 0] ∧ win0_4.index t = ![t.val, 0, 0]
    ∧ win0_5.index t = ![t.val, 0, 0] ∧ win0_6.index t = ![t.val, 0, 0] ∧ win0_7.index t = ![t.val, 0, 0]
    ∧ win0_8.index t = ![t.val, 0, 0] ∧ win0_9.index t = ![t.val, 0, 0]) ∧ win0_10.index t = ![t.val, 0, 0]
    ∧ win0_11.index t = ![0, 0] ∧ win0_12.index t = ![0, 0] ∧ win0_13.index t = ![0, 0] ∧ win0_14.index t = ![0, 0] ∧ win0_15.index t = ![0, 0]
    ∧ win0_16.index t = ![0, 0] ∧ win0_17.index t = ![0, 0, 0] ∧ win0_18.index t = ![0, 0] ∧ win0_19.index t = ![t.val, 0, 0] :=
  (by decide +kernel : ∀ t : Fin grid0.N, _)

theorem point_lt (t : Fin cfg0.N) : t.val < 8 := t.isLt

theorem block0 (t : Fin cfg0.N) (k : Fin 1) (q : Fin 256) (l : Fin 512) :
    (iblk m c 0 t : S1x256x512.Idx → EReal) (ix3 k q l) = m ((c : Thread nD τ).loc main_arg0)
      (ix3 ⟨t.val, by have := point_lt t; omega⟩ ⟨q.val, by omega⟩ l) := by
  unfold iblk
  show V m c main_arg0 _ = _
  rw [V_main_arg0]
  refine congrArg (m ((c : Thread nD τ).loc main_arg0)) ?_
  funext d; apply Fin.ext
  show win0_0.index t d * S1x256x512.size d + 1 * (ix3 k q l d).val = _
  rw [(places t).1.1]
  match d with
  | ⟨0, _⟩ => show (t.val) * 1 + 1 * k.val = _; simp <;> omega
  | ⟨1, _⟩ => show (0) * 256 + 1 * q.val = _; simp <;> omega
  | ⟨2, _⟩ => show (0) * 512 + 1 * l.val = _; simp <;> omega

theorem block1 (t : Fin cfg0.N) (k : Fin 16) (q : Fin 128) (l : Fin 128) :
    (iblk m c 1 t : S16x128x128.Idx → EReal) (ix3 k q l) = m ((c : Thread nD τ).loc main_arg1)
      (ix3 ⟨k.val, by omega⟩ ⟨t.val * 128 + q.val, by have := point_lt t; omega⟩ l) := by
  unfold iblk
  show V m c main_arg1 _ = _
  rw [V_main_arg1]
  refine congrArg (m ((c : Thread nD τ).loc main_arg1)) ?_
  funext d; apply Fin.ext
  show win0_1.index t d * S16x128x128.size d + 1 * (ix3 k q l d).val = _
  rw [(places t).1.2.1]
  match d with
  | ⟨0, _⟩ => show (0) * 16 + 1 * k.val = _; simp <;> omega
  | ⟨1, _⟩ => show (t.val) * 128 + 1 * q.val = _; simp <;> omega
  | ⟨2, _⟩ => show (0) * 128 + 1 * l.val = _; simp <;> omega

theorem block2 (t : Fin cfg0.N) (k : Fin 16) (q : Fin 128) (l : Fin 128) :
    (iblk m c 2 t : S16x128x128.Idx → EReal) (ix3 k q l) = m ((c : Thread nD τ).loc main_arg2)
      (ix3 ⟨k.val, by omega⟩ ⟨t.val * 128 + q.val, by have := point_lt t; omega⟩ l) := by
  unfold iblk
  show V m c main_arg2 _ = _
  rw [V_main_arg2]
  refine congrArg (m ((c : Thread nD τ).loc main_arg2)) ?_
  funext d; apply Fin.ext
  show win0_2.index t d * S16x128x128.size d + 1 * (ix3 k q l d).val = _
  rw [(places t).1.2.2.1]
  match d with
  | ⟨0, _⟩ => show (0) * 16 + 1 * k.val = _; simp <;> omega
  | ⟨1, _⟩ => show (t.val) * 128 + 1 * q.val = _; simp <;> omega
  | ⟨2, _⟩ => show (0) * 128 + 1 * l.val = _; simp <;> omega

theorem block3 (t : Fin cfg0.N) (k : Fin 1) (q : Fin 256) (l : Fin 512) :
    (iblk m c 3 t : S1x256x512.Idx → EReal) (ix3 k q l) = m ((c : Thread nD τ).loc main_arg3)
      (ix3 ⟨t.val, by have := point_lt t; omega⟩ ⟨q.val, by omega⟩ l) := by
  unfold iblk
  show V m c main_arg3 _ = _
  rw [V_main_arg3]
  refine congrArg (m ((c : Thread nD τ).loc main_arg3)) ?_
  funext d; apply Fin.ext
  show win0_3.index t d * S1x256x512.size d + 1 * (ix3 k q l d).val = _
  rw [(places t).1.2.2.2.1]
  match d with
  | ⟨0, _⟩ => show (t.val) * 1 + 1 * k.val = _; simp <;> omega
  | ⟨1, _⟩ => show (0) * 256 + 1 * q.val = _; simp <;> omega
  | ⟨2, _⟩ => show (0) * 512 + 1 * l.val = _; simp <;> omega

theorem block4 (t : Fin cfg0.N) (k : Fin 1) (q : Fin 256) (l : Fin 512) :
    (iblk m c 4 t : S1x256x512.Idx → EReal) (ix3 k q l) = m ((c : Thread nD τ).loc main_arg4)
      (ix3 ⟨t.val, by have := point_lt t; omega⟩ ⟨q.val, by omega⟩ l) := by
  unfold iblk
  show V m c main_arg4 _ = _
  rw [V_main_arg4]
  refine congrArg (m ((c : Thread nD τ).loc main_arg4)) ?_
  funext d; apply Fin.ext
  show win0_4.index t d * S1x256x512.size d + 1 * (ix3 k q l d).val = _
  rw [(places t).1.2.2.2.2.1]
  match d with
  | ⟨0, _⟩ => show (t.val) * 1 + 1 * k.val = _; simp <;> omega
  | ⟨1, _⟩ => show (0) * 256 + 1 * q.val = _; simp <;> omega
  | ⟨2, _⟩ => show (0) * 512 + 1 * l.val = _; simp <;> omega

theorem block5 (t : Fin cfg0.N) (k : Fin 1) (q : Fin 256) (l : Fin 512) :
    (iblk m c 5 t : S1x256x512.Idx → EReal) (ix3 k q l) = m ((c : Thread nD τ).loc main_arg5)
      (ix3 ⟨t.val, by have := point_lt t; omega⟩ ⟨q.val, by omega⟩ l) := by
  unfold iblk
  show V m c main_arg5 _ = _
  rw [V_main_arg5]
  refine congrArg (m ((c : Thread nD τ).loc main_arg5)) ?_
  funext d; apply Fin.ext
  show win0_5.index t d * S1x256x512.size d + 1 * (ix3 k q l d).val = _
  rw [(places t).1.2.2.2.2.2.1]
  match d with
  | ⟨0, _⟩ => show (t.val) * 1 + 1 * k.val = _; simp <;> omega
  | ⟨1, _⟩ => show (0) * 256 + 1 * q.val = _; simp <;> omega
  | ⟨2, _⟩ => show (0) * 512 + 1 * l.val = _; simp <;> omega

theorem block6 (t : Fin cfg0.N) (k : Fin 1) (q : Fin 256) (l : Fin 512) :
    (iblk m c 6 t : S1x256x512.Idx → EReal) (ix3 k q l) = m ((c : Thread nD τ).loc main_arg6)
      (ix3 ⟨t.val, by have := point_lt t; omega⟩ ⟨q.val, by omega⟩ l) := by
  unfold iblk
  show V m c main_arg6 _ = _
  rw [V_main_arg6]
  refine congrArg (m ((c : Thread nD τ).loc main_arg6)) ?_
  funext d; apply Fin.ext
  show win0_6.index t d * S1x256x512.size d + 1 * (ix3 k q l d).val = _
  rw [(places t).1.2.2.2.2.2.2.1]
  match d with
  | ⟨0, _⟩ => show (t.val) * 1 + 1 * k.val = _; simp <;> omega
  | ⟨1, _⟩ => show (0) * 256 + 1 * q.val = _; simp <;> omega
  | ⟨2, _⟩ => show (0) * 512 + 1 * l.val = _; simp <;> omega

theorem block7 (t : Fin cfg0.N) (k : Fin 1) (q : Fin 256) (l : Fin 512) :
    (iblk m c 7 t : S1x256x512.Idx → EReal) (ix3 k q l) = m ((c : Thread nD τ).loc main_arg7)
      (ix3 ⟨t.val, by have := point_lt t; omega⟩ ⟨q.val, by omega⟩ l) := by
  unfold iblk
  show V m c main_arg7 _ = _
  rw [V_main_arg7]
  refine congrArg (m ((c : Thread nD τ).loc main_arg7)) ?_
  funext d; apply Fin.ext
  show win0_7.index t d * S1x256x512.size d + 1 * (ix3 k q l d).val = _
  rw [(places t).1.2.2.2.2.2.2.2.1]
  match d with
  | ⟨0, _⟩ => show (t.val) * 1 + 1 * k.val = _; simp <;> omega
  | ⟨1, _⟩ => show (0) * 256 + 1 * q.val = _; simp <;> omega
  | ⟨2, _⟩ => show (0) * 512 + 1 * l.val = _; simp <;> omega

theorem block8 (t : Fin cfg0.N) (k : Fin 1) (q : Fin 256) (l : Fin 3072) :
    (iblk m c 8 t : S1x256x3072.Idx → EReal) (ix3 k q l) = m ((c : Thread nD τ).loc main_arg8)
      (ix3 ⟨t.val, by have := point_lt t; omega⟩ ⟨q.val, by omega⟩ l) := by
  unfold iblk
  show V m c main_arg8 _ = _
  rw [V_main_arg8]
  refine congrArg (m ((c : Thread nD τ).loc main_arg8)) ?_
  funext d; apply Fin.ext
  show win0_8.index t d * S1x256x3072.size d + 1 * (ix3 k q l d).val = _
  rw [(places t).1.2.2.2.2.2.2.2.2.1]
  match d with
  | ⟨0, _⟩ => show (t.val) * 1 + 1 * k.val = _; simp <;> omega
  | ⟨1, _⟩ => show (0) * 256 + 1 * q.val = _; simp <;> omega
  | ⟨2, _⟩ => show (0) * 3072 + 1 * l.val = _; simp <;> omega

theorem block9 (t : Fin cfg0.N) (k : Fin 1) (q : Fin 256) (l : Fin 1024) :
    (iblk m c 9 t : S1x256x1024.Idx → EReal) (ix3 k q l) = m ((c : Thread nD τ).loc main_arg9)
      (ix3 ⟨t.val, by have := point_lt t; omega⟩ ⟨q.val, by omega⟩ l) := by
  unfold iblk
  show V m c main_arg9 _ = _
  rw [V_main_arg9]
  refine congrArg (m ((c : Thread nD τ).loc main_arg9)) ?_
  funext d; apply Fin.ext
  show win0_9.index t d * S1x256x1024.size d + 1 * (ix3 k q l d).val = _
  rw [(places t).1.2.2.2.2.2.2.2.2.2]
  match d with
  | ⟨0, _⟩ => show (t.val) * 1 + 1 * k.val = _; simp <;> omega
  | ⟨1, _⟩ => show (0) * 256 + 1 * q.val = _; simp <;> omega
  | ⟨2, _⟩ => show (0) * 1024 + 1 * l.val = _; simp <;> omega

theorem block10 (t : Fin cfg0.N) (k : Fin 1) (q : Fin 1) (l : Fin 1024) :
    (iblk m c 10 t : S1x1x1024.Idx → EReal) (ix3 k q l) = m ((c : Thread nD τ).loc main_arg10)
      (ix3 ⟨t.val, by have := point_lt t; omega⟩ 0 l) := by
  unfold iblk
  show V m c main_arg10 _ = _
  rw [V_main_arg10]
  refine congrArg (m ((c : Thread nD τ).loc main_arg10)) ?_
  funext d; apply Fin.ext
  show win0_10.index t d * S1x1x1024.size d + 1 * (ix3 k q l d).val = _
  rw [(places t).2.1]
  match d with
  | ⟨0, _⟩ => show (t.val) * 1 + 1 * k.val = _; simp <;> omega
  | ⟨1, _⟩ => show (0) * 1 + 1 * q.val = _; simp <;> omega
  | ⟨2, _⟩ => show (0) * 1024 + 1 * l.val = _; simp <;> omega

theorem block11 (t : Fin cfg0.N) (k : Fin 512) (q : Fin 512) :
    (iblk m c 11 t : S512x512.Idx → EReal) (ix2 k q) = (V m c main_v7 : S512x512.Idx → EReal) (ix2 k q) := by
  unfold iblk
  refine congrArg (V m c main_v7 : S512x512.Idx → EReal) ?_
  funext d; apply Fin.ext
  show win0_11.index t d * S512x512.size d + 1 * (ix2 k q d).val = _
  rw [(places t).2.2.1]
  match d with
  | ⟨0, _⟩ => show 0 * 512 + 1 * k.val = _; simp
  | ⟨1, _⟩ => show 0 * 512 + 1 * q.val = _; simp

theorem block12 (t : Fin cfg0.N) (k : Fin 1) (q : Fin 512) :
    (iblk m c 12 t : S1x512.Idx → EReal) (ix2 k q) = (V m c main_v8 : S1x512.Idx → EReal) (ix2 k q) := by
  unfold iblk
  refine congrArg (V m c main_v8 : S1x512.Idx → EReal) ?_
  funext d; apply Fin.ext
  show win0_12.index t d * S1x512.size d + 1 * (ix2 k q d).val = _
  rw [(places t).2.2.2.1]
  match d with
  | ⟨0, _⟩ => show 0 * 1 + 1 * k.val = _; simp
  | ⟨1, _⟩ => show 0 * 512 + 1 * q.val = _; simp

theorem block13 (t : Fin cfg0.N) (k : Fin 1) (q : Fin 512) :
    (iblk m c 13 t : S1x512.Idx → EReal) (ix2 k q) = (V m c main_v9 : S1x512.Idx → EReal) (ix2 k q) := by
  unfold iblk
  refine congrArg (V m c main_v9 : S1x512.Idx → EReal) ?_
  funext d; apply Fin.ext
  show win0_13.index t d * S1x512.size d + 1 * (ix2 k q d).val = _
  rw [(places t).2.2.2.2.1]
  match d with
  | ⟨0, _⟩ => show 0 * 1 + 1 * k.val = _; simp
  | ⟨1, _⟩ => show 0 * 512 + 1 * q.val = _; simp

theorem block14 (t : Fin cfg0.N) (k : Fin 1) (q : Fin 512) :
    (iblk m c 14 t : S1x512.Idx → EReal) (ix2 k q) = (V m c main_v10 : S1x512.Idx → EReal) (ix2 k q) := by
  unfold iblk
  refine congrArg (V m c main_v10 : S1x512.Idx → EReal) ?_
  funext d; apply Fin.ext
  show win0_14.index t d * S1x512.size d + 1 * (ix2 k q d).val = _
  rw [(places t).2.2.2.2.2.1]
  match d with
  | ⟨0, _⟩ => show 0 * 1 + 1 * k.val = _; simp
  | ⟨1, _⟩ => show 0 * 512 + 1 * q.val = _; simp

theorem block15 (t : Fin cfg0.N) (k : Fin 512) (q : Fin 1024) :
    (iblk m c 15 t : S512x1024.Idx → EReal) (ix2 k q) = (V m c main_v11 : S512x1024.Idx → EReal) (ix2 k q) := by
  unfold iblk
  refine congrArg (V m c main_v11 : S512x1024.Idx → EReal) ?_
  funext d; apply Fin.ext
  show win0_15.index t d * S512x1024.size d + 1 * (ix2 k q d).val = _
  rw [(places t).2.2.2.2.2.2.1]
  match d with
  | ⟨0, _⟩ => show 0 * 512 + 1 * k.val = _; simp
  | ⟨1, _⟩ => show 0 * 1024 + 1 * q.val = _; simp

theorem block16 (t : Fin cfg0.N) (k : Fin 1) (q : Fin 1024) :
    (iblk m c 16 t : S1x1024.Idx → EReal) (ix2 k q) = (V m c main_v12 : S1x1024.Idx → EReal) (ix2 k q) := by
  unfold iblk
  refine congrArg (V m c main_v12 : S1x1024.Idx → EReal) ?_
  funext d; apply Fin.ext
  show win0_16.index t d * S1x1024.size d + 1 * (ix2 k q d).val = _
  rw [(places t).2.2.2.2.2.2.2.1]
  match d with
  | ⟨0, _⟩ => show 0 * 1 + 1 * k.val = _; simp
  | ⟨1, _⟩ => show 0 * 1024 + 1 * q.val = _; simp

theorem block17 (t : Fin cfg0.N) (k : Fin 3) (q : Fin 512) (l : Fin 1024) :
    (iblk m c 17 t : S3x512x1024.Idx → EReal) (ix3 k q l) = (V m c main_v13 : S3x512x1024.Idx → EReal) (ix3 k q l) := by
  unfold iblk
  refine congrArg (V m c main_v13 : S3x512x1024.Idx → EReal) ?_
  funext d; apply Fin.ext
  show win0_17.index t d * S3x512x1024.size d + 1 * (ix3 k q l d).val = _
  rw [(places t).2.2.2.2.2.2.2.2.1]
  match d with
  | ⟨0, _⟩ => show 0 * 3 + 1 * k.val = _; simp
  | ⟨1, _⟩ => show 0 * 512 + 1 * q.val = _; simp
  | ⟨2, _⟩ => show 0 * 1024 + 1 * l.val = _; simp

theorem block18 (t : Fin cfg0.N) (k : Fin 1024) (q : Fin 1024) :
    (iblk m c 18 t : S1024x1024.Idx → EReal) (ix2 k q) = (V m c main_v14 : S1024x1024.Idx → EReal) (ix2 k q) := by
  unfold iblk
  refine congrArg (V m c main_v14 : S1024x1024.Idx → EReal) ?_
  funext d; apply Fin.ext
  show win0_18.index t d * S1024x1024.size d + 1 * (ix2 k q d).val = _
  rw [(places t).2.2.2.2.2.2.2.2.2.1]
  match d with
  | ⟨0, _⟩ => show 0 * 1024 + 1 * k.val = _; simp
  | ⟨1, _⟩ => show 0 * 1024 + 1 * q.val = _; simp

theorem host8 (k : Fin 512) : (V m c main_v8 : S1x512.Idx → EReal) (ix2 0 k) = m ((c : Thread nD τ).loc main_arg11) (ix1 k) := by
  show (shapeCast S1x512 (m ((c : Thread nD τ).loc main_arg11) : FVec Ideal S512 .f32) shapeCasts_S512_S1x512) (ix2 0 k) = _
  pointwise []

theorem host9 (k : Fin 512) : (V m c main_v9 : S1x512.Idx → EReal) (ix2 0 k) = m ((c : Thread nD τ).loc main_arg12) (ix1 k) := by
  show (shapeCast S1x512 (m ((c : Thread nD τ).loc main_arg12) : FVec Ideal S512 .f32) shapeCasts_S512_S1x512) (ix2 0 k) = _
  pointwise []

theorem host10 (k : Fin 512) : (V m c main_v10 : S1x512.Idx → EReal) (ix2 0 k) = m ((c : Thread nD τ).loc main_arg13) (ix1 k) := by
  show (shapeCast S1x512 (m ((c : Thread nD τ).loc main_arg13) : FVec Ideal S512 .f32) shapeCasts_S512_S1x512) (ix2 0 k) = _
  pointwise []

theorem host12 (k : Fin 1024) : (V m c main_v12 : S1x1024.Idx → EReal) (ix2 0 k) = m ((c : Thread nD τ).loc main_arg15) (ix1 k) := by
  show (shapeCast S1x1024 (m ((c : Thread nD τ).loc main_arg15) : FVec Ideal S1024 .f32) shapeCasts_S1024_S1x1024) (ix2 0 k) = _
  pointwise []

theorem host11 (k : Fin 512) (q : Fin 1024) : (V m c main_v11 : S512x1024.Idx → EReal) (ix2 k q) = m ((c : Thread nD τ).loc main_arg14) (ix2 k q) := rfl

theorem host13 (k : Fin 3) (q : Fin 512) (l : Fin 1024) : (V m c main_v13 : S3x512x1024.Idx → EReal) (ix3 k q l) = m ((c : Thread nD τ).loc main_arg16) (ix3 k q l) := rfl

theorem host14 (k : Fin 1024) (q : Fin 1024) : (V m c main_v14 : S1024x1024.Idx → EReal) (ix2 k q) = m ((c : Thread nD τ).loc main_arg17) (ix2 k q) := rfl

/-- The host's division of a channel by the width of a head. -/
theorem quot : ∀ k : Fin 512, (IntOp.divsi .host (BitVec.ofNat 32 k.val) 64#32 : BitVec 32) = BitVec.ofNat 32 (k.val / 64) := by
  decide +kernel

theorem eq_word : ∀ a b : Fin 8, IntOp.cmpi .eq (BitVec.ofNat 32 a.val) (BitVec.ofNat 32 b.val) = if a = b then 1#1 else 0#1 := by
  decide

theorem V7 : (V m c main_v7 : S512x512.Idx → EReal) = uitofp (F := Ideal) .bf16 (cmpi .eq
    (Host.divsi (iotaInDim S512x512 32 0) (broadcastInDim S512x512 ![] bcast_S_S512x512 (constantI S_ 32 64#32)))
    (Host.divsi (iotaInDim S512x512 32 1) (broadcastInDim S512x512 ![] bcast_S_S512x512 (constantI S_ 32 64#32)))) := rfl

/-- The mask of the heads: one where two channels share a head, zero elsewhere. -/
theorem host7 (k d : Fin 512) : (V m c main_v7 : S512x512.Idx → EReal) (ix2 k d) = if k.val / 64 = d.val / 64 then (1 : EReal) else 0 := by
  rw [V7]
  show FloatOps.uitofp (F := Ideal) .bf16 (IntOp.cmpi .eq (IntOp.divsi .host (BitVec.ofNat 32 k.val) 64#32) (IntOp.divsi .host (BitVec.ofNat 32 d.val) 64#32)) = _
  rw [quot, quot]
  have e := eq_word ⟨k.val / 64, by omega⟩ ⟨d.val / 64, by omega⟩
  simp only [Fin.mk.injEq] at e
  rw [e]
  split <;> simp [FloatOps.uitofp]

end Cert.ContextMerge

end
-- ==== Proof.ContextMergeValue.lean ====
/- The merge's run, in values: the tile each grid point writes, and the whole result array. -/
module

public import proofs.«01_k».proof.Proof.ContextMergeOut
public import proofs.«01_k».proof.Proof.ContextMergeBlocks

@[expose] public section

set_option maxRecDepth 16384

noncomputable section

namespace Cert.ContextMerge

open Cert.Kernel14Ideal Cert.Kernel14Ideal.Gen Cert.Kernel14Ideal.Value
open Idealize.ShloMosaic Idealize.ShloMosaic.TcCoe Idealize.SL.Sem
open Idealize.ShloMosaic.Pipeline (Dat)

/-! ## One tile -/

theorem pay1_eq (x : Vec Ideal S512x512 .bf16) (k d : Fin 512) : k0_pay1 (F := Ideal) x (ix2 k d) = x (ix2 k d) := by
  pointwise [k0_pay1]

theorem pay148_eq (x : Vec Ideal S512x1024 .bf16) (k : Fin 512) (d : Fin 1024) : k0_pay148 (F := Ideal) x (ix2 k d) = x (ix2 k d) := by
  pointwise [k0_pay148]

/-- A branch's weights within the stack of three. -/
theorem branch0 (x : Vec Ideal S3x512x1024 .bf16) (k : Fin 512) (e : Fin 1024) : View.ld x r0_134 (ix3 0 k e) = x (ix3 0 k e) := by
  rw [View.ld_apply]
  refine congrArg x ?_
  funext d; apply Fin.ext
  match d with
  | ⟨0, _⟩ => rfl
  | ⟨1, _⟩ => show 0 + 1 * k.val = k.val; omega
  | ⟨2, _⟩ => show 0 + 1 * e.val = e.val; omega
theorem branch1 (x : Vec Ideal S3x512x1024 .bf16) (k : Fin 512) (e : Fin 1024) : View.ld x r0_135 (ix3 0 k e) = x (ix3 1 k e) := by
  rw [View.ld_apply]
  refine congrArg x ?_
  funext d; apply Fin.ext
  match d with
  | ⟨0, _⟩ => rfl
  | ⟨1, _⟩ => show 0 + 1 * k.val = k.val; omega
  | ⟨2, _⟩ => show 0 + 1 * e.val = e.val; omega
theorem branch2 (x : Vec Ideal S3x512x1024 .bf16) (k : Fin 512) (e : Fin 1024) : View.ld x r0_136 (ix3 0 k e) = x (ix3 2 k e) := by
  rw [View.ld_apply]
  refine congrArg x ?_
  funext d; apply Fin.ext
  match d with
  | ⟨0, _⟩ => rfl
  | ⟨1, _⟩ => show 0 + 1 * k.val = k.val; omega
  | ⟨2, _⟩ => show 0 + 1 * e.val = e.val; omega

theorem whole_tile (x : Vec Ideal S1x256x512 .f32) : View.ld x r0_129 = x := View.ld_unit_lit _ x (by decide)
theorem whole_mask (x : Vec Ideal S512x512 .bf16) : View.ld x r0_0 = x := View.ld_unit_lit _ x (by decide)
theorem whole_chan (x : Vec Ideal S1x512 .f32) : View.ld x r0_130 = x := View.ld_unit_lit _ x (by decide)
theorem whole_glu (x : Vec Ideal S512x1024 .bf16) : View.ld x r0_131 = x := View.ld_unit_lit _ x (by decide)
theorem whole_bias (x : Vec Ideal S1x1024 .f32) : View.ld x r0_132 = x := View.ld_unit_lit _ x (by decide)
theorem whole_gates (x : Vec Ideal S1x256x3072 .f32) : View.ld x r0_133 = x := View.ld_unit_lit _ x (by decide)
theorem whole_stream (x : Vec Ideal S1x256x1024 .f32) : View.ld x r0_137 = x := View.ld_unit_lit _ x (by decide)
theorem whole_mod (x : Vec Ideal S1x1x1024 .f32) : View.ld x r0_138 = x := View.ld_unit_lit _ x (by decide)
theorem whole_out (x : Vec Ideal S1024x1024 .bf16) : View.ld x r0_139 = x := View.ld_unit_lit _ x (by decide)

/-- The recurrence's part of a tile before its normalisation. -/
theorem sum_at (x1 x2 : Vec Ideal S16x128x128 .f32) (x3 : Vec Ideal S1x256x512 .f32) (r : Fin 256) (k : Fin 512) :
    addf (gathered x1 x2) (shapeCast S256x512 x3 shapeCasts_S1x256x512_S256x512) (ix2 r k) = (gathered x1 x2 (ix2 r k) + x3 (ix3 0 r k) : EReal) := by
  refine congrArg (fun q : EReal => gathered x1 x2 (ix2 r k) + q) ?_
  exact shapeCast_apply x3 shapeCasts_S1x256x512_S256x512 (ix2 r k) (ix3 (0 : Fin 1) r k)
    (by rw [Shape.rowMajor_val_three, Shape.rowMajor_val_two]; show (0 * 256 + r.val) * 512 + k.val = r.val * 512 + k.val; omega)

/-- What a point stores at row `r` and channel `d`, from the blocks it reads. -/
theorem tile_at (x0 : Vec Ideal S1x256x512 .f32) (x1 : Vec Ideal S16x128x128 .f32) (x2 : Vec Ideal S16x128x128 .f32) (x3 x4 x5 x6 x7 : Vec Ideal S1x256x512 .f32) (x8 : Vec Ideal S1x256x3072 .f32) (x9 : Vec Ideal S1x256x1024 .f32) (x10 : Vec Ideal S1x1x1024 .f32) (x11 : Vec Ideal S512x512 .bf16) (x12 x13 x14 : Vec Ideal S1x512 .f32) (x15 : Vec Ideal S512x1024 .bf16) (x16 : Vec Ideal S1x1024 .f32) (x17 : Vec Ideal S3x512x1024 .bf16) (x18 : Vec Ideal S1024x1024 .bf16)
    (r : Fin 256) (d : Fin 1024) (hm : ∀ k d : Fin 512, x11 (ix2 k d) = if k.val / 64 = d.val / 64 then (1 : EReal) else 0)
    (hy : ∀ k, Fine (gathered x1 x2 (ix2 r k) + x3 (ix3 0 r k))) :
    out0_19 (F := Ideal) x0 x1 x2 x3 x4 x5 x6 x7 x8 x9 x10 x11 x12 x13 x14 x15 x16 x17 x18 (ix3 0 r d)
      = row (fun k => x0 (ix3 0 r k)) (rwkv (fun k => gathered x1 x2 (ix2 r k) + x3 (ix3 0 r k)) (fun k => x12 (ix2 0 k)) (fun k => x13 (ix2 0 k)) (fun k => x4 (ix3 0 r k)))
          (ssm (fun k => x5 (ix3 0 r k) + x6 (ix3 0 r k) + x7 (ix3 0 r k) * x14 (ix2 0 k)) (fun k j => x15 (ix2 k j)) (fun j => x16 (ix2 0 j)))
          (fun j => x8 (ix3 0 r j)) (fun p k e => x17 (ix3 p k e)) (fun e => x18 (ix2 e d)) (x9 (ix3 0 r d)) (x10 (ix3 0 0 d)) := by
  rw [out_eq, View.canon_cons_unit_lit _ _ _ (by decide)]
  rw [whole_tile, whole_tile, whole_tile, whole_tile, whole_tile, whole_tile, whole_mask, whole_chan, whole_chan, whole_chan, whole_glu, whole_bias, whole_gates, whole_stream, whole_mod, whole_out]
  rw [row_at _ _ x8 x0 _ _ _ x9 x10 x18 (fun p k e => x17 (ix3 p k e)) (branch0 x17) (branch1 x17) (branch2 x17) r d]
  have ha : (fun k => k0_pay146 (F := Ideal) (normalised (k0_pay1 x11) (addf (gathered x1 x2) (shapeCast S256x512 x3 shapeCasts_S1x256x512_S256x512))) x12 x13 x4 (ix2 r k))
      = rwkv (fun k => gathered x1 x2 (ix2 r k) + x3 (ix3 0 r k)) (fun k => x12 (ix2 0 k)) (fun k => x13 (ix2 0 k)) (fun k => x4 (ix3 0 r k)) := by
    funext k
    rw [rwkv_at, normalised_at _ (fun k d => (pay1_eq x11 k d).trans (hm k d)) _ r (fun k => by rw [sum_at]; exact hy k) k]
    simp only [sum_at]
    rfl
  have hb : (fun k => k0_pay149 (F := Ideal) (k0_pay147 x5 x6 x7 x14) (k0_pay148 x15) x16 (ix2 r k))
      = ssm (fun k => x5 (ix3 0 r k) + x6 (ix3 0 r k) + x7 (ix3 0 r k) * x14 (ix2 0 k)) (fun k j => x15 (ix2 k j)) (fun j => x16 (ix2 0 j)) := by
    funext k
    rw [ssm_at]
    simp only [gelu_at, pay148_eq]
    rfl
  rw [ha, hb]

/-! ## The blocks put in -/

variable (m : (ℓ : Loc nD τ sig) → Buf (Elt Ideal) ℓ) (c : Dev nD)

/-- Row `r` of point `t`'s tile as a context row. -/
abbrev lat (t : Fin cfg0.N) (r : Fin 256) : Fin 256 := ⟨r.val, by omega⟩
abbrev bat (t : Fin cfg0.N) : Fin 8 := ⟨t.val, by have := point_lt t; omega⟩

theorem joined_at (t : Fin cfg0.N) (r : Fin 256) (k : Fin 512) :
    (gathered (iblk m c 1 t) (iblk m c 2 t) (ix2 r k) + (iblk m c 3 t : S1x256x512.Idx → EReal) (ix3 0 r k) : EReal)
      = joined (m ((c : Thread nD τ).loc main_arg1)) (m ((c : Thread nD τ).loc main_arg2)) (m ((c : Thread nD τ).loc main_arg3)) (bat t) (lat t r) k := by
  rw [gathered_at, block1, block2, block3]
  unfold joined
  have e2 : t.val * 128 + (16 * (k.val / 64) + r.val % 16) = t.val * 128 + k.val / 64 * 16 + (r.val) % 16 := by omega
  simp only [e2]

/-- What point `t` writes at row `r` and channel `d`. -/
theorem written (hf : (∀ i, Fine (m ((c : Thread nD τ).loc main_arg1) i)) ∧ (∀ i, Fine (m ((c : Thread nD τ).loc main_arg2) i)) ∧ (∀ i, Fine (m ((c : Thread nD τ).loc main_arg3) i)))
    (t : Fin cfg0.N) (r : Fin 256) (d : Fin 1024) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix3 0 r d)
      = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (bat t) (lat t r) d := by
  rw [tile_at _ _ _ _ _ _ _ _ _ _ _ _ _ _ _ _ _ _ _ r d (fun k d => (block11 m c t k d).trans (host7 m c k d))
    (fun k => by rw [joined_at]; exact fin_add (fin_add (hf.1 _) (hf.2.1 _)) (hf.2.2 _))]
  have hj := funext (fun k => joined_at m c t r k)
  rw [hj]
  have b12 : ∀ k : Fin 512, (iblk m c 12 t : S1x512.Idx → EReal) (ix2 0 k) = m ((c : Thread nD τ).loc main_arg11) (ix1 k) := fun k => (block12 m c t 0 k).trans (host8 m c k)
  have b13 : ∀ k : Fin 512, (iblk m c 13 t : S1x512.Idx → EReal) (ix2 0 k) = m ((c : Thread nD τ).loc main_arg12) (ix1 k) := fun k => (block13 m c t 0 k).trans (host9 m c k)
  have b14 : ∀ k : Fin 512, (iblk m c 14 t : S1x512.Idx → EReal) (ix2 0 k) = m ((c : Thread nD τ).loc main_arg13) (ix1 k) := fun k => (block14 m c t 0 k).trans (host10 m c k)
  have b15 : ∀ (k : Fin 512) (q : Fin 1024), (iblk m c 15 t : S512x1024.Idx → EReal) (ix2 k q) = m ((c : Thread nD τ).loc main_arg14) (ix2 k q) := fun k q => (block15 m c t k q).trans (host11 m c k q)
  have b16 : ∀ k : Fin 1024, (iblk m c 16 t : S1x1024.Idx → EReal) (ix2 0 k) = m ((c : Thread nD τ).loc main_arg15) (ix1 k) := fun k => (block16 m c t 0 k).trans (host12 m c k)
  have b17 : ∀ (k : Fin 3) (q : Fin 512) (l : Fin 1024), (iblk m c 17 t : S3x512x1024.Idx → EReal) (ix3 k q l) = m ((c : Thread nD τ).loc main_arg16) (ix3 k q l) := fun k q l => (block17 m c t k q l).trans (host13 m c k q l)
  have b18 : ∀ (k : Fin 1024) (q : Fin 1024), (iblk m c 18 t : S1024x1024.Idx → EReal) (ix2 k q) = m ((c : Thread nD τ).loc main_arg17) (ix2 k q) := fun k q => (block18 m c t k q).trans (host14 m c k q)
  simp only [block0, block4, block5, block6, block7, block8, block9, block10, b12, b13, b14, b15, b16, b17, b18]
  rfl

/-- The result as one array. -/
def merge : S8x256x1024.Idx → EReal := fun i => merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (i 0) (i 1) (i 2)

theorem index_eq (y : S1x256x1024.Idx) : ∃ (r : Fin 256) (d : Fin 1024), y = ix3 (0 : Fin 1) r d := by
  refine ⟨y 1, y 2, ?_⟩
  funext a
  match a with
  | ⟨0, _⟩ => exact Subsingleton.elim (α := Fin 1) _ _
  | ⟨1, _⟩ => rfl
  | ⟨2, _⟩ => rfl

/-- Where a cell of the tile lies in the result. -/
theorem cell (t : Fin cfg0.N) (r : Fin 256) (d : Fin 1024) :
    (((cfg0.win 19).blk t).view.emb (ix3 (0 : Fin 1) r d) : S8x256x1024.Idx) = ix3 (bat t) (lat t r) d := by
  funext a; apply Fin.ext
  show win0_19.index t a * S1x256x1024.size a + 1 * (ix3 (0 : Fin 1) r d a).val = _
  rw [(places t).2.2.2.2.2.2.2.2.2.2]
  match a with
  | ⟨0, _⟩ => show t.val * 1 + 1 * 0 = t.val; omega
  | ⟨1, _⟩ => show 0 * 256 + 1 * r.val = r.val; omega
  | ⟨2, _⟩ => show 0 * 1024 + 1 * d.val = d.val; omega

theorem covers19 : (cfg0.win 19).Covers := by decide +kernel

set_option maxHeartbeats 2000000 in
/-- The result array after the run. -/
theorem result (hf : (∀ i, Fine (m ((c : Thread nD τ).loc main_arg1) i)) ∧ (∀ i, Fine (m ((c : Thread nD τ).loc main_arg2) i)) ∧ (∀ i, Fine (m ((c : Thread nD τ).loc main_arg3) i))) :
    (dats m 0 c).arrAt 19 (cfgs 0).N = merge m c := by
  refine (dats m 0 c).arrAt_eq_of_covers 19 (merge m c) covers19 fun t _ y => ?_
  obtain ⟨r, d, e⟩ := index_eq y
  subst e
  have e1 := written m c hf t r d
  have e2 := congrArg (merge m c) (cell t r d)
  have e3 : merge m c (ix3 (bat t) (lat t r) d) = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (bat t) (lat t r) d := rfl
  generalize merge m c = G at e2 e3 ⊢
  rw [e2, e3, ← e1]
  blk_simp
  rw [after0_19]

end Cert.ContextMerge

end
-- ==== Proof.ContextMergeRef.lean ====
/- The reference's result is the plain formula of Proof/MergeSpec.lean. -/
module

public import proofs.«01_k».proof.Proof.ContextMergeSpec
public import proofs.«01_k».proof.Proof.Gen.Reference14Ideal.Read
public import Idealize.ShloMosaic.Lib.Pointwise

@[expose] public section

set_option maxRecDepth 16384

noncomputable section

namespace Cert.ContextMerge

open Cert.Reference14Ideal Cert.Reference14Ideal.Gen Cert.Reference14Ideal.Read
open Idealize.ShloMosaic Idealize.ShloMosaic.TcCoe Idealize.SL.Sem

variable (x0 : Lat.Idx → EReal) (x1 x2 : Steps.Idx → EReal) (x3 x4 x5 x6 : Seq.Idx → EReal) (x7 : Lat.Idx → EReal) (x8 : Gates.Idx → EReal)
  (x9 : Stream.Idx → EReal) (x10 : Mod.Idx → EReal) (x11 x12 x13 : Chan.Idx → EReal) (x14 : GluW.Idx → EReal) (x15 : Wide.Idx → EReal)
  (x16 : BranchW.Idx → EReal) (x17 : OutW.Idx → EReal)

theorem ref_one : (FloatOps.ofBits FTy.f32 0x3F800000#32 : Ideal .f32) = (1 : EReal) := by
  show Ideal.ofBits FTy.f32 0x3F800000#32 = 1
  simp

/-- An index with the coordinates of another is that other. -/
theorem eq3 {a b c : Nat} (i : (⟨3, ![a, b, c]⟩ : Shape).Idx) (p : Fin a) (q : Fin b) (r : Fin c) (h0 : (i 0).val = p.val) (h1 : (i 1).val = q.val)
    (h2 : (i 2).val = r.val) : i = ix3 p q r := by
  funext d; apply Fin.ext
  match d with
  | ⟨0, _⟩ => exact h0
  | ⟨1, _⟩ => exact h1
  | ⟨2, _⟩ => exact h2

/-- The two directions added, read in the scan's own split of a step's rows into sequence, head and row. -/
theorem ref_steps (i : S272x8x8x16x64.Idx) (t : Fin 272) (r : Fin 1024) (l : Fin 128) (h0 : (i 0).val = t.val)
    (h1 : (i 1).val * 128 + (i 2).val * 16 + (i 3).val = r.val) (h2 : (i 4).val = l.val) :
    val_main_v2 (F := Ideal) x1 x2 i = x1 (ix3 t r l) + x2 (ix3 t r l) := by
  have i0 : (i 0).val < 272 := (i 0).isLt
  have i1 : (i 1).val < 8 := (i 1).isLt
  have i2 : (i 2).val < 8 := (i 2).isLt
  have i3 : (i 3).val < 16 := (i 3).isLt
  have i4 : (i 4).val < 64 := (i 4).isLt
  have e : idx_main_v1 (idx_main_v2 i) = ix3 t r l := by
    refine eq3 _ _ _ _ ?_ ?_ ?_
    · show (((((i 0).val * 8 + (i 1).val) * 8 + (i 2).val) * 16 + (i 3).val) * 64 + (i 4).val) / 65536 = t.val
      omega
    · show (((((i 0).val * 8 + (i 1).val) * 8 + (i 2).val) * 16 + (i 3).val) * 64 + (i 4).val) / 64 % 1024 = r.val
      omega
    · show (((((i 0).val * 8 + (i 1).val) * 8 + (i 2).val) * 16 + (i 3).val) * 64 + (i 4).val) % 64 = l.val
      omega
  rw [val_main_v2_apply, val_main_v1_apply, e, val_main_v0_apply]
  rfl

/-- Whole sequences keep whole steps. -/
theorem step_of (p x : Nat) : (p * 4352 + x) / 16 = p * 272 + x / 16 := by omega

/-- The same in the order of the sequence: row `n` is row `n % 16` of step `n / 16`. -/
theorem ref_rows (i : S8x4352x8x64.Idx) (t : Fin 272) (r : Fin 1024) (l : Fin 128) (h0 : (i 1).val / 16 = t.val)
    (h1 : (i 0).val * 128 + (i 2).val * 16 + (i 1).val % 16 = r.val) (h2 : (i 3).val = l.val) :
    val_main_v4 (F := Ideal) x1 x2 i = x1 (ix3 t r l) + x2 (ix3 t r l) := by
  have i0 : (i 0).val < 8 := (i 0).isLt
  have i1 : (i 1).val < 4352 := (i 1).isLt
  have i2 : (i 2).val < 8 := (i 2).isLt
  have i3 : (i 3).val < 64 := (i 3).isLt
  rw [val_main_v4_apply, val_main_v3_apply]
  refine ref_steps x1 x2 _ t r l ?_ ?_ ?_
  · show ((((i 0).val * 4352 + (i 1).val) * 8 + (i 2).val) * 64 + (i 3).val) / 8192 % 272 = t.val
    have a2 : ((((i 0).val * 4352 + (i 1).val) * 8 + (i 2).val) * 64 + (i 3).val) / 512 = (i 0).val * 4352 + (i 1).val := by omega
    have a3 : ((((i 0).val * 4352 + (i 1).val) * 8 + (i 2).val) * 64 + (i 3).val) / 8192 = ((((i 0).val * 4352 + (i 1).val) * 8 + (i 2).val) * 64 + (i 3).val) / 512 / 16 := by rw [Nat.div_div_eq_div_mul]
    rw [a3, a2, step_of, h0]
    omega
  · show ((((i 0).val * 4352 + (i 1).val) * 8 + (i 2).val) * 64 + (i 3).val) / 2228224 * 128
      + ((((i 0).val * 4352 + (i 1).val) * 8 + (i 2).val) * 64 + (i 3).val) / 64 % 8 * 16
      + ((((i 0).val * 4352 + (i 1).val) * 8 + (i 2).val) * 64 + (i 3).val) / 512 % 16 = r.val
    have a0 : ((((i 0).val * 4352 + (i 1).val) * 8 + (i 2).val) * 64 + (i 3).val) / 2228224 = (i 0).val := by omega
    have a1 : ((((i 0).val * 4352 + (i 1).val) * 8 + (i 2).val) * 64 + (i 3).val) / 64 % 8 = (i 2).val := by omega
    have a3 : ((((i 0).val * 4352 + (i 1).val) * 8 + (i 2).val) * 64 + (i 3).val) / 512 = (i 0).val * 4352 + (i 1).val := by omega
    have a2 : ((((i 0).val * 4352 + (i 1).val) * 8 + (i 2).val) * 64 + (i 3).val) / 512 % 16 = (i 1).val % 16 := by rw [a3]; omega
    rw [a0, a1, a2, h1]
  · show ((((i 0).val * 4352 + (i 1).val) * 8 + (i 2).val) * 64 + (i 3).val) % 64 = l.val
    omega

/-- The joined output at a context row, head and channel. -/
theorem ref_joined (b : Fin 8) (n : Fin 256) (k : Fin 512) (i : S8x256x8x64.Idx) (h0 : (i 0).val = b.val) (h1 : (i 1).val = n.val)
    (h2 : (i 2).val * 64 + (i 3).val = k.val) :
    val_main_v7 (F := Ideal) x1 x2 x3 i = joined x1 x2 x3 b n k := by
  have i0 : (i 0).val < 8 := (i 0).isLt
  have i1 : (i 1).val < 256 := (i 1).isLt
  have i2 : (i 2).val < 8 := (i 2).isLt
  have i3 : (i 3).val < 64 := (i 3).isLt
  have e : idx_main_v5 (idx_main_v7 i) = ix3 b ⟨n.val, by omega⟩ k := by
    refine eq3 _ _ _ _ ?_ ?_ ?_
    · show ((((i 0).val * 4352 + (i 1).val) * 8 + (i 2).val) * 64 + (i 3).val) / 2228224 = b.val
      omega
    · show ((((i 0).val * 4352 + (i 1).val) * 8 + (i 2).val) * 64 + (i 3).val) / 512 % 4352 = n.val
      omega
    · show ((((i 0).val * 4352 + (i 1).val) * 8 + (i 2).val) * 64 + (i 3).val) % 512 = k.val
      omega
  have r := ref_rows x1 x2 (idx_main_v7 i) ⟨n.val / 16, by omega⟩ ⟨b.val * 128 + k.val / 64 * 16 + n.val % 16, by omega⟩ ⟨k.val % 64, by omega⟩
    (by show (i 1).val / 16 = n.val / 16; omega)
    (by show (i 0).val * 128 + (i 2).val * 16 + (i 1).val % 16 = b.val * 128 + k.val / 64 * 16 + n.val % 16; omega)
    (by show (i 3).val = k.val % 64; omega)
  rw [val_main_v7_apply, val_main_v6_apply, val_main_v5_apply, e, r]
  rfl

/-- The head's mean. -/
theorem ref_mean (b : Fin 8) (n : Fin 256) (k : Fin 512) (i : S8x256x8x1.Idx) (h0 : (i 0).val = b.val) (h1 : (i 1).val = n.val)
    (h2 : (i 2).val = k.val / 64) :
    val_main_v11 (F := Ideal) x1 x2 x3 i = mean (headOf (joined x1 x2 x3 b n) k) := by
  rw [val_main_v11_apply, val_main_v9_apply, val_main_v8_apply, val_main_v10_apply, val_main_cst_0_apply, val_main_cst_apply]
  refine congrArg (fun e : EReal => Ideal.div e chans) ?_
  have z : (FloatOps.ofBits FTy.f32 0x00000000#32 : Ideal .f32) = (0 : EReal) := by show Ideal.ofBits FTy.f32 0x00000000#32 = 0; simp
  rw [z]
  refine (zero_add _).trans (Finset.sum_congr rfl fun l _ => ?_)
  exact ref_joined x1 x2 x3 b n ⟨k.val / 64 * 64 + l.val, by omega⟩ _ h0 h1 (by show (i 2).val * 64 + l.val = k.val / 64 * 64 + l.val; rw [h2])

/-- The head with its mean taken away. -/
theorem ref_centred (b : Fin 8) (n : Fin 256) (k : Fin 512) (l : Fin 64) (i : S8x256x8x64.Idx) (h0 : (i 0).val = b.val) (h1 : (i 1).val = n.val)
    (h2 : (i 2).val = k.val / 64) (h3 : (i 3).val = l.val) :
    val_main_v13 (F := Ideal) x1 x2 x3 i = headOf (joined x1 x2 x3 b n) k l - mean (headOf (joined x1 x2 x3 b n) k) := by
  rw [val_main_v13_apply, val_main_v12_apply, ref_mean x1 x2 x3 b n k _ h0 h1 h2,
    ref_joined x1 x2 x3 b n ⟨k.val / 64 * 64 + l.val, by omega⟩ i h0 h1 (by show (i 2).val * 64 + (i 3).val = k.val / 64 * 64 + l.val; rw [h2, h3])]
  rfl

/-- The head's variance. -/
theorem ref_var (b : Fin 8) (n : Fin 256) (k : Fin 512) (i : S8x256x8x1.Idx) (h0 : (i 0).val = b.val) (h1 : (i 1).val = n.val)
    (h2 : (i 2).val = k.val / 64) :
    val_main_v18 (F := Ideal) x1 x2 x3 i = mean (fun l => (headOf (joined x1 x2 x3 b n) k l - mean (headOf (joined x1 x2 x3 b n) k))
      * (headOf (joined x1 x2 x3 b n) k l - mean (headOf (joined x1 x2 x3 b n) k))) := by
  rw [val_main_v18_apply, val_main_v16_apply, val_main_v15_apply, val_main_v17_apply, val_main_cst_2_apply, val_main_cst_1_apply]
  refine congrArg (fun e : EReal => Ideal.div e chans) ?_
  have z : (FloatOps.ofBits FTy.f32 0x00000000#32 : Ideal .f32) = (0 : EReal) := by show Ideal.ofBits FTy.f32 0x00000000#32 = 0; simp
  rw [z]
  refine (zero_add _).trans (Finset.sum_congr rfl fun l _ => ?_)
  rw [val_main_v14_apply, ref_centred x1 x2 x3 b n k l _ h0 h1 h2 rfl]
  rfl

/-- The recurrence's output normalised, scaled, shifted and gated. -/
theorem ref_rwkv (b : Fin 8) (n : Fin 256) (k : Fin 512) :
    val_main_v32 (F := Ideal) x1 x2 x3 x4 x11 x12 (ix3 b n k) = rwkv (joined x1 x2 x3 b n) (fun k => x11 (ix1 k)) (fun k => x12 (ix1 k))
      (fun k => x4 (ix3 b ⟨n.val, by omega⟩ k)) k := by
  have e0 : (idx_main_v24 (ix3 b n k) 0).val = b.val := by
    show ((b.val * 256 + n.val) * 512 + k.val) / 131072 = b.val; omega
  have e1 : (idx_main_v24 (ix3 b n k) 1).val = n.val := by
    show ((b.val * 256 + n.val) * 512 + k.val) / 512 % 256 = n.val; omega
  have e2 : (idx_main_v24 (ix3 b n k) 2).val = k.val / 64 := by
    show ((b.val * 256 + n.val) * 512 + k.val) / 64 % 8 = k.val / 64; omega
  have e3 : (idx_main_v24 (ix3 b n k) 3).val = k.val % 64 := by
    show ((b.val * 256 + n.val) * 512 + k.val) % 64 = k.val % 64; omega
  have i31 : idx_main_v31 (ix3 b n k) = ix3 b ⟨n.val, by omega⟩ k := eq3 _ _ _ _ rfl rfl rfl
  have i25 : idx_main_v25 (idx_main_v26 (ix3 b n k)) = ix1 k := by funext d; match d with | ⟨0, _⟩ => rfl
  have i28 : idx_main_v28 (idx_main_v29 (ix3 b n k)) = ix1 k := by funext d; match d with | ⟨0, _⟩ => rfl
  rw [val_main_v32_apply, val_main_v31_apply, i31, val_main_v30_apply, val_main_v29_apply, val_main_v28_apply, i28, val_main_v27_apply,
    val_main_v26_apply, val_main_v25_apply, i25, val_main_v24_apply, val_main_v23_apply, val_main_v22_apply, val_main_v21_apply, val_main_v20_apply,
    val_main_v19_apply, val_main_cst_3_apply, ref_var x1 x2 x3 b n k _ e0 e1 e2, ref_centred x1 x2 x3 b n k ⟨k.val % 64, by omega⟩ _ e0 e1 e2 e3]
  rfl

/-- The state-space branch before its gelu. -/
theorem ref_state (b : Fin 8) (n : Fin 256) (k : Fin 512) : val_main_v39 (F := Ideal) x5 x6 x7 x13 (ix3 b n k) = state x5 x6 x7 x13 b n k := by
  have i33 : idx_main_v33 (ix3 b n k) = ix3 b ⟨n.val, by omega⟩ k := eq3 _ _ _ _ rfl rfl rfl
  have i34 : idx_main_v34 (ix3 b n k) = ix3 b ⟨n.val, by omega⟩ k := eq3 _ _ _ _ rfl rfl rfl
  have i36 : idx_main_v36 (idx_main_v37 (ix3 b n k)) = ix1 k := by funext d; match d with | ⟨0, _⟩ => rfl
  rw [val_main_v39_apply, val_main_v35_apply, val_main_v33_apply, i33, val_main_v34_apply, i34, val_main_v38_apply, val_main_v37_apply,
    val_main_v36_apply, i36]
  rfl

/-- Its gelu. -/
theorem ref_gelu (b : Fin 8) (n : Fin 256) (k : Fin 512) : val_main_v52 (F := Ideal) x5 x6 x7 x13 (ix3 b n k) = gelu (state x5 x6 x7 x13 b n k) := by
  rw [val_main_v52_apply, val_main_v51_apply, val_main_v50_apply, val_main_cst_7_apply, val_main_v49_apply, val_main_v48_apply, val_main_cst_6_apply,
    ref_one, val_main_v47_apply, val_main_v46_apply, val_main_v45_apply, val_main_cst_5_apply, val_main_v44_apply, val_main_v43_apply,
    val_main_v42_apply, val_main_cst_4_apply, val_main_v41_apply, val_main_v40_apply, ref_state]
  rfl

/-- The layer after it. -/
theorem ref_glu (b : Fin 8) (n : Fin 256) (j : Fin 1024) : val_main_v56 (F := Ideal) x5 x6 x7 x13 x14 x15 (ix3 b n j)
    = glu (state x5 x6 x7 x13 b n) (fun k j => x14 (ix2 k j)) (fun j => x15 (ix1 j)) j := by
  have i54 : idx_main_v54 (idx_main_v55 (ix3 b n j)) = ix1 j := by funext d; match d with | ⟨0, _⟩ => rfl
  rw [val_main_v56_apply, val_main_v55_apply, val_main_v54_apply, i54, val_main_v53_apply]
  refine congrArg (fun e : EReal => e + x15 (ix1 j)) (Finset.sum_congr rfl fun k _ => ?_)
  have l : lidx_main_v53 (ix3 b n j) k = ix3 b n k := eq3 _ _ _ _ rfl rfl rfl
  have r : ridx_main_v53 (ix3 b n j) k = ix2 k j := by funext d; match d with | ⟨0, _⟩ => rfl | ⟨1, _⟩ => rfl
  rw [l, r, ref_gelu]

/-- One half gated by the other. -/
theorem ref_ssm (b : Fin 8) (n : Fin 256) (k : Fin 512) : val_main_v65 (F := Ideal) x5 x6 x7 x13 x14 x15 (ix3 b n k)
    = ssm (state x5 x6 x7 x13 b n) (fun k j => x14 (ix2 k j)) (fun j => x15 (ix1 j)) k := by
  have i57 : idx_main_v57 (ix3 b n k) = ix3 b n ⟨k.val, by omega⟩ := eq3 _ _ _ _ rfl rfl rfl
  have i58 : idx_main_v58 (ix3 b n k) = ix3 b n ⟨512 + k.val, by omega⟩ := eq3 _ _ _ _ rfl rfl rfl
  rw [val_main_v65_apply, val_main_v57_apply, i57, ref_glu, val_main_v64_apply, val_main_v63_apply, val_main_cst_9_apply, val_main_v62_apply,
    val_main_v61_apply, val_main_cst_8_apply, ref_one, val_main_v60_apply, val_main_v59_apply, val_main_v58_apply, i58, ref_glu]
  rfl

/-- A gate. -/
theorem ref_gate (i : S8x256x3072.Idx) : val_main_v71 (F := Ideal) x8 i = gate (x8 i) := by
  rw [val_main_v71_apply, val_main_v70_apply, val_main_cst_11_apply, val_main_v69_apply, val_main_v68_apply, val_main_cst_10_apply, ref_one,
    val_main_v67_apply, val_main_v66_apply]
  rfl

/-- Branch 0's weights. -/
theorem ref_w0 (k : Fin 512) (e : Fin 1024) (i : S512x1024.Idx) (h0 : (i 0).val = k.val) (h1 : (i 1).val = e.val) :
    val_main_v76 (F := Ideal) x16 i = x16 (ix3 0 k e) := by
  have q : idx_main_v75 (idx_main_v76 i) = ix3 0 k e := by
    refine eq3 _ _ _ _ rfl ?_ ?_
    · show ((i 0).val * 1024 + (i 1).val) / 1024 % 512 = k.val
      omega
    · show ((i 0).val * 1024 + (i 1).val) % 1024 = e.val
      omega
  rw [val_main_v76_apply, val_main_v75_apply, q]

/-- Branch 1's weights. -/
theorem ref_w1 (k : Fin 512) (e : Fin 1024) (i : S512x1024.Idx) (h0 : (i 0).val = k.val) (h1 : (i 1).val = e.val) :
    val_main_v80 (F := Ideal) x16 i = x16 (ix3 1 k e) := by
  have q : idx_main_v79 (idx_main_v80 i) = ix3 1 k e := by
    refine eq3 _ _ _ _ rfl ?_ ?_
    · show ((i 0).val * 1024 + (i 1).val) / 1024 % 512 = k.val
      omega
    · show ((i 0).val * 1024 + (i 1).val) % 1024 = e.val
      omega
  rw [val_main_v80_apply, val_main_v79_apply, q]

/-- Branch 2's weights. -/
theorem ref_w2 (k : Fin 512) (e : Fin 1024) (i : S512x1024.Idx) (h0 : (i 0).val = k.val) (h1 : (i 1).val = e.val) :
    val_main_v85 (F := Ideal) x16 i = x16 (ix3 2 k e) := by
  have q : idx_main_v84 (idx_main_v85 i) = ix3 2 k e := by
    refine eq3 _ _ _ _ rfl ?_ ?_
    · show ((i 0).val * 1024 + (i 1).val) / 1024 % 512 = k.val
      omega
    · show ((i 0).val * 1024 + (i 1).val) % 1024 = e.val
      omega
  rw [val_main_v85_apply, val_main_v84_apply, q]

/-- The three branches projected, gated and summed. -/
theorem ref_mixed (b : Fin 8) (n : Fin 256) (e : Fin 1024) :
    val_main_v88 (F := Ideal) x0 x1 x2 x3 x4 x5 x6 x7 x8 x11 x12 x13 x14 x15 x16 (ix3 b n e) = mixed (fun k => x0 (ix3 b n k))
      (rwkv (joined x1 x2 x3 b n) (fun k => x11 (ix1 k)) (fun k => x12 (ix1 k)) (fun k => x4 (ix3 b ⟨n.val, by omega⟩ k)))
      (ssm (state x5 x6 x7 x13 b n) (fun k j => x14 (ix2 k j)) (fun j => x15 (ix1 j)))
      (fun j => x8 (ix3 b n j)) (fun p k e => x16 (ix3 p k e)) e := by
  have g0 : idx_main_v72 (ix3 b n e) = ix3 b n ⟨e.val, by omega⟩ := eq3 _ _ _ _ rfl rfl rfl
  have g1 : idx_main_v73 (ix3 b n e) = ix3 b n ⟨1024 + e.val, by omega⟩ := eq3 _ _ _ _ rfl rfl rfl
  have g2 : idx_main_v74 (ix3 b n e) = ix3 b n ⟨2048 + e.val, by omega⟩ := eq3 _ _ _ _ rfl rfl rfl
  have d0 : val_main_v77 (F := Ideal) x0 x16 (ix3 b n e) = ∑ k : Fin 512, x0 (ix3 b n k) * x16 (ix3 0 k e) := by
    rw [val_main_v77_apply]
    refine Finset.sum_congr rfl fun k _ => ?_
    rw [ref_w0 x16 k e _ rfl rfl, eq3 (lidx_main_v77 (ix3 b n e) k) b n k rfl rfl rfl]
  have d1 : val_main_v81 (F := Ideal) x1 x2 x3 x4 x11 x12 x16 (ix3 b n e) = ∑ k : Fin 512, rwkv (joined x1 x2 x3 b n) (fun k => x11 (ix1 k))
      (fun k => x12 (ix1 k)) (fun k => x4 (ix3 b ⟨n.val, by omega⟩ k)) k * x16 (ix3 1 k e) := by
    rw [val_main_v81_apply]
    refine Finset.sum_congr rfl fun k _ => ?_
    rw [ref_w1 x16 k e _ rfl rfl, eq3 (lidx_main_v81 (ix3 b n e) k) b n k rfl rfl rfl, ref_rwkv]
  have d2 : val_main_v86 (F := Ideal) x5 x6 x7 x13 x14 x15 x16 (ix3 b n e) = ∑ k : Fin 512, ssm (state x5 x6 x7 x13 b n) (fun k j => x14 (ix2 k j))
      (fun j => x15 (ix1 j)) k * x16 (ix3 2 k e) := by
    rw [val_main_v86_apply]
    refine Finset.sum_congr rfl fun k _ => ?_
    rw [ref_w2 x16 k e _ rfl rfl, eq3 (lidx_main_v86 (ix3 b n e) k) b n k rfl rfl rfl, ref_ssm]
  rw [val_main_v88_apply, val_main_v83_apply, val_main_v78_apply, val_main_v72_apply, g0, ref_gate, d0, val_main_v82_apply, val_main_v73_apply, g1,
    ref_gate, d1, val_main_v87_apply, val_main_v74_apply, g2, ref_gate, d2]
  rfl

/-- The reference's result is the formula. -/
theorem ref_merged (b : Fin 8) (n : Fin 256) (d : Fin 1024) :
    val_main_v92 (F := Ideal) x0 x1 x2 x3 x4 x5 x6 x7 x8 x9 x10 x11 x12 x13 x14 x15 x16 x17 (ix3 b n d)
      = merged x0 x1 x2 x3 x4 x5 x6 x7 x8 x9 x10 x11 x12 x13 x14 x15 x16 x17 b n d := by
  have q : idx_main_v90 (ix3 b n d) = ix3 b 0 d := eq3 _ _ _ _ rfl rfl rfl
  rw [val_main_v92_apply, val_main_v91_apply, val_main_v90_apply, q, val_main_v89_apply]
  refine congrArg (fun e : EReal => x9 (ix3 b n d) + x10 (ix3 b 0 d) * e) (Finset.sum_congr rfl fun e _ => ?_)
  have r : ridx_main_v89 (ix3 b n d) e = ix2 e d := by funext a; match a with | ⟨0, _⟩ => rfl | ⟨1, _⟩ => rfl
  rw [r, eq3 (lidx_main_v89 (ix3 b n d) e) b n e rfl rfl rfl, ref_mixed]

end Cert.ContextMerge

end
-- ==== Proof.ContextMergePre.lean ====
/- What the condition on the recurrence's output says: every entry of its two directions and of the bonus is finite. -/
module

public import proofs.«01_k».proof.Proof.ContextMergeNorm
public import proofs.«01_k».proof.Proof.Gen.Pre_context_recurrence_finite
public import Idealize.ShloMosaic.Lib.ReduceAll
public import Idealize.ShloMosaic.Lib.Pointwise

@[expose] public section

set_option maxRecDepth 16384

noncomputable section

namespace Cert.ContextMerge

open Idealize.ShloMosaic
open Cert.Pre_context_recurrence_finite Cert.Pre_context_recurrence_finite.Gen

theorem inf_eq : Ideal.ofBits FTy.f32 0x7F800000#32 = ⊤ := by simp [Ideal.ofBits, Ideal.ieee]

/-- A conjunction that holds. -/
theorem and_one : ∀ a b : BitVec 1, a &&& b = 1#1 → a = 1#1 ∧ b = 1#1 := by decide

/-- A number whose absolute value is below infinity is finite. -/
theorem fine_of_abs (x : EReal) (h : Ideal.cmp .olt (max x (-x)) (Ideal.ofBits FTy.f32 0x7F800000#32) = 1#1) : Fine x := by
  have h' : max x (-x) < ⊤ := by
    rw [inf_eq] at h
    by_contra c
    have h2 : BitVec.ofBool (decide (max x (-x) < ⊤)) = 1#1 := h
    rw [decide_eq_false c] at h2
    revert h2; decide
  refine fin_of _ ?_ ?_
  · rintro rfl; simp at h'
  · rintro rfl; simp at h'

theorem finite [Cert.Pre_context_recurrence_finite.Facts] (x0 : FVec Ideal S8x256x512 .f32) (x1 x2 : FVec Ideal S272x1024x128 .f32) (x3 x4 x5 x6 : FVec Ideal S8x4352x512 .f32)
    (x7 : FVec Ideal S8x256x512 .f32) (x8 : FVec Ideal S8x256x3072 .f32) (x9 : FVec Ideal S8x256x1024 .f32) (x10 : FVec Ideal S8x1x1024 .f32)
    (x11 x12 x13 : FVec Ideal S512 .f32) (x14 : FVec Ideal S512x1024 .f32) (x15 : FVec Ideal S1024 .f32) (x16 : FVec Ideal S3x512x1024 .f32) (x17 : FVec Ideal S1024x1024 .f32)
    (h : Cert.Pre_context_recurrence_finite.fn (F := Ideal) x0 x1 x2 x3 x4 x5 x6 x7 x8 x9 x10 x11 x12 x13 x14 x15 x16 x17 = fun _ => 1#1) :
    (∀ i, Fine (x1 i)) ∧ (∀ i, Fine (x2 i)) ∧ (∀ i, Fine (x3 i)) := by
  have h0 := congrFun h (fun a => a.elim0)
  haveI : Subsingleton S_.Idx := ⟨fun a b => funext fun d => d.elim0⟩
  obtain ⟨h12, h3⟩ := and_one _ _ h0
  obtain ⟨h1, h2⟩ := and_one _ _ h12
  exact ⟨fun i => fine_of_abs _ (Host.reduce_andi_all _ _ _ _ _ h1 i), fun i => fine_of_abs _ (Host.reduce_andi_all _ _ _ _ _ h2 i),
    fun i => fine_of_abs _ (Host.reduce_andi_all _ _ _ _ _ h3 i)⟩

end Cert.ContextMerge

end
-- ==== Proof.ContextMerge.lean ====
/- The merge's claims: its frames, and that its idealised kernel and the plain formula end with the same result. -/
module

public import proofs.«01_k».proof.Defs
public import proofs.«01_k».proof.Proof.ContextMergeValue
public import proofs.«01_k».proof.Proof.ContextMergeRef
public import proofs.«01_k».proof.Proof.ContextMergePre
public import proofs.«01_k».proof.Proof.Gen.Kernel14.Frame
public import proofs.«01_k».proof.Proof.Gen.Reference14Ideal.Run
public import proofs.«01_k».proof.Proof.Gen.Reference14Ideal.Read
public import Idealize.ShloMosaic.Lib.Quiescent

@[expose] public section

set_option maxRecDepth 16384

noncomputable section

namespace Cert.ContextMerge

open Idealize.ShloMosaic Idealize.ShloMosaic.TcCoe Idealize.SL.Sem

variable [Cert.Pre_context_recurrence_finite.Facts]

theorem frame_kernel : Cert.quiescent_Kernel14 := fun m g _ => Cert.Kernel14.Gen.frame m g

theorem frame_ideal : Cert.quiescent_Kernel14Ideal := fun m g _ => Cert.Kernel14Ideal.Gen.frame m g

theorem frame_ideal_pre : Cert.quiescent_Kernel14Ideal_pre_context_recurrence_finite := fun m g _ => Cert.Kernel14Ideal.Gen.frame m g

/-- The reference's frame: it has no counters, so they end at zero. -/
theorem frame_reference : Cert.quiescent_Reference14Ideal := fun m g _ =>
  (θ_run _ _ _).mono (fun r h => ⟨fun c => (h c).2, sem_eq_zero_of_no_sems (by decide) r.2⟩) (Cert.Reference14Ideal.Value.run (F := Ideal) m g)

theorem frame_reference_pre : Cert.quiescent_Reference14Ideal_pre_context_recurrence_finite := fun m g _ =>
  (θ_run _ _ _).mono (fun r h => ⟨fun c => (h c).2, sem_eq_zero_of_no_sems (by decide) r.2⟩) (Cert.Reference14Ideal.Value.run (F := Ideal) m g)

/-- Both runs end with the merge of the kernel's own arguments. -/
theorem same_result : Cert.algebraic_Kernel14Ideal_Reference14Ideal_pre_context_recurrence_finite := by
  intro m g m' g' hpre hagree
  refine ⟨fun c => merge m c, ?_, ?_⟩
  · exact (θ_run _ _ _).mono (fun r h c => ⟨(h c).1.trans (result m c (finite _ _ _ _ _ _ _ _ _ _ _ _ _ _ _ _ _ _ (hpre c))), (h c).2⟩) (Cert.Kernel14Ideal.Value.run_blocks (F := Ideal) m g)
  · refine (θ_run _ _ _).mono (fun r h c => ⟨(h c).1.trans ?_, (h c).2⟩) (Cert.Reference14Ideal.Value.run (F := Ideal) m' g')
    obtain ⟨e0, e1, e2, e3, e4, e5, e6, e7, e8, e9, e10, e11, e12, e13, e14, e15, e16, e17⟩ := hagree c
    rw [Cert.Reference14Ideal.Read.val_main_v92_eq, e0, e1, e2, e3, e4, e5, e6, e7, e8, e9, e10, e11, e12, e13, e14, e15, e16, e17]
    funext i
    rw [eq3 i (i 0) (i 1) (i 2) rfl rfl rfl]
    exact ref_merged _ _ _ _ _ _ _ _ _ _ _ _ _ _ _ _ _ _ (i 0) (i 1) (i 2)

end Cert.ContextMerge

end
-- ==== Proof.ContextCombine.lean ====
/- The combination of the context rows' routed rows: what each grid point writes is the plain formula's block. -/
module

public import proofs.«01_k».proof.Defs
public import proofs.«01_k».proof.Proof.Gen.Kernel15Ideal.Frame
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.ContextCombine

open Cert.Kernel15Ideal Cert.Kernel15Ideal.Gen Cert.Kernel15Ideal.Value
open Idealize.ShloMosaic Idealize.ShloMosaic.TcCoe Idealize.SL.Sem
open Idealize.ShloMosaic.Pipeline (Dat)

/-- One entry of the result: the stream plus the gated sum of the four routed rows. -/
def cellOf (x g2 y0 y1 y2 y3 g0 g1 g2' g3 : EReal) : EReal := x + g2 * (y0 * g0 + y1 * g1 + y2 * g2' + y3 * g3)

/-- The result: row `n` of sequence `b` takes row `b * 4096 + n` of each of the four. -/
def combined (Y0 Y1 Y2 Y3 : S2048x1024.Idx → EReal) (G : S8x256x128.Idx → EReal) (X : S8x256x1024.Idx → EReal) (G2 : S8x1x1024.Idx → EReal)
    (b : Fin 8) (n : Fin 256) (d : Fin 1024) : EReal :=
  cellOf (X (ix3 b n d)) (G2 (ix3 b 0 d)) (Y0 (ix2 ⟨b.val * 256 + n.val, by omega⟩ d)) (Y1 (ix2 ⟨b.val * 256 + n.val, by omega⟩ d))
    (Y2 (ix2 ⟨b.val * 256 + n.val, by omega⟩ d)) (Y3 (ix2 ⟨b.val * 256 + n.val, by omega⟩ d))
    (G (ix3 b n 0)) (G (ix3 b n 1)) (G (ix3 b n 2)) (G (ix3 b n 3))

/-! ## The reference -/

theorem sum_apply (X A Z B0 C0 B1 C1 B2 C2 B3 C3 : FVec Ideal S8x256x1024 .f32) (i : S8x256x1024.Idx) :
    addf X (mulf A (addf (addf (addf (addf Z (mulf B0 C0)) (mulf B1 C1)) (mulf B2 C2)) (mulf B3 C3))) i
      = (X i + A i * (Z i + B0 i * C0 i + B1 i * C1 i + B2 i * C2 i + B3 i * C3 i) : EReal) := rfl

theorem row_apply (Y : FVec Ideal S2048x1024 .bf16) (b : Fin 8) (n : Fin 256) (d : Fin 1024) :
    shapeCast Cert.Reference15Ideal.S8x256x1024 (extf .f32 Y Cert.Reference15Ideal.Gen.bitsLt_bf16_f32) Cert.Reference15Ideal.Gen.shapeCasts_S2048x1024_S8x256x1024 (ix3 b n d)
      = Y (ix2 ⟨b.val * 256 + n.val, by omega⟩ d) :=
  shapeCast_apply (extf .f32 Y Cert.Reference15Ideal.Gen.bitsLt_bf16_f32) Cert.Reference15Ideal.Gen.shapeCasts_S2048x1024_S8x256x1024 (ix3 b n d) (ix2 ⟨b.val * 256 + n.val, by omega⟩ d)
    (by rw [Shape.rowMajor_val_two, Shape.rowMajor_val_three]; rfl)

theorem gate0_apply (G : FVec Ideal S8x256x128 .f32) (b : Fin 8) (n : Fin 256) (d : Fin 1024) :
    (broadcastInDim Cert.Reference15Ideal.S8x256x1024 ![0, 1, 2] Cert.Reference15Ideal.Gen.bcast_S8x256x1_S8x256x1024_0_1_2 (broadcastInDim Cert.Reference15Ideal.S8x256x1 ![0, 1] Cert.Reference15Ideal.Gen.bcast_S8x256_S8x256x1_0_1 (shapeCast _ (extractStridedSlice Cert.Reference15Ideal.S8x256x1 ![0, 0, 0] G Cert.Reference15Ideal.Gen.slices_S8x256x128_S8x256x1_0_0_0) Cert.Reference15Ideal.Gen.shapeCasts_S8x256x1_S8x256))) (ix3 b n d) = G (ix3 b n 0) := by
  show shapeCast Cert.Reference15Ideal.S8x256 (extractStridedSlice Cert.Reference15Ideal.S8x256x1 ![0, 0, 0] G Cert.Reference15Ideal.Gen.slices_S8x256x128_S8x256x1_0_0_0) Cert.Reference15Ideal.Gen.shapeCasts_S8x256x1_S8x256 _ = _
  rw [shapeCast_apply (extractStridedSlice Cert.Reference15Ideal.S8x256x1 ![0, 0, 0] G Cert.Reference15Ideal.Gen.slices_S8x256x128_S8x256x1_0_0_0) Cert.Reference15Ideal.Gen.shapeCasts_S8x256x1_S8x256 _ (ix3 b n (0 : Fin 1))
    (by rw [Shape.rowMajor_val_two, Shape.rowMajor_val_three]; show (b.val * 256 + n.val) * 1 + 0 = b.val * 256 + n.val; omega)]
  refine congrArg G ?_
  funext a; apply Fin.ext
  match a with
  | ⟨0, _⟩ => show 0 + b.val = b.val; omega
  | ⟨1, _⟩ => show 0 + n.val = n.val; omega
  | ⟨2, _⟩ => rfl

theorem gate1_apply (G : FVec Ideal S8x256x128 .f32) (b : Fin 8) (n : Fin 256) (d : Fin 1024) :
    (broadcastInDim Cert.Reference15Ideal.S8x256x1024 ![0, 1, 2] Cert.Reference15Ideal.Gen.bcast_S8x256x1_S8x256x1024_0_1_2 (broadcastInDim Cert.Reference15Ideal.S8x256x1 ![0, 1] Cert.Reference15Ideal.Gen.bcast_S8x256_S8x256x1_0_1 (shapeCast _ (extractStridedSlice Cert.Reference15Ideal.S8x256x1 ![0, 0, 1] G Cert.Reference15Ideal.Gen.slices_S8x256x128_S8x256x1_0_0_1) Cert.Reference15Ideal.Gen.shapeCasts_S8x256x1_S8x256))) (ix3 b n d) = G (ix3 b n 1) := by
  show shapeCast Cert.Reference15Ideal.S8x256 (extractStridedSlice Cert.Reference15Ideal.S8x256x1 ![0, 0, 1] G Cert.Reference15Ideal.Gen.slices_S8x256x128_S8x256x1_0_0_1) Cert.Reference15Ideal.Gen.shapeCasts_S8x256x1_S8x256 _ = _
  rw [shapeCast_apply (extractStridedSlice Cert.Reference15Ideal.S8x256x1 ![0, 0, 1] G Cert.Reference15Ideal.Gen.slices_S8x256x128_S8x256x1_0_0_1) Cert.Reference15Ideal.Gen.shapeCasts_S8x256x1_S8x256 _ (ix3 b n (0 : Fin 1))
    (by rw [Shape.rowMajor_val_two, Shape.rowMajor_val_three]; show (b.val * 256 + n.val) * 1 + 0 = b.val * 256 + n.val; omega)]
  refine congrArg G ?_
  funext a; apply Fin.ext
  match a with
  | ⟨0, _⟩ => show 0 + b.val = b.val; omega
  | ⟨1, _⟩ => show 0 + n.val = n.val; omega
  | ⟨2, _⟩ => rfl

theorem gate2_apply (G : FVec Ideal S8x256x128 .f32) (b : Fin 8) (n : Fin 256) (d : Fin 1024) :
    (broadcastInDim Cert.Reference15Ideal.S8x256x1024 ![0, 1, 2] Cert.Reference15Ideal.Gen.bcast_S8x256x1_S8x256x1024_0_1_2 (broadcastInDim Cert.Reference15Ideal.S8x256x1 ![0, 1] Cert.Reference15Ideal.Gen.bcast_S8x256_S8x256x1_0_1 (shapeCast _ (extractStridedSlice Cert.Reference15Ideal.S8x256x1 ![0, 0, 2] G Cert.Reference15Ideal.Gen.slices_S8x256x128_S8x256x1_0_0_2) Cert.Reference15Ideal.Gen.shapeCasts_S8x256x1_S8x256))) (ix3 b n d) = G (ix3 b n 2) := by
  show shapeCast Cert.Reference15Ideal.S8x256 (extractStridedSlice Cert.Reference15Ideal.S8x256x1 ![0, 0, 2] G Cert.Reference15Ideal.Gen.slices_S8x256x128_S8x256x1_0_0_2) Cert.Reference15Ideal.Gen.shapeCasts_S8x256x1_S8x256 _ = _
  rw [shapeCast_apply (extractStridedSlice Cert.Reference15Ideal.S8x256x1 ![0, 0, 2] G Cert.Reference15Ideal.Gen.slices_S8x256x128_S8x256x1_0_0_2) Cert.Reference15Ideal.Gen.shapeCasts_S8x256x1_S8x256 _ (ix3 b n (0 : Fin 1))
    (by rw [Shape.rowMajor_val_two, Shape.rowMajor_val_three]; show (b.val * 256 + n.val) * 1 + 0 = b.val * 256 + n.val; omega)]
  refine congrArg G ?_
  funext a; apply Fin.ext
  match a with
  | ⟨0, _⟩ => show 0 + b.val = b.val; omega
  | ⟨1, _⟩ => show 0 + n.val = n.val; omega
  | ⟨2, _⟩ => rfl

theorem gate3_apply (G : FVec Ideal S8x256x128 .f32) (b : Fin 8) (n : Fin 256) (d : Fin 1024) :
    (broadcastInDim Cert.Reference15Ideal.S8x256x1024 ![0, 1, 2] Cert.Reference15Ideal.Gen.bcast_S8x256x1_S8x256x1024_0_1_2 (broadcastInDim Cert.Reference15Ideal.S8x256x1 ![0, 1] Cert.Reference15Ideal.Gen.bcast_S8x256_S8x256x1_0_1 (shapeCast _ (extractStridedSlice Cert.Reference15Ideal.S8x256x1 ![0, 0, 3] G Cert.Reference15Ideal.Gen.slices_S8x256x128_S8x256x1_0_0_3) Cert.Reference15Ideal.Gen.shapeCasts_S8x256x1_S8x256))) (ix3 b n d) = G (ix3 b n 3) := by
  show shapeCast Cert.Reference15Ideal.S8x256 (extractStridedSlice Cert.Reference15Ideal.S8x256x1 ![0, 0, 3] G Cert.Reference15Ideal.Gen.slices_S8x256x128_S8x256x1_0_0_3) Cert.Reference15Ideal.Gen.shapeCasts_S8x256x1_S8x256 _ = _
  rw [shapeCast_apply (extractStridedSlice Cert.Reference15Ideal.S8x256x1 ![0, 0, 3] G Cert.Reference15Ideal.Gen.slices_S8x256x128_S8x256x1_0_0_3) Cert.Reference15Ideal.Gen.shapeCasts_S8x256x1_S8x256 _ (ix3 b n (0 : Fin 1))
    (by rw [Shape.rowMajor_val_two, Shape.rowMajor_val_three]; show (b.val * 256 + n.val) * 1 + 0 = b.val * 256 + n.val; omega)]
  refine congrArg G ?_
  funext a; apply Fin.ext
  match a with
  | ⟨0, _⟩ => show 0 + b.val = b.val; omega
  | ⟨1, _⟩ => show 0 + n.val = n.val; omega
  | ⟨2, _⟩ => rfl

theorem zero_word : (FloatOps.ofBits FTy.f32 0x00000000#32 : Ideal .f32) = (0 : EReal) := by
  show Ideal.ofBits FTy.f32 0x00000000#32 = 0
  simp

theorem mod_apply (G2 : FVec Ideal S8x1x1024 .f32) (b : Fin 8) (n : Fin 256) (d : Fin 1024) :
    broadcastInDim Cert.Reference15Ideal.S8x256x1024 ![0, 1, 2] Cert.Reference15Ideal.Gen.bcast_S8x1x1024_S8x256x1024_0_1_2 G2 (ix3 b n d) = G2 (ix3 b 0 d) := by
  pointwise

theorem zero_apply (i : S8x256x1024.Idx) :
    broadcastInDim Cert.Reference15Ideal.S8x256x1024 ![] Cert.Reference15Ideal.Gen.bcast_S_S8x256x1024 (constant (F := Ideal) Cert.Reference15Ideal.S_ .f32 0x00000000#32) i = (0 : EReal) :=
  zero_word

theorem ref_combined (Y0 Y1 Y2 Y3 : FVec Ideal S2048x1024 .bf16) (G : FVec Ideal S8x256x128 .f32) (X : FVec Ideal S8x256x1024 .f32) (G2 : FVec Ideal S8x1x1024 .f32)
    (b : Fin 8) (n : Fin 256) (d : Fin 1024) :
    addf X (mulf (broadcastInDim Cert.Reference15Ideal.S8x256x1024 ![0, 1, 2] Cert.Reference15Ideal.Gen.bcast_S8x1x1024_S8x256x1024_0_1_2 G2) (addf (addf (addf (addf (broadcastInDim Cert.Reference15Ideal.S8x256x1024 ![] Cert.Reference15Ideal.Gen.bcast_S_S8x256x1024 (constant Cert.Reference15Ideal.S_ .f32 0x00000000#32)) (mulf (broadcastInDim Cert.Reference15Ideal.S8x256x1024 ![0, 1, 2] Cert.Reference15Ideal.Gen.bcast_S8x256x1_S8x256x1024_0_1_2 (broadcastInDim Cert.Reference15Ideal.S8x256x1 ![0, 1] Cert.Reference15Ideal.Gen.bcast_S8x256_S8x256x1_0_1 (shapeCast _ (extractStridedSlice Cert.Reference15Ideal.S8x256x1 ![0, 0, 0] G Cert.Reference15Ideal.Gen.slices_S8x256x128_S8x256x1_0_0_0) Cert.Reference15Ideal.Gen.shapeCasts_S8x256x1_S8x256))) (shapeCast Cert.Reference15Ideal.S8x256x1024 (extf .f32 Y0 Cert.Reference15Ideal.Gen.bitsLt_bf16_f32) Cert.Reference15Ideal.Gen.shapeCasts_S2048x1024_S8x256x1024))) (mulf (broadcastInDim Cert.Reference15Ideal.S8x256x1024 ![0, 1, 2] Cert.Reference15Ideal.Gen.bcast_S8x256x1_S8x256x1024_0_1_2 (broadcastInDim Cert.Reference15Ideal.S8x256x1 ![0, 1] Cert.Reference15Ideal.Gen.bcast_S8x256_S8x256x1_0_1 (shapeCast _ (extractStridedSlice Cert.Reference15Ideal.S8x256x1 ![0, 0, 1] G Cert.Reference15Ideal.Gen.slices_S8x256x128_S8x256x1_0_0_1) Cert.Reference15Ideal.Gen.shapeCasts_S8x256x1_S8x256))) (shapeCast Cert.Reference15Ideal.S8x256x1024 (extf .f32 Y1 Cert.Reference15Ideal.Gen.bitsLt_bf16_f32) Cert.Reference15Ideal.Gen.shapeCasts_S2048x1024_S8x256x1024))) (mulf (broadcastInDim Cert.Reference15Ideal.S8x256x1024 ![0, 1, 2] Cert.Reference15Ideal.Gen.bcast_S8x256x1_S8x256x1024_0_1_2 (broadcastInDim Cert.Reference15Ideal.S8x256x1 ![0, 1] Cert.Reference15Ideal.Gen.bcast_S8x256_S8x256x1_0_1 (shapeCast _ (extractStridedSlice Cert.Reference15Ideal.S8x256x1 ![0, 0, 2] G Cert.Reference15Ideal.Gen.slices_S8x256x128_S8x256x1_0_0_2) Cert.Reference15Ideal.Gen.shapeCasts_S8x256x1_S8x256))) (shapeCast Cert.Reference15Ideal.S8x256x1024 (extf .f32 Y2 Cert.Reference15Ideal.Gen.bitsLt_bf16_f32) Cert.Reference15Ideal.Gen.shapeCasts_S2048x1024_S8x256x1024))) (mulf (broadcastInDim Cert.Reference15Ideal.S8x256x1024 ![0, 1, 2] Cert.Reference15Ideal.Gen.bcast_S8x256x1_S8x256x1024_0_1_2 (broadcastInDim Cert.Reference15Ideal.S8x256x1 ![0, 1] Cert.Reference15Ideal.Gen.bcast_S8x256_S8x256x1_0_1 (shapeCast _ (extractStridedSlice Cert.Reference15Ideal.S8x256x1 ![0, 0, 3] G Cert.Reference15Ideal.Gen.slices_S8x256x128_S8x256x1_0_0_3) Cert.Reference15Ideal.Gen.shapeCasts_S8x256x1_S8x256))) (shapeCast Cert.Reference15Ideal.S8x256x1024 (extf .f32 Y3 Cert.Reference15Ideal.Gen.bitsLt_bf16_f32) Cert.Reference15Ideal.Gen.shapeCasts_S2048x1024_S8x256x1024)))) (ix3 b n d)
      = combined Y0 Y1 Y2 Y3 G X G2 b n d := by
  rw [sum_apply, gate0_apply, gate1_apply, gate2_apply, gate3_apply, row_apply, row_apply, row_apply, row_apply]
  rw [mod_apply, zero_apply]
  unfold combined cellOf
  simp only [zero_add, mul_comm]

/-! ## The kernel -/

variable (m : (ℓ : Loc nD τ sig) → Buf (Elt Ideal) ℓ) (c : Dev nD)

theorem places : ∀ t : Fin cfg0.N, win0_0.index t = ![t.val, 0] ∧ win0_1.index t = ![t.val, 0] ∧ win0_2.index t = ![t.val, 0] ∧ win0_3.index t = ![t.val, 0]
    ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

theorem point_lt (t : Fin cfg0.N) : t.val < 8 := t.isLt

/-- The sequence and the row of it a tile's row is. -/
def bat (t : Fin cfg0.N) : Fin 8 := ⟨t.val, by have := point_lt t; omega⟩
def lat (t : Fin cfg0.N) (r : Fin 256) : Fin 256 := ⟨r.val, by omega⟩

/-- What a point stores at row `r` and channel `d`, from the blocks it reads. -/
theorem pay_at (x0 x1 x2 x3 : Vec Ideal S256x1024 .bf16) (x4 : Vec Ideal S1x256x128 .f32) (x5 : Vec Ideal S1x256x1024 .f32) (x6 : Vec Ideal S1x1x1024 .f32) (r : Fin 256) (d : Fin 1024) :
    k0_pay1 (F := Ideal) x4 x0 x1 x2 x3 x5 x6 (ix3 0 r d)
      = cellOf (x5 (ix3 0 r d)) (x6 (ix3 0 0 d)) (x0 (ix2 r d)) (x1 (ix2 r d)) (x2 (ix2 r d)) (x3 (ix2 r d))
          (x4 (ix3 0 r 0)) (x4 (ix3 0 r 1)) (x4 (ix3 0 r 2)) (x4 (ix3 0 r 3)) := by
  pointwise [k0_pay1, cellOf]

theorem block0 (t : Fin cfg0.N) (r : Fin 256) (d : Fin 1024) :
    (iblk m c 0 t : S256x1024.Idx → EReal) (ix2 r d) = m ((c : Thread nD τ).loc main_arg0) (ix2 ⟨(bat t).val * 256 + (lat t r).val, by omega⟩ d) := by
  unfold iblk
  show V m c main_arg0 _ = _
  rw [V_main_arg0]
  refine congrArg (m ((c : Thread nD τ).loc main_arg0)) ?_
  funext a; apply Fin.ext
  show win0_0.index t a * S256x1024.size a + 1 * (ix2 r d a).val = _
  rw [(places t).1]
  match a with
  | ⟨0, _⟩ => show t.val * 256 + 1 * r.val = t.val * 256 + (r.val); omega
  | ⟨1, _⟩ => show 0 * 1024 + 1 * d.val = d.val; omega

theorem block1 (t : Fin cfg0.N) (r : Fin 256) (d : Fin 1024) :
    (iblk m c 1 t : S256x1024.Idx → EReal) (ix2 r d) = m ((c : Thread nD τ).loc main_arg1) (ix2 ⟨(bat t).val * 256 + (lat t r).val, by omega⟩ d) := by
  unfold iblk
  show V m c main_arg1 _ = _
  rw [V_main_arg1]
  refine congrArg (m ((c : Thread nD τ).loc main_arg1)) ?_
  funext a; apply Fin.ext
  show win0_1.index t a * S256x1024.size a + 1 * (ix2 r d a).val = _
  rw [(places t).2.1]
  match a with
  | ⟨0, _⟩ => show t.val * 256 + 1 * r.val = t.val * 256 + (r.val); omega
  | ⟨1, _⟩ => show 0 * 1024 + 1 * d.val = d.val; omega

theorem block2 (t : Fin cfg0.N) (r : Fin 256) (d : Fin 1024) :
    (iblk m c 2 t : S256x1024.Idx → EReal) (ix2 r d) = m ((c : Thread nD τ).loc main_arg2) (ix2 ⟨(bat t).val * 256 + (lat t r).val, by omega⟩ d) := by
  unfold iblk
  show V m c main_arg2 _ = _
  rw [V_main_arg2]
  refine congrArg (m ((c : Thread nD τ).loc main_arg2)) ?_
  funext a; apply Fin.ext
  show win0_2.index t a * S256x1024.size a + 1 * (ix2 r d a).val = _
  rw [(places t).2.2.1]
  match a with
  | ⟨0, _⟩ => show t.val * 256 + 1 * r.val = t.val * 256 + (r.val); omega
  | ⟨1, _⟩ => show 0 * 1024 + 1 * d.val = d.val; omega

theorem block3 (t : Fin cfg0.N) (r : Fin 256) (d : Fin 1024) :
    (iblk m c 3 t : S256x1024.Idx → EReal) (ix2 r d) = m ((c : Thread nD τ).loc main_arg3) (ix2 ⟨(bat t).val * 256 + (lat t r).val, by omega⟩ d) := by
  unfold iblk
  show V m c main_arg3 _ = _
  rw [V_main_arg3]
  refine congrArg (m ((c : Thread nD τ).loc main_arg3)) ?_
  funext a; apply Fin.ext
  show win0_3.index t a * S256x1024.size a + 1 * (ix2 r d a).val = _
  rw [(places t).2.2.2.1]
  match a with
  | ⟨0, _⟩ => show t.val * 256 + 1 * r.val = t.val * 256 + (r.val); omega
  | ⟨1, _⟩ => show 0 * 1024 + 1 * d.val = d.val; omega

theorem block4 (t : Fin cfg0.N) (r : Fin 256) (d : Fin 128) :
    (iblk m c 4 t : S1x256x128.Idx → EReal) (ix3 0 r d) = m ((c : Thread nD τ).loc main_arg4) (ix3 (bat t) (lat t r) d) := by
  unfold iblk
  show V m c main_arg4 _ = _
  rw [V_main_arg4]
  refine congrArg (m ((c : Thread nD τ).loc main_arg4)) ?_
  funext a; apply Fin.ext
  show win0_4.index t a * S1x256x128.size a + 1 * (ix3 (0 : Fin 1) r d a).val = _
  rw [(places t).2.2.2.2.1]
  match a with
  | ⟨0, _⟩ => show t.val * 1 + 1 * 0 = t.val; omega
  | ⟨1, _⟩ => show 0 * 256 + 1 * r.val = r.val; omega
  | ⟨2, _⟩ => show 0 * 128 + 1 * d.val = d.val; omega

theorem block5 (t : Fin cfg0.N) (r : Fin 256) (d : Fin 1024) :
    (iblk m c 5 t : S1x256x1024.Idx → EReal) (ix3 0 r d) = m ((c : Thread nD τ).loc main_arg5) (ix3 (bat t) (lat t r) d) := by
  unfold iblk
  show V m c main_arg5 _ = _
  rw [V_main_arg5]
  refine congrArg (m ((c : Thread nD τ).loc main_arg5)) ?_
  funext a; apply Fin.ext
  show win0_5.index t a * S1x256x1024.size a + 1 * (ix3 (0 : Fin 1) r d a).val = _
  rw [(places t).2.2.2.2.2.1]
  match a with
  | ⟨0, _⟩ => show t.val * 1 + 1 * 0 = t.val; omega
  | ⟨1, _⟩ => show 0 * 256 + 1 * r.val = r.val; omega
  | ⟨2, _⟩ => show 0 * 1024 + 1 * d.val = d.val; omega

theorem block6 (t : Fin cfg0.N) (d : Fin 1024) :
    (iblk m c 6 t : S1x1x1024.Idx → EReal) (ix3 0 0 d) = m ((c : Thread nD τ).loc main_arg6) (ix3 (bat t) 0 d) := by
  unfold iblk
  show V m c main_arg6 _ = _
  rw [V_main_arg6]
  refine congrArg (m ((c : Thread nD τ).loc main_arg6)) ?_
  funext a; apply Fin.ext
  show win0_6.index t a * S1x1x1024.size a + 1 * (ix3 (0 : Fin 1) (0 : Fin 1) d a).val = _
  rw [(places t).2.2.2.2.2.2.1]
  match a with
  | ⟨0, _⟩ => show t.val * 1 + 1 * 0 = t.val; omega
  | ⟨1, _⟩ => rfl
  | ⟨2, _⟩ => show 0 * 1024 + 1 * d.val = d.val; omega

theorem whole_rows (x : Vec Ideal S256x1024 .bf16) : View.ld x r0_1 = x := View.ld_unit_lit _ x (by decide)
theorem whole_gate (x : Vec Ideal S1x256x128 .f32) : View.ld x r0_0 = x := View.ld_unit_lit _ x (by decide)
theorem whole_stream (x : Vec Ideal S1x256x1024 .f32) : View.ld x r0_2 = x := View.ld_unit_lit _ x (by decide)
theorem whole_mod (x : Vec Ideal S1x1x1024 .f32) : View.ld x r0_3 = x := View.ld_unit_lit _ x (by decide)

/-- The whole result as one function of the kernel's arguments. -/
def combine : S8x256x1024.Idx → EReal := fun i =>
  combined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)

theorem written (t : Fin cfg0.N) (r : Fin 256) (d : Fin 1024) :
    out0_7 (F := Ideal) (iblk m c 0 t) (iblk m c 1 t) (iblk m c 2 t) (iblk m c 3 t) (iblk m c 4 t) (iblk m c 5 t) (iblk m c 6 t) (ix3 0 r d)
      = combined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bat t) (lat t r) d := by
  have e : out0_7 (F := Ideal) (iblk m c 0 t) (iblk m c 1 t) (iblk m c 2 t) (iblk m c 3 t) (iblk m c 4 t) (iblk m c 5 t) (iblk m c 6 t)
      = k0_pay1 (F := Ideal) (iblk m c 4 t) (iblk m c 0 t) (iblk m c 1 t) (iblk m c 2 t) (iblk m c 3 t) (iblk m c 5 t) (iblk m c 6 t) := by
    unfold out0_7
    rw [whole_gate, whole_rows, whole_rows, whole_rows, whole_rows, whole_stream, whole_mod]
    exact View.canon_cons_unit_lit _ _ _ (by decide)
  rw [e, pay_at, block0 m c t r d, block1 m c t r d, block2 m c t r d, block3 m c t r d, block4 m c t r 0, block4 m c t r 1, block4 m c t r 2, block4 m c t r 3, block5 m c t r d, block6 m c t d]
  rfl

theorem index_eq (y : S1x256x1024.Idx) : ∃ (r : Fin 256) (d : Fin 1024), y = ix3 (0 : Fin 1) r d := by
  refine ⟨y 1, y 2, ?_⟩
  funext a
  match a with
  | ⟨0, _⟩ => exact Subsingleton.elim (α := Fin 1) _ _
  | ⟨1, _⟩ => rfl
  | ⟨2, _⟩ => rfl

/-- Where a cell of the tile lies in the result. -/
theorem cell (t : Fin cfg0.N) (r : Fin 256) (d : Fin 1024) :
    (((cfg0.win 7).blk t).view.emb (ix3 (0 : Fin 1) r d) : S8x256x1024.Idx) = ix3 (bat t) (lat t r) d := by
  funext a; apply Fin.ext
  show win0_7.index t a * S1x256x1024.size a + 1 * (ix3 (0 : Fin 1) r d a).val = _
  rw [(places t).2.2.2.2.2.2.2]
  match a with
  | ⟨0, _⟩ => show t.val * 1 + 1 * 0 = t.val; omega
  | ⟨1, _⟩ => show 0 * 256 + 1 * r.val = r.val; omega
  | ⟨2, _⟩ => show 0 * 1024 + 1 * d.val = d.val; omega

theorem covers7 : (cfg0.win 7).Covers := by decide +kernel

set_option maxHeartbeats 1000000 in
/-- The result array after the run. -/
theorem result : (dats m 0 c).arrAt 7 (cfgs 0).N = combine m c := by
  refine (dats m 0 c).arrAt_eq_of_covers 7 (combine m c) covers7 fun t _ y => ?_
  obtain ⟨r, d, e⟩ := index_eq y
  subst e
  have e1 := written m c t r d
  have e2 := congrArg (combine m c) (cell t r d)
  have e3 : combine m c (ix3 (bat t) (lat t r) d) = combined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bat t) (lat t r) d := rfl
  generalize combine m c = G at e2 e3 ⊢
  rw [e2, e3, ← e1]
  blk_simp
  rw [after0_7]

/-- The reference's frame: it has no counters, so they end at zero. -/
theorem frame_reference : Cert.quiescent_Reference15Ideal := fun m g _ =>
  (θ_run _ _ _).mono (fun r h => ⟨fun c => (h c).2, sem_eq_zero_of_no_sems (by decide) r.2⟩) (Cert.Reference15Ideal.Value.run (F := Ideal) m g)

/-- Both runs end with the combination of the kernel's own arguments. -/
theorem same_result : Cert.algebraic_Kernel15Ideal_Reference15Ideal := by
  intro m g m' g' _ hagree
  refine ⟨fun c => combine m c, ?_, ?_⟩
  · exact (θ_run _ _ _).mono (fun r h c => ⟨(h c).1.trans (result m c), (h c).2⟩) (Cert.Kernel15Ideal.Value.run_blocks (F := Ideal) m g)
  · refine (θ_run _ _ _).mono (fun r h c => ⟨(h c).1.trans ?_, (h c).2⟩) (Cert.Reference15Ideal.Value.run (F := Ideal) m' g')
    obtain ⟨e0, e1, e2, e3, e4, e5, e6⟩ := hagree c
    rw [e0, e1, e2, e3, e4, e5, e6]
    funext i
    have e : i = ix3 (i 0) (i 1) (i 2) := by
      funext a
      match a with
      | ⟨0, _⟩ => rfl
      | ⟨1, _⟩ => rfl
      | ⟨2, _⟩ => rfl
    rw [e]
    exact ref_combined _ _ _ _ _ _ _ (i 0) (i 1) (i 2)

end Cert.ContextCombine

end
-- ==== Proof.AddPos.lean ====
/- The positions added to the rows: what each grid point writes is the plain formula's block. -/
module

public import proofs.«01_k».proof.Defs
public import proofs.«01_k».proof.Proof.Gen.Kernel16Ideal.Frame
public import proofs.«01_k».proof.Proof.Gen.Kernel16Ideal.Value
public import proofs.«01_k».proof.Proof.Gen.Reference16Ideal.Run
public import Idealize.ShloMosaic.Lib.Pipeline.ValueKit
public import Idealize.ShloMosaic.Lib.Quiescent

@[expose] public section

set_option maxRecDepth 16384

noncomputable section

namespace Cert.AddPos

open Cert.Kernel16Ideal Cert.Kernel16Ideal.Gen Cert.Kernel16Ideal.Value
open Idealize.ShloMosaic Idealize.ShloMosaic.TcCoe Idealize.SL.Sem
open Idealize.ShloMosaic.Pipeline (Dat)

/-- The reference's result as one function of the two arguments. -/
def placed (X : FVec Ideal S8x4096x1024 .f32) (P : FVec Ideal S4096x1024 .f32) : FVec Ideal S8x4096x1024 .f32 :=
  addf X (broadcastInDim Cert.Reference16Ideal.S8x4096x1024 ![0, 1, 2] Cert.Reference16Ideal.Gen.bcast_S1x4096x1024_S8x4096x1024_0_1_2 (broadcastInDim Cert.Reference16Ideal.S1x4096x1024 ![1, 2] Cert.Reference16Ideal.Gen.bcast_S4096x1024_S1x4096x1024_1_2 P))

variable (m : (ℓ : Loc nD τ sig) → Buf (Elt Ideal) ℓ)

/-- Where each window's block sits at point `t` of the 8 by 8 grid. -/
theorem places : ∀ t : Fin cfg0.N, win0_0.index t = ![t.val / 8, t.val % 8, 0] ∧ win0_1.index t = ![t.val % 8, 0] ∧ win0_2.index t = ![t.val / 8, t.val % 8, 0] :=
  (by decide +kernel : ∀ t : Fin grid0.N, _)

set_option maxHeartbeats 2000000 in
/-- What the body stores at point `t`. -/
theorem stored_eq (c : Dev nD) (t : Fin cfg0.N) (y : S1x512x1024.Idx) :
    k0_pay1 (F := Ideal) (iblk m c 0 t) (iblk m c 1 t) y
      = placed (m ((c : Thread nD τ).loc main_arg0)) (m ((c : Thread nD τ).loc main_arg1)) (((cfg0.win 2).blk t).view.emb y) := by
  pointwise [k0_pay1, placed]
  blk_point [iblk, V, places t]

/-- The result array after the run. -/
theorem result (c : Dev nD) : (dats m 0 c).arrAt 2 (cfgs 0).N
    = placed (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  exact stored_eq m c t y

/-- The reference's frame: it has no counters, so they end at zero. -/
theorem frame_reference : Cert.quiescent_Reference16Ideal := fun m g _ =>
  (θ_run _ _ _).mono (fun r h => ⟨fun c => (h c).2, sem_eq_zero_of_no_sems (by decide) r.2⟩) (Cert.Reference16Ideal.Value.run (F := Ideal) m g)

/-- Both runs end with the plain formula over the kernel's own arguments. -/
theorem same_result : Cert.algebraic_Kernel16Ideal_Reference16Ideal := by
  intro m g m' g' _ hagree
  refine ⟨fun c => placed (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)), ?_, ?_⟩
  · exact (θ_run _ _ _).mono (fun r h c => ⟨(h c).1.trans (result m c), (h c).2⟩) (Cert.Kernel16Ideal.Value.run_blocks (F := Ideal) m g)
  · refine (θ_run _ _ _).mono (fun r h c => ⟨(h c).1.trans ?_, (h c).2⟩) (Cert.Reference16Ideal.Value.run (F := Ideal) m' g')
    obtain ⟨e0, e1⟩ := hagree c
    rw [e0, e1]
    rfl

end Cert.AddPos

end
-- ==== Proof.lean ====
/- The proof of the claims: the routed expert feed-forward (Proof/Expert.lean), the normalised, modulated projection at its
   four widths (Proof/Norm2.lean, Proof/NormWide.lean, Proof/NormMid.lean, Proof/NormNarrow.lean), the merge of the branches
   into the stream (Proof/Merge.lean), the same feed-forward and projections at the context's shapes
   (Proof/ContextExpert.lean, Proof/ContextNorm.lean, Proof/ContextNormWide.lean, Proof/ContextNormMid.lean,
   Proof/ContextNormNarrow.lean), the last normalisation (Proof/FinalNorm.lean), the combination of the routed rows
   (Proof/Combine.lean), the merge and the combination at the context's shapes (Proof/ContextMerge.lean,
   Proof/ContextCombine.lean) and the positions (Proof/AddPos.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_experts_in_range
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Norm2
public import proofs.«01_k».proof.Proof.Gen.Pre_recurrence_finite
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_context_experts_in_range
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Pre_context_recurrence_finite
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.NormWide
public import proofs.«01_k».proof.Proof.NormMid
public import proofs.«01_k».proof.Proof.NormNarrow
public import proofs.«01_k».proof.Proof.Expert
public import proofs.«01_k».proof.Proof.Merge
public import proofs.«01_k».proof.Proof.ContextNorm
public import proofs.«01_k».proof.Proof.ContextNormWide
public import proofs.«01_k».proof.Proof.ContextNormMid
public import proofs.«01_k».proof.Proof.ContextNormNarrow
public import proofs.«01_k».proof.Proof.ContextExpert
public import proofs.«01_k».proof.Proof.FinalNorm
public import proofs.«01_k».proof.Proof.Combine
public import proofs.«01_k».proof.Proof.ContextMerge
public import proofs.«01_k».proof.Proof.ContextCombine
public import proofs.«01_k».proof.Proof.AddPos
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Pre_experts_in_range.Gen.facts, Cert.Pre_recurrence_finite.Gen.facts, Cert.Pre_context_experts_in_range.Gen.facts,
    Cert.Pre_context_recurrence_finite.Gen.facts,
    Cert.ExpertFfn.frame_kernel, Cert.ExpertFfn.frame_ideal, Cert.ExpertFfn.frame_reference, Cert.ExpertFfn.frame_reference_pre,
    fun m ρ _ => Cert.Kernel2.Gen.frame m ρ, fun m ρ _ => Cert.Kernel2Ideal.Gen.frame m ρ, Cert.NormProj.frame_reference,
    fun m ρ _ => Cert.Kernel3.Gen.frame m ρ, fun m ρ _ => Cert.Kernel3Ideal.Gen.frame m ρ, Cert.NormProj3.frame_reference,
    fun m ρ _ => Cert.Kernel4.Gen.frame m ρ, fun m ρ _ => Cert.Kernel4Ideal.Gen.frame m ρ, Cert.NormProj4.frame_reference,
    fun m ρ _ => Cert.Kernel5.Gen.frame m ρ, fun m ρ _ => Cert.Kernel5Ideal.Gen.frame m ρ, Cert.NormProj5.frame_reference,
    Cert.Merge.frame_kernel, Cert.Merge.frame_ideal, Cert.Merge.frame_ideal_pre, Cert.Merge.frame_reference, Cert.Merge.frame_reference_pre,
    fun m ρ _ => Cert.Kernel7.Gen.frame m ρ, fun m ρ _ => Cert.Kernel7Ideal.Gen.frame m ρ, Cert.NormProj7.frame_reference,
    fun m ρ _ => Cert.Kernel8.Gen.frame m ρ, fun m ρ _ => Cert.Kernel8Ideal.Gen.frame m ρ, Cert.NormProj8.frame_reference,
    fun m ρ _ => Cert.Kernel9.Gen.frame m ρ, fun m ρ _ => Cert.Kernel9Ideal.Gen.frame m ρ, Cert.NormProj9.frame_reference,
    fun m ρ _ => Cert.Kernel10.Gen.frame m ρ, fun m ρ _ => Cert.Kernel10Ideal.Gen.frame m ρ, Cert.NormProj10.frame_reference,
    Cert.ContextFfn.frame_kernel, Cert.ContextFfn.frame_ideal, Cert.ContextFfn.frame_reference, Cert.ContextFfn.frame_reference_pre,
    fun m ρ _ => Cert.Kernel12.Gen.frame m ρ, fun m ρ _ => Cert.Kernel12Ideal.Gen.frame m ρ, Cert.FinalNorm.frame_reference,
    fun m ρ _ => Cert.Kernel13.Gen.frame m ρ, fun m ρ _ => Cert.Kernel13Ideal.Gen.frame m ρ, Cert.Combine.frame_reference,
    Cert.ContextMerge.frame_kernel, Cert.ContextMerge.frame_ideal, Cert.ContextMerge.frame_ideal_pre, Cert.ContextMerge.frame_reference, Cert.ContextMerge.frame_reference_pre,
    fun m ρ _ => Cert.Kernel15.Gen.frame m ρ, fun m ρ _ => Cert.Kernel15Ideal.Gen.frame m ρ, Cert.ContextCombine.frame_reference,
    fun m ρ _ => Cert.Kernel16.Gen.frame m ρ, fun m ρ _ => Cert.Kernel16Ideal.Gen.frame m ρ, Cert.AddPos.frame_reference,
    trivial, Cert.ExpertFfn.same_result,
    trivial, Cert.NormProj.same_result,
    trivial, Cert.NormProj3.same_result,
    trivial, Cert.NormProj4.same_result,
    trivial, Cert.NormProj5.same_result,
    trivial, Cert.Merge.same_result,
    trivial, Cert.NormProj7.same_result,
    trivial, Cert.NormProj8.same_result,
    trivial, Cert.NormProj9.same_result,
    trivial, Cert.NormProj10.same_result,
    trivial, Cert.ContextFfn.same_result,
    trivial, Cert.FinalNorm.same_result,
    trivial, Cert.Combine.same_result,
    trivial, Cert.ContextMerge.same_result,
    trivial, Cert.ContextCombine.same_result,
    trivial, Cert.AddPos.same_result⟩

end Cert.Proof

end
